-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_squares_mlp [hPre_squares_mlp : Cert.Pre_squares_mlp.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_squares_mlp.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_squares_mlp [hPre_squares_mlp : Cert.Pre_squares_mlp.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_squares_mlp.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_squares_ple [hPre_squares_ple : Cert.Pre_squares_ple.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_squares_ple.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_squares_ple [hPre_squares_ple : Cert.Pre_squares_ple.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_squares_ple.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_squares_mlp [hKernel2Ideal : Cert.Kernel2Ideal.Facts] [hPre_squares_mlp : Cert.Pre_squares_mlp.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_squares_mlp m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_squares_mlp [hReference2Ideal : Cert.Reference2Ideal.Facts] [hPre_squares_mlp : Cert.Pre_squares_mlp.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_squares_mlp m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_squares_ple [hKernel5Ideal : Cert.Kernel5Ideal.Facts] [hPre_squares_ple : Cert.Pre_squares_ple.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_squares_ple m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_squares_ple [hReference5Ideal : Cert.Reference5Ideal.Facts] [hPre_squares_ple : Cert.Pre_squares_ple.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_squares_ple m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v402) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_squares_mlp [hKernel2Ideal : Cert.Kernel2Ideal.Facts] [hReference2Ideal : Cert.Reference2Ideal.Facts] [hPre_squares_mlp : Cert.Pre_squares_mlp.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_squares_mlp m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_squares_ple [hKernel5Ideal : Cert.Kernel5Ideal.Facts] [hReference5Ideal : Cert.Reference5Ideal.Facts] [hPre_squares_ple : Cert.Pre_squares_ple.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_squares_ple m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v27_0)) (v1 : (c : Dev Cert.Kernel9Ideal.nD) → Buf (Elt Ideal) ((c.tc : Thread Cert.Kernel9Ideal.nD Cert.Kernel9Ideal.τ).loc Cert.Kernel9Ideal.main_v27_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v27_0) = v0 c
          ∧ r.2.mem ((c.tc : Thread Cert.Kernel9Ideal.nD Cert.Kernel9Ideal.τ).loc Cert.Kernel9Ideal.main_v27_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v103) = v0 c
          ∧ r.2.mem ((c.tc : Thread Cert.Reference9Ideal.nD Cert.Reference9Ideal.τ).loc Cert.Reference9Ideal.main_v104) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_squares_mlp : Cert.Pre_squares_mlp.Facts) (hPre_squares_ple : Cert.Pre_squares_ple.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_squares_mlp (hKernel2Ideal := hKernel2Ideal) (hPre_squares_mlp := hPre_squares_mlp)
    ∧ quiescent_Reference2Ideal (hReference2Ideal := hReference2Ideal)
    ∧ quiescent_Reference2Ideal_pre_squares_mlp (hReference2Ideal := hReference2Ideal) (hPre_squares_mlp := hPre_squares_mlp)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_squares_ple (hKernel5Ideal := hKernel5Ideal) (hPre_squares_ple := hPre_squares_ple)
    ∧ quiescent_Reference5Ideal (hReference5Ideal := hReference5Ideal)
    ∧ quiescent_Reference5Ideal_pre_squares_ple (hReference5Ideal := hReference5Ideal) (hPre_squares_ple := hPre_squares_ple)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_squares_mlp (hKernel2Ideal := hKernel2Ideal) (hReference2Ideal := hReference2Ideal) (hPre_squares_mlp := hPre_squares_mlp)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_squares_ple (hKernel5Ideal := hKernel5Ideal) (hReference5Ideal := hReference5Ideal) (hPre_squares_ple := hPre_squares_ple)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16384x21504 : Shape := ⟨2, ![16384, 21504]⟩
abbrev S16384x128 : Shape := ⟨2, ![16384, 128]⟩
abbrev S4x6144 : Shape := ⟨2, ![4, 6144]⟩
abbrev S16 : Shape := ⟨1, ![16]⟩
abbrev S128 : Shape := ⟨1, ![128]⟩
abbrev S_ : Shape := ⟨0, ![]⟩

class Facts : Prop where
  bcast_S_S16384x21504 : S_.BroadcastsInDim S16384x21504 (![] : Fin 0 → Fin S16384x21504.rank)
  bcast_S_S16384x128 : S_.BroadcastsInDim S16384x128 (![] : Fin 0 → Fin S16384x128.rank)
  bcast_S_S4x6144 : S_.BroadcastsInDim S4x6144 (![] : Fin 0 → Fin S4x6144.rank)
  bcast_S_S16 : S_.BroadcastsInDim S16 (![] : Fin 0 → Fin S16.rank)
  bcast_S_S128 : S_.BroadcastsInDim S128 (![] : Fin 0 → Fin S128.rank)

variable [Facts]

def fn {F : FTy → Type} [FloatOps F] (main_arg0 : FVec F S16384x21504 .f32) (main_arg1 : FVec F S16384x128 .f32) (main_arg2 : FVec F S4x6144 .f32) (main_arg3 : FVec F S16 .f32) (main_arg4 : FVec F S16 .f32) (main_arg5 : FVec F S128 .f32) : IVec S16384x21504 1 × IVec S16384x128 1 × IVec S4x6144 1 × IVec S16 1 × IVec S16 1 × IVec S128 1 :=
  let main_v0 : FVec F S16384x21504 .f32 := Host.absf main_arg0
  let main_cst : FVec F S_ .f32 := constant S_ .f32 0x7F800000#32
  let main_v1 : FVec F S16384x21504 .f32 := broadcastInDim S16384x21504 ![] bcast_S_S16384x21504 main_cst
  let main_v2 : IVec S16384x21504 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S4x6144 .f32 := Host.absf main_arg2
  let main_cst_1 : FVec F S_ .f32 := constant S_ .f32 0x7F800000#32
  let main_v7 : FVec F S4x6144 .f32 := broadcastInDim S4x6144 ![] bcast_S_S4x6144 main_cst_1
  let main_v8 : IVec S4x6144 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  (main_v2, main_v5, main_v8, main_v11, main_v14, main_v17)
-- ==== Pre_squares_mlp.lean ====
abbrev S16384x4096 : Shape := ⟨2, ![16384, 4096]⟩
abbrev S16384x1024 : Shape := ⟨2, ![16384, 1024]⟩
abbrev S4096x16384 : Shape := ⟨2, ![4096, 16384]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x4096 .bf16) (main_arg1 : FVec F S16384x1024 .f32) (main_arg2 : FVec F S4096x16384 .f32) : IVec S16384x1024 1 :=
  let main_cst : FVec F S_ .f32 := constant S_ .f32 0x00000000#32
  let main_v0 : FVec F S16384x1024 .f32 := broadcastInDim S16384x1024 ![] bcast_S_S16384x1024 main_cst
  let main_v1 : IVec S16384x1024 1 := cmpf .oge main_arg1 main_v0
  main_v1
-- ==== Pre_squares_ple.lean ====
abbrev S16384x4096 : Shape := ⟨2, ![16384, 4096]⟩
abbrev S16384x512 : Shape := ⟨2, ![16384, 512]⟩
abbrev S16384x256 : Shape := ⟨2, ![16384, 256]⟩
abbrev S4096x4096 : Shape := ⟨2, ![4096, 4096]⟩
abbrev S256x4096 : Shape := ⟨2, ![256, 4096]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x4096 .bf16) (main_arg1 : FVec F S16384x512 .f32) (main_arg2 : FVec F S16384x4096 .f32) (main_arg3 : FVec F S16384x256 .f32) (main_arg4 : FVec F S4096x4096 .f32) (main_arg5 : FVec F S256x4096 .f32) : IVec S16384x512 1 :=
  let main_cst : FVec F S_ .f32 := constant S_ .f32 0x00000000#32
  let main_v0 : FVec F S16384x512 .f32 := broadcastInDim S16384x512 ![] bcast_S_S16384x512 main_cst
  let main_v1 : IVec S16384x512 1 := cmpf .oge main_arg1 main_v0
  main_v1
-- ==== Kernel.lean ====
abbrev S16384x21504 : Shape := ⟨2, ![16384, 21504]⟩
abbrev S16384x128 : Shape := ⟨2, ![16384, 128]⟩
abbrev S4x6144 : Shape := ⟨2, ![4, 6144]⟩
abbrev S16 : Shape := ⟨1, ![16]⟩
abbrev S128 : Shape := ⟨1, ![128]⟩
abbrev S_ : Shape := ⟨0, ![]⟩
abbrev S1x128 : Shape := ⟨2, ![1, 128]⟩
abbrev S1 : Shape := ⟨1, ![1]⟩
abbrev S2 : Shape := ⟨1, ![2]⟩
abbrev S16384x2048 : Shape := ⟨2, ![16384, 2048]⟩
abbrev S128x2048 : Shape := ⟨2, ![128, 2048]⟩
abbrev S128x128 : Shape := ⟨2, ![128, 128]⟩
abbrev S4x2048 : Shape := ⟨2, ![4, 2048]⟩
abbrev S3x136x2048 : Shape := ⟨3, ![3, 136, 2048]⟩
abbrev S16x128x128 : Shape := ⟨3, ![16, 128, 128]⟩
abbrev S3x8x2048 : Shape := ⟨3, ![3, 8, 2048]⟩
abbrev S1x128x2048 : Shape := ⟨3, ![1, 128, 2048]⟩
abbrev S1x2048 : Shape := ⟨2, ![1, 2048]⟩
abbrev S1x8x2048 : Shape := ⟨3, ![1, 8, 2048]⟩
abbrev S8x2048 : Shape := ⟨2, ![8, 2048]⟩
abbrev S128x1 : Shape := ⟨2, ![128, 1]⟩
abbrev S1x1 : Shape := ⟨2, ![1, 1]⟩
abbrev S256x128 : Shape := ⟨2, ![256, 128]⟩
abbrev S128x256 : Shape := ⟨2, ![128, 256]⟩
abbrev S1x128x128 : Shape := ⟨3, ![1, 128, 128]⟩

abbrev nBuf : Space → Nat
  | .hbm => 24
  | .vmem => 20
  | .smem => 0
  | _ => 0

abbrev bufTy : (tb : Table) → Fin (tcTables nBuf tb) → BufTy
  | .hbm, ⟨0, _⟩ => ⟨S16384x21504, .f32⟩
  | .hbm, ⟨1, _⟩ => ⟨S16384x128, .f32⟩
  | .hbm, ⟨2, _⟩ => ⟨S4x6144, .f32⟩
  | .hbm, ⟨3, _⟩ => ⟨S16, .f32⟩
  | .hbm, ⟨4, _⟩ => ⟨S16, .f32⟩
  | .hbm, ⟨5, _⟩ => ⟨S128, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x128, .f32⟩
  | .hbm, ⟨23, _⟩ => ⟨S16384x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S4x2048, .f32⟩
  | .local _ .vmem, ⟨11, _⟩ => ⟨S4x2048, .f32⟩
  | .local _ .vmem, ⟨12, _⟩ => ⟨S4x2048, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x2048, .bf16⟩
  | .local _ .vmem, ⟨17, _⟩ => ⟨S128x2048, .bf16⟩
  | .local _ .vmem, ⟨18, _⟩ => ⟨S3x136x2048, .f32⟩
  | .local _ .vmem, ⟨19, _⟩ => ⟨S16x128x128, .f32⟩
  | _, _ => ⟨S16384x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c5_i32 : BitVec 32 := 5#32
  let v2 : BitVec 32 := Scalar.addi c5_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x21504 : Shape := ⟨2, ![16384, 21504]⟩
abbrev S16384x128 : Shape := ⟨2, ![16384, 128]⟩
abbrev S4x6144 : Shape := ⟨2, ![4, 6144]⟩
abbrev S16 : Shape := ⟨1, ![16]⟩
abbrev S128 : Shape := ⟨1, ![128]⟩
abbrev S16384x6144 : Shape := ⟨2, ![16384, 6144]⟩
abbrev S2x8192x6144 : Shape := ⟨3, ![2, 8192, 6144]⟩
abbrev S16384x16 : Shape := ⟨2, ![16384, 16]⟩
abbrev S2x8192x16 : Shape := ⟨3, ![2, 8192, 16]⟩
abbrev S_ : Shape := ⟨0, ![]⟩
abbrev S2x8195x6144 : Shape := ⟨3, ![2, 8195, 6144]⟩
abbrev S1x6144 : Shape := ⟨2, ![1, 6144]⟩
abbrev S6144 : Shape := ⟨1, ![6144]⟩
abbrev S1x1x6144 : Shape := ⟨3, ![1, 1, 6144]⟩
abbrev S2x8192x3x16x128 : Shape := ⟨5, ![2, 8192, 3, 16, 128]⟩
abbrev S3x2x16x8192x128 : Shape := ⟨5, ![3, 2, 16, 8192, 128]⟩
abbrev S1x2x16x8192x128 : Shape := ⟨5, ![1, 2, 16, 8192, 128]⟩
abbrev S2x16x8192x128 : Shape := ⟨4, ![2, 16, 8192, 128]⟩
abbrev S2x16x8192 : Shape := ⟨3, ![2, 16, 8192]⟩
abbrev S2x16x8192x1 : Shape := ⟨4, ![2, 16, 8192, 1]⟩
abbrev S1x1x16 : Shape := ⟨3, ![1, 1, 16]⟩
abbrev S2x16x128x64x128 : Shape := ⟨5, ![2, 16, 128, 64, 128]⟩
abbrev S2x16x128x64 : Shape := ⟨4, ![2, 16, 128, 64]⟩
abbrev S64x64 : Shape := ⟨2, ![64, 64]⟩
abbrev S2x16x128x64x1 : Shape := ⟨5, ![2, 16, 128, 64, 1]⟩
abbrev S2x16x128x1x64 : Shape := ⟨5, ![2, 16, 128, 1, 64]⟩
abbrev S2x16x128x64x64 : Shape := ⟨5, ![2, 16, 128, 64, 64]⟩
abbrev S1x1x1x64x64 : Shape := ⟨5, ![1, 1, 1, 64, 64]⟩
abbrev S128x2x16x64x128 : Shape := ⟨5, ![128, 2, 16, 64, 128]⟩
abbrev S128x2x16x64 : Shape := ⟨4, ![128, 2, 16, 64]⟩
abbrev S128x2x16x64x64 : Shape := ⟨5, ![128, 2, 16, 64, 64]⟩
abbrev S2x16x128x128 : Shape := ⟨4, ![2, 16, 128, 128]⟩
abbrev S1x2x16x64x128 : Shape := ⟨5, ![1, 2, 16, 64, 128]⟩
abbrev S2x16x64x128 : Shape := ⟨4, ![2, 16, 64, 128]⟩
abbrev S1x2x16x64 : Shape := ⟨4, ![1, 2, 16, 64]⟩
abbrev S2x16x64 : Shape := ⟨3, ![2, 16, 64]⟩
abbrev S1x2x16x64x64 : Shape := ⟨5, ![1, 2, 16, 64, 64]⟩
abbrev S2x16x64x64 : Shape := ⟨4, ![2, 16, 64, 64]⟩
abbrev S2x16x64x1 : Shape := ⟨4, ![2, 16, 64, 1]⟩
abbrev S2x16x1 : Shape := ⟨3, ![2, 16, 1]⟩
abbrev S2x16x1x1 : Shape := ⟨4, ![2, 16, 1, 1]⟩
abbrev S2x8192x16x128 : Shape := ⟨4, ![2, 8192, 16, 128]⟩
abbrev S16384x2048 : Shape := ⟨2, ![16384, 2048]⟩
abbrev S2x8192x2048 : Shape := ⟨3, ![2, 8192, 2048]⟩
abbrev S2x8192x16x1 : Shape := ⟨4, ![2, 8192, 16, 1]⟩
abbrev S1x1x1x128 : Shape := ⟨4, ![1, 1, 1, 128]⟩

abbrev nBuf : Space → Nat
  | .hbm => 558
  | .vmem => 0
  | .smem => 0
  | _ => 0

abbrev hbmTy0_0 (i : Nat) : BufTy := match i % 128 with
  | 0 => ⟨S16384x21504, .f32⟩
  | 1 => ⟨S16384x128, .f32⟩
  | 2 => ⟨S4x6144, .f32⟩
  | 3 => ⟨S16, .f32⟩
  | 4 => ⟨S16, .f32⟩
  | 5 => ⟨S128, .f32⟩
  | 6 => ⟨S16384x6144, .f32⟩
  | 7 => ⟨S2x8192x6144, .f32⟩
  | 8 => ⟨S16384x16, .f32⟩
  | 9 => ⟨S2x8192x16, .f32⟩
  | 10 => ⟨S16384x16, .f32⟩
  | 11 => ⟨S2x8192x16, .f32⟩
  | 12 => ⟨S_, .i32⟩
  | 13 => ⟨S_, .f32⟩
  | 14 => ⟨S2x8195x6144, .f32⟩
  | 15 => ⟨S2x8192x6144, .f32⟩
  | 16 => ⟨S1x6144, .f32⟩
  | 17 => ⟨S6144, .f32⟩
  | 18 => ⟨S1x1x6144, .f32⟩
  | 19 => ⟨S2x8192x6144, .f32⟩
  | 20 => ⟨S2x8192x6144, .f32⟩
  | 21 => ⟨S_, .f32⟩
  | 22 => ⟨S2x8192x6144, .f32⟩
  | 23 => ⟨S2x8192x6144, .f32⟩
  | 24 => ⟨S2x8192x6144, .f32⟩
  | 25 => ⟨S1x6144, .f32⟩
  | 26 => ⟨S6144, .f32⟩
  | 27 => ⟨S1x1x6144, .f32⟩
  | 28 => ⟨S2x8192x6144, .f32⟩
  | 29 => ⟨S2x8192x6144, .f32⟩
  | 30 => ⟨S2x8192x6144, .f32⟩
  | 31 => ⟨S2x8192x6144, .f32⟩
  | 32 => ⟨S1x6144, .f32⟩
  | 33 => ⟨S6144, .f32⟩
  | 34 => ⟨S1x1x6144, .f32⟩
  | 35 => ⟨S2x8192x6144, .f32⟩
  | 36 => ⟨S2x8192x6144, .f32⟩
  | 37 => ⟨S2x8192x6144, .f32⟩
  | 38 => ⟨S2x8192x6144, .f32⟩
  | 39 => ⟨S1x6144, .f32⟩
  | 40 => ⟨S6144, .f32⟩
  | 41 => ⟨S1x1x6144, .f32⟩
  | 42 => ⟨S2x8192x6144, .f32⟩
  | 43 => ⟨S2x8192x6144, .f32⟩
  | 44 => ⟨S2x8192x6144, .f32⟩
  | 45 => ⟨S2x8192x6144, .f32⟩
  | 46 => ⟨S2x8192x6144, .f32⟩
  | 47 => ⟨S_, .f32⟩
  | 48 => ⟨S2x8192x6144, .f32⟩
  | 49 => ⟨S2x8192x6144, .f32⟩
  | 50 => ⟨S_, .f32⟩
  | 51 => ⟨S2x8192x6144, .f32⟩
  | 52 => ⟨S2x8192x6144, .f32⟩
  | 53 => ⟨S2x8192x6144, .f32⟩
  | 54 => ⟨S2x8192x3x16x128, .f32⟩
  | 55 => ⟨S3x2x16x8192x128, .f32⟩
  | 56 => ⟨S1x2x16x8192x128, .f32⟩
  | 57 => ⟨S2x16x8192x128, .f32⟩
  | 58 => ⟨S2x16x8192x128, .f32⟩
  | 59 => ⟨S_, .f32⟩
  | 60 => ⟨S2x16x8192, .f32⟩
  | 61 => ⟨S2x16x8192x1, .f32⟩
  | 62 => ⟨S_, .f32⟩
  | 63 => ⟨S2x16x8192x1, .f32⟩
  | 64 => ⟨S2x16x8192x1, .f32⟩
  | 65 => ⟨S2x16x8192x1, .f32⟩
  | 66 => ⟨S2x16x8192x128, .f32⟩
  | 67 => ⟨S2x16x8192x128, .f32⟩
  | 68 => ⟨S_, .f32⟩
  | 69 => ⟨S2x16x8192x128, .f32⟩
  | 70 => ⟨S2x16x8192x128, .f32⟩
  | 71 => ⟨S1x2x16x8192x128, .f32⟩
  | 72 => ⟨S2x16x8192x128, .f32⟩
  | 73 => ⟨S2x16x8192x128, .f32⟩
  | 74 => ⟨S_, .f32⟩
  | 75 => ⟨S2x16x8192, .f32⟩
  | 76 => ⟨S2x16x8192x1, .f32⟩
  | 77 => ⟨S_, .f32⟩
  | 78 => ⟨S2x16x8192x1, .f32⟩
  | 79 => ⟨S2x16x8192x1, .f32⟩
  | 80 => ⟨S2x16x8192x1, .f32⟩
  | 81 => ⟨S2x16x8192x128, .f32⟩
  | 82 => ⟨S2x16x8192x128, .f32⟩
  | 83 => ⟨S1x2x16x8192x128, .f32⟩
  | 84 => ⟨S2x16x8192x128, .f32⟩
  | 85 => ⟨S2x8192x16, .f32⟩
  | 86 => ⟨S2x8192x16, .f32⟩
  | 87 => ⟨S_, .f32⟩
  | 88 => ⟨S2x8192x16, .f32⟩
  | 89 => ⟨S2x8192x16, .f32⟩
  | 90 => ⟨S_, .f32⟩
  | 91 => ⟨S2x8192x16, .f32⟩
  | 92 => ⟨S2x8192x16, .f32⟩
  | 93 => ⟨S2x16x8192, .f32⟩
  | 94 => ⟨S16, .f32⟩
  | 95 => ⟨S1x1x16, .f32⟩
  | 96 => ⟨S2x8192x16, .f32⟩
  | 97 => ⟨S2x8192x16, .f32⟩
  | 98 => ⟨S_, .f32⟩
  | 99 => ⟨S2x8192x16, .f32⟩
  | 100 => ⟨S2x8192x16, .f32⟩
  | 101 => ⟨S2x8192x16, .f32⟩
  | 102 => ⟨S2x8192x16, .f32⟩
  | 103 => ⟨S2x8192x16, .i1⟩
  | 104 => ⟨S2x8192x16, .f32⟩
  | 105 => ⟨S2x8192x16, .f32⟩
  | 106 => ⟨S2x8192x16, .f32⟩
  | 107 => ⟨S2x8192x16, .f32⟩
  | 108 => ⟨S2x8192x16, .f32⟩
  | 109 => ⟨S2x8192x16, .f32⟩
  | 110 => ⟨S2x8192x16, .f32⟩
  | 111 => ⟨S2x8192x16, .f32⟩
  | 112 => ⟨S1x1x16, .f32⟩
  | 113 => ⟨S2x8192x16, .f32⟩
  | 114 => ⟨S2x8192x16, .f32⟩
  | 115 => ⟨S2x8192x16, .f32⟩
  | 116 => ⟨S2x16x8192, .f32⟩
  | 117 => ⟨S2x16x128x64x128, .f32⟩
  | 118 => ⟨S2x16x128x64x128, .f32⟩
  | 119 => ⟨S2x16x128x64x128, .f32⟩
  | 120 => ⟨S2x16x128x64, .f32⟩
  | 121 => ⟨S2x16x128x64, .f32⟩
  | 122 => ⟨S_, .f32⟩
  | 123 => ⟨S_, .f32⟩
  | 124 => ⟨S2x16x128x64, .f32⟩
  | 125 => ⟨S_, .i1⟩
  | 126 => ⟨S64x64, .i1⟩
  | 127 => ⟨S64x64, .i32⟩
  | _ => ⟨S16384x21504, .f32⟩

abbrev hbmTy0_1 (i : Nat) : BufTy := match i % 128 with
  | 0 => ⟨S_, .i32⟩
  | 1 => ⟨S64x64, .i32⟩
  | 2 => ⟨S64x64, .i32⟩
  | 3 => ⟨S64x64, .i32⟩
  | 4 => ⟨S64x64, .i1⟩
  | 5 => ⟨S_, .i1⟩
  | 6 => ⟨S64x64, .i1⟩
  | 7 => ⟨S64x64, .i1⟩
  | 8 => ⟨S_, .i1⟩
  | 9 => ⟨S64x64, .i1⟩
  | 10 => ⟨S64x64, .i32⟩
  | 11 => ⟨S_, .i32⟩
  | 12 => ⟨S64x64, .i32⟩
  | 13 => ⟨S64x64, .i32⟩
  | 14 => ⟨S64x64, .i32⟩
  | 15 => ⟨S64x64, .i1⟩
  | 16 => ⟨S_, .i1⟩
  | 17 => ⟨S64x64, .i1⟩
  | 18 => ⟨S64x64, .i1⟩
  | 19 => ⟨S2x16x128x64x1, .f32⟩
  | 20 => ⟨S2x16x128x1x64, .f32⟩
  | 21 => ⟨S2x16x128x64x64, .f32⟩
  | 22 => ⟨S2x16x128x64x64, .f32⟩
  | 23 => ⟨S2x16x128x64x64, .f32⟩
  | 24 => ⟨S_, .f32⟩
  | 25 => ⟨S_, .f32⟩
  | 26 => ⟨S2x16x128x64x64, .i1⟩
  | 27 => ⟨S2x16x128x64x64, .f32⟩
  | 28 => ⟨S2x16x128x64x64, .f32⟩
  | 29 => ⟨S2x16x128x64x64, .f32⟩
  | 30 => ⟨S2x16x128x64x1, .f32⟩
  | 31 => ⟨S2x16x128x64x128, .f32⟩
  | 32 => ⟨S2x16x128x64x128, .f32⟩
  | 33 => ⟨S2x16x128x64x64, .f32⟩
  | 34 => ⟨S2x16x128x64x64, .f32⟩
  | 35 => ⟨S_, .f32⟩
  | 36 => ⟨S_, .f32⟩
  | 37 => ⟨S2x16x128x64x64, .i1⟩
  | 38 => ⟨S2x16x128x64x64, .f32⟩
  | 39 => ⟨S2x16x128x64x64, .f32⟩
  | 40 => ⟨S64x64, .i32⟩
  | 41 => ⟨S64x64, .i32⟩
  | 42 => ⟨S_, .i32⟩
  | 43 => ⟨S64x64, .i32⟩
  | 44 => ⟨S64x64, .i32⟩
  | 45 => ⟨S64x64, .i1⟩
  | 46 => ⟨S64x64, .f32⟩
  | 47 => ⟨S1x1x1x64x64, .f32⟩
  | 48 => ⟨S2x16x128x64x64, .f32⟩
  | 49 => ⟨S2x16x128x64x64, .f32⟩
  | 50 => ⟨S2x16x128x64x64, .f32⟩
  | 51 => ⟨S1x1x1x64x64, .f32⟩
  | 52 => ⟨S2x16x128x64x64, .f32⟩
  | 53 => ⟨S2x16x128x64x64, .f32⟩
  | 54 => ⟨S2x16x128x64x64, .f32⟩
  | 55 => ⟨S1x1x1x64x64, .f32⟩
  | 56 => ⟨S2x16x128x64x64, .f32⟩
  | 57 => ⟨S2x16x128x64x64, .f32⟩
  | 58 => ⟨S2x16x128x64x64, .f32⟩
  | 59 => ⟨S1x1x1x64x64, .f32⟩
  | 60 => ⟨S2x16x128x64x64, .f32⟩
  | 61 => ⟨S2x16x128x64x64, .f32⟩
  | 62 => ⟨S2x16x128x64x64, .f32⟩
  | 63 => ⟨S1x1x1x64x64, .f32⟩
  | 64 => ⟨S2x16x128x64x64, .f32⟩
  | 65 => ⟨S2x16x128x64x64, .f32⟩
  | 66 => ⟨S2x16x128x64x64, .f32⟩
  | 67 => ⟨S1x1x1x64x64, .f32⟩
  | 68 => ⟨S2x16x128x64x64, .f32⟩
  | 69 => ⟨S2x16x128x64x64, .f32⟩
  | 70 => ⟨S2x16x128x64x64, .f32⟩
  | 71 => ⟨S1x1x1x64x64, .f32⟩
  | 72 => ⟨S2x16x128x64x64, .f32⟩
  | 73 => ⟨S2x16x128x64x64, .f32⟩
  | 74 => ⟨S2x16x128x64x64, .f32⟩
  | 75 => ⟨S1x1x1x64x64, .f32⟩
  | 76 => ⟨S2x16x128x64x64, .f32⟩
  | 77 => ⟨S2x16x128x64x64, .f32⟩
  | 78 => ⟨S2x16x128x64x64, .f32⟩
  | 79 => ⟨S1x1x1x64x64, .f32⟩
  | 80 => ⟨S2x16x128x64x64, .f32⟩
  | 81 => ⟨S2x16x128x64x64, .f32⟩
  | 82 => ⟨S2x16x128x64x64, .f32⟩
  | 83 => ⟨S1x1x1x64x64, .f32⟩
  | 84 => ⟨S2x16x128x64x64, .f32⟩
  | 85 => ⟨S2x16x128x64x64, .f32⟩
  | 86 => ⟨S2x16x128x64x64, .f32⟩
  | 87 => ⟨S1x1x1x64x64, .f32⟩
  | 88 => ⟨S2x16x128x64x64, .f32⟩
  | 89 => ⟨S2x16x128x64x64, .f32⟩
  | 90 => ⟨S2x16x128x64x64, .f32⟩
  | 91 => ⟨S1x1x1x64x64, .f32⟩
  | 92 => ⟨S2x16x128x64x64, .f32⟩
  | 93 => ⟨S2x16x128x64x64, .f32⟩
  | 94 => ⟨S2x16x128x64x64, .f32⟩
  | 95 => ⟨S1x1x1x64x64, .f32⟩
  | 96 => ⟨S2x16x128x64x64, .f32⟩
  | 97 => ⟨S2x16x128x64x64, .f32⟩
  | 98 => ⟨S2x16x128x64x64, .f32⟩
  | 99 => ⟨S1x1x1x64x64, .f32⟩
  | 100 => ⟨S2x16x128x64x64, .f32⟩
  | 101 => ⟨S2x16x128x64x64, .f32⟩
  | 102 => ⟨S2x16x128x64x64, .f32⟩
  | 103 => ⟨S1x1x1x64x64, .f32⟩
  | 104 => ⟨S2x16x128x64x64, .f32⟩
  | 105 => ⟨S2x16x128x64x64, .f32⟩
  | 106 => ⟨S2x16x128x64x64, .f32⟩
  | 107 => ⟨S1x1x1x64x64, .f32⟩
  | 108 => ⟨S2x16x128x64x64, .f32⟩
  | 109 => ⟨S2x16x128x64x64, .f32⟩
  | 110 => ⟨S2x16x128x64x64, .f32⟩
  | 111 => ⟨S1x1x1x64x64, .f32⟩
  | 112 => ⟨S2x16x128x64x64, .f32⟩
  | 113 => ⟨S2x16x128x64x64, .f32⟩
  | 114 => ⟨S2x16x128x64x64, .f32⟩
  | 115 => ⟨S1x1x1x64x64, .f32⟩
  | 116 => ⟨S2x16x128x64x64, .f32⟩
  | 117 => ⟨S2x16x128x64x64, .f32⟩
  | 118 => ⟨S2x16x128x64x64, .f32⟩
  | 119 => ⟨S1x1x1x64x64, .f32⟩
  | 120 => ⟨S2x16x128x64x64, .f32⟩
  | 121 => ⟨S2x16x128x64x64, .f32⟩
  | 122 => ⟨S2x16x128x64x64, .f32⟩
  | 123 => ⟨S1x1x1x64x64, .f32⟩
  | 124 => ⟨S2x16x128x64x64, .f32⟩
  | 125 => ⟨S2x16x128x64x64, .f32⟩
  | 126 => ⟨S2x16x128x64x64, .f32⟩
  | 127 => ⟨S1x1x1x64x64, .f32⟩
  | _ => ⟨S16384x21504, .f32⟩

abbrev hbmTy0_2 (i : Nat) : BufTy := match i % 128 with
  | 0 => ⟨S2x16x128x64x64, .f32⟩
  | 1 => ⟨S2x16x128x64x64, .f32⟩
  | 2 => ⟨S2x16x128x64x64, .f32⟩
  | 3 => ⟨S1x1x1x64x64, .f32⟩
  | 4 => ⟨S2x16x128x64x64, .f32⟩
  | 5 => ⟨S2x16x128x64x64, .f32⟩
  | 6 => ⟨S2x16x128x64x64, .f32⟩
  | 7 => ⟨S1x1x1x64x64, .f32⟩
  | 8 => ⟨S2x16x128x64x64, .f32⟩
  | 9 => ⟨S2x16x128x64x64, .f32⟩
  | 10 => ⟨S2x16x128x64x64, .f32⟩
  | 11 => ⟨S1x1x1x64x64, .f32⟩
  | 12 => ⟨S2x16x128x64x64, .f32⟩
  | 13 => ⟨S2x16x128x64x64, .f32⟩
  | 14 => ⟨S2x16x128x64x64, .f32⟩
  | 15 => ⟨S1x1x1x64x64, .f32⟩
  | 16 => ⟨S2x16x128x64x64, .f32⟩
  | 17 => ⟨S2x16x128x64x64, .f32⟩
  | 18 => ⟨S2x16x128x64x64, .f32⟩
  | 19 => ⟨S1x1x1x64x64, .f32⟩
  | 20 => ⟨S2x16x128x64x64, .f32⟩
  | 21 => ⟨S2x16x128x64x64, .f32⟩
  | 22 => ⟨S2x16x128x64x64, .f32⟩
  | 23 => ⟨S1x1x1x64x64, .f32⟩
  | 24 => ⟨S2x16x128x64x64, .f32⟩
  | 25 => ⟨S2x16x128x64x64, .f32⟩
  | 26 => ⟨S2x16x128x64x64, .f32⟩
  | 27 => ⟨S1x1x1x64x64, .f32⟩
  | 28 => ⟨S2x16x128x64x64, .f32⟩
  | 29 => ⟨S2x16x128x64x64, .f32⟩
  | 30 => ⟨S2x16x128x64x64, .f32⟩
  | 31 => ⟨S1x1x1x64x64, .f32⟩
  | 32 => ⟨S2x16x128x64x64, .f32⟩
  | 33 => ⟨S2x16x128x64x64, .f32⟩
  | 34 => ⟨S2x16x128x64x64, .f32⟩
  | 35 => ⟨S1x1x1x64x64, .f32⟩
  | 36 => ⟨S2x16x128x64x64, .f32⟩
  | 37 => ⟨S2x16x128x64x64, .f32⟩
  | 38 => ⟨S2x16x128x64x64, .f32⟩
  | 39 => ⟨S1x1x1x64x64, .f32⟩
  | 40 => ⟨S2x16x128x64x64, .f32⟩
  | 41 => ⟨S2x16x128x64x64, .f32⟩
  | 42 => ⟨S2x16x128x64x64, .f32⟩
  | 43 => ⟨S1x1x1x64x64, .f32⟩
  | 44 => ⟨S2x16x128x64x64, .f32⟩
  | 45 => ⟨S2x16x128x64x64, .f32⟩
  | 46 => ⟨S2x16x128x64x64, .f32⟩
  | 47 => ⟨S1x1x1x64x64, .f32⟩
  | 48 => ⟨S2x16x128x64x64, .f32⟩
  | 49 => ⟨S2x16x128x64x64, .f32⟩
  | 50 => ⟨S2x16x128x64x64, .f32⟩
  | 51 => ⟨S1x1x1x64x64, .f32⟩
  | 52 => ⟨S2x16x128x64x64, .f32⟩
  | 53 => ⟨S2x16x128x64x64, .f32⟩
  | 54 => ⟨S2x16x128x64x64, .f32⟩
  | 55 => ⟨S1x1x1x64x64, .f32⟩
  | 56 => ⟨S2x16x128x64x64, .f32⟩
  | 57 => ⟨S2x16x128x64x64, .f32⟩
  | 58 => ⟨S2x16x128x64x64, .f32⟩
  | 59 => ⟨S1x1x1x64x64, .f32⟩
  | 60 => ⟨S2x16x128x64x64, .f32⟩
  | 61 => ⟨S2x16x128x64x64, .f32⟩
  | 62 => ⟨S2x16x128x64x64, .f32⟩
  | 63 => ⟨S1x1x1x64x64, .f32⟩
  | 64 => ⟨S2x16x128x64x64, .f32⟩
  | 65 => ⟨S2x16x128x64x64, .f32⟩
  | 66 => ⟨S2x16x128x64x64, .f32⟩
  | 67 => ⟨S1x1x1x64x64, .f32⟩
  | 68 => ⟨S2x16x128x64x64, .f32⟩
  | 69 => ⟨S2x16x128x64x64, .f32⟩
  | 70 => ⟨S2x16x128x64x64, .f32⟩
  | 71 => ⟨S1x1x1x64x64, .f32⟩
  | 72 => ⟨S2x16x128x64x64, .f32⟩
  | 73 => ⟨S2x16x128x64x64, .f32⟩
  | 74 => ⟨S2x16x128x64x64, .f32⟩
  | 75 => ⟨S1x1x1x64x64, .f32⟩
  | 76 => ⟨S2x16x128x64x64, .f32⟩
  | 77 => ⟨S2x16x128x64x64, .f32⟩
  | 78 => ⟨S2x16x128x64x64, .f32⟩
  | 79 => ⟨S1x1x1x64x64, .f32⟩
  | 80 => ⟨S2x16x128x64x64, .f32⟩
  | 81 => ⟨S2x16x128x64x64, .f32⟩
  | 82 => ⟨S2x16x128x64x64, .f32⟩
  | 83 => ⟨S1x1x1x64x64, .f32⟩
  | 84 => ⟨S2x16x128x64x64, .f32⟩
  | 85 => ⟨S2x16x128x64x64, .f32⟩
  | 86 => ⟨S2x16x128x64x64, .f32⟩
  | 87 => ⟨S1x1x1x64x64, .f32⟩
  | 88 => ⟨S2x16x128x64x64, .f32⟩
  | 89 => ⟨S2x16x128x64x64, .f32⟩
  | 90 => ⟨S2x16x128x64x64, .f32⟩
  | 91 => ⟨S1x1x1x64x64, .f32⟩
  | 92 => ⟨S2x16x128x64x64, .f32⟩
  | 93 => ⟨S2x16x128x64x64, .f32⟩
  | 94 => ⟨S2x16x128x64x64, .f32⟩
  | 95 => ⟨S1x1x1x64x64, .f32⟩
  | 96 => ⟨S2x16x128x64x64, .f32⟩
  | 97 => ⟨S2x16x128x64x64, .f32⟩
  | 98 => ⟨S2x16x128x64x64, .f32⟩
  | 99 => ⟨S1x1x1x64x64, .f32⟩
  | 100 => ⟨S2x16x128x64x64, .f32⟩
  | 101 => ⟨S2x16x128x64x64, .f32⟩
  | 102 => ⟨S2x16x128x64x64, .f32⟩
  | 103 => ⟨S1x1x1x64x64, .f32⟩
  | 104 => ⟨S2x16x128x64x64, .f32⟩
  | 105 => ⟨S2x16x128x64x64, .f32⟩
  | 106 => ⟨S2x16x128x64x64, .f32⟩
  | 107 => ⟨S1x1x1x64x64, .f32⟩
  | 108 => ⟨S2x16x128x64x64, .f32⟩
  | 109 => ⟨S2x16x128x64x64, .f32⟩
  | 110 => ⟨S2x16x128x64x64, .f32⟩
  | 111 => ⟨S1x1x1x64x64, .f32⟩
  | 112 => ⟨S2x16x128x64x64, .f32⟩
  | 113 => ⟨S2x16x128x64x64, .f32⟩
  | 114 => ⟨S2x16x128x64x64, .f32⟩
  | 115 => ⟨S1x1x1x64x64, .f32⟩
  | 116 => ⟨S2x16x128x64x64, .f32⟩
  | 117 => ⟨S2x16x128x64x64, .f32⟩
  | 118 => ⟨S2x16x128x64x64, .f32⟩
  | 119 => ⟨S1x1x1x64x64, .f32⟩
  | 120 => ⟨S2x16x128x64x64, .f32⟩
  | 121 => ⟨S2x16x128x64x64, .f32⟩
  | 122 => ⟨S2x16x128x64x64, .f32⟩
  | 123 => ⟨S1x1x1x64x64, .f32⟩
  | 124 => ⟨S2x16x128x64x64, .f32⟩
  | 125 => ⟨S2x16x128x64x64, .f32⟩
  | 126 => ⟨S2x16x128x64x64, .f32⟩
  | 127 => ⟨S1x1x1x64x64, .f32⟩
  | _ => ⟨S16384x21504, .f32⟩

abbrev hbmTy0_3 (i : Nat) : BufTy := match i % 128 with
  | 0 => ⟨S2x16x128x64x64, .f32⟩
  | 1 => ⟨S2x16x128x64x64, .f32⟩
  | 2 => ⟨S2x16x128x64x64, .f32⟩
  | 3 => ⟨S1x1x1x64x64, .f32⟩
  | 4 => ⟨S2x16x128x64x64, .f32⟩
  | 5 => ⟨S2x16x128x64x64, .f32⟩
  | 6 => ⟨S2x16x128x64x64, .f32⟩
  | 7 => ⟨S1x1x1x64x64, .f32⟩
  | 8 => ⟨S2x16x128x64x64, .f32⟩
  | 9 => ⟨S2x16x128x64x64, .f32⟩
  | 10 => ⟨S2x16x128x64x64, .f32⟩
  | 11 => ⟨S1x1x1x64x64, .f32⟩
  | 12 => ⟨S2x16x128x64x64, .f32⟩
  | 13 => ⟨S2x16x128x64x64, .f32⟩
  | 14 => ⟨S2x16x128x64x64, .f32⟩
  | 15 => ⟨S1x1x1x64x64, .f32⟩
  | 16 => ⟨S2x16x128x64x64, .f32⟩
  | 17 => ⟨S2x16x128x64x64, .f32⟩
  | 18 => ⟨S2x16x128x64x64, .f32⟩
  | 19 => ⟨S1x1x1x64x64, .f32⟩
  | 20 => ⟨S2x16x128x64x64, .f32⟩
  | 21 => ⟨S2x16x128x64x64, .f32⟩
  | 22 => ⟨S2x16x128x64x64, .f32⟩
  | 23 => ⟨S1x1x1x64x64, .f32⟩
  | 24 => ⟨S2x16x128x64x64, .f32⟩
  | 25 => ⟨S2x16x128x64x64, .f32⟩
  | 26 => ⟨S2x16x128x64x64, .f32⟩
  | 27 => ⟨S1x1x1x64x64, .f32⟩
  | 28 => ⟨S2x16x128x64x64, .f32⟩
  | 29 => ⟨S2x16x128x64x64, .f32⟩
  | 30 => ⟨S2x16x128x64x64, .f32⟩
  | 31 => ⟨S1x1x1x64x64, .f32⟩
  | 32 => ⟨S2x16x128x64x64, .f32⟩
  | 33 => ⟨S2x16x128x64x64, .f32⟩
  | 34 => ⟨S2x16x128x64x64, .f32⟩
  | 35 => ⟨S1x1x1x64x64, .f32⟩
  | 36 => ⟨S2x16x128x64x64, .f32⟩
  | 37 => ⟨S2x16x128x64x64, .f32⟩
  | 38 => ⟨S2x16x128x64x64, .f32⟩
  | 39 => ⟨S1x1x1x64x64, .f32⟩
  | 40 => ⟨S2x16x128x64x64, .f32⟩
  | 41 => ⟨S2x16x128x64x64, .f32⟩
  | 42 => ⟨S2x16x128x64x1, .f32⟩
  | 43 => ⟨S2x16x128x64x128, .f32⟩
  | 44 => ⟨S2x16x128x64x128, .f32⟩
  | 45 => ⟨S2x16x128x64x128, .f32⟩
  | 46 => ⟨S2x16x128x64, .f32⟩
  | 47 => ⟨S2x16x128x64x1, .f32⟩
  | 48 => ⟨S2x16x128x64x128, .f32⟩
  | 49 => ⟨S2x16x128x64x128, .f32⟩
  | 50 => ⟨S2x16x128x64x128, .f32⟩
  | 51 => ⟨S2x16x128x64x64, .f32⟩
  | 52 => ⟨S2x16x128x64x64, .f32⟩
  | 53 => ⟨S128x2x16x64x128, .f32⟩
  | 54 => ⟨S128x2x16x64x128, .f32⟩
  | 55 => ⟨S128x2x16x64x128, .f32⟩
  | 56 => ⟨S128x2x16x64x128, .f32⟩
  | 57 => ⟨S128x2x16x64, .f32⟩
  | 58 => ⟨S128x2x16x64x64, .f32⟩
  | 59 => ⟨S_, .f32⟩
  | 60 => ⟨S2x16x128x128, .f32⟩
  | 61 => ⟨S_, .f32⟩
  | 62 => ⟨S128x2x16x64x128, .f32⟩
  | 63 => ⟨S_, .i32⟩
  | 64 => ⟨S128x2x16x64x128, .f32⟩
  | 65 => ⟨S128x2x16x64x128, .f32⟩
  | 66 => ⟨S128x2x16x64x128, .f32⟩
  | 67 => ⟨S128x2x16x64x128, .f32⟩
  | 68 => ⟨S128x2x16x64, .f32⟩
  | 69 => ⟨S128x2x16x64x64, .f32⟩
  | 70 => ⟨S_, .i32⟩
  | 71 => ⟨S2x16x128x128, .f32⟩
  | 72 => ⟨S128x2x16x64x128, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1x2x16x64x128, .f32⟩
  | 80 => ⟨S2x16x64x128, .f32⟩
  | 81 => ⟨S_, .i32⟩
  | 82 => ⟨S_, .i32⟩
  | 83 => ⟨S_, .i32⟩
  | 84 => ⟨S_, .i32⟩
  | 85 => ⟨S1x2x16x64x128, .f32⟩
  | 86 => ⟨S2x16x64x128, .f32⟩
  | 87 => ⟨S_, .i32⟩
  | 88 => ⟨S_, .i32⟩
  | 89 => ⟨S_, .i32⟩
  | 90 => ⟨S_, .i32⟩
  | 91 => ⟨S1x2x16x64x128, .f32⟩
  | 92 => ⟨S2x16x64x128, .f32⟩
  | 93 => ⟨S_, .i32⟩
  | 94 => ⟨S_, .i32⟩
  | 95 => ⟨S_, .i32⟩
  | 96 => ⟨S_, .i32⟩
  | 97 => ⟨S1x2x16x64x128, .f32⟩
  | 98 => ⟨S2x16x64x128, .f32⟩
  | 99 => ⟨S_, .i32⟩
  | 100 => ⟨S_, .i32⟩
  | 101 => ⟨S_, .i32⟩
  | 102 => ⟨S1x2x16x64, .f32⟩
  | 103 => ⟨S2x16x64, .f32⟩
  | 104 => ⟨S_, .i32⟩
  | 105 => ⟨S_, .i32⟩
  | 106 => ⟨S_, .i32⟩
  | 107 => ⟨S_, .i32⟩
  | 108 => ⟨S1x2x16x64x64, .f32⟩
  | 109 => ⟨S2x16x64x64, .f32⟩
  | 110 => ⟨S2x16x64x128, .f32⟩
  | 111 => ⟨S2x16x64x128, .f32⟩
  | 112 => ⟨S2x16x64, .f32⟩
  | 113 => ⟨S2x16x64x1, .f32⟩
  | 114 => ⟨S2x16x64x128, .f32⟩
  | 115 => ⟨S2x16x64x128, .f32⟩
  | 116 => ⟨S2x16x64x128, .f32⟩
  | 117 => ⟨S2x16x64x128, .f32⟩
  | 118 => ⟨S2x16x64x128, .f32⟩
  | 119 => ⟨S2x16x1, .f32⟩
  | 120 => ⟨S2x16x1, .f32⟩
  | 121 => ⟨S2x16x1x1, .f32⟩
  | 122 => ⟨S2x16x128x128, .f32⟩
  | 123 => ⟨S2x16x128x128, .f32⟩
  | 124 => ⟨S2x16x64, .f32⟩
  | 125 => ⟨S2x16x64, .f32⟩
  | 126 => ⟨S2x16x64, .f32⟩
  | 127 => ⟨S2x16x64x1, .f32⟩
  | _ => ⟨S16384x21504, .f32⟩

abbrev hbmTy0_4 (i : Nat) : BufTy := match i % 128 with
  | 0 => ⟨S2x16x64x128, .f32⟩
  | 1 => ⟨S2x16x64x128, .f32⟩
  | 2 => ⟨S2x16x128x128, .f32⟩
  | 3 => ⟨S2x16x128x128, .f32⟩
  | 4 => ⟨S1x2x16x64x128, .f32⟩
  | 5 => ⟨S_, .i32⟩
  | 6 => ⟨S_, .i32⟩
  | 7 => ⟨S_, .i32⟩
  | 8 => ⟨S_, .i32⟩
  | 9 => ⟨S128x2x16x64x128, .f32⟩
  | 10 => ⟨S_, .i32⟩
  | 11 => ⟨S_, .i32⟩
  | 12 => ⟨S2x16x128x64x128, .f32⟩
  | 13 => ⟨S2x16x8192x128, .f32⟩
  | 14 => ⟨S2x8192x16x128, .f32⟩
  | 15 => ⟨S16384x2048, .f32⟩
  | 16 => ⟨S2x8192x2048, .f32⟩
  | 17 => ⟨S2x8192x16x128, .f32⟩
  | 18 => ⟨S2x8192x16x128, .f32⟩
  | 19 => ⟨S_, .f32⟩
  | 20 => ⟨S2x8192x16, .f32⟩
  | 21 => ⟨S2x8192x16x1, .f32⟩
  | 22 => ⟨S_, .f32⟩
  | 23 => ⟨S2x8192x16x1, .f32⟩
  | 24 => ⟨S2x8192x16x1, .f32⟩
  | 25 => ⟨S_, .f32⟩
  | 26 => ⟨S2x8192x16x1, .f32⟩
  | 27 => ⟨S2x8192x16x1, .f32⟩
  | 28 => ⟨S2x8192x16x1, .f32⟩
  | 29 => ⟨S2x8192x16x128, .f32⟩
  | 30 => ⟨S2x8192x16x128, .f32⟩
  | 31 => ⟨S1x1x1x128, .f32⟩
  | 32 => ⟨S2x8192x16x128, .f32⟩
  | 33 => ⟨S2x8192x16x128, .f32⟩
  | 34 => ⟨S2x8192x16x128, .f32⟩
  | 35 => ⟨S2x8192x16x128, .f32⟩
  | 36 => ⟨S_, .f32⟩
  | 37 => ⟨S2x8192x16x128, .f32⟩
  | 38 => ⟨S2x8192x16x128, .f32⟩
  | 39 => ⟨S_, .f32⟩
  | 40 => ⟨S2x8192x16x128, .f32⟩
  | 41 => ⟨S2x8192x16x128, .f32⟩
  | 42 => ⟨S2x8192x16x128, .f32⟩
  | 43 => ⟨S2x8192x16x128, .f32⟩
  | 44 => ⟨S16384x2048, .f32⟩
  | 45 => ⟨S16384x2048, .bf16⟩
  | _ => ⟨S16384x21504, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x21504, .f32⟩

abbrev bufTy : (tb : Table) → Fin (tcTables nBuf tb) → BufTy
  | .hbm, ⟨i, _⟩ => hbmTy i
  | _, _ => ⟨S16384x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_0 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_2 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_call0_cst : Ref sig .tc := ⟨.hbm, 122, rfl⟩
abbrev main_call3_call0_v0 : Ref sig .tc := ⟨.hbm, 123, rfl⟩
abbrev main_v85 : Ref sig .tc := ⟨.hbm, 124, rfl⟩
abbrev main_c_7 : Ref sig .tc := ⟨.hbm, 125, rfl⟩
abbrev main_v86 : Ref sig .tc := ⟨.hbm, 126, rfl⟩
abbrev main_call4_v0 : Ref sig .tc := ⟨.hbm, 127, rfl⟩
abbrev main_call4_c : Ref sig .tc := ⟨.hbm, 128, rfl⟩
abbrev main_call4_v1 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_c_0 : Ref sig .tc := ⟨.hbm, 133, rfl⟩
abbrev main_call4_v5 : Ref sig .tc := ⟨.hbm, 134, rfl⟩
abbrev main_v87 : Ref sig .tc := ⟨.hbm, 135, rfl⟩
abbrev main_c_8 : Ref sig .tc := ⟨.hbm, 136, rfl⟩
abbrev main_v88 : Ref sig .tc := ⟨.hbm, 137, rfl⟩
abbrev main_call5_v0 : Ref sig .tc := ⟨.hbm, 138, rfl⟩
abbrev main_call5_c : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_c_0 : Ref sig .tc := ⟨.hbm, 144, rfl⟩
abbrev main_call5_v5 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_9 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_10 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_c_11 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_v346 : Ref sig .tc := ⟨.hbm, 412, rfl⟩
abbrev main_v347 : Ref sig .tc := ⟨.hbm, 413, rfl⟩
abbrev main_v348 : Ref sig .tc := ⟨.hbm, 414, rfl⟩
abbrev main_v349 : Ref sig .tc := ⟨.hbm, 415, rfl⟩
abbrev main_v350 : Ref sig .tc := ⟨.hbm, 416, rfl⟩
abbrev main_v351 : Ref sig .tc := ⟨.hbm, 417, rfl⟩
abbrev main_v352 : Ref sig .tc := ⟨.hbm, 418, rfl⟩
abbrev main_v353 : Ref sig .tc := ⟨.hbm, 419, rfl⟩
abbrev main_v354 : Ref sig .tc := ⟨.hbm, 420, rfl⟩
abbrev main_v355 : Ref sig .tc := ⟨.hbm, 421, rfl⟩
abbrev main_v356 : Ref sig .tc := ⟨.hbm, 422, rfl⟩
abbrev main_v357 : Ref sig .tc := ⟨.hbm, 423, rfl⟩
abbrev main_v358 : Ref sig .tc := ⟨.hbm, 424, rfl⟩
abbrev main_v359 : Ref sig .tc := ⟨.hbm, 425, rfl⟩
abbrev main_v360 : Ref sig .tc := ⟨.hbm, 426, rfl⟩
abbrev main_v361 : Ref sig .tc := ⟨.hbm, 427, rfl⟩
abbrev main_v362 : Ref sig .tc := ⟨.hbm, 428, rfl⟩
abbrev main_v363 : Ref sig .tc := ⟨.hbm, 429, rfl⟩
abbrev main_v364 : Ref sig .tc := ⟨.hbm, 430, rfl⟩
abbrev main_v365 : Ref sig .tc := ⟨.hbm, 431, rfl⟩
abbrev main_v366 : Ref sig .tc := ⟨.hbm, 432, rfl⟩
abbrev main_v367 : Ref sig .tc := ⟨.hbm, 433, rfl⟩
abbrev main_v368 : Ref sig .tc := ⟨.hbm, 434, rfl⟩
abbrev main_v369 : Ref sig .tc := ⟨.hbm, 435, rfl⟩
abbrev main_v370 : Ref sig .tc := ⟨.hbm, 436, rfl⟩
abbrev main_v371 : Ref sig .tc := ⟨.hbm, 437, rfl⟩
abbrev main_v372 : Ref sig .tc := ⟨.hbm, 438, rfl⟩
abbrev main_v373 : Ref sig .tc := ⟨.hbm, 439, rfl⟩
abbrev main_v374 : Ref sig .tc := ⟨.hbm, 440, rfl⟩
abbrev main_v375 : Ref sig .tc := ⟨.hbm, 441, rfl⟩
abbrev main_v376 : Ref sig .tc := ⟨.hbm, 442, rfl⟩
abbrev main_cst_12 : Ref sig .tc := ⟨.hbm, 443, rfl⟩
abbrev main_v377 : Ref sig .tc := ⟨.hbm, 444, rfl⟩
abbrev main_cst_13 : Ref sig .tc := ⟨.hbm, 445, rfl⟩
abbrev main_v378 : Ref sig .tc := ⟨.hbm, 446, rfl⟩
abbrev main_c_14 : Ref sig .tc := ⟨.hbm, 447, rfl⟩
abbrev main_v379_0 : Ref sig .tc := ⟨.hbm, 448, rfl⟩
abbrev main_v379_1 : Ref sig .tc := ⟨.hbm, 449, rfl⟩
abbrev main_v379_2 : Ref sig .tc := ⟨.hbm, 450, rfl⟩
abbrev main_v379_3 : Ref sig .tc := ⟨.hbm, 451, rfl⟩
abbrev main_v379_4 : Ref sig .tc := ⟨.hbm, 452, rfl⟩
abbrev main_v379_5 : Ref sig .tc := ⟨.hbm, 453, rfl⟩
abbrev main_v379_6 : Ref sig .tc := ⟨.hbm, 454, rfl⟩
abbrev main_v379_7 : Ref sig .tc := ⟨.hbm, 455, rfl⟩
abbrev main_v379_8 : Ref sig .tc := ⟨.hbm, 456, rfl⟩
abbrev main_while0c_c_26 : Ref sig .tc := ⟨.hbm, 457, rfl⟩
abbrev main_while0c_v403 : Ref sig .tc := ⟨.hbm, 458, rfl⟩
abbrev main_while0b_call8_c : Ref sig .tc := ⟨.hbm, 459, rfl⟩
abbrev main_while0b_call8_c_0 : Ref sig .tc := ⟨.hbm, 460, rfl⟩
abbrev main_while0b_call8_c_1 : Ref sig .tc := ⟨.hbm, 461, rfl⟩
abbrev main_while0b_call8_c_2 : Ref sig .tc := ⟨.hbm, 462, rfl⟩
abbrev main_while0b_call8_v0 : Ref sig .tc := ⟨.hbm, 463, rfl⟩
abbrev main_while0b_v403 : Ref sig .tc := ⟨.hbm, 464, rfl⟩
abbrev main_while0b_call9_c : Ref sig .tc := ⟨.hbm, 465, rfl⟩
abbrev main_while0b_call9_c_0 : Ref sig .tc := ⟨.hbm, 466, rfl⟩
abbrev main_while0b_call9_c_1 : Ref sig .tc := ⟨.hbm, 467, rfl⟩
abbrev main_while0b_call9_c_2 : Ref sig .tc := ⟨.hbm, 468, rfl⟩
abbrev main_while0b_call9_v0 : Ref sig .tc := ⟨.hbm, 469, rfl⟩
abbrev main_while0b_v404 : Ref sig .tc := ⟨.hbm, 470, rfl⟩
abbrev main_while0b_call10_c : Ref sig .tc := ⟨.hbm, 471, rfl⟩
abbrev main_while0b_call10_c_0 : Ref sig .tc := ⟨.hbm, 472, rfl⟩
abbrev main_while0b_call10_c_1 : Ref sig .tc := ⟨.hbm, 473, rfl⟩
abbrev main_while0b_call10_c_2 : Ref sig .tc := ⟨.hbm, 474, rfl⟩
abbrev main_while0b_call10_v0 : Ref sig .tc := ⟨.hbm, 475, rfl⟩
abbrev main_while0b_v405 : Ref sig .tc := ⟨.hbm, 476, rfl⟩
abbrev main_while0b_call11_c : Ref sig .tc := ⟨.hbm, 477, rfl⟩
abbrev main_while0b_call11_c_0 : Ref sig .tc := ⟨.hbm, 478, rfl⟩
abbrev main_while0b_call11_c_1 : Ref sig .tc := ⟨.hbm, 479, rfl⟩
abbrev main_while0b_call11_c_2 : Ref sig .tc := ⟨.hbm, 480, rfl⟩
abbrev main_while0b_call11_v0 : Ref sig .tc := ⟨.hbm, 481, rfl⟩
abbrev main_while0b_v406 : Ref sig .tc := ⟨.hbm, 482, rfl⟩
abbrev main_while0b_call12_c : Ref sig .tc := ⟨.hbm, 483, rfl⟩
abbrev main_while0b_call12_c_0 : Ref sig .tc := ⟨.hbm, 484, rfl⟩
abbrev main_while0b_call12_c_1 : Ref sig .tc := ⟨.hbm, 485, rfl⟩
abbrev main_while0b_call12_v0 : Ref sig .tc := ⟨.hbm, 486, rfl⟩
abbrev main_while0b_v407 : Ref sig .tc := ⟨.hbm, 487, rfl⟩
abbrev main_while0b_call13_c : Ref sig .tc := ⟨.hbm, 488, rfl⟩
abbrev main_while0b_call13_c_0 : Ref sig .tc := ⟨.hbm, 489, rfl⟩
abbrev main_while0b_call13_c_1 : Ref sig .tc := ⟨.hbm, 490, rfl⟩
abbrev main_while0b_call13_c_2 : Ref sig .tc := ⟨.hbm, 491, rfl⟩
abbrev main_while0b_call13_v0 : Ref sig .tc := ⟨.hbm, 492, rfl⟩
abbrev main_while0b_v408 : Ref sig .tc := ⟨.hbm, 493, rfl⟩
abbrev main_while0b_v409 : Ref sig .tc := ⟨.hbm, 494, rfl⟩
abbrev main_while0b_v410 : Ref sig .tc := ⟨.hbm, 495, rfl⟩
abbrev main_while0b_v411 : Ref sig .tc := ⟨.hbm, 496, rfl⟩
abbrev main_while0b_v412 : Ref sig .tc := ⟨.hbm, 497, rfl⟩
abbrev main_while0b_v413 : Ref sig .tc := ⟨.hbm, 498, rfl⟩
abbrev main_while0b_v414 : Ref sig .tc := ⟨.hbm, 499, rfl⟩
abbrev main_while0b_v415 : Ref sig .tc := ⟨.hbm, 500, rfl⟩
abbrev main_while0b_v416 : Ref sig .tc := ⟨.hbm, 501, rfl⟩
abbrev main_while0b_v417 : Ref sig .tc := ⟨.hbm, 502, rfl⟩
abbrev main_while0b_v418 : Ref sig .tc := ⟨.hbm, 503, rfl⟩
abbrev main_while0b_v419 : Ref sig .tc := ⟨.hbm, 504, rfl⟩
abbrev main_while0b_v420 : Ref sig .tc := ⟨.hbm, 505, rfl⟩
abbrev main_while0b_v421 : Ref sig .tc := ⟨.hbm, 506, rfl⟩
abbrev main_while0b_v422 : Ref sig .tc := ⟨.hbm, 507, rfl⟩
abbrev main_while0b_v423 : Ref sig .tc := ⟨.hbm, 508, rfl⟩
abbrev main_while0b_v424 : Ref sig .tc := ⟨.hbm, 509, rfl⟩
abbrev main_while0b_v425 : Ref sig .tc := ⟨.hbm, 510, rfl⟩
abbrev main_while0b_v426 : Ref sig .tc := ⟨.hbm, 511, rfl⟩
abbrev main_while0b_v427 : Ref sig .tc := ⟨.hbm, 512, rfl⟩
abbrev main_while0b_v428 : Ref sig .tc := ⟨.hbm, 513, rfl⟩
abbrev main_while0b_v429 : Ref sig .tc := ⟨.hbm, 514, rfl⟩
abbrev main_while0b_v430 : Ref sig .tc := ⟨.hbm, 515, rfl⟩
abbrev main_while0b_call14_v0 : Ref sig .tc := ⟨.hbm, 516, rfl⟩
abbrev main_while0b_call14_c : Ref sig .tc := ⟨.hbm, 517, rfl⟩
abbrev main_while0b_call14_c_0 : Ref sig .tc := ⟨.hbm, 518, rfl⟩
abbrev main_while0b_call14_c_1 : Ref sig .tc := ⟨.hbm, 519, rfl⟩
abbrev main_while0b_call14_c_2 : Ref sig .tc := ⟨.hbm, 520, rfl⟩
abbrev main_while0b_v431 : Ref sig .tc := ⟨.hbm, 521, rfl⟩
abbrev main_while0b_c_26 : Ref sig .tc := ⟨.hbm, 522, rfl⟩
abbrev main_while0b_v432 : Ref sig .tc := ⟨.hbm, 523, rfl⟩
abbrev main_v380 : Ref sig .tc := ⟨.hbm, 524, rfl⟩
abbrev main_v381 : Ref sig .tc := ⟨.hbm, 525, rfl⟩
abbrev main_v382 : Ref sig .tc := ⟨.hbm, 526, rfl⟩
abbrev main_v383 : Ref sig .tc := ⟨.hbm, 527, rfl⟩
abbrev main_v384 : Ref sig .tc := ⟨.hbm, 528, rfl⟩
abbrev main_v385 : Ref sig .tc := ⟨.hbm, 529, rfl⟩
abbrev main_v386 : Ref sig .tc := ⟨.hbm, 530, rfl⟩
abbrev main_cst_15 : Ref sig .tc := ⟨.hbm, 531, rfl⟩
abbrev main_v387 : Ref sig .tc := ⟨.hbm, 532, rfl⟩
abbrev main_v388 : Ref sig .tc := ⟨.hbm, 533, rfl⟩
abbrev main_cst_16 : Ref sig .tc := ⟨.hbm, 534, rfl⟩
abbrev main_v389 : Ref sig .tc := ⟨.hbm, 535, rfl⟩
abbrev main_v390 : Ref sig .tc := ⟨.hbm, 536, rfl⟩
abbrev main_cst_17 : Ref sig .tc := ⟨.hbm, 537, rfl⟩
abbrev main_v391 : Ref sig .tc := ⟨.hbm, 538, rfl⟩
abbrev main_v392 : Ref sig .tc := ⟨.hbm, 539, rfl⟩
abbrev main_v393 : Ref sig .tc := ⟨.hbm, 540, rfl⟩
abbrev main_v394 : Ref sig .tc := ⟨.hbm, 541, rfl⟩
abbrev main_v395 : Ref sig .tc := ⟨.hbm, 542, rfl⟩
abbrev main_v396 : Ref sig .tc := ⟨.hbm, 543, rfl⟩
abbrev main_v397 : Ref sig .tc := ⟨.hbm, 544, rfl⟩
abbrev main_v398 : Ref sig .tc := ⟨.hbm, 545, rfl⟩
abbrev main_call15_v0 : Ref sig .tc := ⟨.hbm, 546, rfl⟩
abbrev main_call15_v1 : Ref sig .tc := ⟨.hbm, 547, rfl⟩
abbrev main_call15_cst : Ref sig .tc := ⟨.hbm, 548, rfl⟩
abbrev main_call15_v2 : Ref sig .tc := ⟨.hbm, 549, rfl⟩
abbrev main_call15_v3 : Ref sig .tc := ⟨.hbm, 550, rfl⟩
abbrev main_call15_cst_0 : Ref sig .tc := ⟨.hbm, 551, rfl⟩
abbrev main_call15_v4 : Ref sig .tc := ⟨.hbm, 552, rfl⟩
abbrev main_call15_v5 : Ref sig .tc := ⟨.hbm, 553, rfl⟩
abbrev main_v399 : Ref sig .tc := ⟨.hbm, 554, rfl⟩
abbrev main_v400 : Ref sig .tc := ⟨.hbm, 555, rfl⟩
abbrev main_v401 : Ref sig .tc := ⟨.hbm, 556, rfl⟩
abbrev main_v402 : Ref sig .tc := ⟨.hbm, 557, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x4096 : Shape := ⟨2, ![16384, 4096]⟩
abbrev S16384x1024 : Shape := ⟨2, ![16384, 1024]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S4096x16384, .f32⟩
  | .hbm, ⟨3, _⟩ => ⟨S4096x16384, .bf16⟩
  | .hbm, ⟨4, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S16384x1024 : Shape := ⟨2, ![16384, 1024]⟩
abbrev S4096x16384 : Shape := ⟨2, ![4096, 16384]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S4096x16384, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S16384x16384, .f32⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel3.lean ====
abbrev S16384x16384 : Shape := ⟨2, ![16384, 16384]⟩
abbrev S16384x4096 : Shape := ⟨2, ![16384, 4096]⟩
abbrev S4096 : Shape := ⟨1, ![4096]⟩
abbrev S1x4096 : Shape := ⟨2, ![1, 4096]⟩
abbrev S16384x512 : Shape := ⟨2, ![16384, 512]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S1024x128 : Shape := ⟨2, ![1024, 128]⟩

abbrev nBuf : Space → Nat
  | .hbm => 9
  | .vmem => 14
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S16384x4096, .bf16⟩
  | .hbm, ⟨5, _⟩ => ⟨S1x4096, .f32⟩
  | .hbm, ⟨6, _⟩ => ⟨S16384x4096, .f32⟩
  | .hbm, ⟨7, _⟩ => ⟨S16384x4096, .bf16⟩
  | .hbm, ⟨8, _⟩ => ⟨S16384x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference3Ideal.lean ====
abbrev S16384x16384 : Shape := ⟨2, ![16384, 16384]⟩
abbrev S16384x4096 : Shape := ⟨2, ![16384, 4096]⟩
abbrev S4096 : Shape := ⟨1, ![4096]⟩
abbrev S1x4096 : Shape := ⟨2, ![1, 4096]⟩
abbrev S16384x4x8x128 : Shape := ⟨4, ![16384, 4, 8, 128]⟩
abbrev S_ : Shape := ⟨0, ![]⟩
abbrev S16384x4x128 : Shape := ⟨3, ![16384, 4, 128]⟩
abbrev S16384x512 : Shape := ⟨2, ![16384, 512]⟩

abbrev nBuf : Space → Nat
  | .hbm => 16
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .f32⟩
  | .hbm, ⟨12, _⟩ => ⟨S16384x4x8x128, .f32⟩
  | .hbm, ⟨13, _⟩ => ⟨S_, .f32⟩
  | .hbm, ⟨14, _⟩ => ⟨S16384x4x128, .f32⟩
  | .hbm, ⟨15, _⟩ => ⟨S16384x512, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S16384x1024 : Shape := ⟨2, ![16384, 1024]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩
abbrev S1024x128 : Shape := ⟨2, ![1024, 128]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S16384x4096, .f32⟩
  | .hbm, ⟨7, _⟩ => ⟨S16384x4096, .bf16⟩
  | .hbm, ⟨8, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S16384x8x4x128 : Shape := ⟨4, ![16384, 8, 4, 128]⟩
abbrev S_ : Shape := ⟨0, ![]⟩
abbrev S16384x8x128 : Shape := ⟨3, ![16384, 8, 128]⟩
abbrev S16384x1024 : Shape := ⟨2, ![16384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .f32⟩
  | .hbm, ⟨12, _⟩ => ⟨S16384x8x4x128, .f32⟩
  | .hbm, ⟨13, _⟩ => ⟨S_, .f32⟩
  | .hbm, ⟨14, _⟩ => ⟨S16384x8x128, .f32⟩
  | .hbm, ⟨15, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S16384x4096 : Shape := ⟨2, ![16384, 4096]⟩
abbrev S16384x512 : Shape := ⟨2, ![16384, 512]⟩
abbrev S16384x256 : Shape := ⟨2, ![16384, 256]⟩
abbrev S4096x4096 : Shape := ⟨2, ![4096, 4096]⟩
abbrev S256x4096 : Shape := ⟨2, ![256, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x512, .f32⟩
  | .hbm, ⟨2, _⟩ => ⟨S16384x4096, .f32⟩
  | .hbm, ⟨3, _⟩ => ⟨S16384x256, .f32⟩
  | .hbm, ⟨4, _⟩ => ⟨S4096x4096, .f32⟩
  | .hbm, ⟨5, _⟩ => ⟨S256x4096, .f32⟩
  | .hbm, ⟨6, _⟩ => ⟨S4096x4096, .bf16⟩
  | .hbm, ⟨7, _⟩ => ⟨S16384x256, .bf16⟩
  | .hbm, ⟨8, _⟩ => ⟨S256x4096, .bf16⟩
  | .hbm, ⟨9, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16384x4096 : Shape := ⟨2, ![16384, 4096]⟩
abbrev S16384x512 : Shape := ⟨2, ![16384, 512]⟩
abbrev S16384x256 : Shape := ⟨2, ![16384, 256]⟩
abbrev S4096x4096 : Shape := ⟨2, ![4096, 4096]⟩
abbrev S256x4096 : Shape := ⟨2, ![256, 4096]⟩
abbrev S_ : Shape := ⟨0, ![]⟩
abbrev S16384 : Shape := ⟨1, ![16384]⟩
abbrev S16384x1 : Shape := ⟨2, ![16384, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x512, .f32⟩
  | .hbm, ⟨2, _⟩ => ⟨S16384x4096, .f32⟩
  | .hbm, ⟨3, _⟩ => ⟨S16384x256, .f32⟩
  | .hbm, ⟨4, _⟩ => ⟨S4096x4096, .f32⟩
  | .hbm, ⟨5, _⟩ => ⟨S256x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel6.lean ====
abbrev S16384x2048 : Shape := ⟨2, ![16384, 2048]⟩
abbrev S2048x4096 : Shape := ⟨2, ![2048, 4096]⟩
abbrev S16384x21504 : Shape := ⟨2, ![16384, 21504]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .bf16⟩
  | .hbm, ⟨3, _⟩ => ⟨S2048x4096, .f32⟩
  | .hbm, ⟨4, _⟩ => ⟨S16384x21504, .f32⟩
  | .hbm, ⟨5, _⟩ => ⟨S2048x4096, .bf16⟩
  | .hbm, ⟨6, _⟩ => ⟨S2048x4096, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16384x2048 : Shape := ⟨2, ![16384, 2048]⟩
abbrev S2048x4096 : Shape := ⟨2, ![2048, 4096]⟩
abbrev S16384x21504 : Shape := ⟨2, ![16384, 21504]⟩
abbrev S16384x8192 : Shape := ⟨2, ![16384, 8192]⟩
abbrev S16384x4096 : Shape := ⟨2, ![16384, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .bf16⟩
  | .hbm, ⟨3, _⟩ => ⟨S2048x4096, .f32⟩
  | .hbm, ⟨4, _⟩ => ⟨S16384x21504, .f32⟩
  | .hbm, ⟨5, _⟩ => ⟨S16384x8192, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x2048, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x2048, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel7.lean ====
abbrev S16384x4096 : Shape := ⟨2, ![16384, 4096]⟩
abbrev S4096x21584 : Shape := ⟨2, ![4096, 21584]⟩
abbrev S21 : Shape := ⟨1, ![21]⟩
abbrev S21584x4096 : Shape := ⟨2, ![21584, 4096]⟩
abbrev S_ : Shape := ⟨0, ![]⟩
abbrev S48x4096 : Shape := ⟨2, ![48, 4096]⟩
abbrev S16x4096 : Shape := ⟨2, ![16, 4096]⟩
abbrev S128x4096 : Shape := ⟨2, ![128, 4096]⟩
abbrev S16384x21504 : Shape := ⟨2, ![16384, 21504]⟩
abbrev S1024x4096 : Shape := ⟨2, ![1024, 4096]⟩
abbrev S1 : Shape := ⟨1, ![1]⟩
abbrev S1024x1024 : Shape := ⟨2, ![1024, 1024]⟩

abbrev nBuf : Space → Nat
  | .hbm => 11
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x21584, .f32⟩
  | .hbm, ⟨2, _⟩ => ⟨S21584x4096, .f32⟩
  | .hbm, ⟨3, _⟩ => ⟨S21584x4096, .bf16⟩
  | .hbm, ⟨4, _⟩ => ⟨S_, .bf16⟩
  | .hbm, ⟨5, _⟩ => ⟨S48x4096, .bf16⟩
  | .hbm, ⟨6, _⟩ => ⟨S48x4096, .bf16⟩
  | .hbm, ⟨7, _⟩ => ⟨S16x4096, .bf16⟩
  | .hbm, ⟨8, _⟩ => ⟨S16x4096, .bf16⟩
  | .hbm, ⟨9, _⟩ => ⟨S128x4096, .bf16⟩
  | .hbm, ⟨10, _⟩ => ⟨S16384x21504, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .smem, ⟨0, _⟩ => ⟨S21, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 21], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c16_i32 : BitVec 32 := 16#32
  let v2 : BitVec 32 := Scalar.muli v1 c16_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S21.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S21) ![v0.toNat] S1.size (k0_off1_inb i)) numel1_S1
  let c16_i32 : BitVec 32 := 16#32
  let v2 : BitVec 32 := Scalar.muli v1 c16_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x4096 : Shape := ⟨2, ![16384, 4096]⟩
abbrev S4096x21584 : Shape := ⟨2, ![4096, 21584]⟩
abbrev S16384x21584 : Shape := ⟨2, ![16384, 21584]⟩
abbrev S16384x2048 : Shape := ⟨2, ![16384, 2048]⟩
abbrev S16384x3072 : Shape := ⟨2, ![16384, 3072]⟩
abbrev S16384x48 : Shape := ⟨2, ![16384, 48]⟩
abbrev S16384x6144 : Shape := ⟨2, ![16384, 6144]⟩
abbrev S16384x16 : Shape := ⟨2, ![16384, 16]⟩
abbrev S16384x8192 : Shape := ⟨2, ![16384, 8192]⟩
abbrev S16384x21504 : Shape := ⟨2, ![16384, 21504]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x21584, .f32⟩
  | .hbm, ⟨2, _⟩ => ⟨S16384x4096, .f32⟩
  | .hbm, ⟨3, _⟩ => ⟨S16384x21584, .f32⟩
  | .hbm, ⟨4, _⟩ => ⟨S16384x2048, .f32⟩
  | .hbm, ⟨5, _⟩ => ⟨S16384x3072, .f32⟩
  | .hbm, ⟨6, _⟩ => ⟨S16384x48, .f32⟩
  | .hbm, ⟨7, _⟩ => ⟨S16384x6144, .f32⟩
  | .hbm, ⟨8, _⟩ => ⟨S16384x2048, .f32⟩
  | .hbm, ⟨9, _⟩ => ⟨S16384x16, .f32⟩
  | .hbm, ⟨10, _⟩ => ⟨S16384x16, .f32⟩
  | .hbm, ⟨11, _⟩ => ⟨S16384x8192, .f32⟩
  | .hbm, ⟨12, _⟩ => ⟨S16384x21504, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel8.lean ====
abbrev S16384x4096 : Shape := ⟨2, ![16384, 4096]⟩
abbrev S4096 : Shape := ⟨1, ![4096]⟩
abbrev S4096x21584 : Shape := ⟨2, ![4096, 21584]⟩
abbrev S21584x4096 : Shape := ⟨2, ![21584, 4096]⟩
abbrev S_ : Shape := ⟨0, ![]⟩
abbrev S48x4096 : Shape := ⟨2, ![48, 4096]⟩
abbrev S16x4096 : Shape := ⟨2, ![16, 4096]⟩
abbrev S128x4096 : Shape := ⟨2, ![128, 4096]⟩
abbrev S1x4096 : Shape := ⟨2, ![1, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x21584, .f32⟩
  | .hbm, ⟨3, _⟩ => ⟨S21584x4096, .f32⟩
  | .hbm, ⟨4, _⟩ => ⟨S21584x4096, .bf16⟩
  | .hbm, ⟨5, _⟩ => ⟨S_, .bf16⟩
  | .hbm, ⟨6, _⟩ => ⟨S48x4096, .bf16⟩
  | .hbm, ⟨7, _⟩ => ⟨S48x4096, .bf16⟩
  | .hbm, ⟨8, _⟩ => ⟨S16x4096, .bf16⟩
  | .hbm, ⟨9, _⟩ => ⟨S16x4096, .bf16⟩
  | .hbm, ⟨10, _⟩ => ⟨S128x4096, .bf16⟩
  | .hbm, ⟨11, _⟩ => ⟨S1x4096, .f32⟩
  | .hbm, ⟨12, _⟩ => ⟨S16384x4096, .bf16⟩
  | .hbm, ⟨13, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S128x4096, .bf16⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16384x4096 : Shape := ⟨2, ![16384, 4096]⟩
abbrev S4096 : Shape := ⟨1, ![4096]⟩
abbrev S4096x21584 : Shape := ⟨2, ![4096, 21584]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x21584 : Shape := ⟨2, ![16384, 21584]⟩
abbrev S16384x2048 : Shape := ⟨2, ![16384, 2048]⟩
abbrev S16384x3072 : Shape := ⟨2, ![16384, 3072]⟩
abbrev S16384x48 : Shape := ⟨2, ![16384, 48]⟩
abbrev S16384x6144 : Shape := ⟨2, ![16384, 6144]⟩
abbrev S16384x16 : Shape := ⟨2, ![16384, 16]⟩
abbrev S16384x8192 : Shape := ⟨2, ![16384, 8192]⟩
abbrev S16384x128 : Shape := ⟨2, ![16384, 128]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x21584, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x21584, .f32⟩
  | .hbm, ⟨20, _⟩ => ⟨S16384x2048, .f32⟩
  | .hbm, ⟨21, _⟩ => ⟨S16384x3072, .f32⟩
  | .hbm, ⟨22, _⟩ => ⟨S16384x48, .f32⟩
  | .hbm, ⟨23, _⟩ => ⟨S16384x6144, .f32⟩
  | .hbm, ⟨24, _⟩ => ⟨S16384x2048, .f32⟩
  | .hbm, ⟨25, _⟩ => ⟨S16384x16, .f32⟩
  | .hbm, ⟨26, _⟩ => ⟨S16384x16, .f32⟩
  | .hbm, ⟨27, _⟩ => ⟨S16384x8192, .f32⟩
  | .hbm, ⟨28, _⟩ => ⟨S16384x4096, .bf16⟩
  | .hbm, ⟨29, _⟩ => ⟨S_, .f32⟩
  | .hbm, ⟨30, _⟩ => ⟨S16384x48, .f32⟩
  | .hbm, ⟨31, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel9.lean ====
abbrev S16384x21504 : Shape := ⟨2, ![16384, 21504]⟩
abbrev S32x128 : Shape := ⟨2, ![32, 128]⟩
abbrev S32x128x512 : Shape := ⟨3, ![32, 128, 512]⟩
abbrev S512x128 : Shape := ⟨2, ![512, 128]⟩
abbrev S128 : Shape := ⟨1, ![128]⟩
abbrev S512 : Shape := ⟨1, ![512]⟩
abbrev S_ : Shape := ⟨0, ![]⟩
abbrev S64 : Shape := ⟨1, ![64]⟩
abbrev S512x1 : Shape := ⟨2, ![512, 1]⟩
abbrev S1x64 : Shape := ⟨2, ![1, 64]⟩
abbrev S512x64 : Shape := ⟨2, ![512, 64]⟩
abbrev S1x128 : Shape := ⟨2, ![1, 128]⟩
abbrev S2x4x128x512 : Shape := ⟨4, ![2, 4, 128, 512]⟩
abbrev S2x4x512x128 : Shape := ⟨4, ![2, 4, 512, 128]⟩
abbrev S8192x128 : Shape := ⟨2, ![8192, 128]⟩
abbrev S1x1x128x512 : Shape := ⟨4, ![1, 1, 128, 512]⟩
abbrev S1x1x512x128 : Shape := ⟨4, ![1, 1, 512, 128]⟩
abbrev S512x512 : Shape := ⟨2, ![512, 512]⟩
abbrev S1x128x512 : Shape := ⟨3, ![1, 128, 512]⟩
abbrev S128x512 : Shape := ⟨2, ![128, 512]⟩

abbrev nBuf : Space → Nat
  | .hbm => 41
  | .vmem => 17
  | .smem => 0
  | _ => 0

abbrev bufTy : (tb : Table) → Fin (tcTables nBuf tb) → BufTy
  | .hbm, ⟨0, _⟩ => ⟨S16384x21504, .f32⟩
  | .hbm, ⟨1, _⟩ => ⟨S32x128, .f32⟩
  | .hbm, ⟨2, _⟩ => ⟨S32x128, .f32⟩
  | .hbm, ⟨3, _⟩ => ⟨S32x128x512, .f32⟩
  | .hbm, ⟨4, _⟩ => ⟨S512x128, .f32⟩
  | .hbm, ⟨5, _⟩ => ⟨S32x128x512, .f32⟩
  | .hbm, ⟨6, _⟩ => ⟨S512x128, .f32⟩
  | .hbm, ⟨7, _⟩ => ⟨S128, .f32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S512x1, .f32⟩
  | .hbm, ⟨25, _⟩ => ⟨S1x64, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64, .f32⟩
  | .hbm, ⟨31, _⟩ => ⟨S512x128, .f32⟩
  | .hbm, ⟨32, _⟩ => ⟨S512x64, .f32⟩
  | .hbm, ⟨33, _⟩ => ⟨S512x128, .f32⟩
  | .hbm, ⟨34, _⟩ => ⟨S32x128x512, .bf16⟩
  | .hbm, ⟨35, _⟩ => ⟨S512x128, .bf16⟩
  | .hbm, ⟨36, _⟩ => ⟨S32x128x512, .bf16⟩
  | .hbm, ⟨37, _⟩ => ⟨S512x128, .bf16⟩
  | .hbm, ⟨38, _⟩ => ⟨S1x128, .f32⟩
  | .hbm, ⟨39, _⟩ => ⟨S2x4x128x512, .bf16⟩
  | .hbm, ⟨40, _⟩ => ⟨S2x4x512x128, .bf16⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S32x128, .f32⟩
  | .local _ .vmem, ⟨5, _⟩ => ⟨S32x128, .f32⟩
  | .local _ .vmem, ⟨6, _⟩ => ⟨S32x128x512, .bf16⟩
  | .local _ .vmem, ⟨7, _⟩ => ⟨S512x128, .bf16⟩
  | .local _ .vmem, ⟨8, _⟩ => ⟨S32x128x512, .bf16⟩
  | .local _ .vmem, ⟨9, _⟩ => ⟨S512x128, .bf16⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S1x1x128x512, .bf16⟩
  | .local _ .vmem, ⟨14, _⟩ => ⟨S1x1x128x512, .bf16⟩
  | .local _ .vmem, ⟨15, _⟩ => ⟨S1x1x512x128, .bf16⟩
  | .local _ .vmem, ⟨16, _⟩ => ⟨S1x1x512x128, .bf16⟩
  | _, _ => ⟨S16384x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c144_i32 : BitVec 32 := 144#32
  let v0 : BitVec 32 := Scalar.addi c144_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c148_i32 : BitVec 32 := 148#32
  let v0 : BitVec 32 := Scalar.addi c148_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference9Ideal.lean ====
abbrev S16384x21504 : Shape := ⟨2, ![16384, 21504]⟩
abbrev S32x128 : Shape := ⟨2, ![32, 128]⟩
abbrev S32x128x512 : Shape := ⟨3, ![32, 128, 512]⟩
abbrev S512x128 : Shape := ⟨2, ![512, 128]⟩
abbrev S128 : Shape := ⟨1, ![128]⟩
abbrev S16384x3072 : Shape := ⟨2, ![16384, 3072]⟩
abbrev S2x8192x6x4x128 : Shape := ⟨5, ![2, 8192, 6, 4, 128]⟩
abbrev S6x2x4x8192x128 : Shape := ⟨5, ![6, 2, 4, 8192, 128]⟩
abbrev S512 : Shape := ⟨1, ![512]⟩
abbrev S_ : Shape := ⟨0, ![]⟩
abbrev S1x2x4x8192x128 : Shape := ⟨5, ![1, 2, 4, 8192, 128]⟩
abbrev S2x4x8192x128 : Shape := ⟨4, ![2, 4, 8192, 128]⟩
abbrev S2x4x512x16x128 : Shape := ⟨5, ![2, 4, 512, 16, 128]⟩
abbrev S2x4x511x16x128 : Shape := ⟨5, ![2, 4, 511, 16, 128]⟩
abbrev S2x4x1x16x128 : Shape := ⟨5, ![2, 4, 1, 16, 128]⟩
abbrev S2x4x512x32x128 : Shape := ⟨5, ![2, 4, 512, 32, 128]⟩
abbrev S1x1x1x32x128 : Shape := ⟨5, ![1, 1, 1, 32, 128]⟩
abbrev S2x4x512x512 : Shape := ⟨4, ![2, 4, 512, 512]⟩
abbrev S2x4x512x128 : Shape := ⟨4, ![2, 4, 512, 128]⟩
abbrev S2x4x512 : Shape := ⟨3, ![2, 4, 512]⟩
abbrev S2x4x512x1 : Shape := ⟨4, ![2, 4, 512, 1]⟩
abbrev S1x1x1x128 : Shape := ⟨4, ![1, 1, 1, 128]⟩
abbrev S64 : Shape := ⟨1, ![64]⟩
abbrev S512x1 : Shape := ⟨2, ![512, 1]⟩
abbrev S1x64 : Shape := ⟨2, ![1, 64]⟩
abbrev S512x64 : Shape := ⟨2, ![512, 64]⟩
abbrev S2x4x512x64 : Shape := ⟨4, ![2, 4, 512, 64]⟩
abbrev S1x1x512x64 : Shape := ⟨4, ![1, 1, 512, 64]⟩
abbrev S2x4x128x512 : Shape := ⟨4, ![2, 4, 128, 512]⟩

abbrev nBuf : Space → Nat
  | .hbm => 128
  | .vmem => 0
  | .smem => 0
  | _ => 0

abbrev bufTy : (tb : Table) → Fin (tcTables nBuf tb) → BufTy
  | .hbm, ⟨0, _⟩ => ⟨S16384x21504, .f32⟩
  | .hbm, ⟨1, _⟩ => ⟨S32x128, .f32⟩
  | .hbm, ⟨2, _⟩ => ⟨S32x128, .f32⟩
  | .hbm, ⟨3, _⟩ => ⟨S32x128x512, .f32⟩
  | .hbm, ⟨4, _⟩ => ⟨S512x128, .f32⟩
  | .hbm, ⟨5, _⟩ => ⟨S32x128x512, .f32⟩
  | .hbm, ⟨6, _⟩ => ⟨S512x128, .f32⟩
  | .hbm, ⟨7, _⟩ => ⟨S128, .f32⟩
  | .hbm, ⟨8, _⟩ => ⟨S16384x3072, .f32⟩
  | .hbm, ⟨9, _⟩ => ⟨S2x8192x6x4x128, .f32⟩
  | .hbm, ⟨10, _⟩ => ⟨S6x2x4x8192x128, .f32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S1x2x4x8192x128, .f32⟩
  | .hbm, ⟨19, _⟩ => ⟨S2x4x8192x128, .f32⟩
  | .hbm, ⟨20, _⟩ => ⟨S2x4x512x16x128, .f32⟩
  | .hbm, ⟨21, _⟩ => ⟨S2x4x511x16x128, .f32⟩
  | .hbm, ⟨22, _⟩ => ⟨S2x4x1x16x128, .f32⟩
  | .hbm, ⟨23, _⟩ => ⟨S2x4x512x16x128, .f32⟩
  | .hbm, ⟨24, _⟩ => ⟨S2x4x512x32x128, .f32⟩
  | .hbm, ⟨25, _⟩ => ⟨S1x1x1x32x128, .f32⟩
  | .hbm, ⟨26, _⟩ => ⟨S2x4x512x32x128, .f32⟩
  | .hbm, ⟨27, _⟩ => ⟨S2x4x512x32x128, .f32⟩
  | .hbm, ⟨28, _⟩ => ⟨S2x4x512x512, .f32⟩
  | .hbm, ⟨29, _⟩ => ⟨S2x4x512x512, .f32⟩
  | .hbm, ⟨30, _⟩ => ⟨S2x4x512x512, .f32⟩
  | .hbm, ⟨31, _⟩ => ⟨S_, .f32⟩
  | .hbm, ⟨32, _⟩ => ⟨S2x4x512x512, .f32⟩
  | .hbm, ⟨33, _⟩ => ⟨S2x4x512x512, .f32⟩
  | .hbm, ⟨34, _⟩ => ⟨S2x4x512x512, .f32⟩
  | .hbm, ⟨35, _⟩ => ⟨S_, .f32⟩
  | .hbm, ⟨36, _⟩ => ⟨S2x4x512x512, .f32⟩
  | .hbm, ⟨37, _⟩ => ⟨S2x4x512x512, .f32⟩
  | .hbm, ⟨38, _⟩ => ⟨S2x4x512x512, .f32⟩
  | .hbm, ⟨39, _⟩ => ⟨S_, .f32⟩
  | .hbm, ⟨40, _⟩ => ⟨S2x4x512x512, .f32⟩
  | .hbm, ⟨41, _⟩ => ⟨S2x4x512x512, .f32⟩
  | .hbm, ⟨42, _⟩ => ⟨S_, .f32⟩
  | .hbm, ⟨43, _⟩ => ⟨S2x4x512x512, .f32⟩
  | .hbm, ⟨44, _⟩ => ⟨S2x4x512x512, .f32⟩
  | .hbm, ⟨45, _⟩ => ⟨S2x4x512x512, .f32⟩
  | .hbm, ⟨46, _⟩ => ⟨S2x4x512x128, .f32⟩
  | .hbm, ⟨47, _⟩ => ⟨S2x4x512x128, .f32⟩
  | .hbm, ⟨48, _⟩ => ⟨S_, .f32⟩
  | .hbm, ⟨49, _⟩ => ⟨S2x4x512, .f32⟩
  | .hbm, ⟨50, _⟩ => ⟨S2x4x512x1, .f32⟩
  | .hbm, ⟨51, _⟩ => ⟨S_, .f32⟩
  | .hbm, ⟨52, _⟩ => ⟨S2x4x512x1, .f32⟩
  | .hbm, ⟨53, _⟩ => ⟨S2x4x512x1, .f32⟩
  | .hbm, ⟨54, _⟩ => ⟨S_, .f32⟩
  | .hbm, ⟨55, _⟩ => ⟨S2x4x512x1, .f32⟩
  | .hbm, ⟨56, _⟩ => ⟨S2x4x512x1, .f32⟩
  | .hbm, ⟨57, _⟩ => ⟨S2x4x512x1, .f32⟩
  | .hbm, ⟨58, _⟩ => ⟨S2x4x512x128, .f32⟩
  | .hbm, ⟨59, _⟩ => ⟨S2x4x512x128, .f32⟩
  | .hbm, ⟨60, _⟩ => ⟨S1x1x1x128, .f32⟩
  | .hbm, ⟨61, _⟩ => ⟨S2x4x512x128, .f32⟩
  | .hbm, ⟨62, _⟩ => ⟨S2x4x512x128, .f32⟩
  | .hbm, ⟨63, _⟩ => ⟨S512, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S512x1, .f32⟩
  | .hbm, ⟨73, _⟩ => ⟨S1x64, .f32⟩
  | .hbm, ⟨74, _⟩ => ⟨S512x64, .f32⟩
  | .hbm, ⟨75, _⟩ => ⟨S512x64, .f32⟩
  | .hbm, ⟨76, _⟩ => ⟨S512x64, .f32⟩
  | .hbm, ⟨77, _⟩ => ⟨S512x64, .f32⟩
  | .hbm, ⟨78, _⟩ => ⟨S512x64, .f32⟩
  | .hbm, ⟨79, _⟩ => ⟨S2x4x512x64, .f32⟩
  | .hbm, ⟨80, _⟩ => ⟨S2x4x512x64, .f32⟩
  | .hbm, ⟨81, _⟩ => ⟨S1x1x512x64, .f32⟩
  | .hbm, ⟨82, _⟩ => ⟨S2x4x512x64, .f32⟩
  | .hbm, ⟨83, _⟩ => ⟨S2x4x512x64, .f32⟩
  | .hbm, ⟨84, _⟩ => ⟨S1x1x512x64, .f32⟩
  | .hbm, ⟨85, _⟩ => ⟨S2x4x512x64, .f32⟩
  | .hbm, ⟨86, _⟩ => ⟨S2x4x512x64, .f32⟩
  | .hbm, ⟨87, _⟩ => ⟨S2x4x512x64, .f32⟩
  | .hbm, ⟨88, _⟩ => ⟨S1x1x512x64, .f32⟩
  | .hbm, ⟨89, _⟩ => ⟨S2x4x512x64, .f32⟩
  | .hbm, ⟨90, _⟩ => ⟨S2x4x512x64, .f32⟩
  | .hbm, ⟨91, _⟩ => ⟨S1x1x512x64, .f32⟩
  | .hbm, ⟨92, _⟩ => ⟨S2x4x512x64, .f32⟩
  | .hbm, ⟨93, _⟩ => ⟨S2x4x512x64, .f32⟩
  | .hbm, ⟨94, _⟩ => ⟨S2x4x512x64, .f32⟩
  | .hbm, ⟨95, _⟩ => ⟨S2x4x512x128, .f32⟩
  | .hbm, ⟨96, _⟩ => ⟨S1x2x4x8192x128, .f32⟩
  | .hbm, ⟨97, _⟩ => ⟨S2x4x8192x128, .f32⟩
  | .hbm, ⟨98, _⟩ => ⟨S2x4x512x16x128, .f32⟩
  | .hbm, ⟨99, _⟩ => ⟨S2x4x511x16x128, .f32⟩
  | .hbm, ⟨100, _⟩ => ⟨S2x4x1x16x128, .f32⟩
  | .hbm, ⟨101, _⟩ => ⟨S2x4x512x16x128, .f32⟩
  | .hbm, ⟨102, _⟩ => ⟨S2x4x512x32x128, .f32⟩
  | .hbm, ⟨103, _⟩ => ⟨S1x1x1x32x128, .f32⟩
  | .hbm, ⟨104, _⟩ => ⟨S2x4x512x32x128, .f32⟩
  | .hbm, ⟨105, _⟩ => ⟨S2x4x512x32x128, .f32⟩
  | .hbm, ⟨106, _⟩ => ⟨S2x4x512x512, .f32⟩
  | .hbm, ⟨107, _⟩ => ⟨S2x4x512x512, .f32⟩
  | .hbm, ⟨108, _⟩ => ⟨S2x4x512x512, .f32⟩
  | .hbm, ⟨109, _⟩ => ⟨S_, .f32⟩
  | .hbm, ⟨110, _⟩ => ⟨S2x4x512x512, .f32⟩
  | .hbm, ⟨111, _⟩ => ⟨S2x4x512x512, .f32⟩
  | .hbm, ⟨112, _⟩ => ⟨S2x4x512x512, .f32⟩
  | .hbm, ⟨113, _⟩ => ⟨S_, .f32⟩
  | .hbm, ⟨114, _⟩ => ⟨S2x4x512x512, .f32⟩
  | .hbm, ⟨115, _⟩ => ⟨S2x4x512x512, .f32⟩
  | .hbm, ⟨116, _⟩ => ⟨S2x4x512x512, .f32⟩
  | .hbm, ⟨117, _⟩ => ⟨S_, .f32⟩
  | .hbm, ⟨118, _⟩ => ⟨S2x4x512x512, .f32⟩
  | .hbm, ⟨119, _⟩ => ⟨S2x4x512x512, .f32⟩
  | .hbm, ⟨120, _⟩ => ⟨S_, .f32⟩
  | .hbm, ⟨121, _⟩ => ⟨S2x4x512x512, .f32⟩
  | .hbm, ⟨122, _⟩ => ⟨S2x4x512x512, .f32⟩
  | .hbm, ⟨123, _⟩ => ⟨S2x4x512x512, .f32⟩
  | .hbm, ⟨124, _⟩ => ⟨S2x4x512x128, .f32⟩
  | .hbm, ⟨125, _⟩ => ⟨S2x4x128x512, .f32⟩
  | .hbm, ⟨126, _⟩ => ⟨S2x4x128x512, .bf16⟩
  | .hbm, ⟨127, _⟩ => ⟨S2x4x512x128, .bf16⟩
  | _, _ => ⟨S16384x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_9 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_10 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_11 : Ref sig .tc := ⟨.hbm, 117, rfl⟩
abbrev main_v96 : Ref sig .tc := ⟨.hbm, 118, rfl⟩
abbrev main_v97 : Ref sig .tc := ⟨.hbm, 119, rfl⟩
abbrev main_cst_12 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩

abbrev nD : Nat := 1
abbrev τ : Topo := Topo.v7x

variable {F : FTy → Type} [FloatOps F]
-- ==== Proof.Gdn.Ops.lean ====
module

public import proofs.«01_k».proof.Proof.Gen.KernelIdeal.Value

/-!
# One head of one chunk, as the kernel's operations

The kernel's body runs sixteen heads side by side. Each head does the same operations on its own 128 lanes; this file
names them as functions of the chunk's convolved projections, its gates and the head's state.
-/

@[expose] public section

set_option maxRecDepth 65536

noncomputable section

namespace Cert.KernelIdeal.Hand

open Cert.KernelIdeal Cert.KernelIdeal.Gen Idealize.ShloMosaic Idealize.ShloMosaic.TcCoe Idealize.SL.Sem

variable {F : FTy → Type} [FloatOps F] [Named F]

/-! ## The masks -/

/-- The row number at each place. -/
def rowI : IVec S128x128 32 := iota .tc S128x128 32 [0] iota_S128x128_d0_w32
/-- The column number at each place. -/
def colI : IVec S128x128 32 := iota .tc S128x128 32 [1] iota_S128x128_d1_w32

/-- The floor of a quotient, as the kernel computes it. -/
def fdivI (x : IVec S128x128 32) (n : BitVec 32) : IVec S128x128 32 :=
  select (andi
      (cmpi .ne (subi (extui 32 (cmpi .sgt x (broadcast S128x128 0#32)) natLt_1_32)
          (extui 32 (cmpi .slt x (broadcast S128x128 0#32)) natLt_1_32)) (broadcast S128x128 1#32))
      (cmpi .ne (remsi x (broadcast S128x128 n)) (broadcast S128x128 0#32)))
    (subi (divsi x (broadcast S128x128 n)) (broadcast S128x128 1#32)) (divsi x (broadcast S128x128 n))

/-- The places in one diagonal block of `n` rows. -/
def blkI (n : BitVec 32) : IVec S128x128 1 := cmpi .eq (fdivI rowI n) (fdivI colI n)
/-- The places in one diagonal block of `n2` rows and in two of `n`. -/
def offI (n n2 : BitVec 32) : IVec S128x128 1 := andi (blkI n2) (cmpi .ne (fdivI rowI n) (fdivI colI n))

/-! ## Shorthands -/

/-- The zeros. -/
def zeroV : FVec F S128x128 .f32 := broadcast S128x128 (FloatOps.ofBits .f32 0x00000000#32)
/-- The identity matrix. -/
def eyeV : FVec F S128x128 .f32 := sitofp .f32 (extui 32 (cmpi .eq rowI colI) natLt_1_32)
/-- Rounding to the products' type. -/
def trV {s : Shape} (a : FVec F s .f32) : FVec F s .bf16 := truncf .bf16 a bitsLt_bf16_f32
/-- Back from it. -/
def exV {s : Shape} (a : FVec F s .bf16) : FVec F s .f32 := extf .f32 a bitsLt_bf16_f32
/-- A product of square matrices. -/
def mmV (a b : FVec F S128x128 .bf16) : FVec F S128x128 .f32 :=
  matmul dot_S128x128_S128x128_S128x128_1_0_0_1_n_n none a b (constant S128x128 .f32 0x00000000#32)
/-- A product with two matrices side by side. -/
def mm2V (a : FVec F S128x128 .bf16) (b : FVec F S128x256 .bf16) : FVec F S128x256 .f32 :=
  matmul dot_S128x128_S128x256_S128x256_1_0_0_1_n_n none a b (constant S128x256 .f32 0x00000000#32)
/-- The left and the right half of two matrices side by side. -/
def leftV (a : FVec F S128x256 .f32) : FVec F S128x128 .f32 :=
  extractStridedSlice S128x128 ![0, 0] a slices_S128x256_o0_0_S128x128
def rightV (a : FVec F S128x256 .f32) : FVec F S128x128 .f32 :=
  extractStridedSlice S128x128 ![0, 128] a slices_S128x256_o0_128_S128x128
/-- The upper and the lower half of two matrices stacked. -/
def upperV (a : FVec F S256x128 .f32) : FVec F S128x128 .f32 :=
  extractStridedSlice S128x128 ![0, 0] a slices_S256x128_o0_0_S128x128
def lowerV (a : FVec F S256x128 .f32) : FVec F S128x128 .f32 :=
  extractStridedSlice S128x128 ![128, 0] a slices_S256x128_o128_0_S128x128
/-- The sum along each row, as a column. -/
def rowSumV (a : FVec F S128x128 .f32) : FVec F S128x1 .f32 :=
  shapeCast S128x1 (multiReduction .add [1] S128 a 0x00000000#32 reduces_S128x128_S128 (.inl rfl) rfl) shapeCasts_S128_S128x1
/-- The sum along each column, as a row. -/
def colSumV (a : FVec F S128x128 .f32) : FVec F S1x128 .f32 :=
  shapeCast S1x128 (multiReduction .add [0] S128 a 0x00000000#32 reduces_S128x128_S128_2 (.inl rfl) rfl) shapeCasts_S128_S1x128
/-- A column over all lanes, a row over all rows. -/
def colV (a : FVec F S128x1 .f32) : FVec F S128x128 .f32 := broadcastTo S128x128 a broadcasts_S128x1_S128x128
def rowV (a : FVec F S1x128 .f32) : FVec F S128x128 .f32 := broadcastTo S128x128 a broadcasts_S1x128_S128x128

/-! ## The inverse -/

/-- The diagonal blocks' inverse. -/
def neumannV (x : FVec F S128x128 .f32) : FVec F S128x128 .f32 :=
  let t0 := addf eyeV x
  let p1 := trV (mmV (trV x) (trV x))
  let b1 := mm2V p1 (concatenate S128x256 1 [⟨S128x128, p1⟩, ⟨S128x128, trV t0⟩] concatenates_S128x128_S128x128_S128x256_d1)
  let t1 := addf t0 (rightV b1)
  let p2 := trV (leftV b1)
  let b2 := mm2V p2 (concatenate S128x256 1 [⟨S128x128, p2⟩, ⟨S128x128, trV t1⟩] concatenates_S128x128_S128x128_S128x256_d1)
  let t2 := addf t1 (rightV b2)
  addf t2 (mmV (trV (leftV b2)) (trV t2))

/-- One doubling. -/
def doubleV (n n2 : BitVec 32) (a t : FVec F S128x128 .f32) : FVec F S128x128 .f32 :=
  subf t (mmV (trV t) (trV (mmV (trV (select (offI n n2) a zeroV)) (trV t))))

/-- The correction by the residual. -/
def refineV (a t : FVec F S128x128 .f32) : FVec F S128x128 .f32 :=
  let e := addf eyeV a
  let r := subf eyeV (addf (mmV (trV e) (trV t))
    (addf (mmV (trV e) (trV (subf t (exV (trV t))))) (mmV (trV (subf e (exV (trV e)))) (trV t))))
  addf t (mmV (trV t) (trV r))

/-- The inverse of the identity plus a strictly lower triangular matrix. -/
def inverseV (a : FVec F S128x128 .f32) : FVec F S128x128 .f32 :=
  refineV a (doubleV 64#32 128#32 a (doubleV 32#32 64#32 a (doubleV 16#32 32#32 a
    (neumannV (select (blkI 16#32) (subf zeroV a) zeroV)))))

/-! ## One head -/

/-- A head's lanes of a projection. -/
def lanesV (off : Fin 2 → ℕ) (ho : S128x2048.Slices off S128x128) (x : FVec F S128x2048 .f32) : FVec F S128x128 .f32 :=
  extractStridedSlice S128x128 off x ho

/-- The reciprocal of a row's length. -/
def lenV (x : FVec F S128x128 .f32) : FVec F S128x128 .f32 :=
  colV (rsqrt (addf (rowSumV (mulf x x)) (broadcast S128x1 (Scalar.ofBits .f32 0x358637BD#32))))

/-- The keys and the queries. -/
def keyV (x : FVec F S128x128 .f32) : FVec F S128x128 .f32 := mulf x (lenV x)
def queryV (x : FVec F S128x128 .f32) : FVec F S128x128 .f32 :=
  mulf (mulf x (lenV x)) (broadcast S128x128 (Scalar.ofBits .f32 0x3DB504F3#32))

/-- One lane of a gate, as a column, and as a row of the transposed gate. -/
def laneColV (x : FVec F S128x128 .f32) (l : BitVec 32) : FVec F S128x1 .f32 :=
  rowSumV (select (cmpi .eq colI (broadcast S128x128 l)) x zeroV)
def laneRowV (x : FVec F S128x128 .f32) (l : BitVec 32) : FVec F S1x128 .f32 :=
  colSumV (select (cmpi .eq rowI (broadcast S128x128 l)) x zeroV)

/-- The decay from one token of the chunk to another. -/
def gammaV (gcol : FVec F S128x1 .f32) (grow : FVec F S1x128 .f32) : FVec F S128x128 .f32 :=
  exp (select (cmpi .sge rowI colI) (subf (colV gcol) (rowV grow))
    (broadcast S128x128 (Named.named κ "mask" 0xF149F2CA#32)))

/-- The keys' and the queries' products with the keys, stacked. -/
def kkqkV (kb q k : FVec F S128x128 .f32) : FVec F S256x128 .f32 :=
  matmul dot_S256x128_S128x128_S256x128_1_1_0_0_n_n none
    (trV (concatenate S256x128 0 [⟨S128x128, kb⟩, ⟨S128x128, q⟩] concatenates_S128x128_S128x128_S256x128_d0)) (trV k)
    (constant S256x128 .f32 0x00000000#32)

/-- The strictly lower triangular matrix of a chunk. -/
def amatV (kkqk : FVec F S256x128 .f32) (gamma : FVec F S128x128 .f32) : FVec F S128x128 .f32 :=
  select (cmpi .sgt rowI colI) (mulf (upperV kkqk) gamma) zeroV

/-- The inverse's products with the scaled values and the scaled keys, side by side. -/
def uwV (tinv v kb : FVec F S128x128 .f32) (beta gcol : FVec F S128x1 .f32) : FVec F S128x256 .f32 :=
  mm2V (trV tinv) (trV (concatenate S128x256 1 [⟨S128x128, mulf v (colV beta)⟩, ⟨S128x128, mulf kb (colV (exp gcol))⟩]
    concatenates_S128x128_S128x128_S128x256_d1))

/-- The products with the state, stacked. -/
def wsqsV (uw : FVec F S128x256 .f32) (q : FVec F S128x128 .f32) (gcol : FVec F S128x1 .f32) (st : FVec F S128x128 .f32) :
    FVec F S256x128 .f32 :=
  matmul dot_S256x128_S128x128_S256x128_1_0_0_1_n_n none
    (trV (concatenate S256x128 0 [⟨S128x128, rightV uw⟩, ⟨S128x128, mulf q (colV (exp gcol))⟩]
      concatenates_S128x128_S128x128_S256x128_d0)) (trV st) (constant S256x128 .f32 0x00000000#32)

/-- The rows the chunk adds to the state. -/
def vnewV (uw : FVec F S128x256 .f32) (wsqs : FVec F S256x128 .f32) : FVec F S128x128 .bf16 :=
  trV (subf (leftV uw) (upperV wsqs))

/-- The outputs before the norm. -/
def outV (wsqs kkqk : FVec F S256x128 .f32) (gamma : FVec F S128x128 .f32) (vn : FVec F S128x128 .bf16) :
    FVec F S128x128 .f32 :=
  addf (lowerV wsqs) (mmV (trV (mulf (lowerV kkqk) gamma)) vn)

/-- The state the chunk leaves. -/
def nextV (st k : FVec F S128x128 .f32) (gcol : FVec F S128x1 .f32) (grow : FVec F S1x128 .f32)
    (vn : FVec F S128x128 .bf16) : FVec F S128x128 .f32 :=
  let gl := extractStridedSlice S1x1 ![0, 127] grow slices_S1x128_o0_127_S1x1
  addf (mulf st (broadcastTo S128x128 (exp gl) broadcasts_S1x1_S128x128))
    (matmul dot_S128x128_S128x128_S128x128_0_0_1_1_n_n none
      (trV (mulf k (colV (exp (subf (broadcastTo S128x1 gl broadcasts_S1x1_S128x1) gcol))))) vn
      (constant S128x128 .f32 0x00000000#32))

/-- The output's norm, gain and gate. -/
def gateV (o : FVec F S128x128 .f32) (og : FVec F S1x128 .f32) (z : FVec F S128x128 .f32) : FVec F S128x128 .bf16 :=
  let n := rsqrt (addf (divf (rowSumV (mulf o o)) (broadcast S128x1 (Scalar.ofBits .f32 0x43000000#32)))
    (broadcast S128x1 (Scalar.ofBits .f32 0x358637BD#32)))
  let h := mulf (broadcast S128x128 (Scalar.ofBits .f32 0x3F000000#32)) z
  trV (mulf (mulf (mulf o (colV n)) (rowV (shapeCast S1x128 og shapeCasts_S1x128_S1x128))) (addf (mulf h (tanh h)) h))

/-! ## A head, whole -/

section

variable (off : Fin 2 → ℕ) (ho : S128x2048.Slices off S128x128) (hv : BitVec 32)
variable (qc kc vc : FVec F S128x2048 .f32) (gc gct beta st : FVec F S128x128 .f32)

def headUW : FVec F S128x256 .f32 :=
  let k := keyV (lanesV off ho kc)
  let q := queryV (lanesV off ho qc)
  let b := laneColV beta (Scalar.addi 48#32 hv)
  let gcol := laneColV gc (Scalar.addi 64#32 hv)
  let grow := laneRowV gct (Scalar.addi 64#32 hv)
  let kb := mulf k (colV b)
  uwV (inverseV (amatV (kkqkV kb q k) (gammaV gcol grow))) (lanesV off ho vc) kb b gcol

def headWS : FVec F S256x128 .f32 :=
  wsqsV (headUW off ho hv qc kc vc gc gct beta) (queryV (lanesV off ho qc)) (laneColV gc (Scalar.addi 64#32 hv)) st

def headVN : FVec F S128x128 .bf16 :=
  vnewV (headUW off ho hv qc kc vc gc gct beta) (headWS off ho hv qc kc vc gc gct beta st)

/-- The state a chunk leaves for one head. -/
def headState : FVec F S128x128 .f32 :=
  nextV st (keyV (lanesV off ho kc)) (laneColV gc (Scalar.addi 64#32 hv)) (laneRowV gct (Scalar.addi 64#32 hv))
    (headVN off ho hv qc kc vc gc gct beta st)

/-- The outputs of a chunk for one head, before the norm. -/
def headOut : FVec F S128x128 .f32 :=
  let k := keyV (lanesV off ho kc)
  let q := queryV (lanesV off ho qc)
  let b := laneColV beta (Scalar.addi 48#32 hv)
  let kb := mulf k (colV b)
  outV (headWS off ho hv qc kc vc gc gct beta st) (kkqkV kb q k)
    (gammaV (laneColV gc (Scalar.addi 64#32 hv)) (laneRowV gct (Scalar.addi 64#32 hv)))
    (headVN off ho hv qc kc vc gc gct beta st)

/-- A head's outputs, normed and gated. -/
def headPay (og : FVec F S1x128 .f32) (z : FVec F S128x128 .f32) : FVec F S128x128 .bf16 :=
  gateV (headOut off ho hv qc kc vc gc gct beta st) og z

end

/-! ## The sixteen heads -/

theorem headSlice (h : Fin 16) : S128x2048.Slices ![0, 128 * h.val] S128x128 := by revert h; decide
theorem headInb (h : Fin 16) : ∀ a, (![0, 128 * h.val] : Fin 2 → ℕ) a + (![128, 128] : Fin 2 → ℕ) a ≤ S128x2048.size a := by
  revert h; decide
theorem stateInb (h : Fin 16) :
    ∀ a, (![h.val, 0, 0] : Fin 3 → ℕ) a + (![1, 128, 128] : Fin 3 → ℕ) a ≤ S16x128x128.size a := by
  revert h; decide

/-- The head's number among all heads. -/
def headNo (i : grid0.Coords) (h : Fin 16) : BitVec 32 :=
  Scalar.addi (Scalar.muli (BitVec.ofNat 32 (i 1).val) 16#32) (BitVec.ofNat 32 h.val)

section

variable (i : grid0.Coords) (qc kc vc : FVec F S128x2048 .f32) (gc gct beta : FVec F S128x128 .f32)
variable (st : Fin 16 → FVec F S128x128 .f32) (og : FVec F S1x128 .f32) (z : Fin 16 → FVec F S128x128 .f32)

/-- What the chunk stores for one head's outputs. -/
def outPiece (h : Fin 16) : View.Piece (Elt F) S128x2048 .bf16 :=
  ⟨Rect.unit ![0, 128 * h.val] ![128, 128] (headInb h),
    headPay ![0, 128 * h.val] (headSlice h) (headNo i h) qc kc vc gc gct beta (st h) og (z h)⟩

/-- What the chunk stores for one head's state. -/
def statePiece (h : Fin 16) : View.Piece (Elt F) S16x128x128 .f32 :=
  ⟨Rect.unit ![h.val, 0, 0] ![1, 128, 128] (stateInb h),
    shapeCast S1x128x128 (headState ![0, 128 * h.val] (headSlice h) (headNo i h) qc kc vc gc gct beta (st h))
      shapeCasts_S128x128_S1x128x128⟩

def outPieces : List (View.Piece (Elt F) S128x2048 .bf16) :=
  let f := outPiece i qc kc vc gc gct beta st og z
  [f 15, f 14, f 13, f 12, f 11, f 10, f 9, f 8, f 7, f 6, f 5, f 4, f 3, f 2, f 1, f 0]

def statePieces : List (View.Piece (Elt F) S16x128x128 .f32) :=
  let f := statePiece i qc kc vc gc gct beta st
  [f 15, f 14, f 13, f 12, f 11, f 10, f 9, f 8, f 7, f 6, f 5, f 4, f 3, f 2, f 1, f 0]

end

/-! ## The chunk's inputs -/

/-- The convolution's four taps, and the gate on them. -/
def convV (w0 w1 w2 w3 : FVec F S1x2048 .f32) (t0 t1 t2 t3 : FVec F S128x2048 .f32) : FVec F S128x2048 .f32 :=
  let b := fun w : FVec F S1x2048 .f32 => broadcastTo S128x2048 w broadcasts_S1x2048_S128x2048
  let y := addf (addf (addf (addf (broadcast S128x2048 (Scalar.ofBits .f32 0x00000000#32)) (mulf (b w0) t0)) (mulf (b w1) t1))
    (mulf (b w2) t2)) (mulf (b w3) t3)
  let h := mulf (broadcast S128x2048 (Scalar.ofBits .f32 0x3F000000#32)) y
  addf (mulf h (tanh h)) h

/-- The writing strengths. -/
def betaV (x : FVec F S128x128 .f32) : FVec F S128x128 .f32 :=
  let c := broadcast S128x128 (Scalar.ofBits .f32 0x3F000000#32)
  addf (mulf c (tanh (mulf c x))) c

/-- The logarithms of the decays. -/
def decayV (x : FVec F S128x128 .f32) (al dt : FVec F S1x128 .f32) : FVec F S128x128 .f32 :=
  let y := addf x (rowV (shapeCast S1x128 dt shapeCasts_S1x128_S1x128))
  let o : FVec F S128x128 .f32 := broadcast S128x128 (Scalar.ofBits .f32 0x00000000#32)
  subf o (mulf (rowV (exp (shapeCast S1x128 al shapeCasts_S1x128_S1x128)))
    (addf (maximumf y o) (log1p (exp (subf o (absf y))))))

/-- The running sums down the chunk. -/
def cumV (g : FVec F S128x128 .f32) : FVec F S128x128 .f32 :=
  let tri : FVec F S128x128 .bf16 := trV (sitofp .f32 (extui 32 (cmpi .sge rowI colI) natLt_1_32))
  let r := subf g (exV (trV g))
  addf (mmV tri (trV g)) (addf (mmV tri (trV r)) (mmV tri (trV (subf r (exV (trV r))))))

def transV (g : FVec F S128x128 .f32) : FVec F S128x128 .f32 :=
  transpose S128x128 [1, 0] g transposes_S128x128_p1_0_S128x128

end Cert.KernelIdeal.Hand
-- ==== Proof.Gdn.Step.lean ====
module

public import proofs.«01_k».proof.Proof.Gdn.Ops
public import Idealize.ShloMosaic.Lib.Pointwise
public import Idealize.ShloMosaic.Lib.ValueIdx
public import Idealize.ShloMosaic.Lib.Pipeline.ValueKit

/-!
# What a chunk's stores leave, and what its loads read
-/

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F] [Named F]

/-! ## The chunk as a function of its inputs -/

/-- Tap `k` of the convolution: the chunk's rows `3 - k` later, the missing ones from the eight rows before it. -/
def tapV (halo : Fin 8 → Fin 2048 → F .f32) (x : FVec F S128x2048 .f32) (k : Fin 4) : FVec F S128x2048 .f32 := fun j =>
  if h : (j 0).val + (5 + k.val) < 8 then halo ⟨(j 0).val + (5 + k.val), h⟩ (j 1)
  else x (ix2 ⟨(j 0).val + (5 + k.val) - 8, by have : (j 0).val < 128 := (j 0).isLt; have := k.isLt; omega⟩ (j 1))

/-- One row of the convolution's weights. -/
def rowOfV (w : FVec F S4x2048 .f32) (k : Fin 4) : FVec F S1x2048 .f32 := fun j => w (ix2 k (j 1))

/-- A projection after the convolution. -/
def projV (halo : Fin 8 → Fin 2048 → F .f32) (x : FVec F S128x2048 .f32) (w : FVec F S4x2048 .f32) :
    FVec F S128x2048 .f32 :=
  convV (rowOfV w 0) (rowOfV w 1) (rowOfV w 2) (rowOfV w 3) (tapV halo x 0) (tapV halo x 1) (tapV halo x 2) (tapV halo x 3)

section

variable (i : grid0.Coords) (halo : Fin 3 → Fin 8 → Fin 2048 → F .f32) (st : Fin 16 → FVec F S128x128 .f32)
variable (x0 x1 x2 x3 : FVec F S128x2048 .f32) (x4 : FVec F S128x128 .f32) (x5 x6 x7 : FVec F S4x2048 .f32)
variable (x8 x9 x10 : FVec F S1x128 .f32)

/-- One head's outputs of the chunk. -/
def stepHead (h : Fin 16) : FVec F S128x128 .bf16 :=
  let g := cumV (decayV x4 x8 x9)
  headPay ![0, 128 * h.val] (headSlice h) (headNo i h) (projV (halo 0) x0 x5) (projV (halo 1) x1 x6) (projV (halo 2) x2 x7)
    g (transV g) (betaV x4) (st h) x10 (lanesV ![0, 128 * h.val] (headSlice h) x3)

/-- The chunk's outputs. -/
def stepOut : FVec F S128x2048 .bf16 := fun j =>
  stepHead i halo st x0 x1 x2 x3 x4 x5 x6 x7 x8 x9 x10
    ⟨(j 1).val / 128, by have : (j 1).val < 2048 := (j 1).isLt; omega⟩ (ix2 (j 0) ⟨(j 1).val % 128, Nat.mod_lt _ (by decide)⟩)

/-- The state the chunk leaves for one head. -/
def stepState (h : Fin 16) : FVec F S128x128 .f32 :=
  let g := cumV (decayV x4 x8 x9)
  headState ![0, 128 * h.val] (headSlice h) (headNo i h) (projV (halo 0) x0 x5) (projV (halo 1) x1 x6) (projV (halo 2) x2 x7)
    g (transV g) (betaV x4) (st h)

end

/-! ## Disjoint stores -/

section

variable {s : Shape} {e : EltTy} {Val : EltTy → Type} [∀ e, Nonempty (Val e)]

/-- Where one store of a list of disjoint ones wrote, the contents are what it wrote. -/
theorem canon_map {n : ℕ} (f : Fin n → View.Piece Val s e) (T : List (View.Piece Val s e)) (h : Fin n) (y : s.Idx)
    (hy : ∀ h', h' ≠ h → y ∉ (f h').1.set) (x : (f h).1.shape.Idx) (hx : (f h).1.emb x = y) :
    ∀ L : List (Fin n), h ∈ L → View.canon (L.map f ++ T) y = (f h).2 x
  | [], hm => absurd hm List.not_mem_nil
  | a :: L, hm => by
    by_cases ha : a = h
    · subst ha
      subst hx
      exact View.canon_cons_emb (f a).1 (f a).2 _ x
    · rw [List.map_cons, List.cons_append, View.canon_cons_of_not_mem _ _ (hy a ha)]
      exact canon_map f T h y hy x hx L ((List.mem_cons.mp hm).resolve_left (Ne.symm ha))

variable {sig : RefSig} {κ : Kind} {sp : Space}

/-- A store's own place reads what it wrote; -/
theorem read_writes_in (v : View sig κ sp s e) (f : v.ty.Contents Val) (r : Rect s) (w : r.shape.Idx → Val e)
    (L : List (View.Piece Val s e)) (x : r.shape.Idx) : v.read Val (v.writes Val f (⟨r, w⟩ :: L)) (r.emb x) = w x :=
  View.read_writes_cons_emb (v := v) (f := f) r w L x

/-- any other place what was there before. -/
theorem read_writes_out (v : View sig κ sp s e) (f : v.ty.Contents Val) (r : Rect s) (w : r.shape.Idx → Val e)
    (L : List (View.Piece Val s e)) (y : s.Idx) (h : y ∉ r.set) :
    v.read Val (v.writes Val f (⟨r, w⟩ :: L)) y = v.read Val (v.writes Val f L) y := by
  have hy' : y ∉ Finset.univ.map r.emb := by rwa [Rect.map_emb_univ]
  rw [View.writes_cons, View.read_slice_write_of_not_mem r _ _ _ hy']

theorem canon_at (r : Rect s) (w : r.shape.Idx → Val e) (L : List (View.Piece Val s e)) (y : s.Idx) (x : r.shape.Idx)
    (h : r.emb x = y) : View.canon (⟨r, w⟩ :: L) y = w x := by
  subst h
  exact View.canon_cons_emb r w L x

theorem canon_out_of (r : Rect s) (w : r.shape.Idx → Val e) (L : List (View.Piece Val s e)) (y : s.Idx) (h : y ∉ r.set) :
    View.canon (⟨r, w⟩ :: L) y = View.canon L y := View.canon_cons_of_not_mem ⟨r, w⟩ L h

end

/-! ## The heads' stores -/

theorem head_emb (h : Fin 16) (j : S128x2048.Idx) (hj : (j 1).val / 128 = h.val) :
    (Rect.unit (s := S128x2048) ![0, 128 * h.val] ![128, 128] (headInb h)).emb
      (ix2 (n0 := 128) (n1 := 128) (j 0) ⟨(j 1).val % 128, Nat.mod_lt _ (by decide)⟩) = j := by
  funext a
  match a with
  | ⟨0, _⟩ => apply Fin.ext; rw [Rect.emb_apply]; simp
  | ⟨1, _⟩ => apply Fin.ext; rw [Rect.emb_apply]; simp; omega

theorem state_emb (h : Fin 16) (a b : Fin 128) :
    (Rect.unit (s := S16x128x128) ![h.val, 0, 0] ![1, 128, 128] (stateInb h)).emb
      (ix3 (n0 := 1) (n1 := 128) (n2 := 128) 0 a b) = ix3 h a b := by
  funext d
  match d with
  | ⟨0, _⟩ => apply Fin.ext; rw [Rect.emb_apply]; simp
  | ⟨1, _⟩ => apply Fin.ext; rw [Rect.emb_apply]; simp
  | ⟨2, _⟩ => apply Fin.ext; rw [Rect.emb_apply]; simp

theorem head_not_mem (h h' : Fin 16) (hne : h' ≠ h) (j : S128x2048.Idx) (hj : (j 1).val / 128 = h.val) :
    j ∉ (Rect.unit (s := S128x2048) ![0, 128 * h'.val] ![128, 128] (headInb h')).set := by
  rw [Rect.mem_set_unit]
  intro hm
  have := hm 1
  simp at this
  exact hne (Fin.ext (by omega))

theorem state_not_mem (h h' : Fin 16) (hne : h' ≠ h) (a b : Fin 128) :
    (ix3 h a b : S16x128x128.Idx) ∉ (Rect.unit (s := S16x128x128) ![h'.val, 0, 0] ![1, 128, 128] (stateInb h')).set := by
  rw [Rect.mem_set_unit]
  intro hm
  have := hm 0
  simp at this
  exact hne (Fin.ext (by omega))

section

variable (i : grid0.Coords) (qc kc vc : FVec F S128x2048 .f32) (gc gct beta : FVec F S128x128 .f32)
variable (st : Fin 16 → FVec F S128x128 .f32) (og : FVec F S1x128 .f32) (z : Fin 16 → FVec F S128x128 .f32)

theorem canon_out (j : S128x2048.Idx) :
    View.canon (outPieces i qc kc vc gc gct beta st og z) j =
      headPay ![0, 128 * ((j 1).val / 128)] (headSlice ⟨(j 1).val / 128, by have : (j 1).val < 2048 := (j 1).isLt; omega⟩)
        (headNo i ⟨(j 1).val / 128, by have : (j 1).val < 2048 := (j 1).isLt; omega⟩) qc kc vc gc gct beta
        (st ⟨(j 1).val / 128, by have : (j 1).val < 2048 := (j 1).isLt; omega⟩) og (z ⟨(j 1).val / 128, by have : (j 1).val < 2048 := (j 1).isLt; omega⟩)
        (ix2 (j 0) ⟨(j 1).val % 128, Nat.mod_lt _ (by decide)⟩) := by
  have h := canon_map (outPiece i qc kc vc gc gct beta st og z) [] ⟨(j 1).val / 128, by have : (j 1).val < 2048 := (j 1).isLt; omega⟩ j
    (fun h' hne => head_not_mem _ h' hne j rfl) _ (head_emb _ j rfl) [15, 14, 13, 12, 11, 10, 9, 8, 7, 6, 5, 4, 3, 2, 1, 0]
    (by revert j; intro j; generalize (⟨(j 1).val / 128, _⟩ : Fin 16) = h; revert h; decide)
  rw [List.append_nil] at h
  exact h

theorem canon_state (T : List (View.Piece (Elt F) S16x128x128 .f32)) (h : Fin 16) (a b : Fin 128) :
    View.canon (statePieces i qc kc vc gc gct beta st ++ T) (ix3 h a b) =
      headState ![0, 128 * h.val] (headSlice h) (headNo i h) qc kc vc gc gct beta (st h) (ix2 a b) := by
  have h := canon_map (statePiece i qc kc vc gc gct beta st) T h (ix3 h a b)
    (fun h' hne => state_not_mem _ h' hne a b) _ (state_emb _ a b) [15, 14, 13, 12, 11, 10, 9, 8, 7, 6, 5, 4, 3, 2, 1, 0]
    (by revert h; decide)
  refine h.trans ?_
  unfold statePiece
  dsimp only
  pointwise

end

/-! ## The taps' loads -/

/-- One of the eight rows before a chunk. -/
def haloIx (s : Fin 3) (r : Fin 8) (l : Fin 2048) : S3x136x2048.Idx :=
  ix3 (n0 := 3) (n1 := 136) (n2 := 2048) s ⟨r.val, by omega⟩ l

/-- A load of 128 rows from row `5 + k` on, of contents whose rows from the eighth on are a chunk's. -/
theorem tap_load (G : S3x136x2048.Idx → F .f32) (s o : ℕ) (hs : s < 3) (k : Fin 4) (hk : o = 5 + k.val)
    (inb : ∀ a, (![s, 8, 0] : Fin 3 → ℕ) a + S1x128x2048.size a ≤ S3x136x2048.size a)
    (inb' : ∀ a, (![s, o, 0] : Fin 3 → ℕ) a + S1x128x2048.size a ≤ S3x136x2048.size a)
    (p : S1x128x2048.Idx → F .f32) (halo : Fin 8 → Fin 2048 → F .f32)
    (hin : ∀ x : S1x128x2048.Idx, G ((Rect.unit (s := S3x136x2048) ![s, 8, 0] S1x128x2048.size inb).emb x) = p x)
    (hout : ∀ (r : Fin 8) (l : Fin 2048), G (haloIx ⟨s, hs⟩ r l) = halo r l) :
    shapeCast S128x2048 (fun j : S1x128x2048.Idx =>
        G ((Rect.unit (s := S3x136x2048) ![s, o, 0] S1x128x2048.size inb').toLoadRect.idx j))
      shapeCasts_S1x128x2048_S128x2048 = tapV halo (fun j => p (ix3 0 (j 0) (j 1))) k := by
  subst hk
  funext j
  idx_vars j
  unfold tapV
  pointwise
  split
  · rename_i h
    rw [← hout]
    unfold haloIx
    congr 1
    funext a
    match a with
    | ⟨0, _⟩ => apply Fin.ext; simp
    | ⟨1, _⟩ => apply Fin.ext; simp; omega
    | ⟨2, _⟩ => apply Fin.ext; simp
  · rename_i h
    rw [← hin]
    congr 1
    funext a
    match a with
    | ⟨0, _⟩ => apply Fin.ext; rw [Rect.emb_apply]; simp
    | ⟨1, _⟩ => apply Fin.ext; rw [Rect.emb_apply]; simp; omega
    | ⟨2, _⟩ => apply Fin.ext; rw [Rect.emb_apply]; simp

theorem own_rows (s : ℕ) (hs : s < 3) (inb : ∀ a, (![s, 8, 0] : Fin 3 → ℕ) a + S1x128x2048.size a ≤ S3x136x2048.size a)
    (r : Fin 8) (l : Fin 2048) :
    haloIx ⟨s, hs⟩ r l ∉ (Rect.unit (s := S3x136x2048) ![s, 8, 0] S1x128x2048.size inb).set := by
  rw [Rect.mem_set_unit]; intro hm; have h1 := hm 1; simp [haloIx] at h1; omega

section

variable (s o : ℕ) (hs : s < 3) (k : Fin 4) (hk : o = 5 + k.val)
  (inb : ∀ a, (![s, 8, 0] : Fin 3 → ℕ) a + S1x128x2048.size a ≤ S3x136x2048.size a)
  (inb' : ∀ a, (![s, o, 0] : Fin 3 → ℕ) a + S1x128x2048.size a ≤ S3x136x2048.size a)
  (p : FVec F S1x128x2048 .f32) (halo : Fin 8 → Fin 2048 → F .f32) (T : List (View.Piece (Elt F) S3x136x2048 .f32))

include hk

/-- The same of a buffer's contents after stores, -/
theorem tap_read {sig : RefSig} {κ : Kind} {sp : Space} (v : View sig κ sp S3x136x2048 .f32) (f : v.ty.Contents (Elt F))
    (hout : ∀ (r : Fin 8) (l : Fin 2048), v.read (Elt F) (v.writes (Elt F) f T) (haloIx ⟨s, hs⟩ r l) = halo r l) :
    shapeCast S128x2048 (v.readAt (Elt F) (Rect.unit (s := S3x136x2048) ![s, o, 0] S1x128x2048.size inb').toLoadRect
        (v.writes (Elt F) f (⟨Rect.unit (s := S3x136x2048) ![s, 8, 0] S1x128x2048.size inb, p⟩ :: T)))
      shapeCasts_S1x128x2048_S128x2048 = tapV halo (fun j => p (ix3 0 (j 0) (j 1))) k := by
  rw [View.readAt_eq_ld]
  have hin := read_writes_in v f (Rect.unit (s := S3x136x2048) ![s, 8, 0] S1x128x2048.size inb) p T
  have ho : ∀ (r : Fin 8) (l : Fin 2048), v.read (Elt F) (v.writes (Elt F) f
      (⟨Rect.unit (s := S3x136x2048) ![s, 8, 0] S1x128x2048.size inb, p⟩ :: T)) (haloIx ⟨s, hs⟩ r l) = halo r l := by
    intro r l
    rw [read_writes_out _ _ _ _ _ _ (own_rows s hs inb r l), hout]
  generalize v.read (Elt F) (v.writes (Elt F) f
      (⟨Rect.unit (s := S3x136x2048) ![s, 8, 0] S1x128x2048.size inb, p⟩ :: T)) = G at hin ho ⊢
  exact tap_load G s o hs k hk inb inb' p halo hin ho

/-- and of a load the stores cover. -/
theorem tap_cov {sig : RefSig} {κ : Kind} {sp : Space} (v : View sig κ sp S3x136x2048 .f32)
    (hout : ∀ (r : Fin 8) (l : Fin 2048), View.canon T (haloIx ⟨s, hs⟩ r l) = halo r l) :
    shapeCast S128x2048 (v.readCov (Val := Elt F) (⟨Rect.unit (s := S3x136x2048) ![s, 8, 0] S1x128x2048.size inb, p⟩ :: T)
        (Rect.unit (s := S3x136x2048) ![s, o, 0] S1x128x2048.size inb').toLoadRect)
      shapeCasts_S1x128x2048_S128x2048 = tapV halo (fun j => p (ix3 0 (j 0) (j 1))) k := by
  rw [View.readCov_eq_canon']
  have hin := View.canon_cons_emb (Rect.unit (s := S3x136x2048) ![s, 8, 0] S1x128x2048.size inb) (Val := Elt F) (e := .f32) p T
  have ho : ∀ (r : Fin 8) (l : Fin 2048), View.canon (Val := Elt F) (e := .f32)
      (⟨Rect.unit (s := S3x136x2048) ![s, 8, 0] S1x128x2048.size inb, p⟩ :: T) (haloIx ⟨s, hs⟩ r l) = halo r l := by
    intro r l
    rw [canon_out_of _ _ _ _ (own_rows s hs inb r l), hout]
  generalize View.canon (Val := Elt F) (e := .f32)
      (⟨Rect.unit (s := S3x136x2048) ![s, 8, 0] S1x128x2048.size inb, p⟩ :: T) = G at hin ho ⊢
  exact tap_load G s o hs k hk inb inb' p halo hin ho

end

/-- Stores to other arrays' rows leave an array's rows. -/
theorem skip_rows (s s' o n : ℕ) (hs : s < 3) (hne : s ≠ s')
    (inb : ∀ a, (![s', o, 0] : Fin 3 → ℕ) a + (![1, n, 2048] : Fin 3 → ℕ) a ≤ S3x136x2048.size a) (r : Fin 8) (l : Fin 2048) :
    haloIx ⟨s, hs⟩ r l ∉ (Rect.unit (s := S3x136x2048) ![s', o, 0] ![1, n, 2048] inb).set := by
  rw [Rect.mem_set_unit]; intro hm; have h0 := hm 0; simp [haloIx] at h0; omega

/-- The last tap reads no row before the chunk. -/
theorem tapV_three (halo halo' : Fin 8 → Fin 2048 → F .f32) (x : FVec F S128x2048 .f32) :
    tapV halo x 3 = tapV halo' x 3 := by
  funext j
  unfold tapV
  rw [dif_neg (by show ¬(j 0).val + (5 + 3) < 8; omega), dif_neg (by show ¬(j 0).val + (5 + 3) < 8; omega)]

/-- The rows before the first chunk are zero. -/
theorem zero_halo (s : Fin 3) (r : Fin 8) (l : Fin 2048) :
    View.canon [(⟨Rect.unit (s := S3x136x2048) ![0, 0, 0] S3x8x2048.size inb_S3x136x2048_S3x8x2048_0_0_0,
      k0_pay2⟩ : View.Piece (Elt F) S3x136x2048 .f32)] (haloIx s r l) = Scalar.ofBits .f32 0x00000000#32 := by
  have hx : (Rect.unit (s := S3x136x2048) ![0, 0, 0] S3x8x2048.size inb_S3x136x2048_S3x8x2048_0_0_0).emb
      (ix3 (n0 := 3) (n1 := 8) (n2 := 2048) s r l) = haloIx s r l := by
    unfold haloIx
    funext d
    match d with
    | ⟨0, _⟩ => apply Fin.ext; rw [Rect.emb_apply]; simp
    | ⟨1, _⟩ => apply Fin.ext; rw [Rect.emb_apply]; simp
    | ⟨2, _⟩ => apply Fin.ext; rw [Rect.emb_apply]; simp
  rw [← hx, View.canon_cons_emb]
  rfl

/-- Loads of whole buffers. -/
theorem whole_load0 (X : FVec F S128x128 .f32) :
    View.ld (Val := Elt F) (e' := .f32) X (Rect.unit (s := S128x128) ![0, 0] S128x128.size inb_S128x128_S128x128_0_0) = X :=
  View.ld_unit_lit' _ _ (by decide)
theorem whole_load1 (X : FVec F S1x128 .f32) :
    View.ld (Val := Elt F) (e' := .f32) X (Rect.unit (s := S1x128) ![0, 0] S1x128.size inb_S1x128_S1x128_0_0) = X :=
  View.ld_unit_lit' _ _ (by decide)

/-- A load of one row of the weights. -/
theorem row_load0 (w : FVec F S4x2048 .f32) :
    View.ld (Val := Elt F) (e' := .f32) w (Rect.unit (s := S4x2048) ![0, 0] S1x2048.size inb_S4x2048_S1x2048_0_0) = rowOfV w 0 := by
  funext j
  show w _ = w _
  congr 1
  funext a
  match a with
  | ⟨0, _⟩ => apply Fin.ext; have : (j 0).val < 1 := (j 0).isLt; simp <;> omega
  | ⟨1, _⟩ => apply Fin.ext; simp
theorem row_load1 (w : FVec F S4x2048 .f32) :
    View.ld (Val := Elt F) (e' := .f32) w (Rect.unit (s := S4x2048) ![1, 0] S1x2048.size inb_S4x2048_S1x2048_1_0) = rowOfV w 1 := by
  funext j
  show w _ = w _
  congr 1
  funext a
  match a with
  | ⟨0, _⟩ => apply Fin.ext; have : (j 0).val < 1 := (j 0).isLt; simp <;> omega
  | ⟨1, _⟩ => apply Fin.ext; simp
theorem row_load2 (w : FVec F S4x2048 .f32) :
    View.ld (Val := Elt F) (e' := .f32) w (Rect.unit (s := S4x2048) ![2, 0] S1x2048.size inb_S4x2048_S1x2048_2_0) = rowOfV w 2 := by
  funext j
  show w _ = w _
  congr 1
  funext a
  match a with
  | ⟨0, _⟩ => apply Fin.ext; have : (j 0).val < 1 := (j 0).isLt; simp <;> omega
  | ⟨1, _⟩ => apply Fin.ext; simp
theorem row_load3 (w : FVec F S4x2048 .f32) :
    View.ld (Val := Elt F) (e' := .f32) w (Rect.unit (s := S4x2048) ![3, 0] S1x2048.size inb_S4x2048_S1x2048_3_0) = rowOfV w 3 := by
  funext j
  show w _ = w _
  congr 1
  funext a
  match a with
  | ⟨0, _⟩ => apply Fin.ext; have : (j 0).val < 1 := (j 0).isLt; simp <;> omega
  | ⟨1, _⟩ => apply Fin.ext; simp

/-- A load of one head's lanes. -/
theorem lanes_load (X : FVec F S128x2048 .f32) (h : Fin 16) :
    View.ld (Val := Elt F) (e' := .f32) X (Rect.unit (s := S128x2048) ![0, 128 * h.val] ![128, 128] (headInb h)) =
      lanesV ![0, 128 * h.val] (headSlice h) X := by
  funext j
  show X _ = X _
  congr 1
  funext a
  match a with
  | ⟨0, _⟩ => apply Fin.ext; simp
  | ⟨1, _⟩ => apply Fin.ext; simp

theorem state_cast (y : S1x128x128.Idx → F .f32) :
    shapeCast S128x128 y shapeCasts_S1x128x128_S128x128 = fun j => y (ix3 0 (j 0) (j 1)) := by
  funext j
  idx_vars j
  pointwise

/-- A load of one head's state. -/
theorem state_load (X : FVec F S16x128x128 .f32) (h : Fin 16) :
    shapeCast S128x128 (View.ld (Val := Elt F) (e' := .f32) X
      (Rect.unit (s := S16x128x128) ![h.val, 0, 0] ![1, 128, 128] (stateInb h))) shapeCasts_S1x128x128_S128x128 =
      fun j => X (ix3 h (j 0) (j 1)) := by
  rw [state_cast]
  funext j
  exact congrArg X (state_emb h (j 0) (j 1))

/-- The state before the first chunk is zero. -/
theorem state_zero {sig : RefSig} {κ : Kind} {sp : Space} (v : View sig κ sp S16x128x128 .f32) (h : Fin 16) :
    shapeCast S128x128 (v.readCov (Val := Elt F) [⟨Rect.unit (s := S16x128x128) ![0, 0, 0] S16x128x128.size inb_S16x128x128_S16x128x128_0_0_0, k0_pay3⟩]
      (Rect.unit (s := S16x128x128) ![h.val, 0, 0] ![1, 128, 128] (stateInb h)).toLoadRect) shapeCasts_S1x128x128_S128x128 =
      fun _ => Scalar.ofBits .f32 0x00000000#32 := by
  rw [View.readCov_eq_canon', View.canon_cons_unit_lit' _ _ _ (by decide)]
  rfl

/-- The rows the next chunk's convolution needs are the chunk's last. -/
theorem halo_emb (s : Fin 3) (inb : ∀ a, (![s.val, 0, 0] : Fin 3 → ℕ) a + S1x8x2048.size a ≤ S3x136x2048.size a)
    (r : Fin 8) (l : Fin 2048) :
    (Rect.unit (s := S3x136x2048) ![s.val, 0, 0] S1x8x2048.size inb).emb (ix3 (n0 := 1) (n1 := 8) (n2 := 2048) 0 r l) =
      haloIx s r l := by
  unfold haloIx
  funext d
  match d with
  | ⟨0, _⟩ => apply Fin.ext; rw [Rect.emb_apply]; simp
  | ⟨1, _⟩ => apply Fin.ext; rw [Rect.emb_apply]; simp
  | ⟨2, _⟩ => apply Fin.ext; rw [Rect.emb_apply]; simp

/-- A chunk's last eight rows, as they are stored. -/
theorem last_rows {sig : RefSig} {κ : Kind} {sp : Space} (v : View sig κ sp S3x136x2048 .f32) (s : ℕ)
    (inb : ∀ a, (![s, 8, 0] : Fin 3 → ℕ) a + S1x128x2048.size a ≤ S3x136x2048.size a)
    (inb' : ∀ a, (![s, 128, 0] : Fin 3 → ℕ) a + S1x8x2048.size a ≤ S3x136x2048.size a)
    (p : FVec F S1x128x2048 .f32) (T : List (View.Piece (Elt F) S3x136x2048 .f32)) (r : Fin 8) (l : Fin 2048) :
    shapeCast S1x8x2048 (shapeCast S8x2048 (v.readCov (Val := Elt F)
        (⟨Rect.unit (s := S3x136x2048) ![s, 8, 0] S1x128x2048.size inb, p⟩ :: T)
        (Rect.unit (s := S3x136x2048) ![s, 128, 0] S1x8x2048.size inb').toLoadRect) shapeCasts_S1x8x2048_S8x2048)
      shapeCasts_S8x2048_S1x8x2048 (ix3 (n0 := 1) (n1 := 8) (n2 := 2048) 0 r l) =
      p (ix3 (n0 := 1) (n1 := 128) (n2 := 2048) 0 ⟨120 + r.val, by omega⟩ l) := by
  rw [View.readCov_eq_canon']
  have hin := View.canon_cons_emb (Rect.unit (s := S3x136x2048) ![s, 8, 0] S1x128x2048.size inb) (Val := Elt F) (e := .f32) p T
  generalize View.canon (Val := Elt F) (e := .f32)
      (⟨Rect.unit (s := S3x136x2048) ![s, 8, 0] S1x128x2048.size inb, p⟩ :: T) = G at hin ⊢
  rw [← hin]
  pointwise
  congr 1
  funext a
  match a with
  | ⟨0, _⟩ => apply Fin.ext; rw [Rect.emb_apply]; simp
  | ⟨1, _⟩ => apply Fin.ext; rw [Rect.emb_apply]; simp; omega
  | ⟨2, _⟩ => apply Fin.ext; rw [Rect.emb_apply]; simp

end Cert.KernelIdeal.Hand
-- ==== Proof.Gdn.Inverse.lean ====
module

public import Mathlib.Data.Matrix.Mul
public import Mathlib.Data.Real.Basic
public import Mathlib.Tactic.NoncommRing
public import Mathlib.Tactic.Ring
public import Mathlib.Algebra.BigOperators.Ring.Finset

/-!
# The inverse of a unit lower triangular matrix, by blocks

The gated delta rule's kernel inverts `1 + A`, `A` strictly lower triangular, in three stages: the diagonal blocks of
sixteen rows by the product form of a Neumann series, three doublings of the block size, and one correction by the
residual. Over the reals the result is the inverse, and this file proves it.
-/

@[expose] public section

noncomputable section

namespace Gdn

open Matrix

/-- A square matrix of 128 rows. -/
abbrev M128 := Matrix (Fin 128) (Fin 128) ℝ

/-- Entries on and above the diagonal are zero. -/
def StrictLower (A : M128) : Prop := ∀ i j : Fin 128, ¬ j.val < i.val → A i j = 0

/-- Entries outside the diagonal blocks of `s` rows are zero. -/
def BlockDiag (s : ℕ) (A : M128) : Prop := ∀ i j : Fin 128, i.val / s ≠ j.val / s → A i j = 0

/-- The diagonal blocks of `s` rows. -/
def diagPart (s : ℕ) (A : M128) : M128 := fun i j => if i.val / s = j.val / s then A i j else 0

/-- The blocks of `s` rows that lie in a diagonal block of `2 s` rows, but not on the diagonal. -/
def offPart (s : ℕ) (A : M128) : M128 := fun i j =>
  if i.val / (2 * s) = j.val / (2 * s) ∧ i.val / s ≠ j.val / s then A i j else 0

theorem div_two_mul (i s : ℕ) : i / (2 * s) = i / s / 2 := by
  rw [Nat.div_div_eq_div_mul, Nat.mul_comm]

theorem diagPart_two_mul (s : ℕ) (A : M128) : diagPart (2 * s) A = diagPart s A + offPart s A := by
  funext i j
  simp only [diagPart, offPart, Matrix.add_apply, div_two_mul]
  by_cases h : i.val / s = j.val / s
  · simp [h]
  · by_cases h2 : i.val / s / 2 = j.val / s / 2 <;> simp [h, h2]

theorem off_mul_off (s : ℕ) (A T : M128) (hA : StrictLower A) (hT : BlockDiag s T) :
    offPart s A * T * offPart s A = 0 := by
  funext i l
  rw [Matrix.mul_apply, Matrix.zero_apply]
  refine Finset.sum_eq_zero fun k _ => ?_
  rw [Matrix.mul_apply, Finset.sum_mul]
  refine Finset.sum_eq_zero fun j _ => ?_
  by_contra hne
  have h1 : offPart s A i j ≠ 0 := fun h => hne (by rw [h]; ring)
  have h2 : T j k ≠ 0 := fun h => hne (by rw [h]; ring)
  have h3 : offPart s A k l ≠ 0 := fun h => hne (by rw [h]; ring)
  have e2 : j.val / s = k.val / s := by
    by_contra h; exact h2 (hT j k h)
  have c1 : (i.val / (2 * s) = j.val / (2 * s) ∧ i.val / s ≠ j.val / s) ∧ j.val < i.val := by
    constructor
    · by_contra h; exact h1 (by simp only [offPart, if_neg h])
    · by_contra h; exact h1 (by simp only [offPart, hA i j h]; simp)
  have c3 : (k.val / (2 * s) = l.val / (2 * s) ∧ k.val / s ≠ l.val / s) ∧ l.val < k.val := by
    constructor
    · by_contra h; exact h3 (by simp only [offPart, if_neg h])
    · by_contra h; exact h3 (by simp only [offPart, hA k l h]; simp)
  simp only [div_two_mul] at c1 c3
  have d1 := Nat.div_le_div_right (c := s) c1.2.le
  have d3 := Nat.div_le_div_right (c := s) c3.2.le
  omega

/-- One doubling of the block size. -/
def double (s : ℕ) (A T : M128) : M128 := T - T * (offPart s A * T)

theorem double_inv (s : ℕ) (A T : M128) (hA : StrictLower A) (hT : BlockDiag s T)
    (h : (1 + diagPart s A) * T = 1) : (1 + diagPart (2 * s) A) * double s A T = 1 := by
  have h0 := off_mul_off s A T hA hT
  have e : (1 + diagPart (2 * s) A) * double s A T
      = (1 + diagPart s A) * T - (1 + diagPart s A) * T * (offPart s A * T) + offPart s A * T
        - (offPart s A * T * offPart s A) * T := by
    rw [diagPart_two_mul, double]; noncomm_ring
  rw [e, h, h0]; noncomm_ring

theorem double_blockDiag (s : ℕ) (A T : M128) (hT : BlockDiag s T) : BlockDiag (2 * s) (double s A T) := by
  intro i j hij
  rw [div_two_mul, div_two_mul] at hij
  simp only [double, Matrix.sub_apply]
  rw [hT i j (fun h => hij (by rw [h])), zero_sub, neg_eq_zero, Matrix.mul_apply]
  refine Finset.sum_eq_zero fun k _ => ?_
  by_cases hik : i.val / s = k.val / s
  · rw [Matrix.mul_apply]
    rw [Finset.sum_eq_zero, mul_zero]
    intro l _
    by_cases hlj : l.val / s = j.val / s
    · rw [offPart, if_neg, zero_mul]
      rw [div_two_mul, div_two_mul]; rintro ⟨h, _⟩
      exact hij (by rw [hik, h, hlj])
    · rw [hT l j hlj, mul_zero]
  · rw [hT i k hik, zero_mul]

/-- A product of `n` factors of a block diagonal, strictly lower matrix reaches only entries `n` below the diagonal. -/
theorem pow_apply_zero (s : ℕ) (X : M128) (hX : StrictLower X) (hB : BlockDiag s X) (n : ℕ) :
    ∀ i j : Fin 128, ¬ (j.val + n ≤ i.val ∧ i.val / s = j.val / s) → (X ^ n) i j = 0 := by
  induction n with
  | zero =>
    intro i j h
    rw [pow_zero]
    apply Matrix.one_apply_ne
    rintro rfl
    exact h ⟨by omega, rfl⟩
  | succ n ih =>
    intro i j h
    rw [pow_succ, Matrix.mul_apply]
    refine Finset.sum_eq_zero fun k _ => ?_
    by_cases h1 : k.val + n ≤ i.val ∧ i.val / s = k.val / s
    · by_cases h2 : j.val < k.val
      · by_cases h3 : k.val / s = j.val / s
        · exact absurd ⟨by omega, by rw [h1.2, h3]⟩ h
        · rw [hB k j h3, mul_zero]
      · rw [hX k j h2, mul_zero]
    · rw [ih i k h1, zero_mul]

/-- The inverse of the diagonal blocks of sixteen rows: the product form of the Neumann series. -/
def neumann (X : M128) : M128 :=
  let t0 := 1 + X
  let p1 := X * X
  let t1 := t0 + p1 * t0
  let p2 := p1 * p1
  let t2 := t1 + p2 * t1
  let p3 := p2 * p2
  t2 + p3 * t2

theorem neumann_mul (X : M128) : (1 - X) * neumann X = 1 - X ^ 16 := by
  simp only [neumann]; noncomm_ring

theorem blockDiag_add {s : ℕ} {A B : M128} (hA : BlockDiag s A) (hB : BlockDiag s B) : BlockDiag s (A + B) := by
  intro i j h; rw [Matrix.add_apply, hA i j h, hB i j h, add_zero]

theorem blockDiag_mul {s : ℕ} {A B : M128} (hA : BlockDiag s A) (hB : BlockDiag s B) : BlockDiag s (A * B) := by
  intro i j h
  rw [Matrix.mul_apply]
  refine Finset.sum_eq_zero fun k _ => ?_
  by_cases h1 : i.val / s = k.val / s
  · rw [hB k j (fun h2 => h (h1.trans h2)), mul_zero]
  · rw [hA i k h1, zero_mul]

theorem blockDiag_one (s : ℕ) : BlockDiag s (1 : M128) := by
  intro i j h; apply Matrix.one_apply_ne; rintro rfl; exact h rfl

theorem blockDiag_neumann {s : ℕ} {X : M128} (hX : BlockDiag s X) : BlockDiag s (neumann X) := by
  have h0 := blockDiag_add (blockDiag_one s) hX
  have p1 := blockDiag_mul hX hX
  have h1 := blockDiag_add h0 (blockDiag_mul p1 h0)
  have p2 := blockDiag_mul p1 p1
  have h2 := blockDiag_add h1 (blockDiag_mul p2 h1)
  exact blockDiag_add h2 (blockDiag_mul (blockDiag_mul p2 p2) h2)

/-- The kernel's inverse of `1 + A`. -/
def inverse (A : M128) : M128 :=
  let t := double 64 A (double 32 A (double 16 A (neumann (diagPart 16 (-A)))))
  t + t * (1 - (1 + A) * t)

/-- It is the inverse. -/
theorem inverse_spec (A : M128) (hA : StrictLower A) : (1 + A) * inverse A = 1 := by
  have hX : StrictLower (diagPart 16 (-A)) := by
    intro i j h; simp [diagPart, hA i j h]
  have hB : BlockDiag 16 (diagPart 16 (-A)) := by
    intro i j h; simp [diagPart, h]
  have hneg : diagPart 16 (-A) = - diagPart 16 A := by
    funext i j; by_cases h : i.val / 16 = j.val / 16 <;> simp [diagPart, h]
  have h16 : diagPart 16 (-A) ^ 16 = 0 := by
    funext i j
    apply pow_apply_zero 16 _ hX hB
    omega
  have e0 : (1 + diagPart 16 A) * neumann (diagPart 16 (-A)) = 1 := by
    have := neumann_mul (diagPart 16 (-A))
    rw [h16, sub_zero] at this
    have h1 : 1 + diagPart 16 A = 1 - diagPart 16 (-A) := by rw [hneg, sub_neg_eq_add]
    rw [h1, this]
  have b0 := blockDiag_neumann hB
  have e1 := double_inv 16 A _ hA b0 e0
  have b1 := double_blockDiag 16 A _ b0
  have e2 := double_inv 32 A _ hA b1 e1
  have b2 := double_blockDiag 32 A _ b1
  have e3 := double_inv 64 A _ hA b2 e2
  have hfull : diagPart (2 * 64) A = A := by
    funext i j; simp only [diagPart]; rw [if_pos]; omega
  rw [hfull] at e3
  simp only [inverse]
  rw [e3, sub_self, mul_zero, add_zero, e3]

end Gdn
-- ==== Proof.Gdn.RealOps.lean ====
module

public import proofs.«01_k».proof.Proof.Gdn.Ops
public import proofs.«01_k».proof.Proof.Gdn.Inverse
public import Idealize.ShloMosaic.Lib.Pointwise
public import Idealize.ShloMosaic.Lib.ValueIdx

/-!
# The kernel's operations on real matrices

At the ideal values an array of finite entries is a real matrix, and each operation of a head is the matrix operation its
name says.
-/

@[expose] public section

set_option maxRecDepth 16384

noncomputable section

namespace Cert.KernelIdeal.Hand

open Cert.KernelIdeal Cert.KernelIdeal.Gen Idealize.ShloMosaic Idealize.ShloMosaic.TcCoe Idealize.SL.Sem
open Gdn (M128)

/-- A real matrix as an array of ideal values. -/
def up {n m : ℕ} (A : Matrix (Fin n) (Fin m) ℝ) : (⟨2, ![n, m]⟩ : Shape).Idx → EReal := fun j => ((A (j 0) (j 1) : ℝ) : EReal)

theorem up_apply {n m : ℕ} (A : Matrix (Fin n) (Fin m) ℝ) (i : Fin n) (j : Fin m) : up A (ix2 i j) = ((A i j : ℝ) : EReal) := rfl

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem up_congr {n m : ℕ} {A B : Matrix (Fin n) (Fin m) ℝ} (h : ∀ i j, A i j = B i j) : up A = up B := by
  have : A = B := by funext i j; exact h i j
  rw [this]

theorem sum_up {n p m : ℕ} (A : Matrix (Fin n) (Fin p) ℝ) (B : Matrix (Fin p) (Fin m) ℝ) (i : Fin n) (j : Fin m) :
    ∑ x, up A (ix2 i x) * up B (ix2 x j) = up (A * B) (ix2 i j) := by
  simp only [up_apply, Matrix.mul_apply, coe_sum, EReal.coe_mul]

/-- The words of the constants. -/
theorem word_zero : Ideal.ofBits .f32 0x00000000#32 = ((0 : ℝ) : EReal) := by simp [Ideal.ofBits, Ideal.ieee]
theorem word_half : Ideal.ofBits .f32 0x3F000000#32 = ((1 / 2 : ℝ) : EReal) := by
  simp [Ideal.ofBits, Ideal.ieee]; rw [← EReal.coe_mul]; congr 1; norm_num
theorem word_one : Ideal.ofBits .f32 0x3F800000#32 = ((1 : ℝ) : EReal) := by
  simp [Ideal.ofBits, Ideal.ieee]; rw [← EReal.coe_mul, ← EReal.coe_one]; congr 1; norm_num
theorem word_128 : Ideal.ofBits .f32 0x43000000#32 = ((128 : ℝ) : EReal) := by
  simp [Ideal.ofBits, Ideal.ieee]; rw [← EReal.coe_mul]; congr 1; norm_num

/-- The norm's small constant, and the queries' scale. -/
def epsR : ℝ := 8796093 * (2 ^ 43)⁻¹
def scaleR : ℝ := 11863283 * (2 ^ 27)⁻¹
theorem word_eps : Ideal.ofBits .f32 0x358637BD#32 = ((epsR : ℝ) : EReal) := by
  unfold epsR; simp [Ideal.ofBits, Ideal.ieee]
theorem word_scale : Ideal.ofBits .f32 0x3DB504F3#32 = ((scaleR : ℝ) : EReal) := by
  unfold scaleR; simp [Ideal.ofBits, Ideal.ieee]
theorem eps_pos : 0 < epsR := by
  unfold epsR; positivity

section

variable (A B C : M128)

theorem zeroV_eq : (zeroV : FVec Ideal S128x128 .f32) = up (0 : M128) := by
  funext j; idx_vars j; unfold zeroV; pointwise; rfl

/-- A test of two row or column numbers. -/
theorem eq_test (i j : Fin 128) : IntOp.cmpi .eq (BitVec.ofNat 32 i.val) (BitVec.ofNat 32 j.val) = BitVec.ofBool (decide (i = j)) := by
  revert i j; decide +kernel
theorem ge_test (i j : Fin 128) : IntOp.cmpi .sge (BitVec.ofNat 32 i.val) (BitVec.ofNat 32 j.val) = BitVec.ofBool (decide (j ≤ i)) := by
  revert i j; decide +kernel
theorem gt_test (i j : Fin 128) : IntOp.cmpi .sgt (BitVec.ofNat 32 i.val) (BitVec.ofNat 32 j.val) = BitVec.ofBool (decide (j < i)) := by
  revert i j; decide +kernel
theorem sitofp_bit (b : Bool) : FloatOps.sitofp (F := Ideal) FTy.f32 (BitVec.setWidth 32 (BitVec.ofBool b)) = (((if b then 1 else 0 : ℝ)) : EReal) := by
  cases b <;> simp [FloatOps.sitofp]

theorem eyeV_eq : (eyeV : FVec Ideal S128x128 .f32) = up (1 : M128) := by
  funext j; idx_vars j; unfold eyeV rowI colI; pointwise
  rw [eq_test, sitofp_bit, up_apply, Matrix.one_apply]
  simp
theorem addf_up : addf (F := Ideal) (s := S128x128) (φ := .f32) (up A) (up B) = up (A + B) := by
  funext j; show ((_ : ℝ) : EReal) + ((_ : ℝ) : EReal) = _; rw [← EReal.coe_add]; rfl
theorem subf_up : subf (F := Ideal) (s := S128x128) (φ := .f32) (up A) (up B) = up (A - B) := by
  funext j; show ((_ : ℝ) : EReal) - ((_ : ℝ) : EReal) = _; rw [← EReal.coe_sub]; rfl
theorem mulf_up : mulf (F := Ideal) (s := S128x128) (φ := .f32) (up A) (up B) = up (Matrix.of fun i j => A i j * B i j) := by
  funext j; show ((_ : ℝ) : EReal) * ((_ : ℝ) : EReal) = _; rw [← EReal.coe_mul]; rfl
theorem trV_eq {s : Shape} (a : FVec Ideal s .f32) : (trV a : s.Idx → EReal) = a := rfl
theorem exV_eq {s : Shape} (a : FVec Ideal s .bf16) : (exV a : s.Idx → EReal) = a := rfl
theorem trV_up : trV (F := Ideal) (s := S128x128) (up A) = up A := rfl
theorem trV_up2 (X : Matrix (Fin 128) (Fin 256) ℝ) : trV (F := Ideal) (s := S128x256) (up X) = up X := rfl
theorem trV_up3 (X : Matrix (Fin 256) (Fin 128) ℝ) : trV (F := Ideal) (s := S256x128) (up X) = up X := rfl
theorem exV_up : exV (F := Ideal) (s := S128x128) (up A) = up A := rfl

theorem mmV_up : mmV (F := Ideal) (up A) (up B) = up (A * B) := by
  funext j; idx_vars j; unfold mmV
  pointwise
  exact sum_up _ _ _ _

/-- Two matrices side by side, and one on the other. -/
def sideR (A B : M128) : Matrix (Fin 128) (Fin 256) ℝ := fun i j =>
  if h : j.val < 128 then A i ⟨j.val, h⟩ else B i ⟨j.val - 128, by omega⟩
def stackR (A B : M128) : Matrix (Fin 256) (Fin 128) ℝ := fun i j =>
  if h : i.val < 128 then A ⟨i.val, h⟩ j else B ⟨i.val - 128, by omega⟩ j
def leftR (X : Matrix (Fin 128) (Fin 256) ℝ) : M128 := fun i j => X i ⟨j.val, by omega⟩
def rightR (X : Matrix (Fin 128) (Fin 256) ℝ) : M128 := fun i j => X i ⟨128 + j.val, by omega⟩
def upperR (X : Matrix (Fin 256) (Fin 128) ℝ) : M128 := fun i j => X ⟨i.val, by omega⟩ j
def lowerR (X : Matrix (Fin 256) (Fin 128) ℝ) : M128 := fun i j => X ⟨128 + i.val, by omega⟩ j

theorem left_side (A B C : M128) : leftR (A * sideR B C) = A * B := by
  funext i j; simp [leftR, sideR, Matrix.mul_apply]
theorem right_side (A B C : M128) : rightR (A * sideR B C) = A * C := by
  funext i j; simp [rightR, sideR, Matrix.mul_apply]
theorem upper_stack (A B C : M128) : upperR (stackR A B * C) = A * C := by
  funext i j; simp [upperR, stackR, Matrix.mul_apply]
theorem lower_stack (A B C : M128) : lowerR (stackR A B * C) = B * C := by
  funext i j; simp [lowerR, stackR, Matrix.mul_apply]

theorem side_up {φ : FTy} : concatenate (α := Ideal φ) S128x256 1 [⟨S128x128, up A⟩, ⟨S128x128, up B⟩] concatenates_S128x128_S128x128_S128x256_d1 =
    up (sideR A B) := by
  funext j; idx_vars j
  pointwise
  rw [up_apply]; unfold sideR
  split <;> rfl
theorem stack_up {φ : FTy} : concatenate (α := Ideal φ) S256x128 0 [⟨S128x128, up A⟩, ⟨S128x128, up B⟩] concatenates_S128x128_S128x128_S256x128_d0 =
    up (stackR A B) := by
  funext j; idx_vars j
  pointwise
  rw [up_apply]; unfold stackR
  split <;> rfl
theorem left_up (X : Matrix (Fin 128) (Fin 256) ℝ) : leftV (F := Ideal) (up X) = up (leftR X) := by
  funext j; idx_vars j; unfold leftV; pointwise; rfl
theorem right_up (X : Matrix (Fin 128) (Fin 256) ℝ) : rightV (F := Ideal) (up X) = up (rightR X) := by
  funext j; idx_vars j; unfold rightV; pointwise; rfl
theorem upper_up (X : Matrix (Fin 256) (Fin 128) ℝ) : upperV (F := Ideal) (up X) = up (upperR X) := by
  funext j; idx_vars j; unfold upperV; pointwise; rfl
theorem lower_up (X : Matrix (Fin 256) (Fin 128) ℝ) : lowerV (F := Ideal) (up X) = up (lowerR X) := by
  funext j; idx_vars j; unfold lowerV; pointwise; rfl
theorem mm2V_up (X : Matrix (Fin 128) (Fin 256) ℝ) : mm2V (F := Ideal) (up A) (up X) = up (A * X) := by
  funext j; idx_vars j; unfold mm2V
  pointwise
  exact sum_up _ _ _ _
theorem rowSum_up : rowSumV (F := Ideal) (up A) = up (Matrix.of fun i (_ : Fin 1) => ∑ j, A i j) := by
  funext j; idx_vars j; unfold rowSumV
  pointwise
  exact (coe_sum _ _).symm
theorem colSum_up : colSumV (F := Ideal) (up A) = up (Matrix.of fun (_ : Fin 1) j => ∑ i, A i j) := by
  funext j; idx_vars j; unfold colSumV
  pointwise
  exact (coe_sum _ _).symm
theorem col_up (a : Matrix (Fin 128) (Fin 1) ℝ) : colV (F := Ideal) (up a) = up (Matrix.of fun i (_ : Fin 128) => a i 0) := by
  funext j; idx_vars j; unfold colV
  pointwise; rfl
theorem row_up (a : Matrix (Fin 1) (Fin 128) ℝ) : rowV (F := Ideal) (up a) = up (Matrix.of fun (_ : Fin 128) j => a 0 j) := by
  funext j; idx_vars j; unfold rowV
  pointwise; rfl

/-! ## The masks -/

/-- A floor's quotient as one number's operations. -/
def fdivS (x n : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        1#32)
      (IntOp.cmpi CmpIPredicate.ne (IntOp.remsi ArithUnit.vector x n) 0#32))
    (IntOp.subi (IntOp.divsi ArithUnit.vector x n) 1#32) (IntOp.divsi ArithUnit.vector x n)

theorem fdiv_row (n : BitVec 32) (i j : Fin 128) : fdivI rowI n (ix2 i j) = fdivS (BitVec.ofNat 32 i.val) n := by
  unfold fdivI rowI fdivS; pointwise
theorem fdiv_col (n : BitVec 32) (i j : Fin 128) : fdivI colI n (ix2 i j) = fdivS (BitVec.ofNat 32 j.val) n := by
  unfold fdivI colI fdivS; pointwise

theorem fdivS_16 (i : Fin 128) : fdivS (BitVec.ofNat 32 i.val) 16#32 = BitVec.ofNat 32 (i.val / 16) := by
  revert i; decide +kernel
theorem fdivS_32 (i : Fin 128) : fdivS (BitVec.ofNat 32 i.val) 32#32 = BitVec.ofNat 32 (i.val / 32) := by
  revert i; decide +kernel
theorem fdivS_64 (i : Fin 128) : fdivS (BitVec.ofNat 32 i.val) 64#32 = BitVec.ofNat 32 (i.val / 64) := by
  revert i; decide +kernel
theorem fdivS_128 (i : Fin 128) : fdivS (BitVec.ofNat 32 i.val) 128#32 = BitVec.ofNat 32 (i.val / 128) := by
  revert i; decide +kernel

/-- The word of a block size. -/
def Word (n : BitVec 32) (s : ℕ) : Prop := ∀ i : Fin 128, fdivS (BitVec.ofNat 32 i.val) n = BitVec.ofNat 32 (i.val / s)

theorem nat_eq_test {a b : ℕ} (ha : a < 128) (hb : b < 128) :
    IntOp.cmpi .eq (BitVec.ofNat 32 a) (BitVec.ofNat 32 b) = BitVec.ofBool (decide (a = b)) := by
  have := eq_test ⟨a, ha⟩ ⟨b, hb⟩
  simpa using this
theorem nat_ne_test {a b : ℕ} (ha : a < 128) (hb : b < 128) :
    IntOp.cmpi .ne (BitVec.ofNat 32 a) (BitVec.ofNat 32 b) = BitVec.ofBool (decide (a ≠ b)) := by
  have : ∀ i j : Fin 128, IntOp.cmpi .ne (BitVec.ofNat 32 i.val) (BitVec.ofNat 32 j.val) = BitVec.ofBool (decide (i ≠ j)) := by
    decide +kernel
  have := this ⟨a, ha⟩ ⟨b, hb⟩
  simpa using this
theorem bit_and (a b : Bool) : IntOp.andi (BitVec.ofBool a) (BitVec.ofBool b) = BitVec.ofBool (a && b) := by
  revert a b; decide
theorem select_bit {α : Type} (b : Bool) (x y : α) : Scalar.select (BitVec.ofBool b) x y = if b then x else y := by
  cases b <;> rfl

theorem blk_at (n : BitVec 32) (s : ℕ) (h : Word n s) (i j : Fin 128) :
    blkI n (ix2 i j) = BitVec.ofBool (decide (i.val / s = j.val / s)) := by
  show IntOp.cmpi .eq (fdivI rowI n (ix2 i j)) (fdivI colI n (ix2 i j)) = _
  rw [fdiv_row, fdiv_col, h, h]
  exact nat_eq_test (lt_of_le_of_lt (Nat.div_le_self _ _) i.isLt) (lt_of_le_of_lt (Nat.div_le_self _ _) j.isLt)
theorem off_at (n n2 : BitVec 32) (s : ℕ) (h : Word n s) (h2 : Word n2 (2 * s)) (i j : Fin 128) :
    offI n n2 (ix2 i j) = BitVec.ofBool (decide (i.val / (2 * s) = j.val / (2 * s) ∧ i.val / s ≠ j.val / s)) := by
  show IntOp.andi (blkI n2 (ix2 i j)) (IntOp.cmpi .ne (fdivI rowI n (ix2 i j)) (fdivI colI n (ix2 i j))) = _
  rw [fdiv_row, fdiv_col, h, h, blk_at n2 (2 * s) h2,
    nat_ne_test (lt_of_le_of_lt (Nat.div_le_self _ _) i.isLt) (lt_of_le_of_lt (Nat.div_le_self _ _) j.isLt), bit_and,
    Bool.decide_and]

theorem diag_up (n : BitVec 32) (s : ℕ) (h : Word n s) : select (blkI n) (up A) (zeroV : FVec Ideal S128x128 .f32) =
    up (Gdn.diagPart s A) := by
  funext j; idx_vars j
  show Scalar.select (blkI n (ix2 j0 j1)) (up A (ix2 j0 j1)) (zeroV (F := Ideal) (ix2 j0 j1)) = _
  rw [zeroV_eq, blk_at n s h, select_bit]
  unfold up Gdn.diagPart
  by_cases hh : j0.val / s = j1.val / s <;> simp [hh, ix2] <;> rfl
theorem off_up (n n2 : BitVec 32) (s : ℕ) (h : Word n s) (h2 : Word n2 (2 * s)) :
    select (offI n n2) (up A) (zeroV : FVec Ideal S128x128 .f32) = up (Gdn.offPart s A) := by
  funext j; idx_vars j
  show Scalar.select (offI n n2 (ix2 j0 j1)) (up A (ix2 j0 j1)) (zeroV (F := Ideal) (ix2 j0 j1)) = _
  rw [zeroV_eq, off_at n n2 s h h2, select_bit]
  unfold up Gdn.offPart
  by_cases hh : j0.val / (2 * s) = j1.val / (2 * s) ∧ j0.val / s ≠ j1.val / s
  · simp [hh, ix2]
  · rw [if_neg (by simpa using hh)]
    simp [hh, ix2]; rfl

/-! ## The inverse -/

theorem neumann_up (X : M128) : neumannV (F := Ideal) (up X) = up (Gdn.neumann X) := by
  unfold neumannV
  dsimp only
  rw [eyeV_eq, addf_up, trV_up X, mmV_up, trV_up (1 + X), trV_up (X * X), side_up, mm2V_up, right_up, left_up, right_side,
    left_side, addf_up, trV_up, trV_up, side_up, mm2V_up, right_up, left_up, right_side, left_side, addf_up, trV_up, trV_up,
    mmV_up, addf_up]
  rfl

theorem double_up (n n2 : BitVec 32) (s : ℕ) (h : Word n s) (h2 : Word n2 (2 * s)) (T : M128) :
    doubleV (F := Ideal) n n2 (up A) (up T) = up (Gdn.double s A T) := by
  unfold doubleV
  rw [off_up A n n2 s h h2, trV_up, trV_up, mmV_up, trV_up, mmV_up, subf_up]
  rfl

theorem refine_up (T : M128) : refineV (F := Ideal) (up A) (up T) = up (T + T * (1 - (1 + A) * T)) := by
  unfold refineV
  dsimp only
  rw [eyeV_eq]
  simp only [addf_up, subf_up, trV_up, exV_up, mmV_up, sub_self]
  refine up_congr fun i j => ?_
  simp

theorem inverse_up : inverseV (F := Ideal) (up A) = up (Gdn.inverse A) := by
  unfold inverseV
  rw [zeroV_eq, subf_up, zero_sub, ← zeroV_eq, diag_up (-A) 16#32 16 fdivS_16, neumann_up,
    double_up A 16#32 32#32 16 fdivS_16 fdivS_32, double_up A 32#32 64#32 32 fdivS_32 fdivS_64,
    double_up A 64#32 128#32 64 fdivS_64 fdivS_128, refine_up]
  rfl

end

end Cert.KernelIdeal.Hand
-- ==== Proof.Gdn.Chunk.lean ====
module

public import Mathlib.Data.Matrix.Mul
public import Mathlib.Analysis.SpecialFunctions.Exp
public import Mathlib.Tactic.Ring
public import Mathlib.Tactic.LinearCombination
public import Mathlib.Algebra.BigOperators.Fin

/-!
# The gated delta rule, token by token and by chunks

The recurrence carries a state of 128 × 128 numbers. Token `n` scales the state by `exp (g n)` and adds
`k n ⊗ d n`, where `d n = β n (v n - exp (g n) k nᵀ S)`; it emits `q nᵀ S`. A chunk of tokens reaches the same state and
the same outputs from one triangular system, and this file proves it, for chunks of any length.
-/

@[expose] public section

noncomputable section

namespace Gdn

/-- The state the first `n` tokens leave. -/
def tokState (k v : ℕ → Fin 128 → ℝ) (g β : ℕ → ℝ) : ℕ → Fin 128 → Fin 128 → ℝ
  | 0 => fun _ _ => 0
  | n + 1 => fun a b => Real.exp (g n) * tokState k v g β n a b
      + k n a * (β n * (v n b - Real.exp (g n) * ∑ c, k n c * tokState k v g β n c b))

/-- What token `n` emits. -/
def tokOut (q k v : ℕ → Fin 128 → ℝ) (g β : ℕ → ℝ) (n : ℕ) (b : Fin 128) : ℝ :=
  ∑ a, q n a * tokState k v g β (n + 1) a b

/-- The sum of the first `n` log-decays of the chunk that begins at token `t`. -/
def cum (g : ℕ → ℝ) (t n : ℕ) : ℝ := ∑ j ∈ Finset.range n, g (t + j)

theorem cum_succ (g : ℕ → ℝ) (t n : ℕ) : cum g t (n + 1) = cum g t n + g (t + n) := Finset.sum_range_succ _ _

section

variable (q k v : ℕ → Fin 128 → ℝ) (g β : ℕ → ℝ) (t C : ℕ) (d : ℕ → Fin 128 → ℝ)

/-- The triangular system of a chunk, entry by entry: `d` holds the rows a token adds to the state. -/
def Solves : Prop := ∀ i, i < C → ∀ b,
  d i b = β (t + i) * (v (t + i) b - Real.exp (cum g t (i + 1)) * ∑ a, k (t + i) a * tokState k v g β t a b
    - ∑ j ∈ Finset.range i, (∑ a, k (t + i) a * k (t + j) a)
        * Real.exp (cum g t (i + 1) - cum g t (j + 1)) * d j b)

/-- The state inside the chunk, in the chunk's terms. -/
theorem chunk_state (h : Solves k v g β t C d) (n : ℕ) (hn : n ≤ C) (a b : Fin 128) :
    tokState k v g β (t + n) a b = Real.exp (cum g t n) * tokState k v g β t a b
      + ∑ j ∈ Finset.range n, Real.exp (cum g t n - cum g t (j + 1)) * (k (t + j) a * d j b) := by
  induction n generalizing a b with
  | zero => simp [cum]
  | succ n ih =>
    have ih' := ih (by omega)
    have hd := h n (by omega) b
    have e1 : ∀ a', Real.exp (g (t + n)) * tokState k v g β (t + n) a' b
        = Real.exp (cum g t (n + 1)) * tokState k v g β t a' b
          + ∑ j ∈ Finset.range n, Real.exp (cum g t (n + 1) - cum g t (j + 1)) * (k (t + j) a' * d j b) := by
      intro a'
      rw [ih' a' b, mul_add, ← mul_assoc, ← Real.exp_add, Finset.mul_sum]
      congr 1
      · rw [cum_succ, add_comm (g _)]
      · refine Finset.sum_congr rfl fun j _ => ?_
        rw [← mul_assoc, ← Real.exp_add, cum_succ g t n]
        congr 2; ring
    have e2 : Real.exp (g (t + n)) * ∑ c, k (t + n) c * tokState k v g β (t + n) c b
        = Real.exp (cum g t (n + 1)) * ∑ a, k (t + n) a * tokState k v g β t a b
          + ∑ j ∈ Finset.range n, (∑ a, k (t + n) a * k (t + j) a)
            * Real.exp (cum g t (n + 1) - cum g t (j + 1)) * d j b := by
      rw [Finset.mul_sum, Finset.mul_sum]
      have : ∀ c, Real.exp (g (t + n)) * (k (t + n) c * tokState k v g β (t + n) c b)
          = Real.exp (cum g t (n + 1)) * (k (t + n) c * tokState k v g β t c b)
            + ∑ j ∈ Finset.range n, k (t + n) c * k (t + j) c
              * Real.exp (cum g t (n + 1) - cum g t (j + 1)) * d j b := by
        intro c
        rw [mul_left_comm, e1 c, mul_add, Finset.mul_sum]
        congr 1
        · ring
        · refine Finset.sum_congr rfl fun j _ => ?_
          ring
      rw [Finset.sum_congr rfl fun c _ => this c, Finset.sum_add_distrib, Finset.sum_comm]
      congr 1
      refine Finset.sum_congr rfl fun j _ => ?_
      rw [Finset.sum_mul, Finset.sum_mul]
    have e3 : tokState k v g β (t + (n + 1)) a b
        = Real.exp (g (t + n)) * tokState k v g β (t + n) a b + k (t + n) a * d n b := by
      rw [← add_assoc, tokState, hd]
      beta_reduce
      rw [e2]
      ring
    rw [e3, e1 a, Finset.sum_range_succ, sub_self, Real.exp_zero, one_mul]
    ring

/-- The outputs of the chunk, in the chunk's terms. -/
theorem chunk_out (h : Solves k v g β t C d) (i : ℕ) (hi : i < C) (b : Fin 128) :
    tokOut q k v g β (t + i) b = Real.exp (cum g t (i + 1)) * (∑ a, q (t + i) a * tokState k v g β t a b)
      + ∑ j ∈ Finset.range (i + 1), (∑ a, q (t + i) a * k (t + j) a)
          * Real.exp (cum g t (i + 1) - cum g t (j + 1)) * d j b := by
  rw [tokOut]
  have e : ∀ a, q (t + i) a * tokState k v g β (t + i + 1) a b
      = Real.exp (cum g t (i + 1)) * (q (t + i) a * tokState k v g β t a b)
        + ∑ j ∈ Finset.range (i + 1), q (t + i) a * k (t + j) a
            * Real.exp (cum g t (i + 1) - cum g t (j + 1)) * d j b := by
    intro a
    rw [add_assoc, chunk_state k v g β t C d h (i + 1) (by omega) a b, mul_add, Finset.mul_sum]
    congr 1
    · ring
    · refine Finset.sum_congr rfl fun j _ => ?_
      ring
  rw [Finset.sum_congr rfl fun a _ => e a, Finset.sum_add_distrib, Finset.sum_comm, Finset.mul_sum]
  congr 1
  refine Finset.sum_congr rfl fun j _ => ?_
  rw [Finset.sum_mul, Finset.sum_mul]

end

end Gdn
-- ==== Proof.Gdn.RealHead.lean ====
module

public import proofs.«01_k».proof.Proof.Gdn.RealOps
public import proofs.«01_k».proof.Proof.Gdn.Chunk

/-!
# One head of one chunk on real matrices
-/

@[expose] public section

set_option maxRecDepth 16384

noncomputable section

namespace Cert.KernelIdeal.Hand

open Cert.KernelIdeal Cert.KernelIdeal.Gen Idealize.ShloMosaic Idealize.ShloMosaic.TcCoe Idealize.SL.Sem
open Gdn (M128)

/-- A column and a row. -/
def colR (g : Fin 128 → ℝ) : Matrix (Fin 128) (Fin 1) ℝ := Matrix.of fun i _ => g i
def rowR (g : Fin 128 → ℝ) : Matrix (Fin 1) (Fin 128) ℝ := Matrix.of fun _ j => g j

section

variable (A B K Q V S : M128) (g b : Fin 128 → ℝ)

theorem exp_col : exp (F := Ideal) (s := S128x1) (φ := .f32) (up (colR g)) = up (colR fun i => Real.exp (g i)) := by
  funext j; exact Ideal.exp_coe _
theorem exp_up {n m : ℕ} (A : Matrix (Fin n) (Fin m) ℝ) :
    exp (F := Ideal) (s := ⟨2, ![n, m]⟩) (φ := .f32) (up A) = up (Matrix.of fun i j => Real.exp (A i j)) := by
  funext j; exact Ideal.exp_coe _
theorem tanh_up {n m : ℕ} (A : Matrix (Fin n) (Fin m) ℝ) :
    tanh (F := Ideal) (s := ⟨2, ![n, m]⟩) (φ := .f32) (up A) = up (Matrix.of fun i j => Real.tanh (A i j)) := by
  funext j; exact Ideal.tanh_coe _
theorem rsqrt_pos {r : ℝ} (h : 0 < r) : Ideal.rsqrt (r : EReal) = ((Real.sqrt r)⁻¹ : ℝ) := by
  rw [Ideal.rsqrt_coe, if_neg (not_lt.mpr h.le), if_neg h.ne']
theorem rsqrt_up {n m : ℕ} (A : Matrix (Fin n) (Fin m) ℝ) (h : ∀ i j, 0 < A i j) :
    rsqrt (F := Ideal) (s := ⟨2, ![n, m]⟩) (φ := .f32) (up A) = up (Matrix.of fun i j => (Real.sqrt (A i j))⁻¹) := by
  funext j; exact rsqrt_pos (h _ _)
theorem addf_up' {n m : ℕ} (A B : Matrix (Fin n) (Fin m) ℝ) :
    addf (F := Ideal) (s := ⟨2, ![n, m]⟩) (φ := .f32) (up A) (up B) = up (A + B) := by
  funext j; show ((_ : ℝ) : EReal) + ((_ : ℝ) : EReal) = _; rw [← EReal.coe_add]; rfl
theorem subf_up' {n m : ℕ} (A B : Matrix (Fin n) (Fin m) ℝ) :
    subf (F := Ideal) (s := ⟨2, ![n, m]⟩) (φ := .f32) (up A) (up B) = up (A - B) := by
  funext j; show ((_ : ℝ) : EReal) - ((_ : ℝ) : EReal) = _; rw [← EReal.coe_sub]; rfl
theorem mulf_up' {n m : ℕ} (A B : Matrix (Fin n) (Fin m) ℝ) :
    mulf (F := Ideal) (s := ⟨2, ![n, m]⟩) (φ := .f32) (up A) (up B) = up (Matrix.of fun i j => A i j * B i j) := by
  funext j; show ((_ : ℝ) : EReal) * ((_ : ℝ) : EReal) = _; rw [← EReal.coe_mul]; rfl
theorem divf_up' {n m : ℕ} (A B : Matrix (Fin n) (Fin m) ℝ) (h : ∀ i j, B i j ≠ 0) :
    divf (F := Ideal) (s := ⟨2, ![n, m]⟩) (φ := .f32) (up A) (up B) = up (Matrix.of fun i j => A i j / B i j) := by
  funext j
  show Ideal.div ((_ : ℝ) : EReal) ((_ : ℝ) : EReal) = _
  exact (Ideal.div_coe (h (j 0) (j 1)) _).trans ((EReal.coe_mul _ _).symm.trans (congrArg _ (mul_one_div _ _)))
theorem const_up {n m : ℕ} (w : BitVec 32) (r : ℝ) (h : Ideal.ofBits .f32 w = ((r : ℝ) : EReal)) :
    broadcast (α := Ideal .f32) ⟨2, ![n, m]⟩ (Scalar.ofBits (F := Ideal) .f32 w) = up (Matrix.of fun (_ : Fin n) (_ : Fin m) => r) := by
  funext j; exact h

/-- The reciprocal of a row's length. -/
def lenR (A : M128) (i : Fin 128) : ℝ := (Real.sqrt (∑ l, A i l * A i l + epsR))⁻¹

theorem len_pos (A : M128) (i : Fin 128) : 0 < ∑ l, A i l * A i l + epsR :=
  add_pos_of_nonneg_of_pos (Finset.sum_nonneg fun l _ => mul_self_nonneg _) eps_pos

theorem len_up : lenV (F := Ideal) (up A) = up (Matrix.of fun i (_ : Fin 128) => lenR A i) := by
  unfold lenV
  rw [mulf_up, rowSum_up, const_up (n := 128) (m := 1) _ _ word_eps, addf_up']
  refine (congrArg colV (rsqrt_up _ (fun i j => len_pos A i))).trans ?_
  rw [col_up]
  rfl
theorem key_up : keyV (F := Ideal) (up A) = up (Matrix.of fun i j => A i j * lenR A i) := by
  unfold keyV
  rw [len_up, mulf_up]; rfl
theorem query_up : queryV (F := Ideal) (up A) = up (Matrix.of fun i j => A i j * lenR A i * scaleR) := by
  unfold queryV
  rw [len_up, mulf_up, const_up (n := 128) (m := 128) _ _ word_scale, mulf_up]; rfl

/-- A lane of a gate. -/
theorem laneCol_up (l : Fin 128) : laneColV (F := Ideal) (up A) (BitVec.ofNat 32 l.val) = up (colR fun i => A i l) := by
  unfold laneColV
  have : select (cmpi .eq colI (broadcast S128x128 (BitVec.ofNat 32 l.val))) (up A) (zeroV (F := Ideal)) =
      up (Matrix.of fun i j => if j = l then A i j else 0) := by
    funext j; idx_vars j
    unfold colI
    pointwise
    rw [eq_test, select_bit, zeroV_eq]
    unfold up
    by_cases h : j1 = l <;> simp [h, ix2] <;> rfl
  rw [this, rowSum_up]
  refine up_congr fun i j => ?_
  simp [colR]
theorem laneRow_up (l : Fin 128) : laneRowV (F := Ideal) (up A) (BitVec.ofNat 32 l.val) = up (rowR fun i => A l i) := by
  unfold laneRowV
  have : select (cmpi .eq rowI (broadcast S128x128 (BitVec.ofNat 32 l.val))) (up A) (zeroV (F := Ideal)) =
      up (Matrix.of fun i j => if i = l then A i j else 0) := by
    funext j; idx_vars j
    unfold rowI
    pointwise
    rw [eq_test, select_bit, zeroV_eq]
    unfold up
    by_cases h : j0 = l <;> simp [h, ix2] <;> rfl
  rw [this, colSum_up]
  refine up_congr fun i j => ?_
  simp [rowR]

/-- The decay from one token of the chunk to another. -/
def gammaR (g : Fin 128 → ℝ) : M128 := fun i j => if j ≤ i then Real.exp (g i - g j) else 0

theorem gamma_up : gammaV (F := Ideal) (up (colR g)) (up (rowR g)) = up (gammaR g) := by
  unfold gammaV
  rw [col_up, row_up, subf_up]
  funext j; idx_vars j
  unfold rowI colI
  pointwise
  rw [ge_test, select_bit, up_apply, up_apply]
  unfold gammaR
  by_cases h : j1 ≤ j0
  · simp only [h, decide_true, if_true]
    exact Ideal.exp_coe _
  · simp only [h, decide_false, if_false]
    have : Named.named (F := Ideal) (φ := .f32) κ "mask" 0xF149F2CA#32 = (⊥ : EReal) := IdealRules.named_const.ideal_named_scalar _ _ _ _ rfl
    rw [this]
    exact Ideal.exp_bot

theorem sum_upT {n p m : ℕ} (A : Matrix (Fin n) (Fin p) ℝ) (B : Matrix (Fin m) (Fin p) ℝ) (i : Fin n) (j : Fin m) :
    ∑ x, up A (ix2 i x) * up B (ix2 j x) = up (A * B.transpose) (ix2 i j) := by
  simp only [up_apply, Matrix.mul_apply, coe_sum, EReal.coe_mul, Matrix.transpose_apply]

theorem kkqk_up : kkqkV (F := Ideal) (up B) (up Q) (up K) = up (stackR B Q * K.transpose) := by
  unfold kkqkV
  rw [stack_up, trV_up3, trV_up]
  funext j; idx_vars j
  pointwise
  exact sum_upT _ _ _ _

/-- The strictly lower triangular matrix of a chunk. -/
def amatR (K : M128) (b g : Fin 128 → ℝ) : M128 :=
  Matrix.of fun i j => if j < i then ((Matrix.of fun i j => K i j * b i : M128) * K.transpose) i j * gammaR g i j else 0

theorem amat_up : amatV (F := Ideal) (up (stackR (Matrix.of fun i j => K i j * b i) Q * K.transpose)) (up (gammaR g)) =
    up (amatR K b g) := by
  unfold amatV
  rw [upper_up, upper_stack, mulf_up]
  funext j; idx_vars j
  unfold rowI colI
  pointwise
  rw [gt_test, select_bit, up_apply, up_apply, zeroV_eq]
  unfold amatR
  by_cases h : j1 < j0
  · simp only [h, decide_true, if_true]; simp [h]
  · simp only [h, decide_false]; simp [h]; rfl

theorem colb_up : colV (F := Ideal) (up (colR b)) = up (Matrix.of fun i (_ : Fin 128) => b i) := by
  rw [col_up]; rfl

theorem uw_up (T : M128) : uwV (F := Ideal) (up T) (up V) (up B) (up (colR b)) (up (colR g)) =
    up (T * sideR (Matrix.of fun i j => V i j * b i) (Matrix.of fun i j => B i j * Real.exp (g i))) := by
  unfold uwV
  rw [exp_col, colb_up, colb_up, mulf_up, mulf_up, side_up, trV_up2, trV_up, mm2V_up]
  rfl

theorem wsqs_up (X : Matrix (Fin 128) (Fin 256) ℝ) : wsqsV (F := Ideal) (up X) (up Q) (up (colR g)) (up S) =
    up (stackR (rightR X) (Matrix.of fun i j => Q i j * Real.exp (g i)) * S) := by
  unfold wsqsV
  rw [exp_col, colb_up, mulf_up, right_up, stack_up, trV_up3, trV_up]
  funext j; idx_vars j
  pointwise
  exact sum_up _ _ _ _

theorem vnew_up (X : Matrix (Fin 128) (Fin 256) ℝ) (Y : Matrix (Fin 256) (Fin 128) ℝ) :
    vnewV (F := Ideal) (up X) (up Y) = up (leftR X - upperR Y) := by
  unfold vnewV
  rw [left_up, upper_up, subf_up, trV_up]

theorem out_up (Y Z : Matrix (Fin 256) (Fin 128) ℝ) (G N : M128) : outV (F := Ideal) (up Y) (up Z) (up G) (up N) =
    up (lowerR Y + (Matrix.of fun i j => lowerR Z i j * G i j) * N) := by
  unfold outV
  rw [lower_up, lower_up, mulf_up, trV_up, mmV_up, addf_up]

theorem next_up (N : M128) : nextV (F := Ideal) (up S) (up K) (up (colR g)) (up (rowR g)) (up N) =
    up ((Matrix.of fun i j => S i j * Real.exp (g 127))
      + (Matrix.of fun i j => K i j * Real.exp (g 127 - g i) : M128).transpose * N) := by
  unfold nextV
  dsimp only
  have e : extractStridedSlice S1x1 ![0, 127] (up (rowR g)) slices_S1x128_o0_127_S1x1 =
      up (Matrix.of fun (_ _ : Fin 1) => g 127) := by
    funext j; idx_vars j; pointwise; rfl
  rw [e, exp_up]
  have e1 : broadcastTo S128x128 (up (Matrix.of fun (i j : Fin 1) => Real.exp ((Matrix.of fun (_ _ : Fin 1) => g 127) i j)))
      broadcasts_S1x1_S128x128 = up (Matrix.of fun (_ _ : Fin 128) => Real.exp (g 127)) := by
    funext j; idx_vars j; pointwise; rfl
  have e2 : broadcastTo S128x1 (up (Matrix.of fun (_ _ : Fin 1) => g 127)) broadcasts_S1x1_S128x1 =
      up (colR fun _ => g 127) := by
    funext j; idx_vars j; pointwise; rfl
  rw [e1, e2, subf_up', mulf_up]
  have e3 : (colR (fun _ => g 127) - colR g) = colR (fun i => g 127 - g i) := by
    funext i j; rfl
  rw [e3, exp_col, colb_up, mulf_up, trV_up]
  have e4 : matmul (F := Ideal) (φ₁ := .bf16) (φ₂ := .bf16) dot_S128x128_S128x128_S128x128_0_0_1_1_n_n none
      (up (Matrix.of fun i j => K i j * (Matrix.of fun i (_ : Fin 128) => Real.exp (g 127 - g i)) i j)) (up N)
      (constant S128x128 .f32 0x00000000#32) =
      (up ((Matrix.of fun i j => K i j * Real.exp (g 127 - g i) : M128).transpose * N) : FVec Ideal S128x128 .f32) := by
    funext j; idx_vars j
    pointwise
    simp only [up_apply, Matrix.mul_apply, coe_sum, EReal.coe_mul, Matrix.transpose_apply]
    rfl
  rw [e4, addf_up]
  rfl

end

/-! ## The head -/

/-- The head's own lanes. -/
def lanesR (h : Fin 16) (X : Matrix (Fin 128) (Fin 2048) ℝ) : M128 := Matrix.of fun i j => X i ⟨128 * h.val + j.val, by omega⟩

theorem lanes_up (h : Fin 16) (X : Matrix (Fin 128) (Fin 2048) ℝ) :
    lanesV (F := Ideal) ![0, 128 * h.val] (headSlice h) (up X) = up (lanesR h X) := by
  funext j; idx_vars j; unfold lanesV; pointwise
  rfl

/-- The chunk's numbers of one head. -/
structure ChunkR where
  (K Q V S : M128)
  (b g : Fin 128 → ℝ)

namespace ChunkR

variable (c : ChunkR)

def kb : M128 := Matrix.of fun i j => c.K i j * c.b i
def T : M128 := Gdn.inverse (amatR c.K c.b c.g)
def u : M128 := c.T * Matrix.of fun i j => c.V i j * c.b i
def w : M128 := c.T * Matrix.of fun i j => c.kb i j * Real.exp (c.g i)
def vn : M128 := c.u - c.w * c.S
def out : M128 := (Matrix.of fun i j => c.Q i j * Real.exp (c.g i)) * c.S
  + (Matrix.of fun i j => (c.Q * c.K.transpose) i j * gammaR c.g i j) * c.vn
def next : M128 := (Matrix.of fun i j => c.S i j * Real.exp (c.g 127))
  + (Matrix.of fun i j => c.K i j * Real.exp (c.g 127 - c.g i) : M128).transpose * c.vn

end ChunkR

section

variable (h : Fin 16) (hv : BitVec 32) (qc kc vc : Matrix (Fin 128) (Fin 2048) ℝ) (gc gct beta S : M128)

/-- The head's chunk. -/
def headChunk : ChunkR where
  K := Matrix.of fun i j => lanesR h kc i j * lenR (lanesR h kc) i
  Q := Matrix.of fun i j => lanesR h qc i j * lenR (lanesR h qc) i * scaleR
  V := lanesR h vc
  S := S
  b := fun i => beta i ⟨48 + h.val, by omega⟩
  g := fun i => gc i ⟨64 + h.val, by omega⟩

variable (hb : Scalar.addi 48#32 hv = BitVec.ofNat 32 (48 + h.val)) (hg : Scalar.addi 64#32 hv = BitVec.ofNat 32 (64 + h.val))
variable (hgt : ∀ i j, gct i j = gc j i)

include hb hg hgt

theorem headUW_up : headUW (F := Ideal) ![0, 128 * h.val] (headSlice h) hv (up qc) (up kc) (up vc) (up gc) (up gct) (up beta) =
    up ((headChunk h qc kc vc gc beta S).T * sideR (Matrix.of fun i j => (headChunk h qc kc vc gc beta S).V i j * (headChunk h qc kc vc gc beta S).b i)
      (Matrix.of fun i j => (headChunk h qc kc vc gc beta S).kb i j * Real.exp ((headChunk h qc kc vc gc beta S).g i))) := by
  unfold headUW
  dsimp only
  rw [hb, hg, lanes_up, lanes_up, lanes_up, key_up, query_up, laneCol_up beta ⟨48 + h.val, by omega⟩,
    laneCol_up gc ⟨64 + h.val, by omega⟩, laneRow_up gct ⟨64 + h.val, by omega⟩]
  have e : (rowR fun i => gct ⟨64 + h.val, by omega⟩ i) = rowR fun i => gc i ⟨64 + h.val, by omega⟩ := by
    congr 1; funext i; exact hgt _ _
  rw [e, colb_up, mulf_up, gamma_up]
  refine (congrArg (fun x => uwV (inverseV (amatV x _)) _ _ _ _) (kkqk_up _ _ _)).trans ?_
  have e2 : (Matrix.of fun i j => (Matrix.of fun i j => lanesR h kc i j * lenR (lanesR h kc) i : M128) i j *
      (Matrix.of fun i (_ : Fin 128) => beta i ⟨48 + h.val, by omega⟩ : M128) i j) = (headChunk h qc kc vc gc beta S).kb := rfl
  rw [e2]
  refine (congrArg (fun x => uwV (inverseV x) _ _ _ _)
    (amat_up (headChunk h qc kc vc gc beta S).K _ (headChunk h qc kc vc gc beta S).g (headChunk h qc kc vc gc beta S).b)).trans ?_
  rw [inverse_up]
  exact uw_up _ _ _ _ _

theorem headWS_up : headWS (F := Ideal) ![0, 128 * h.val] (headSlice h) hv (up qc) (up kc) (up vc) (up gc) (up gct) (up beta) (up S) =
    up (stackR (headChunk h qc kc vc gc beta S).w (Matrix.of fun i j => (headChunk h qc kc vc gc beta S).Q i j *
      Real.exp ((headChunk h qc kc vc gc beta S).g i)) * S) := by
  unfold headWS
  rw [headUW_up h hv qc kc vc gc gct beta S hb hg hgt, hg, lanes_up, query_up, laneCol_up gc ⟨64 + h.val, by omega⟩]
  refine (wsqs_up _ _ _ _).trans ?_
  rw [right_side]
  rfl

theorem headVN_up : headVN (F := Ideal) ![0, 128 * h.val] (headSlice h) hv (up qc) (up kc) (up vc) (up gc) (up gct) (up beta) (up S) =
    up (headChunk h qc kc vc gc beta S).vn := by
  unfold headVN
  rw [headUW_up h hv qc kc vc gc gct beta S hb hg hgt, headWS_up h hv qc kc vc gc gct beta S hb hg hgt, vnew_up, left_side, upper_stack]
  rfl

theorem row_eq : (rowR fun i => gct ⟨64 + h.val, by omega⟩ i) = rowR fun i => gc i ⟨64 + h.val, by omega⟩ := by
  congr 1; funext i; exact hgt _ _

theorem headState_up : headState (F := Ideal) ![0, 128 * h.val] (headSlice h) hv (up qc) (up kc) (up vc) (up gc) (up gct) (up beta) (up S) =
    up (headChunk h qc kc vc gc beta S).next := by
  unfold headState
  rw [headVN_up h hv qc kc vc gc gct beta S hb hg hgt, hg, lanes_up, key_up, laneCol_up gc ⟨64 + h.val, by omega⟩,
    laneRow_up gct ⟨64 + h.val, by omega⟩, row_eq h hv gc gct hb hg hgt]
  exact next_up _ _ _ _

theorem headOut_up : headOut (F := Ideal) ![0, 128 * h.val] (headSlice h) hv (up qc) (up kc) (up vc) (up gc) (up gct) (up beta) (up S) =
    up (headChunk h qc kc vc gc beta S).out := by
  unfold headOut
  dsimp only
  rw [headVN_up h hv qc kc vc gc gct beta S hb hg hgt, headWS_up h hv qc kc vc gc gct beta S hb hg hgt, hb, hg, lanes_up, lanes_up,
    key_up, query_up, laneCol_up beta ⟨48 + h.val, by omega⟩, laneCol_up gc ⟨64 + h.val, by omega⟩,
    laneRow_up gct ⟨64 + h.val, by omega⟩, row_eq h hv gc gct hb hg hgt, colb_up, mulf_up, gamma_up]
  refine (congrArg (fun x => outV _ x _ _) (kkqk_up _ _ _)).trans ?_
  refine (out_up _ _ _ _).trans ?_
  rw [lower_stack, lower_stack]
  rfl

end

/-! ## The gate -/

/-- A number's logistic. -/
def sigR (x : ℝ) : ℝ := (1 + Real.exp (-x))⁻¹

theorem sig_half (x : ℝ) : 1 / 2 * Real.tanh (1 / 2 * x) + 1 / 2 = sigR x := by
  unfold sigR
  rw [Real.tanh_eq_sinh_div_cosh, Real.sinh_eq, Real.cosh_eq]
  have h1 : Real.exp (1 / 2 * x) ≠ 0 := (Real.exp_pos _).ne'
  have h2 : Real.exp (-x) = Real.exp (-(1 / 2 * x)) * Real.exp (-(1 / 2 * x)) := by rw [← Real.exp_add]; congr 1; ring
  have h3 : Real.exp (-(1 / 2 * x)) = (Real.exp (1 / 2 * x))⁻¹ := Real.exp_neg _
  rw [h2, h3]
  have h4 : (0 : ℝ) < Real.exp (1 / 2 * x) := Real.exp_pos _
  field_simp
  ring

/-- A number times its logistic. -/
def siluR (x : ℝ) : ℝ := x * sigR x
theorem silu_half (x : ℝ) : 1 / 2 * x * Real.tanh (1 / 2 * x) + 1 / 2 * x = siluR x := by
  unfold siluR; rw [← sig_half]; ring

/-- The output's norm, gain and gate. -/
def gateR (o z : Fin 128 → ℝ) (og : Fin 128 → ℝ) (j : Fin 128) : ℝ :=
  o j * (Real.sqrt ((∑ l, o l * o l) / 128 + epsR))⁻¹ * og j * siluR (z j)

theorem gate_up (o z : M128) (og : Matrix (Fin 1) (Fin 128) ℝ) : gateV (F := Ideal) (up o) (up og) (up z) =
    up (Matrix.of fun i j => gateR (o i) (z i) (og 0) j) := by
  unfold gateV
  dsimp only
  rw [mulf_up, rowSum_up, const_up (n := 128) (m := 1) _ _ word_128, divf_up' _ _ (fun _ _ => by norm_num),
    const_up (n := 128) (m := 1) _ _ word_eps, addf_up', const_up (n := 128) (m := 128) _ _ word_half]
  have hp : ∀ i : Fin 128, 0 < (∑ l, o i l * o i l) / 128 + epsR := fun i =>
    add_pos_of_nonneg_of_pos (div_nonneg (Finset.sum_nonneg fun l _ => mul_self_nonneg _) (by norm_num)) eps_pos
  have e1 := rsqrt_up (n := 128) (m := 1) (Matrix.of fun i _ => (∑ l, o i l * o i l) / 128 + epsR) (fun i _ => hp i)
  refine (congrArg (fun x => trV (mulf (mulf (mulf (up o) (colV x)) _) _)) e1).trans ?_
  have e2 : shapeCast S1x128 (up og : FVec Ideal S1x128 .f32) shapeCasts_S1x128_S1x128 = up og := by
    funext j; idx_vars j; pointwise
  rw [e2, col_up, row_up, mulf_up, mulf_up, mulf_up]
  have e3 := tanh_up (n := 128) (m := 128) (Matrix.of fun i j => (Matrix.of fun _ _ => (1 / 2 : ℝ) : M128) i j * z i j)
  refine (congrArg (fun x => trV (mulf _ (addf (mulf _ x) _))) e3).trans ?_
  rw [mulf_up, addf_up, mulf_up, trV_up]
  refine up_congr fun i j => ?_
  show _ * _ * _ * (1 / 2 * z i j * Real.tanh (1 / 2 * z i j) + 1 / 2 * z i j) = _
  rw [silu_half]
  rfl

end Cert.KernelIdeal.Hand
-- ==== Proof.Gdn.RealChunk.lean ====
module

public import proofs.«01_k».proof.Proof.Gdn.RealHead

/-!
# A chunk of the kernel is the recurrence

With the inverse of the unit lower triangular matrix in hand, the rows a chunk adds to the state solve the chunk's
triangular system, so the state it leaves and the rows it emits are the recurrence's.
-/

@[expose] public section

set_option maxRecDepth 16384

noncomputable section

namespace Cert.KernelIdeal.Hand

open Gdn (M128)

/-- A sum over the first `n` of `C` numbers. -/
theorem sum_first {C : ℕ} (n : ℕ) (hn : n ≤ C) (F : ℕ → ℝ) :
    ∑ j ∈ Finset.range n, F j = ∑ j : Fin C, if j.val < n then F j.val else 0 := by
  rw [Fin.sum_univ_eq_sum_range (fun j => if j < n then F j else 0) C, ← Finset.sum_filter]
  congr 1
  ext j
  simp only [Finset.mem_range, Finset.mem_filter]
  omega

section

variable (c : ChunkR) (q k v : ℕ → Fin 128 → ℝ) (G β : ℕ → ℝ) (t : ℕ)
variable (hQ : ∀ i a, c.Q i a = q (t + i.val) a) (hK : ∀ i a, c.K i a = k (t + i.val) a) (hV : ∀ i a, c.V i a = v (t + i.val) a)
variable (hb : ∀ i, c.b i = β (t + i.val)) (hg : ∀ i, c.g i = Gdn.cum G t (i.val + 1))
variable (hS : ∀ a b, c.S a b = Gdn.tokState k v G β t a b)

/-- The rows a chunk adds to the state, by number. -/
def added (n : ℕ) (b : Fin 128) : ℝ := if h : n < 128 then c.vn ⟨n, h⟩ b else 0

theorem added_fin (i b : Fin 128) : added c i.val b = c.vn i b := by simp [added]

theorem amat_lower : Gdn.StrictLower (amatR c.K c.b c.g) := by
  intro i j h
  have : ¬ j < i := h
  simp [amatR, this]

theorem system : c.vn + amatR c.K c.b c.g * c.vn =
    (Matrix.of fun i j => c.V i j * c.b i) - (Matrix.of fun i j => c.kb i j * Real.exp (c.g i)) * c.S := by
  have h := Gdn.inverse_spec _ (amat_lower c)
  have e : c.vn = c.T * ((Matrix.of fun i j => c.V i j * c.b i) - (Matrix.of fun i j => c.kb i j * Real.exp (c.g i)) * c.S) := by
    unfold ChunkR.vn ChunkR.u ChunkR.w
    rw [Matrix.mul_sub, Matrix.mul_assoc]
  have e2 : c.vn + amatR c.K c.b c.g * c.vn = (1 + amatR c.K c.b c.g) * c.vn := by rw [Matrix.add_mul, Matrix.one_mul]
  rw [e2, e, ← Matrix.mul_assoc]
  unfold ChunkR.T
  rw [h, Matrix.one_mul]

include hQ hK hV hb hg hS

theorem solves : Gdn.Solves k v G β t 128 (added c) := by
  intro i hi b
  have h := congrFun (congrFun (system c) ⟨i, hi⟩) b
  rw [sum_first i hi.le]
  simp only [Matrix.add_apply, Matrix.sub_apply, Matrix.mul_apply, Matrix.of_apply, amatR, ChunkR.kb, gammaR,
    Matrix.transpose_apply, hK, hV, hb, hg, hS, ← added_fin c] at h
  have e1 : ∑ x : Fin 128, k (t + i) x * β (t + i) * Real.exp (Gdn.cum G t (i + 1)) * Gdn.tokState k v G β t x b =
      β (t + i) * (Real.exp (Gdn.cum G t (i + 1)) * ∑ a, k (t + i) a * Gdn.tokState k v G β t a b) := by
    rw [Finset.mul_sum, Finset.mul_sum]
    exact Finset.sum_congr rfl fun x _ => by ring
  have e2 : ∀ x : Fin 128, (if x < (⟨i, hi⟩ : Fin 128) then
      (∑ j, k (t + i) j * β (t + i) * k (t + x.val) j) *
        (if x ≤ (⟨i, hi⟩ : Fin 128) then Real.exp (Gdn.cum G t (i + 1) - Gdn.cum G t (x.val + 1)) else 0) else 0) * added c x.val b =
      β (t + i) * (if x.val < i then (∑ a, k (t + i) a * k (t + x.val) a) *
        Real.exp (Gdn.cum G t (i + 1) - Gdn.cum G t (x.val + 1)) * added c x.val b else 0) := by
    intro x
    by_cases hx : x.val < i
    · have hx1 : x < (⟨i, hi⟩ : Fin 128) := hx
      simp only [hx, hx1, hx1.le, if_true]
      have : ∑ j, k (t + i) j * β (t + i) * k (t + x.val) j = β (t + i) * ∑ a, k (t + i) a * k (t + x.val) a := by
        rw [Finset.mul_sum]; exact Finset.sum_congr rfl fun x _ => by ring
      rw [this]; ring
    · have hx1 : ¬ x < (⟨i, hi⟩ : Fin 128) := hx
      simp [hx, hx1]
  rw [e1, Finset.sum_congr rfl (fun x _ => e2 x), ← Finset.mul_sum] at h
  have h' : added c i b = _ := eq_sub_of_add_eq h
  rw [h']
  ring

theorem chunk_next (a b : Fin 128) : c.next a b = Gdn.tokState k v G β (t + 128) a b := by
  rw [Gdn.chunk_state k v G β t 128 (added c) (solves c q k v G β t hQ hK hV hb hg hS) 128 le_rfl a b,
    sum_first (C := 128) 128 le_rfl]
  unfold ChunkR.next
  simp only [Matrix.add_apply, Matrix.mul_apply, Matrix.of_apply, Matrix.transpose_apply, hK, hg, hS, ← added_fin c, Fin.isLt,
    if_true]
  congr 1
  · exact mul_comm _ _
  · exact Finset.sum_congr rfl fun x _ => by
      show _ * Real.exp (Gdn.cum G t (127 + 1) - _) * _ = _
      ring

theorem chunk_emit (i b : Fin 128) : c.out i b = Gdn.tokOut q k v G β (t + i.val) b := by
  rw [Gdn.chunk_out q k v G β t 128 (added c) (solves c q k v G β t hQ hK hV hb hg hS) i.val i.isLt b,
    sum_first (C := 128) (i.val + 1) i.isLt]
  unfold ChunkR.out
  simp only [Matrix.add_apply, Matrix.mul_apply, Matrix.of_apply, Matrix.transpose_apply, gammaR, hQ, hK, hg, hS, ← added_fin c]
  congr 1
  · rw [Finset.mul_sum]; exact Finset.sum_congr rfl fun x _ => by ring
  · refine Finset.sum_congr rfl fun x _ => ?_
    by_cases hx : x ≤ i
    · have hx1 : x.val < i.val + 1 := Nat.lt_succ_of_le hx
      simp [hx, hx1]
    · have hx1 : ¬ x.val < i.val + 1 := fun h => hx (Nat.le_of_lt_succ h)
      simp [hx, hx1]

end

end Cert.KernelIdeal.Hand
-- ==== Proof.Gdn.RealStep.lean ====
module

public import proofs.«01_k».proof.Proof.Gdn.Step
public import proofs.«01_k».proof.Proof.Gdn.RealChunk

/-!
# A chunk on real arguments

The convolution, the gates and the running sums of the decays on real matrices, and with them the whole step: on a chunk of
finite entries the kernel computes the heads' chunks of real numbers.
-/

@[expose] public section

set_option maxRecDepth 16384

noncomputable section

namespace Cert.KernelIdeal.Hand

open Cert.KernelIdeal Cert.KernelIdeal.Gen Idealize.ShloMosaic Idealize.ShloMosaic.TcCoe Idealize.SL.Sem
open Gdn (M128)

/-! ## The convolution -/

/-- The row that tap `k` reads. -/
def tapR (H : Fin 8 → Fin 2048 → ℝ) (X : Matrix (Fin 128) (Fin 2048) ℝ) (k : Fin 4) : Matrix (Fin 128) (Fin 2048) ℝ := Matrix.of fun i l =>
  if h : i.val + (5 + k.val) < 8 then H ⟨i.val + (5 + k.val), h⟩ l else X ⟨i.val + (5 + k.val) - 8, by omega⟩ l

/-- The convolution with its gate. -/
def projR (H : Fin 8 → Fin 2048 → ℝ) (X : Matrix (Fin 128) (Fin 2048) ℝ) (W : Matrix (Fin 4) (Fin 2048) ℝ) :
    Matrix (Fin 128) (Fin 2048) ℝ := Matrix.of fun i l =>
  siluR (W 0 l * tapR H X 0 i l + W 1 l * tapR H X 1 i l + W 2 l * tapR H X 2 i l + W 3 l * tapR H X 3 i l)

section

variable (H : Fin 8 → Fin 2048 → ℝ) (X : Matrix (Fin 128) (Fin 2048) ℝ) (W : Matrix (Fin 4) (Fin 2048) ℝ) (k : Fin 4)

theorem tap_up : tapV (F := Ideal) (fun r l => ((H r l : ℝ) : EReal)) (up X) k = up (tapR H X k) := by
  funext j; idx_vars j
  unfold tapV tapR
  simp only [up_apply, Matrix.of_apply]
  by_cases h : j0.val + (5 + k.val) < 8
  · rw [dif_pos h]; exact dif_pos h
  · rw [dif_neg h]; exact dif_neg h

theorem rowOf_up (i : Fin 128) (l : Fin 2048) :
    broadcastTo S128x2048 (rowOfV (F := Ideal) (up W) k) broadcasts_S1x2048_S128x2048 (ix2 i l) = ((W k l : ℝ) : EReal) := by
  pointwise; rfl

theorem proj_up : projV (F := Ideal) (fun r l => ((H r l : ℝ) : EReal)) (up X) (up W) = up (projR H X W) := by
  have hb : ∀ k, broadcastTo S128x2048 (rowOfV (F := Ideal) (up W) k) broadcasts_S1x2048_S128x2048 =
      up (Matrix.of fun (_ : Fin 128) l => W k l) := fun k => by
    funext j; idx_vars j; exact rowOf_up W k _ _
  unfold projV convV
  dsimp only
  simp only [tap_up, hb]
  rw [const_up (n := 128) (m := 2048) _ _ word_half, const_up (n := 128) (m := 2048) _ _ word_zero]
  rw [mulf_up', mulf_up', mulf_up', mulf_up', addf_up', addf_up', addf_up', addf_up', mulf_up']
  refine (congrArg (fun x => addf (mulf _ x) _) (tanh_up _)).trans ?_
  rw [mulf_up', addf_up']
  refine up_congr fun i l => ?_
  show 1 / 2 * (0 + _ + _ + _ + _) * Real.tanh (1 / 2 * (0 + _ + _ + _ + _)) + 1 / 2 * (0 + _ + _ + _ + _) = _
  rw [silu_half, zero_add]
  rfl

end

/-! ## The gates -/

/-- The logarithm of one plus an exponential. -/
def softR (y : ℝ) : ℝ := max y 0 + Real.log (1 + Real.exp (-|y|))

/-- The logarithm of a decay. -/
def decayR (al dt x : ℝ) : ℝ := -(Real.exp al * softR (x + dt))

section

variable (X G : M128) (al dt : Matrix (Fin 1) (Fin 128) ℝ)

theorem beta_up : betaV (F := Ideal) (up X) = up (Matrix.of fun i j => sigR (X i j)) := by
  unfold betaV
  dsimp only
  rw [const_up (n := 128) (m := 128) _ _ word_half, mulf_up]
  refine (congrArg (fun x => addf (mulf _ x) _) (tanh_up _)).trans ?_
  rw [mulf_up, addf_up]
  refine up_congr fun i l => ?_
  show 1 / 2 * Real.tanh (1 / 2 * _) + 1 / 2 = _
  rw [sig_half]; rfl

theorem cast_row (A : Matrix (Fin 1) (Fin 128) ℝ) : shapeCast S1x128 (up A : FVec Ideal S1x128 .f32) shapeCasts_S1x128_S1x128 = up A := by
  funext j; idx_vars j; pointwise

theorem soft_pos (y : ℝ) : (1 : EReal) + ((Real.exp (-|y|) : ℝ) : EReal) = ((1 + Real.exp (-|y|) : ℝ) : EReal) := by
  rw [EReal.coe_add, EReal.coe_one]

theorem log1p_coe (y : ℝ) : Ideal.log1p ((Real.exp (-|y|) : ℝ) : EReal) = ((Real.log (1 + Real.exp (-|y|)) : ℝ) : EReal) := by
  unfold Ideal.log1p
  rw [soft_pos, Ideal.log_coe, if_neg (not_le.mpr (by have := Real.exp_pos (-|y|); linarith))]

theorem soft_up (Y : M128) : addf (F := Ideal) (s := S128x128) (φ := .f32) (maximumf (up Y) (up (Matrix.of fun (_ : Fin 128) (_ : Fin 128) => (0 : ℝ))))
    (log1p (exp (subf (up (Matrix.of fun (_ : Fin 128) (_ : Fin 128) => (0 : ℝ))) (absf (up Y))))) =
    up (Matrix.of fun i j => softR (Y i j)) := by
  funext j
  show max ((Y (j 0) (j 1) : ℝ) : EReal) ((0 : ℝ) : EReal) + Ideal.log1p (Ideal.exp (((0 : ℝ) : EReal) -
    max ((Y (j 0) (j 1) : ℝ) : EReal) (-((Y (j 0) (j 1) : ℝ) : EReal)))) = ((softR (Y (j 0) (j 1)) : ℝ) : EReal)
  rw [← EReal.coe_neg, ← EReal.coe_strictMono.monotone.map_max, ← EReal.coe_strictMono.monotone.map_max, ← EReal.coe_sub,
    Ideal.exp_coe, zero_sub]
  exact (congrArg _ (log1p_coe _)).trans (EReal.coe_add _ _).symm

theorem decay_up : decayV (F := Ideal) (up X) (up al) (up dt) = up (Matrix.of fun i j => decayR (al 0 j) (dt 0 j) (X i j)) := by
  unfold decayV
  dsimp only
  rw [cast_row, cast_row, const_up (n := 128) (m := 128) _ _ word_zero, row_up, addf_up]
  refine (congrArg (fun x => subf _ (mulf _ x)) (soft_up _)).trans ?_
  refine (congrArg (fun x => subf _ (mulf (rowV x) _)) (exp_up _)).trans ?_
  rw [row_up, mulf_up, subf_up]
  refine up_congr fun i j => ?_
  exact zero_sub _

theorem cum_up : cumV (F := Ideal) (up G) = up (Matrix.of fun i j => ∑ x : Fin 128, if x ≤ i then G x j else 0) := by
  have ht : trV (F := Ideal) (s := S128x128) (sitofp .f32 (extui 32 (cmpi .sge rowI colI) natLt_1_32)) =
      up (Matrix.of fun i j : Fin 128 => if j ≤ i then (1 : ℝ) else 0) := by
    funext j; idx_vars j; unfold rowI colI trV; pointwise
    rw [ge_test]
    refine (sitofp_bit _).trans ?_
    rw [up_apply]; simp
  unfold cumV
  dsimp only
  rw [ht, trV_up, exV_up, subf_up, trV_up, exV_up, subf_up, trV_up, mmV_up, mmV_up, mmV_up, addf_up, addf_up]
  refine up_congr fun i j => ?_
  simp [Matrix.mul_apply]

theorem trans_up : transV (F := Ideal) (up G) = up (Matrix.of fun i j => G j i) := by
  funext j; idx_vars j; unfold transV; pointwise; rfl

end

/-! ## The whole step -/

section

variable (i : grid0.Coords) (H : Fin 3 → Fin 8 → Fin 2048 → ℝ) (S : Fin 16 → M128)
variable (X0 X1 X2 X3 : Matrix (Fin 128) (Fin 2048) ℝ) (X4 : M128) (W5 W6 W7 : Matrix (Fin 4) (Fin 2048) ℝ)
variable (al dt og : Matrix (Fin 1) (Fin 128) ℝ) (h : Fin 16)

/-- The log-decays summed down the chunk, and the writing strengths. -/
def sumsR : M128 := Matrix.of fun i j => ∑ x : Fin 128, if x ≤ i then decayR (al 0 j) (dt 0 j) (X4 x j) else 0
def strengthR : M128 := Matrix.of fun i j => sigR (X4 i j)

/-- A head's chunk. -/
def stepChunk : ChunkR :=
  headChunk h (projR (H 0) X0 W5) (projR (H 1) X1 W6) (projR (H 2) X2 W7) (sumsR X4 al dt) (strengthR X4) (S h)

theorem head_no (c : BitVec 32) (n : ℕ) (hc : ∀ h : Fin 16, Scalar.addi c (Scalar.addi (Scalar.muli (BitVec.ofNat 32 0) 16#32) (BitVec.ofNat 32 h.val)) =
    BitVec.ofNat 32 (n + h.val)) : Scalar.addi c (headNo i h) = BitVec.ofNat 32 (n + h.val) := by
  have e : (i 1).val = 0 := by have : (i 1).val < 1 := (i 1).isLt; omega
  unfold headNo
  rw [e]
  exact hc h

theorem head48 : Scalar.addi 48#32 (headNo i h) = BitVec.ofNat 32 (48 + h.val) := head_no i h _ _ (by decide)
theorem head64 : Scalar.addi 64#32 (headNo i h) = BitVec.ofNat 32 (64 + h.val) := head_no i h _ _ (by decide)

theorem stepState_up : stepState (F := Ideal) i (fun s r l => ((H s r l : ℝ) : EReal)) (fun h => up (S h)) (up X0) (up X1) (up X2) (up X4)
    (up W5) (up W6) (up W7) (up al) (up dt) h = up (stepChunk H S X0 X1 X2 X4 W5 W6 W7 al dt h).next := by
  unfold stepState
  dsimp only
  rw [proj_up, proj_up, proj_up, decay_up, cum_up, trans_up, beta_up]
  exact headState_up h (headNo i h) _ _ _ _ _ _ _ (head48 i h) (head64 i h) (fun _ _ => rfl)

theorem stepHead_up : stepHead (F := Ideal) i (fun s r l => ((H s r l : ℝ) : EReal)) (fun h => up (S h)) (up X0) (up X1) (up X2) (up X3) (up X4)
    (up W5) (up W6) (up W7) (up al) (up dt) (up og) h =
    up (Matrix.of fun i j => gateR ((stepChunk H S X0 X1 X2 X4 W5 W6 W7 al dt h).out i) (lanesR h X3 i) (og 0) j) := by
  unfold stepHead headPay
  dsimp only
  rw [proj_up, proj_up, proj_up, decay_up, cum_up, trans_up, beta_up, lanes_up]
  refine (congrArg (fun x => gateV x _ _) (headOut_up h (headNo i h) (projR (H 0) X0 W5) (projR (H 1) X1 W6) (projR (H 2) X2 W7)
    (sumsR X4 al dt) (Matrix.of fun i j => sumsR X4 al dt j i) (strengthR X4) (S h) (head48 i h) (head64 i h) (fun _ _ => rfl))).trans ?_
  exact gate_up _ _ _

end

end Cert.KernelIdeal.Hand
-- ==== Proof.Gdn.Tokens.lean ====
module

public import proofs.«01_k».proof.Proof.Gdn.RealStep

/-!
# The tokens of a sequence

What the gated delta rule reads at each token of each head, from the layer's projections: the queries, keys and values after
the convolution, the logarithms of the decays and the writing strengths. And what it answers.
-/

@[expose] public section

set_option maxRecDepth 16384

noncomputable section

namespace Cert.KernelIdeal.Hand

open Gdn (M128)

/-- The arguments, real. -/
structure Args where
  p : Matrix (Fin 16384) (Fin 21504) ℝ
  s : Matrix (Fin 16384) (Fin 128) ℝ
  w : Matrix (Fin 4) (Fin 6144) ℝ
  al : Fin 16 → ℝ
  dt : Fin 16 → ℝ
  og : Fin 128 → ℝ

section

variable (X : Args) (b : ℕ) (h : Fin 16) (n : ℕ)

/-- The row of token `n` of sequence `b`. -/
def rowTok : Fin 16384 := ⟨(8192 * b + n) % 16384, Nat.mod_lt _ (by decide)⟩

/-- Column `l` of the convolution's input three tokens before `z`: zero before the sequence begins. -/
def rawTok (z : ℕ) (l : Fin 6144) : ℝ := if 3 ≤ z then X.p (rowTok b (z - 3)) ⟨8192 + l.val, by omega⟩ else 0

/-- Column `l` of the convolution, with its gate. -/
def convTok (l : Fin 6144) : ℝ :=
  siluR (X.w 0 l * rawTok X b n l + X.w 1 l * rawTok X b (n + 1) l + X.w 2 l * rawTok X b (n + 2) l + X.w 3 l * rawTok X b (n + 3) l)

/-- A head's 128 columns in one of the three thirds, and the reciprocal of their length. -/
def partTok (k : Fin 3) (a : Fin 128) : ℝ := convTok X b n ⟨2048 * k.val + (128 * h.val + a.val), by omega⟩
def lenTok (k : Fin 3) : ℝ := (Real.sqrt (∑ a, partTok X b h n k a * partTok X b h n k a + epsR))⁻¹

def qTok (a : Fin 128) : ℝ := partTok X b h n 0 a * lenTok X b h n 0 * scaleR
def kTok (a : Fin 128) : ℝ := partTok X b h n 1 a * lenTok X b h n 1
def vTok (a : Fin 128) : ℝ := partTok X b h n 2 a
def gTok : ℝ := decayR (X.al h) (X.dt h) (X.s (rowTok b n) ⟨64 + h.val, by omega⟩)
def bTok : ℝ := sigR (X.s (rowTok b n) ⟨48 + h.val, by omega⟩)

/-- A head's state before token `n`, and what it emits at it. -/
def stateTok : Fin 128 → Fin 128 → ℝ := Gdn.tokState (kTok X b h) (vTok X b h) (gTok X b h) (bTok X b h) n
def emitTok : Fin 128 → ℝ := Gdn.tokOut (qTok X b h) (kTok X b h) (vTok X b h) (gTok X b h) (bTok X b h) n

/-- The answer: the head's output, normed and gated. -/
def answerTok (j : Fin 128) : ℝ :=
  gateR (emitTok X b h n) (fun a => X.p (rowTok b n) ⟨16384 + (128 * h.val + a.val), by omega⟩) X.og j

end

/-- The whole answer, as an array. -/
def answer (X : Args) : Matrix (Fin 16384) (Fin 2048) ℝ := Matrix.of fun r l =>
  answerTok X (r.val / 8192) ⟨l.val / 128, by omega⟩ (r.val % 8192) ⟨l.val % 128, Nat.mod_lt _ (by decide)⟩

end Cert.KernelIdeal.Hand
-- ==== Proof.Gdn.Blocks.lean ====
module

public import proofs.«01_k».proof.Proof.Gdn.Tokens
public import Idealize.ShloMosaic.Lib.Pipeline.ValueKit.Point
public import Idealize.ShloMosaic.Lib.StableHlo.ReadAt
public import Idealize.ShloMosaic.Lib.Routing.OpsOne

/-!
# The blocks the kernel reads

Each grid point works on a chunk of 128 tokens. This file reads its blocks as places of the arguments.
-/

@[expose] public section

set_option maxRecDepth 16384

noncomputable section

namespace Cert.KernelIdeal.Hand

open Cert.KernelIdeal Cert.KernelIdeal.Gen Idealize.ShloMosaic Idealize.ShloMosaic.TcCoe Idealize.SL.Sem
open Gdn (M128)

variable (m : (b : Loc nD τ sig) → Buf (Elt Ideal) b) (c : Dev nD)

theorem idx_all : ∀ t : Fin grid0.N, win0_0.index t = ![t.val, 4] ∧ win0_1.index t = ![t.val, 5] ∧ win0_2.index t = ![t.val, 6] ∧
    win0_3.index t = ![t.val, 8] ∧ win0_4.index t = ![t.val, 0] ∧ win0_5.index t = ![0, 0] ∧ win0_6.index t = ![0, 1] ∧
    win0_7.index t = ![0, 2] ∧ win0_8.index t = ![0, 0] ∧ win0_9.index t = ![0, 0] ∧ win0_10.index t = ![0, 0] := by
  decide +kernel

/-- Sixteen numbers on the lanes from the 64th, zero on the others. -/
def laneR (a : Fin 16 → ℝ) : Matrix (Fin 1) (Fin 128) ℝ := Matrix.of fun _ l =>
  if h : 64 ≤ l.val ∧ l.val < 80 then a ⟨l.val - 64, by omega⟩ else 0

/-- An update of the lane row lands 64 lanes on. -/
theorem lands_lane (d : ScatterDims S1x128 S2 S16) (hiw : d.insertedWindowDims = [0])
    (hsd : d.scatterDimsToOperandDims = [0, 1]) (hivd : d.indexVectorDim = 0) (idx : IVec S2 32)
    (h0 : (idx (ix1 (n0 := 2) 0)).toInt = 0) (h1 : (idx (ix1 (n0 := 2) 1)).toInt = 64) (k : Fin 16) (l : Fin 128) :
    d.resultIdx? (ix1 k) idx = some (ix2 (n0 := 1) 0 l) ↔ 64 + k.val = l.val := by
  have hwin1 : d.window (ix1 k) 1 = k.val := by
    have hk : d.sKept = [1] := by
      show S1x128.kept d.insertedWindowDims = _
      rw [hiw]
      rfl
    unfold ScatterDims.window
    rw [dif_pos (by rw [hk]; simp)]
    exact congrArg (fun t => ((ix1 k : S16.Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  have e := Routing.resultIdx?_ix2 (R := 1) (C := 128) d (ix1 k) idx 0 l
  refine e.trans ?_
  rw [Routing.start_pair d hsd hivd, Routing.start_pair d hsd hivd, hwin0, hwin1]
  have h0' : (idx (ValueIdx.ix1 (0 : Fin 2))).toInt = 0 := h0
  have h1' : (idx (ValueIdx.ix1 (1 : Fin 2))).toInt = 64 := h1
  rw [h0', h1']
  simp
  omega

theorem lane_scatter (d : ScatterDims S1x128 S2 S16) (hiw : d.insertedWindowDims = [0])
    (hsd : d.scatterDimsToOperandDims = [0, 1]) (hivd : d.indexVectorDim = 0) (idx : IVec S2 32)
    (h0 : (idx (ix1 (n0 := 2) 0)).toInt = 0) (h1 : (idx (ix1 (n0 := 2) 1)).toInt = 64) (x : S1x128.Idx → EReal) (hx : ∀ j, x j = ((0 : ℝ) : EReal)) (a : Fin 16 → ℝ) :
    Host.scatter d (fun _ b => b) x idx (fun j => ((a (j 0) : ℝ) : EReal)) = up (laneR a) := by
  funext j
  obtain ⟨r, l, rfl⟩ : ∃ (r : Fin 1) (l : Fin 128), j = ix2 r l := ⟨j 0, j 1, ValueIdx.eq_ix2 j⟩
  obtain rfl : r = 0 := Subsingleton.elim _ _
  rw [up_apply]
  unfold laneR
  simp only [Matrix.of_apply]
  by_cases h : 64 ≤ l.val ∧ l.val < 80
  · rw [dif_pos h]
    refine Routing.scatter_set_hit d x idx _ _ _ (fun k' hk' => ?_) (ix1 (n0 := 16) ⟨l.val - 64, by omega⟩)
      ((lands_lane d hiw hsd hivd idx h0 h1 _ l).2 (by show 64 + (l.val - 64) = l.val; omega))
    have e : k' = ix1 (n0 := 16) (k' 0) := ValueIdx.eq_ix1 k'
    rw [e] at hk'
    have q := (lands_lane d hiw hsd hivd idx h0 h1 _ l).1 hk'
    refine congrArg (fun i => ((a i : ℝ) : EReal)) (Fin.ext ?_)
    show (k' 0).val = l.val - 64
    omega
  · rw [dif_neg h]
    refine (Routing.scatter_set_miss d x idx _ _ fun k' hk' => h ?_).trans (hx _)
    have e : k' = ix1 (n0 := 16) (k' 0) := ValueIdx.eq_ix1 k'
    rw [e] at hk'
    have q := (lands_lane d hiw hsd hivd idx h0 h1 _ l).1 hk'
    have : (k' 0).val < 16 := (k' 0).isLt
    omega

/-- The memory holds them. -/
structure Holds (X : Args) : Prop where
  h0 : m ((c : Thread nD τ).loc main_arg0) = up X.p
  h1 : m ((c : Thread nD τ).loc main_arg1) = up X.s
  h2 : m ((c : Thread nD τ).loc main_arg2) = up X.w
  h3 : m ((c : Thread nD τ).loc main_arg3) = fun j => ((X.al (j 0) : ℝ) : EReal)
  h4 : m ((c : Thread nD τ).loc main_arg4) = fun j => ((X.dt (j 0) : ℝ) : EReal)
  h5 : m ((c : Thread nD τ).loc main_arg5) = fun j => ((X.og (j 0) : ℝ) : EReal)

variable (X : Args)

theorem tok_lt (t : Fin cfg0.N) (i : Fin 128) : 128 * t.val + i.val < 16384 := by
  have := lt_of_lt_of_eq t.isLt (show cfg0.N = 128 from N_0); omega

/-- A chunk's rows of 2048 of the projections' columns, from the given one. -/
def actR (n : ℕ) (o : ℕ) (ho : o + 2048 ≤ 21504) (hn : n < 128) : Matrix (Fin 128) (Fin 2048) ℝ :=
  Matrix.of fun i l => X.p ⟨128 * n + i.val, by omega⟩ ⟨o + l.val, by omega⟩

theorem pt_lt (t : Fin cfg0.N) : t.val < 128 := lt_of_lt_of_eq t.isLt (show cfg0.N = 128 from N_0)

/-- A third of the convolution's weights. -/
def convR (k : Fin 3) : Matrix (Fin 4) (Fin 2048) ℝ := Matrix.of fun i l => X.w i ⟨2048 * k.val + l.val, by omega⟩

variable {m c X} (h : Holds m c X) (t : Fin cfg0.N)
include h

theorem x0_up : X0_0 m c t = up (actR X t.val 8192 (by decide) (pt_lt t)) := by
  funext j
  obtain ⟨e, -⟩ := idx_all t
  unfold X0_0
  unfold Pipeline.Window.fill
  rw [dif_pos (moved0_0 t j)]
  have e1 : ∀ y : ((cfg0.win 0).xblock (cfg0.grid.coords t)).Idx, (∀ a, (y a).val = (j a).val) →
      ((cfg0.win 0).blk t).view.emb y = (ix2 (n0 := 16384) (n1 := 21504) ⟨128 * t.val + (j 0).val, tok_lt t _⟩
      ⟨8192 + (j 1).val, by have : (j 1).val < 2048 := (j 1).isLt; omega⟩ : S16384x21504.Idx) := by
    intro y hy
    have h0 := hy 0
    have h1 := hy 1
    blk_ext [e]
  have e2 : ∀ y, iblk m c 0 t y = V m c main_arg0 (((cfg0.win 0).blk t).view.emb y) := fun _ => rfl
  rw [e2, e1 _ (fun _ => rfl), V_main_arg0, h.h0]
  rfl

theorem x1_up : X0_1 m c t = up (actR X t.val 10240 (by decide) (pt_lt t)) := by
  funext j
  obtain ⟨-, e, -⟩ := idx_all t
  unfold X0_1
  unfold Pipeline.Window.fill
  rw [dif_pos (moved0_1 t j)]
  have e1 : ∀ y : ((cfg0.win 1).xblock (cfg0.grid.coords t)).Idx, (∀ a, (y a).val = (j a).val) →
      ((cfg0.win 1).blk t).view.emb y = (ix2 (n0 := 16384) (n1 := 21504) ⟨128 * t.val + (j 0).val, tok_lt t _⟩
      ⟨10240 + (j 1).val, by have : (j 1).val < 2048 := (j 1).isLt; omega⟩ : S16384x21504.Idx) := by
    intro y hy
    have h0 := hy 0
    have h1 := hy 1
    blk_ext [e]
  have e2 : ∀ y, iblk m c 1 t y = V m c main_arg0 (((cfg0.win 1).blk t).view.emb y) := fun _ => rfl
  rw [e2, e1 _ (fun _ => rfl), V_main_arg0, h.h0]
  rfl

theorem x2_up : X0_2 m c t = up (actR X t.val 12288 (by decide) (pt_lt t)) := by
  funext j
  obtain ⟨-, -, e, -⟩ := idx_all t
  unfold X0_2
  unfold Pipeline.Window.fill
  rw [dif_pos (moved0_2 t j)]
  have e1 : ∀ y : ((cfg0.win 2).xblock (cfg0.grid.coords t)).Idx, (∀ a, (y a).val = (j a).val) →
      ((cfg0.win 2).blk t).view.emb y = (ix2 (n0 := 16384) (n1 := 21504) ⟨128 * t.val + (j 0).val, tok_lt t _⟩
      ⟨12288 + (j 1).val, by have : (j 1).val < 2048 := (j 1).isLt; omega⟩ : S16384x21504.Idx) := by
    intro y hy
    have h0 := hy 0
    have h1 := hy 1
    blk_ext [e]
  have e2 : ∀ y, iblk m c 2 t y = V m c main_arg0 (((cfg0.win 2).blk t).view.emb y) := fun _ => rfl
  rw [e2, e1 _ (fun _ => rfl), V_main_arg0, h.h0]
  rfl

theorem x3_up : X0_3 m c t = up (actR X t.val 16384 (by decide) (pt_lt t)) := by
  funext j
  obtain ⟨-, -, -, e, -⟩ := idx_all t
  unfold X0_3
  unfold Pipeline.Window.fill
  rw [dif_pos (moved0_3 t j)]
  have e1 : ∀ y : ((cfg0.win 3).xblock (cfg0.grid.coords t)).Idx, (∀ a, (y a).val = (j a).val) →
      ((cfg0.win 3).blk t).view.emb y = (ix2 (n0 := 16384) (n1 := 21504) ⟨128 * t.val + (j 0).val, tok_lt t _⟩
      ⟨16384 + (j 1).val, by have : (j 1).val < 2048 := (j 1).isLt; omega⟩ : S16384x21504.Idx) := by
    intro y hy
    have h0 := hy 0
    have h1 := hy 1
    blk_ext [e]
  have e2 : ∀ y, iblk m c 3 t y = V m c main_arg0 (((cfg0.win 3).blk t).view.emb y) := fun _ => rfl
  rw [e2, e1 _ (fun _ => rfl), V_main_arg0, h.h0]
  rfl

theorem x4_up : iblk m c 4 t = up (Matrix.of fun i l => X.s ⟨128 * t.val + i.val, tok_lt t i⟩ l : M128) := by
  funext j
  obtain ⟨-, -, -, -, e, -⟩ := idx_all t
  have e1 : ((cfg0.win 4).blk t).view.emb j = (ix2 (n0 := 16384) (n1 := 128) ⟨128 * t.val + (j 0).val, tok_lt t _⟩ (j 1) : S16384x128.Idx) := by
    blk_ext [e]
  have e2 : iblk m c 4 t j = V m c main_arg1 (((cfg0.win 4).blk t).view.emb j) := rfl
  rw [e2, e1, V_main_arg1, h.h1]
  rfl

theorem x5_up : iblk m c 5 t = up (convR X 0) := by
  funext j
  obtain ⟨-, -, -, -, -, e, -⟩ := idx_all t
  have e1 : ((cfg0.win 5).blk t).view.emb j = (ix2 (n0 := 4) (n1 := 6144) (j 0) ⟨2048 * 0 + (j 1).val, by have : (j 1).val < 2048 := (j 1).isLt; omega⟩ : S4x6144.Idx) := by
    blk_ext [e]
  have e2 : iblk m c 5 t j = V m c main_arg2 (((cfg0.win 5).blk t).view.emb j) := rfl
  rw [e2, e1, V_main_arg2, h.h2]
  rfl

theorem x6_up : iblk m c 6 t = up (convR X 1) := by
  funext j
  obtain ⟨-, -, -, -, -, -, e, -⟩ := idx_all t
  have e1 : ((cfg0.win 6).blk t).view.emb j = (ix2 (n0 := 4) (n1 := 6144) (j 0) ⟨2048 * 1 + (j 1).val, by have : (j 1).val < 2048 := (j 1).isLt; omega⟩ : S4x6144.Idx) := by
    blk_ext [e]
  have e2 : iblk m c 6 t j = V m c main_arg2 (((cfg0.win 6).blk t).view.emb j) := rfl
  rw [e2, e1, V_main_arg2, h.h2]
  rfl

theorem x7_up : iblk m c 7 t = up (convR X 2) := by
  funext j
  obtain ⟨-, -, -, -, -, -, -, e, -⟩ := idx_all t
  have e1 : ((cfg0.win 7).blk t).view.emb j = (ix2 (n0 := 4) (n1 := 6144) (j 0) ⟨2048 * 2 + (j 1).val, by have : (j 1).val < 2048 := (j 1).isLt; omega⟩ : S4x6144.Idx) := by
    blk_ext [e]
  have e2 : iblk m c 7 t j = V m c main_arg2 (((cfg0.win 7).blk t).view.emb j) := rfl
  rw [e2, e1, V_main_arg2, h.h2]
  rfl

theorem lane8 : V m c main_v4 = up (laneR X.al) := by
  have e : V m c main_v4 = Host.scatter scatter_S1x128_S2_S16_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 64#32)⟩] concatenates_S1_S1_S2_d0)
      (m ((c : Thread nD τ).loc main_arg3)) := by
    unfold V
    after_reads_simp
    try rfl
  rw [e, h.h3]
  refine lane_scatter _ rfl rfl rfl _ ?_ ?_ _ (fun j => ?_) _
  · pointwise; rfl
  · pointwise; rfl
  · exact word_zero

theorem x8_up : iblk m c 8 t = up (laneR X.al) := by
  funext j
  obtain ⟨-, -, -, -, -, -, -, -, e, -⟩ := idx_all t
  have e1 : ((cfg0.win 8).blk t).view.emb j = (j : S1x128.Idx) := by
    blk_ext [e]
  have e2 : iblk m c 8 t j = V m c main_v4 (((cfg0.win 8).blk t).view.emb j) := rfl
  rw [e2, e1, lane8 h]

theorem lane9 : V m c main_v9 = up (laneR X.dt) := by
  have e : V m c main_v9 = Host.scatter scatter_S1x128_S2_S16_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 64#32)⟩] concatenates_S1_S1_S2_d0)
      (m ((c : Thread nD τ).loc main_arg4)) := by
    unfold V
    after_reads_simp
    try rfl
  rw [e, h.h4]
  refine lane_scatter _ rfl rfl rfl _ ?_ ?_ _ (fun j => ?_) _
  · pointwise; rfl
  · pointwise; rfl
  · exact word_zero

theorem x9_up : iblk m c 9 t = up (laneR X.dt) := by
  funext j
  obtain ⟨-, -, -, -, -, -, -, -, -, e, -⟩ := idx_all t
  have e1 : ((cfg0.win 9).blk t).view.emb j = (j : S1x128.Idx) := by
    blk_ext [e]
  have e2 : iblk m c 9 t j = V m c main_v9 (((cfg0.win 9).blk t).view.emb j) := rfl
  rw [e2, e1, lane9 h]

/-- The output's gains, as a row. -/
def gainR (X : Args) : Matrix (Fin 1) (Fin 128) ℝ := Matrix.of fun _ l => X.og l

theorem x10_up : iblk m c 10 t = up (gainR X) := by
  funext j
  obtain ⟨-, -, -, -, -, -, -, -, -, -, e⟩ := idx_all t
  have e1 : ((cfg0.win 10).blk t).view.emb j = (j : S1x128.Idx) := by
    blk_ext [e]
  have e2 : iblk m c 10 t j = V m c main_v10 (((cfg0.win 10).blk t).view.emb j) := rfl
  have e3 : V m c main_v10 = shapeCast S1x128 (m ((c : Thread nD τ).loc main_arg5)) shapeCasts_S128_S1x128 := by
    unfold V
    after_reads_simp
    try rfl
  rw [e2, e1, e3, h.h5]
  obtain ⟨r, l, rfl⟩ : ∃ (r : Fin 1) (l : Fin 128), j = ix2 r l := ⟨j 0, j 1, ValueIdx.eq_ix2 j⟩
  pointwise
  rfl

end Cert.KernelIdeal.Hand
-- ==== Proof.Gdn.RunA.lean ====
module

public import proofs.«01_k».proof.Proof.Gdn.Step

@[expose] public section

set_option maxRecDepth 65536

noncomputable section

namespace Cert.KernelIdeal.Hand

open Cert.KernelIdeal Cert.KernelIdeal.Gen Idealize.ShloMosaic Idealize.ShloMosaic.TcCoe Idealize.SL.Sem

variable {F : FTy → Type} [FloatOps F] [Named F]
variable  (c : Dev nD) (i : grid0.Coords) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x128 .f32) (harg7 : arg7.IsWhole) (arg8 : Memref sig .tc .vmem S4x2048 .f32) (harg8 : arg8.IsWhole) (arg9 : Memref sig .tc .vmem S4x2048 .f32) (harg9 : arg9.IsWhole) (arg10 : Memref sig .tc .vmem S4x2048 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x2048 .bf16) (harg14 : arg14.IsWhole) (arg15 : Memref sig .tc .vmem S3x136x2048 .f32) (harg15 : arg15.IsWhole) (arg16 : Memref sig .tc .vmem S16x128x128 .f32) (harg16 : arg16.IsWhole) (hc0 : cond0_0 i)
    (x0 : Vec F S128x2048 .f32) (x1 : Vec F S128x2048 .f32) (x2 : Vec F S128x2048 .f32) (x3 : Vec F S128x2048 .f32) (x4 : Vec F S128x128 .f32) (x5 : Vec F S4x2048 .f32) (x6 : Vec F S4x2048 .f32) (x7 : Vec F S4x2048 .f32) (x8 : Vec F S1x128 .f32) (x9 : Vec F S1x128 .f32) (x10 : Vec F S1x128 .f32)
theorem q_A : (kernelRun0_A.sl.v41 c arg3 harg3 arg8 harg8 arg15 x0 x5) = convV (View.readAt (Elt F) arg8.view (Rect.unit (s := S4x2048) ![0, 0] S1x2048.size inb_S4x2048_S1x2048_0_0).toLoadRect (harg8.unread x5)) (View.readAt (Elt F) arg8.view (Rect.unit (s := S4x2048) ![1, 0] S1x2048.size inb_S4x2048_S1x2048_1_0).toLoadRect (harg8.unread x5)) (View.readAt (Elt F) arg8.view (Rect.unit (s := S4x2048) ![2, 0] S1x2048.size inb_S4x2048_S1x2048_2_0).toLoadRect (harg8.unread x5)) (View.readAt (Elt F) arg8.view (Rect.unit (s := S4x2048) ![3, 0] S1x2048.size inb_S4x2048_S1x2048_3_0).toLoadRect (harg8.unread x5)) (kernelRun0_A.sl.v10 c arg3 harg3 arg15 x0) (kernelRun0_A.sl.v16 c arg3 harg3 arg15 x0) (kernelRun0_A.sl.v22 c arg3 harg3 arg15 x0) (kernelRun0_A.sl.v28 c arg3 harg3 arg15 x0) := rfl

theorem k_A : (kernelRun0_A.sl.v80 c arg3 harg3 arg4 harg4 arg9 harg9 arg15 x0 x1 x6) = convV (View.readAt (Elt F) arg9.view (Rect.unit (s := S4x2048) ![0, 0] S1x2048.size inb_S4x2048_S1x2048_0_0).toLoadRect (harg9.unread x6)) (View.readAt (Elt F) arg9.view (Rect.unit (s := S4x2048) ![1, 0] S1x2048.size inb_S4x2048_S1x2048_1_0).toLoadRect (harg9.unread x6)) (View.readAt (Elt F) arg9.view (Rect.unit (s := S4x2048) ![2, 0] S1x2048.size inb_S4x2048_S1x2048_2_0).toLoadRect (harg9.unread x6)) (View.readAt (Elt F) arg9.view (Rect.unit (s := S4x2048) ![3, 0] S1x2048.size inb_S4x2048_S1x2048_3_0).toLoadRect (harg9.unread x6)) (kernelRun0_A.sl.v49 c arg3 harg3 arg4 harg4 arg15 x0 x1) (kernelRun0_A.sl.v55 c arg3 harg3 arg4 harg4 arg15 x0 x1) (kernelRun0_A.sl.v61 c arg3 harg3 arg4 harg4 arg15 x0 x1) (kernelRun0_A.sl.v67 c arg3 harg3 arg4 harg4 arg15 x0 x1) := rfl

theorem v_A : (kernelRun0_A.sl.v119 c arg3 harg3 arg4 harg4 arg5 harg5 arg10 harg10 arg15 x0 x1 x2 x7) = convV (View.readAt (Elt F) arg10.view (Rect.unit (s := S4x2048) ![0, 0] S1x2048.size inb_S4x2048_S1x2048_0_0).toLoadRect (harg10.unread x7)) (View.readAt (Elt F) arg10.view (Rect.unit (s := S4x2048) ![1, 0] S1x2048.size inb_S4x2048_S1x2048_1_0).toLoadRect (harg10.unread x7)) (View.readAt (Elt F) arg10.view (Rect.unit (s := S4x2048) ![2, 0] S1x2048.size inb_S4x2048_S1x2048_2_0).toLoadRect (harg10.unread x7)) (View.readAt (Elt F) arg10.view (Rect.unit (s := S4x2048) ![3, 0] S1x2048.size inb_S4x2048_S1x2048_3_0).toLoadRect (harg10.unread x7)) (kernelRun0_A.sl.v88 c arg3 harg3 arg4 harg4 arg5 harg5 arg15 x0 x1 x2) (kernelRun0_A.sl.v94 c arg3 harg3 arg4 harg4 arg5 harg5 arg15 x0 x1 x2) (kernelRun0_A.sl.v100 c arg3 harg3 arg4 harg4 arg5 harg5 arg15 x0 x1 x2) (kernelRun0_A.sl.v106 c arg3 harg3 arg4 harg4 arg5 harg5 arg15 x0 x1 x2) := rfl

theorem beta_A : (kernelRun0_A.sl.v127 c arg7 harg7 x4) = betaV (View.readAt (Elt F) arg7.view (Rect.unit (s := S128x128) ![0, 0] S128x128.size inb_S128x128_S128x128_0_0).toLoadRect (harg7.unread x4)) := rfl

theorem cum_A : (kernelRun0_A.sl.v164 c arg7 harg7 arg11 harg11 arg12 harg12 x4 x8 x9) = cumV (decayV (View.readAt (Elt F) arg7.view (Rect.unit (s := S128x128) ![0, 0] S128x128.size inb_S128x128_S128x128_0_0).toLoadRect (harg7.unread x4)) (View.readAt (Elt F) arg11.view (Rect.unit (s := S1x128) ![0, 0] S1x128.size inb_S1x128_S1x128_0_0).toLoadRect (harg11.unread x8)) (View.readAt (Elt F) arg12.view (Rect.unit (s := S1x128) ![0, 0] S1x128.size inb_S1x128_S1x128_0_0).toLoadRect (harg12.unread x9))) := rfl

theorem trans_A : (kernelRun0_A.sl.v165 c arg7 harg7 arg11 harg11 arg12 harg12 x4 x8 x9) = transV (kernelRun0_A.sl.v164 c arg7 harg7 arg11 harg11 arg12 harg12 x4 x8 x9) := rfl

theorem state_A : (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.1 = statePieces i (kernelRun0_A.sl.v41 c arg3 harg3 arg8 harg8 arg15 x0 x5) (kernelRun0_A.sl.v80 c arg3 harg3 arg4 harg4 arg9 harg9 arg15 x0 x1 x6) (kernelRun0_A.sl.v119 c arg3 harg3 arg4 harg4 arg5 harg5 arg10 harg10 arg15 x0 x1 x2 x7) (kernelRun0_A.sl.v164 c arg7 harg7 arg11 harg11 arg12 harg12 x4 x8 x9) (kernelRun0_A.sl.v165 c arg7 harg7 arg11 harg11 arg12 harg12 x4 x8 x9) (kernelRun0_A.sl.v127 c arg7 harg7 x4) (fun h => shapeCast S128x128 (arg16.view.readCov (Val := Elt F) kernelRun0_A.sl.HS1_1 (Rect.unit (s := S16x128x128) ![h.val, 0, 0] ![1, 128, 128] (stateInb h)).toLoadRect) shapeCasts_S1x128x128_S128x128) ++ kernelRun0_A.sl.HS1_1 := by unfold kernelRun0_A; rfl

theorem out_A : (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1 = outPieces i (kernelRun0_A.sl.v41 c arg3 harg3 arg8 harg8 arg15 x0 x5) (kernelRun0_A.sl.v80 c arg3 harg3 arg4 harg4 arg9 harg9 arg15 x0 x1 x6) (kernelRun0_A.sl.v119 c arg3 harg3 arg4 harg4 arg5 harg5 arg10 harg10 arg15 x0 x1 x2 x7) (kernelRun0_A.sl.v164 c arg7 harg7 arg11 harg11 arg12 harg12 x4 x8 x9) (kernelRun0_A.sl.v165 c arg7 harg7 arg11 harg11 arg12 harg12 x4 x8 x9) (kernelRun0_A.sl.v127 c arg7 harg7 x4) (fun h => shapeCast S128x128 (arg16.view.readCov (Val := Elt F) kernelRun0_A.sl.HS1_1 (Rect.unit (s := S16x128x128) ![h.val, 0, 0] ![1, 128, 128] (stateInb h)).toLoadRect) shapeCasts_S1x128x128_S128x128) (View.readAt (Elt F) arg13.view (Rect.unit (s := S1x128) ![0, 0] S1x128.size inb_S1x128_S1x128_0_0).toLoadRect (harg13.unread x10)) (fun h => View.readAt (Elt F) arg6.view (Rect.unit (s := S128x2048) ![0, 128 * h.val] ![128, 128] (headInb h)).toLoadRect (harg6.unread x3)) := by unfold kernelRun0_A; rfl

theorem pay_q_A : (fun j : S128x2048.Idx => (kernelRun0_A.sl.v6 c arg3 harg3 x0) (ix3 0 (j 0) (j 1))) = x0 := by
  show (fun j : S128x2048.Idx => shapeCast S1x128x2048 (View.readAt (Elt F) arg3.view (Rect.unit (s := S128x2048) ![0, 0] S128x2048.size inb_S128x2048_S128x2048_0_0).toLoadRect (harg3.unread x0)) shapeCasts_S128x2048_S1x128x2048 (ix3 0 (j 0) (j 1))) = x0
  rw [View.readAt_eq_ld, harg3.read_unread, View.ld_unit_lit' _ _ (by decide)]
  funext j
  idx_vars j
  pointwise

theorem tap_q0_A : (kernelRun0_A.sl.v10 c arg3 harg3 arg15 x0) = tapV (fun _ _ => Scalar.ofBits .f32 0x00000000#32) x0 0 := by
  have h := tap_cov 0 5 (by decide) 0 rfl inb_S3x136x2048_S1x128x2048_0_8_0 inb_S3x136x2048_S1x128x2048_0_5_0 (kernelRun0_A.sl.v6 c arg3 harg3 x0) (fun _ _ => Scalar.ofBits .f32 0x00000000#32) [⟨Rect.unit (s := S3x136x2048) ![0, 0, 0] S3x8x2048.size inb_S3x136x2048_S3x8x2048_0_0_0, kernelRun0_A.sl.v3688⟩] arg15.view (fun r l => by
    exact zero_halo 0 r l)
  rw [pay_q_A] at h
  exact h

theorem tap_q1_A : (kernelRun0_A.sl.v16 c arg3 harg3 arg15 x0) = tapV (fun _ _ => Scalar.ofBits .f32 0x00000000#32) x0 1 := by
  have h := tap_cov 0 6 (by decide) 1 rfl inb_S3x136x2048_S1x128x2048_0_8_0 inb_S3x136x2048_S1x128x2048_0_6_0 (kernelRun0_A.sl.v6 c arg3 harg3 x0) (fun _ _ => Scalar.ofBits .f32 0x00000000#32) [⟨Rect.unit (s := S3x136x2048) ![0, 0, 0] S3x8x2048.size inb_S3x136x2048_S3x8x2048_0_0_0, kernelRun0_A.sl.v3688⟩] arg15.view (fun r l => by
    exact zero_halo 0 r l)
  rw [pay_q_A] at h
  exact h

theorem tap_q2_A : (kernelRun0_A.sl.v22 c arg3 harg3 arg15 x0) = tapV (fun _ _ => Scalar.ofBits .f32 0x00000000#32) x0 2 := by
  have h := tap_cov 0 7 (by decide) 2 rfl inb_S3x136x2048_S1x128x2048_0_8_0 inb_S3x136x2048_S1x128x2048_0_7_0 (kernelRun0_A.sl.v6 c arg3 harg3 x0) (fun _ _ => Scalar.ofBits .f32 0x00000000#32) [⟨Rect.unit (s := S3x136x2048) ![0, 0, 0] S3x8x2048.size inb_S3x136x2048_S3x8x2048_0_0_0, kernelRun0_A.sl.v3688⟩] arg15.view (fun r l => by
    exact zero_halo 0 r l)
  rw [pay_q_A] at h
  exact h

theorem tap_q3_A : (kernelRun0_A.sl.v28 c arg3 harg3 arg15 x0) = tapV (fun _ _ => Scalar.ofBits .f32 0x00000000#32) x0 3 := by
  have h := tap_cov 0 8 (by decide) 3 rfl inb_S3x136x2048_S1x128x2048_0_8_0 inb_S3x136x2048_S1x128x2048_0_8_0 (kernelRun0_A.sl.v6 c arg3 harg3 x0) (fun _ _ => Scalar.ofBits .f32 0x00000000#32) [⟨Rect.unit (s := S3x136x2048) ![0, 0, 0] S3x8x2048.size inb_S3x136x2048_S3x8x2048_0_0_0, kernelRun0_A.sl.v3688⟩] arg15.view (fun r l => by
    exact zero_halo 0 r l)
  rw [pay_q_A] at h
  exact h

theorem pay_k_A : (fun j : S128x2048.Idx => (kernelRun0_A.sl.v45 c arg4 harg4 x1) (ix3 0 (j 0) (j 1))) = x1 := by
  show (fun j : S128x2048.Idx => shapeCast S1x128x2048 (View.readAt (Elt F) arg4.view (Rect.unit (s := S128x2048) ![0, 0] S128x2048.size inb_S128x2048_S128x2048_0_0).toLoadRect (harg4.unread x1)) shapeCasts_S128x2048_S1x128x2048 (ix3 0 (j 0) (j 1))) = x1
  rw [View.readAt_eq_ld, harg4.read_unread, View.ld_unit_lit' _ _ (by decide)]
  funext j
  idx_vars j
  pointwise

theorem tap_k0_A : (kernelRun0_A.sl.v49 c arg3 harg3 arg4 harg4 arg15 x0 x1) = tapV (fun _ _ => Scalar.ofBits .f32 0x00000000#32) x1 0 := by
  have h := tap_cov 1 5 (by decide) 0 rfl inb_S3x136x2048_S1x128x2048_1_8_0 inb_S3x136x2048_S1x128x2048_1_5_0 (kernelRun0_A.sl.v45 c arg4 harg4 x1) (fun _ _ => Scalar.ofBits .f32 0x00000000#32) (⟨Rect.unit (s := S3x136x2048) ![0, 0, 0] S1x8x2048.size inb_S3x136x2048_S1x8x2048_0_0_0, (kernelRun0_A.sl.v36 c arg3 harg3 arg15 x0)⟩ :: (kernelRun0_A.sl.HS0_2 c arg3 harg3 x0)) arg15.view (fun r l => by
    rw [canon_out_of _ _ _ _ (skip_rows 1 0 0 8 (by decide) (by decide) _ r l)]
    unfold kernelRun0_A.sl.HS0_2
    rw [canon_out_of _ _ _ _ (skip_rows 1 0 8 128 (by decide) (by decide) _ r l)]
    exact zero_halo 1 r l)
  rw [pay_k_A] at h
  exact h

theorem tap_k1_A : (kernelRun0_A.sl.v55 c arg3 harg3 arg4 harg4 arg15 x0 x1) = tapV (fun _ _ => Scalar.ofBits .f32 0x00000000#32) x1 1 := by
  have h := tap_cov 1 6 (by decide) 1 rfl inb_S3x136x2048_S1x128x2048_1_8_0 inb_S3x136x2048_S1x128x2048_1_6_0 (kernelRun0_A.sl.v45 c arg4 harg4 x1) (fun _ _ => Scalar.ofBits .f32 0x00000000#32) (⟨Rect.unit (s := S3x136x2048) ![0, 0, 0] S1x8x2048.size inb_S3x136x2048_S1x8x2048_0_0_0, (kernelRun0_A.sl.v36 c arg3 harg3 arg15 x0)⟩ :: (kernelRun0_A.sl.HS0_2 c arg3 harg3 x0)) arg15.view (fun r l => by
    rw [canon_out_of _ _ _ _ (skip_rows 1 0 0 8 (by decide) (by decide) _ r l)]
    unfold kernelRun0_A.sl.HS0_2
    rw [canon_out_of _ _ _ _ (skip_rows 1 0 8 128 (by decide) (by decide) _ r l)]
    exact zero_halo 1 r l)
  rw [pay_k_A] at h
  exact h

theorem tap_k2_A : (kernelRun0_A.sl.v61 c arg3 harg3 arg4 harg4 arg15 x0 x1) = tapV (fun _ _ => Scalar.ofBits .f32 0x00000000#32) x1 2 := by
  have h := tap_cov 1 7 (by decide) 2 rfl inb_S3x136x2048_S1x128x2048_1_8_0 inb_S3x136x2048_S1x128x2048_1_7_0 (kernelRun0_A.sl.v45 c arg4 harg4 x1) (fun _ _ => Scalar.ofBits .f32 0x00000000#32) (⟨Rect.unit (s := S3x136x2048) ![0, 0, 0] S1x8x2048.size inb_S3x136x2048_S1x8x2048_0_0_0, (kernelRun0_A.sl.v36 c arg3 harg3 arg15 x0)⟩ :: (kernelRun0_A.sl.HS0_2 c arg3 harg3 x0)) arg15.view (fun r l => by
    rw [canon_out_of _ _ _ _ (skip_rows 1 0 0 8 (by decide) (by decide) _ r l)]
    unfold kernelRun0_A.sl.HS0_2
    rw [canon_out_of _ _ _ _ (skip_rows 1 0 8 128 (by decide) (by decide) _ r l)]
    exact zero_halo 1 r l)
  rw [pay_k_A] at h
  exact h

theorem tap_k3_A : (kernelRun0_A.sl.v67 c arg3 harg3 arg4 harg4 arg15 x0 x1) = tapV (fun _ _ => Scalar.ofBits .f32 0x00000000#32) x1 3 := by
  have h := tap_cov 1 8 (by decide) 3 rfl inb_S3x136x2048_S1x128x2048_1_8_0 inb_S3x136x2048_S1x128x2048_1_8_0 (kernelRun0_A.sl.v45 c arg4 harg4 x1) (fun _ _ => Scalar.ofBits .f32 0x00000000#32) (⟨Rect.unit (s := S3x136x2048) ![0, 0, 0] S1x8x2048.size inb_S3x136x2048_S1x8x2048_0_0_0, (kernelRun0_A.sl.v36 c arg3 harg3 arg15 x0)⟩ :: (kernelRun0_A.sl.HS0_2 c arg3 harg3 x0)) arg15.view (fun r l => by
    rw [canon_out_of _ _ _ _ (skip_rows 1 0 0 8 (by decide) (by decide) _ r l)]
    unfold kernelRun0_A.sl.HS0_2
    rw [canon_out_of _ _ _ _ (skip_rows 1 0 8 128 (by decide) (by decide) _ r l)]
    exact zero_halo 1 r l)
  rw [pay_k_A] at h
  exact h

theorem pay_v_A : (fun j : S128x2048.Idx => (kernelRun0_A.sl.v84 c arg5 harg5 x2) (ix3 0 (j 0) (j 1))) = x2 := by
  show (fun j : S128x2048.Idx => shapeCast S1x128x2048 (View.readAt (Elt F) arg5.view (Rect.unit (s := S128x2048) ![0, 0] S128x2048.size inb_S128x2048_S128x2048_0_0).toLoadRect (harg5.unread x2)) shapeCasts_S128x2048_S1x128x2048 (ix3 0 (j 0) (j 1))) = x2
  rw [View.readAt_eq_ld, harg5.read_unread, View.ld_unit_lit' _ _ (by decide)]
  funext j
  idx_vars j
  pointwise

theorem tap_v0_A : (kernelRun0_A.sl.v88 c arg3 harg3 arg4 harg4 arg5 harg5 arg15 x0 x1 x2) = tapV (fun _ _ => Scalar.ofBits .f32 0x00000000#32) x2 0 := by
  have h := tap_cov 2 5 (by decide) 0 rfl inb_S3x136x2048_S1x128x2048_2_8_0 inb_S3x136x2048_S1x128x2048_2_5_0 (kernelRun0_A.sl.v84 c arg5 harg5 x2) (fun _ _ => Scalar.ofBits .f32 0x00000000#32) (⟨Rect.unit (s := S3x136x2048) ![1, 0, 0] S1x8x2048.size inb_S3x136x2048_S1x8x2048_1_0_0, (kernelRun0_A.sl.v75 c arg3 harg3 arg4 harg4 arg15 x0 x1)⟩ :: (kernelRun0_A.sl.HS0_4 c arg3 harg3 arg4 harg4 arg15 x0 x1)) arg15.view (fun r l => by
    rw [canon_out_of _ _ _ _ (skip_rows 2 1 0 8 (by decide) (by decide) _ r l)]
    unfold kernelRun0_A.sl.HS0_4
    rw [canon_out_of _ _ _ _ (skip_rows 2 1 8 128 (by decide) (by decide) _ r l)]
    rw [canon_out_of _ _ _ _ (skip_rows 2 0 0 8 (by decide) (by decide) _ r l)]
    unfold kernelRun0_A.sl.HS0_2
    rw [canon_out_of _ _ _ _ (skip_rows 2 0 8 128 (by decide) (by decide) _ r l)]
    exact zero_halo 2 r l)
  rw [pay_v_A] at h
  exact h

theorem tap_v1_A : (kernelRun0_A.sl.v94 c arg3 harg3 arg4 harg4 arg5 harg5 arg15 x0 x1 x2) = tapV (fun _ _ => Scalar.ofBits .f32 0x00000000#32) x2 1 := by
  have h := tap_cov 2 6 (by decide) 1 rfl inb_S3x136x2048_S1x128x2048_2_8_0 inb_S3x136x2048_S1x128x2048_2_6_0 (kernelRun0_A.sl.v84 c arg5 harg5 x2) (fun _ _ => Scalar.ofBits .f32 0x00000000#32) (⟨Rect.unit (s := S3x136x2048) ![1, 0, 0] S1x8x2048.size inb_S3x136x2048_S1x8x2048_1_0_0, (kernelRun0_A.sl.v75 c arg3 harg3 arg4 harg4 arg15 x0 x1)⟩ :: (kernelRun0_A.sl.HS0_4 c arg3 harg3 arg4 harg4 arg15 x0 x1)) arg15.view (fun r l => by
    rw [canon_out_of _ _ _ _ (skip_rows 2 1 0 8 (by decide) (by decide) _ r l)]
    unfold kernelRun0_A.sl.HS0_4
    rw [canon_out_of _ _ _ _ (skip_rows 2 1 8 128 (by decide) (by decide) _ r l)]
    rw [canon_out_of _ _ _ _ (skip_rows 2 0 0 8 (by decide) (by decide) _ r l)]
    unfold kernelRun0_A.sl.HS0_2
    rw [canon_out_of _ _ _ _ (skip_rows 2 0 8 128 (by decide) (by decide) _ r l)]
    exact zero_halo 2 r l)
  rw [pay_v_A] at h
  exact h

theorem tap_v2_A : (kernelRun0_A.sl.v100 c arg3 harg3 arg4 harg4 arg5 harg5 arg15 x0 x1 x2) = tapV (fun _ _ => Scalar.ofBits .f32 0x00000000#32) x2 2 := by
  have h := tap_cov 2 7 (by decide) 2 rfl inb_S3x136x2048_S1x128x2048_2_8_0 inb_S3x136x2048_S1x128x2048_2_7_0 (kernelRun0_A.sl.v84 c arg5 harg5 x2) (fun _ _ => Scalar.ofBits .f32 0x00000000#32) (⟨Rect.unit (s := S3x136x2048) ![1, 0, 0] S1x8x2048.size inb_S3x136x2048_S1x8x2048_1_0_0, (kernelRun0_A.sl.v75 c arg3 harg3 arg4 harg4 arg15 x0 x1)⟩ :: (kernelRun0_A.sl.HS0_4 c arg3 harg3 arg4 harg4 arg15 x0 x1)) arg15.view (fun r l => by
    rw [canon_out_of _ _ _ _ (skip_rows 2 1 0 8 (by decide) (by decide) _ r l)]
    unfold kernelRun0_A.sl.HS0_4
    rw [canon_out_of _ _ _ _ (skip_rows 2 1 8 128 (by decide) (by decide) _ r l)]
    rw [canon_out_of _ _ _ _ (skip_rows 2 0 0 8 (by decide) (by decide) _ r l)]
    unfold kernelRun0_A.sl.HS0_2
    rw [canon_out_of _ _ _ _ (skip_rows 2 0 8 128 (by decide) (by decide) _ r l)]
    exact zero_halo 2 r l)
  rw [pay_v_A] at h
  exact h

theorem tap_v3_A : (kernelRun0_A.sl.v106 c arg3 harg3 arg4 harg4 arg5 harg5 arg15 x0 x1 x2) = tapV (fun _ _ => Scalar.ofBits .f32 0x00000000#32) x2 3 := by
  have h := tap_cov 2 8 (by decide) 3 rfl inb_S3x136x2048_S1x128x2048_2_8_0 inb_S3x136x2048_S1x128x2048_2_8_0 (kernelRun0_A.sl.v84 c arg5 harg5 x2) (fun _ _ => Scalar.ofBits .f32 0x00000000#32) (⟨Rect.unit (s := S3x136x2048) ![1, 0, 0] S1x8x2048.size inb_S3x136x2048_S1x8x2048_1_0_0, (kernelRun0_A.sl.v75 c arg3 harg3 arg4 harg4 arg15 x0 x1)⟩ :: (kernelRun0_A.sl.HS0_4 c arg3 harg3 arg4 harg4 arg15 x0 x1)) arg15.view (fun r l => by
    rw [canon_out_of _ _ _ _ (skip_rows 2 1 0 8 (by decide) (by decide) _ r l)]
    unfold kernelRun0_A.sl.HS0_4
    rw [canon_out_of _ _ _ _ (skip_rows 2 1 8 128 (by decide) (by decide) _ r l)]
    rw [canon_out_of _ _ _ _ (skip_rows 2 0 0 8 (by decide) (by decide) _ r l)]
    unfold kernelRun0_A.sl.HS0_2
    rw [canon_out_of _ _ _ _ (skip_rows 2 0 8 128 (by decide) (by decide) _ r l)]
    exact zero_halo 2 r l)
  rw [pay_v_A] at h
  exact h

theorem row_q0_A : (View.readAt (Elt F) arg8.view (Rect.unit (s := S4x2048) ![0, 0] S1x2048.size inb_S4x2048_S1x2048_0_0).toLoadRect (harg8.unread x5)) = rowOfV x5 0 := by
  rw [View.readAt_eq_ld, harg8.read_unread]
  exact row_load0 x5

theorem row_q1_A : (View.readAt (Elt F) arg8.view (Rect.unit (s := S4x2048) ![1, 0] S1x2048.size inb_S4x2048_S1x2048_1_0).toLoadRect (harg8.unread x5)) = rowOfV x5 1 := by
  rw [View.readAt_eq_ld, harg8.read_unread]
  exact row_load1 x5

theorem row_q2_A : (View.readAt (Elt F) arg8.view (Rect.unit (s := S4x2048) ![2, 0] S1x2048.size inb_S4x2048_S1x2048_2_0).toLoadRect (harg8.unread x5)) = rowOfV x5 2 := by
  rw [View.readAt_eq_ld, harg8.read_unread]
  exact row_load2 x5

theorem row_q3_A : (View.readAt (Elt F) arg8.view (Rect.unit (s := S4x2048) ![3, 0] S1x2048.size inb_S4x2048_S1x2048_3_0).toLoadRect (harg8.unread x5)) = rowOfV x5 3 := by
  rw [View.readAt_eq_ld, harg8.read_unread]
  exact row_load3 x5

theorem proj_q_A : (kernelRun0_A.sl.v41 c arg3 harg3 arg8 harg8 arg15 x0 x5) = projV (fun _ _ => Scalar.ofBits .f32 0x00000000#32) x0 x5 := by
  rw [q_A, row_q0_A, row_q1_A, row_q2_A, row_q3_A, tap_q0_A, tap_q1_A, tap_q2_A, tap_q3_A]
  rfl

theorem row_k0_A : (View.readAt (Elt F) arg9.view (Rect.unit (s := S4x2048) ![0, 0] S1x2048.size inb_S4x2048_S1x2048_0_0).toLoadRect (harg9.unread x6)) = rowOfV x6 0 := by
  rw [View.readAt_eq_ld, harg9.read_unread]
  exact row_load0 x6

theorem row_k1_A : (View.readAt (Elt F) arg9.view (Rect.unit (s := S4x2048) ![1, 0] S1x2048.size inb_S4x2048_S1x2048_1_0).toLoadRect (harg9.unread x6)) = rowOfV x6 1 := by
  rw [View.readAt_eq_ld, harg9.read_unread]
  exact row_load1 x6

theorem row_k2_A : (View.readAt (Elt F) arg9.view (Rect.unit (s := S4x2048) ![2, 0] S1x2048.size inb_S4x2048_S1x2048_2_0).toLoadRect (harg9.unread x6)) = rowOfV x6 2 := by
  rw [View.readAt_eq_ld, harg9.read_unread]
  exact row_load2 x6

theorem row_k3_A : (View.readAt (Elt F) arg9.view (Rect.unit (s := S4x2048) ![3, 0] S1x2048.size inb_S4x2048_S1x2048_3_0).toLoadRect (harg9.unread x6)) = rowOfV x6 3 := by
  rw [View.readAt_eq_ld, harg9.read_unread]
  exact row_load3 x6

theorem proj_k_A : (kernelRun0_A.sl.v80 c arg3 harg3 arg4 harg4 arg9 harg9 arg15 x0 x1 x6) = projV (fun _ _ => Scalar.ofBits .f32 0x00000000#32) x1 x6 := by
  rw [k_A, row_k0_A, row_k1_A, row_k2_A, row_k3_A, tap_k0_A, tap_k1_A, tap_k2_A, tap_k3_A]
  rfl

theorem row_v0_A : (View.readAt (Elt F) arg10.view (Rect.unit (s := S4x2048) ![0, 0] S1x2048.size inb_S4x2048_S1x2048_0_0).toLoadRect (harg10.unread x7)) = rowOfV x7 0 := by
  rw [View.readAt_eq_ld, harg10.read_unread]
  exact row_load0 x7

theorem row_v1_A : (View.readAt (Elt F) arg10.view (Rect.unit (s := S4x2048) ![1, 0] S1x2048.size inb_S4x2048_S1x2048_1_0).toLoadRect (harg10.unread x7)) = rowOfV x7 1 := by
  rw [View.readAt_eq_ld, harg10.read_unread]
  exact row_load1 x7

theorem row_v2_A : (View.readAt (Elt F) arg10.view (Rect.unit (s := S4x2048) ![2, 0] S1x2048.size inb_S4x2048_S1x2048_2_0).toLoadRect (harg10.unread x7)) = rowOfV x7 2 := by
  rw [View.readAt_eq_ld, harg10.read_unread]
  exact row_load2 x7

theorem row_v3_A : (View.readAt (Elt F) arg10.view (Rect.unit (s := S4x2048) ![3, 0] S1x2048.size inb_S4x2048_S1x2048_3_0).toLoadRect (harg10.unread x7)) = rowOfV x7 3 := by
  rw [View.readAt_eq_ld, harg10.read_unread]
  exact row_load3 x7

theorem proj_v_A : (kernelRun0_A.sl.v119 c arg3 harg3 arg4 harg4 arg5 harg5 arg10 harg10 arg15 x0 x1 x2 x7) = projV (fun _ _ => Scalar.ofBits .f32 0x00000000#32) x2 x7 := by
  rw [v_A, row_v0_A, row_v1_A, row_v2_A, row_v3_A, tap_v0_A, tap_v1_A, tap_v2_A, tap_v3_A]
  rfl

theorem whole_x4_A : (View.readAt (Elt F) arg7.view (Rect.unit (s := S128x128) ![0, 0] S128x128.size inb_S128x128_S128x128_0_0).toLoadRect (harg7.unread x4)) = x4 := by
  rw [View.readAt_eq_ld, harg7.read_unread]
  exact whole_load0 x4

theorem whole_x8_A : (View.readAt (Elt F) arg11.view (Rect.unit (s := S1x128) ![0, 0] S1x128.size inb_S1x128_S1x128_0_0).toLoadRect (harg11.unread x8)) = x8 := by
  rw [View.readAt_eq_ld, harg11.read_unread]
  exact whole_load1 x8

theorem whole_x9_A : (View.readAt (Elt F) arg12.view (Rect.unit (s := S1x128) ![0, 0] S1x128.size inb_S1x128_S1x128_0_0).toLoadRect (harg12.unread x9)) = x9 := by
  rw [View.readAt_eq_ld, harg12.read_unread]
  exact whole_load1 x9

theorem whole_x10_A : (View.readAt (Elt F) arg13.view (Rect.unit (s := S1x128) ![0, 0] S1x128.size inb_S1x128_S1x128_0_0).toLoadRect (harg13.unread x10)) = x10 := by
  rw [View.readAt_eq_ld, harg13.read_unread]
  exact whole_load1 x10

theorem betas_A : (kernelRun0_A.sl.v127 c arg7 harg7 x4) = betaV x4 := by rw [beta_A, whole_x4_A]

theorem cums_A : (kernelRun0_A.sl.v164 c arg7 harg7 arg11 harg11 arg12 harg12 x4 x8 x9) = cumV (decayV x4 x8 x9) := by rw [cum_A, whole_x4_A, whole_x8_A, whole_x9_A]

theorem zs_A : (fun h : Fin 16 => View.readAt (Elt F) arg6.view (Rect.unit (s := S128x2048) ![0, 128 * h.val] ![128, 128] (headInb h)).toLoadRect (harg6.unread x3)) = (fun h => lanesV ![0, 128 * h.val] (headSlice h) x3) := by
  funext h
  rw [View.readAt_eq_ld, harg6.read_unread]
  exact lanes_load x3 h

theorem sts_A : (fun h : Fin 16 => shapeCast S128x128 (arg16.view.readCov (Val := Elt F) kernelRun0_A.sl.HS1_1 (Rect.unit (s := S16x128x128) ![h.val, 0, 0] ![1, 128, 128] (stateInb h)).toLoadRect) shapeCasts_S1x128x128_S128x128) = (fun _ _ => Scalar.ofBits .f32 0x00000000#32) := by
  funext h
  exact state_zero arg16.view h

theorem left_out_A : out0_A_11 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = stepOut i (fun _ _ _ => Scalar.ofBits .f32 0x00000000#32) (fun _ _ => Scalar.ofBits .f32 0x00000000#32) x0 x1 x2 x3 x4 x5 x6 x7 x8 x9 x10 := by
  unfold out0_A_11
  rw [View.read_writes_junk_eq_canon, out_A, proj_q_A, proj_k_A, proj_v_A, trans_A, cums_A, betas_A, sts_A, whole_x10_A, zs_A]
  funext j
  rw [canon_out]
  rfl

theorem left_state_A (h : Fin 16) (a b : Fin 128) : sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix3 h a b) = stepState i (fun _ _ _ => Scalar.ofBits .f32 0x00000000#32) (fun _ _ => Scalar.ofBits .f32 0x00000000#32) x0 x1 x2 x4 x5 x6 x7 x8 x9 h (ix2 a b) := by
  unfold sout0_A_1
  rw [View.read_writes_junk_eq_canon, state_A, proj_q_A, proj_k_A, proj_v_A, trans_A, cums_A, betas_A, sts_A]
  rw [canon_state]
  rfl

theorem left_halo0_A (r : Fin 8) (l : Fin 2048) : sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (haloIx 0 r l) = x0 (ix2 ⟨120 + r.val, by omega⟩ l) := by
  unfold sout0_A_0
  rw [View.read_writes_junk_eq_canon]
  unfold kernelRun0_A
  dsimp only
  refine (canon_out_of _ _ _ _ (skip_rows 0 2 0 8 (by decide) (by decide) _ r l)).trans ?_
  unfold kernelRun0_A.sl.HS0_6
  refine (canon_out_of _ _ _ _ (skip_rows 0 2 8 128 (by decide) (by decide) _ r l)).trans ?_
  refine (canon_out_of _ _ _ _ (skip_rows 0 1 0 8 (by decide) (by decide) _ r l)).trans ?_
  unfold kernelRun0_A.sl.HS0_4
  refine (canon_out_of _ _ _ _ (skip_rows 0 1 8 128 (by decide) (by decide) _ r l)).trans ?_
  refine (canon_at _ _ _ _ _ (halo_emb 0 inb_S3x136x2048_S1x8x2048_0_0_0 r l)).trans ?_
  unfold kernelRun0_A.sl.v36 kernelRun0_A.sl.v33 kernelRun0_A.sl.v32 kernelRun0_A.sl.HS0_2
  refine (last_rows arg15.view 0 inb_S3x136x2048_S1x128x2048_0_8_0 inb_S3x136x2048_S1x8x2048_0_128_0 _ _ r l).trans ?_
  exact congrFun (pay_q_A c arg3 harg3 x0) (ix2 ⟨120 + r.val, by omega⟩ l)

theorem left_halo1_A (r : Fin 8) (l : Fin 2048) : sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (haloIx 1 r l) = x1 (ix2 ⟨120 + r.val, by omega⟩ l) := by
  unfold sout0_A_0
  rw [View.read_writes_junk_eq_canon]
  unfold kernelRun0_A
  dsimp only
  refine (canon_out_of _ _ _ _ (skip_rows 1 2 0 8 (by decide) (by decide) _ r l)).trans ?_
  unfold kernelRun0_A.sl.HS0_6
  refine (canon_out_of _ _ _ _ (skip_rows 1 2 8 128 (by decide) (by decide) _ r l)).trans ?_
  refine (canon_at _ _ _ _ _ (halo_emb 1 inb_S3x136x2048_S1x8x2048_1_0_0 r l)).trans ?_
  unfold kernelRun0_A.sl.v75 kernelRun0_A.sl.v72 kernelRun0_A.sl.v71 kernelRun0_A.sl.HS0_4
  refine (last_rows arg15.view 1 inb_S3x136x2048_S1x128x2048_1_8_0 inb_S3x136x2048_S1x8x2048_1_128_0 _ _ r l).trans ?_
  exact congrFun (pay_k_A c arg4 harg4 x1) (ix2 ⟨120 + r.val, by omega⟩ l)

theorem left_halo2_A (r : Fin 8) (l : Fin 2048) : sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (haloIx 2 r l) = x2 (ix2 ⟨120 + r.val, by omega⟩ l) := by
  unfold sout0_A_0
  rw [View.read_writes_junk_eq_canon]
  unfold kernelRun0_A
  dsimp only
  refine (canon_at _ _ _ _ _ (halo_emb 2 inb_S3x136x2048_S1x8x2048_2_0_0 r l)).trans ?_
  unfold kernelRun0_A.sl.v114 kernelRun0_A.sl.v111 kernelRun0_A.sl.v110 kernelRun0_A.sl.HS0_6
  refine (last_rows arg15.view 2 inb_S3x136x2048_S1x128x2048_2_8_0 inb_S3x136x2048_S1x8x2048_2_128_0 _ _ r l).trans ?_
  exact congrFun (pay_v_A c arg5 harg5 x2) (ix2 ⟨120 + r.val, by omega⟩ l)

end Cert.KernelIdeal.Hand
-- ==== Proof.Gdn.RunB.lean ====
module

public import proofs.«01_k».proof.Proof.Gdn.Step

@[expose] public section

set_option maxRecDepth 65536

noncomputable section

namespace Cert.KernelIdeal.Hand

open Cert.KernelIdeal Cert.KernelIdeal.Gen Idealize.ShloMosaic Idealize.ShloMosaic.TcCoe Idealize.SL.Sem

variable {F : FTy → Type} [FloatOps F] [Named F]
variable  (c : Dev nD) (i : grid0.Coords) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x128 .f32) (harg7 : arg7.IsWhole) (arg8 : Memref sig .tc .vmem S4x2048 .f32) (harg8 : arg8.IsWhole) (arg9 : Memref sig .tc .vmem S4x2048 .f32) (harg9 : arg9.IsWhole) (arg10 : Memref sig .tc .vmem S4x2048 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x2048 .bf16) (harg14 : arg14.IsWhole) (arg15 : Memref sig .tc .vmem S3x136x2048 .f32) (harg15 : arg15.IsWhole) (arg16 : Memref sig .tc .vmem S16x128x128 .f32) (harg16 : arg16.IsWhole) (hc0 : ¬cond0_0 i)
    (x0 : Vec F S128x2048 .f32) (x1 : Vec F S128x2048 .f32) (x2 : Vec F S128x2048 .f32) (x3 : Vec F S128x2048 .f32) (x4 : Vec F S128x128 .f32) (x5 : Vec F S4x2048 .f32) (x6 : Vec F S4x2048 .f32) (x7 : Vec F S4x2048 .f32) (x8 : Vec F S1x128 .f32) (x9 : Vec F S1x128 .f32) (x10 : Vec F S1x128 .f32) (xs0 : Vec F S3x136x2048 .f32) (xs1 : Vec F S16x128x128 .f32)
theorem q_B : (kernelRun0_B.sl.v41 c arg3 harg3 arg8 harg8 arg15 harg15 x0 x5 xs0) = convV (View.readAt (Elt F) arg8.view (Rect.unit (s := S4x2048) ![0, 0] S1x2048.size inb_S4x2048_S1x2048_0_0).toLoadRect (harg8.unread x5)) (View.readAt (Elt F) arg8.view (Rect.unit (s := S4x2048) ![1, 0] S1x2048.size inb_S4x2048_S1x2048_1_0).toLoadRect (harg8.unread x5)) (View.readAt (Elt F) arg8.view (Rect.unit (s := S4x2048) ![2, 0] S1x2048.size inb_S4x2048_S1x2048_2_0).toLoadRect (harg8.unread x5)) (View.readAt (Elt F) arg8.view (Rect.unit (s := S4x2048) ![3, 0] S1x2048.size inb_S4x2048_S1x2048_3_0).toLoadRect (harg8.unread x5)) (kernelRun0_B.sl.v10 c arg3 harg3 arg15 harg15 x0 xs0) (kernelRun0_B.sl.v16 c arg3 harg3 arg15 harg15 x0 xs0) (kernelRun0_B.sl.v22 c arg3 harg3 arg15 harg15 x0 xs0) (kernelRun0_B.sl.v28 c arg3 harg3 arg15 x0) := rfl

theorem k_B : (kernelRun0_B.sl.v80 c arg3 harg3 arg4 harg4 arg9 harg9 arg15 harg15 x0 x1 x6 xs0) = convV (View.readAt (Elt F) arg9.view (Rect.unit (s := S4x2048) ![0, 0] S1x2048.size inb_S4x2048_S1x2048_0_0).toLoadRect (harg9.unread x6)) (View.readAt (Elt F) arg9.view (Rect.unit (s := S4x2048) ![1, 0] S1x2048.size inb_S4x2048_S1x2048_1_0).toLoadRect (harg9.unread x6)) (View.readAt (Elt F) arg9.view (Rect.unit (s := S4x2048) ![2, 0] S1x2048.size inb_S4x2048_S1x2048_2_0).toLoadRect (harg9.unread x6)) (View.readAt (Elt F) arg9.view (Rect.unit (s := S4x2048) ![3, 0] S1x2048.size inb_S4x2048_S1x2048_3_0).toLoadRect (harg9.unread x6)) (kernelRun0_B.sl.v49 c arg3 harg3 arg4 harg4 arg15 harg15 x0 x1 xs0) (kernelRun0_B.sl.v55 c arg3 harg3 arg4 harg4 arg15 harg15 x0 x1 xs0) (kernelRun0_B.sl.v61 c arg3 harg3 arg4 harg4 arg15 harg15 x0 x1 xs0) (kernelRun0_B.sl.v67 c arg3 harg3 arg4 harg4 arg15 x0 x1) := rfl

theorem v_B : (kernelRun0_B.sl.v119 c arg3 harg3 arg4 harg4 arg5 harg5 arg10 harg10 arg15 harg15 x0 x1 x2 x7 xs0) = convV (View.readAt (Elt F) arg10.view (Rect.unit (s := S4x2048) ![0, 0] S1x2048.size inb_S4x2048_S1x2048_0_0).toLoadRect (harg10.unread x7)) (View.readAt (Elt F) arg10.view (Rect.unit (s := S4x2048) ![1, 0] S1x2048.size inb_S4x2048_S1x2048_1_0).toLoadRect (harg10.unread x7)) (View.readAt (Elt F) arg10.view (Rect.unit (s := S4x2048) ![2, 0] S1x2048.size inb_S4x2048_S1x2048_2_0).toLoadRect (harg10.unread x7)) (View.readAt (Elt F) arg10.view (Rect.unit (s := S4x2048) ![3, 0] S1x2048.size inb_S4x2048_S1x2048_3_0).toLoadRect (harg10.unread x7)) (kernelRun0_B.sl.v88 c arg3 harg3 arg4 harg4 arg5 harg5 arg15 harg15 x0 x1 x2 xs0) (kernelRun0_B.sl.v94 c arg3 harg3 arg4 harg4 arg5 harg5 arg15 harg15 x0 x1 x2 xs0) (kernelRun0_B.sl.v100 c arg3 harg3 arg4 harg4 arg5 harg5 arg15 harg15 x0 x1 x2 xs0) (kernelRun0_B.sl.v106 c arg3 harg3 arg4 harg4 arg5 harg5 arg15 x0 x1 x2) := rfl

theorem beta_B : (kernelRun0_B.sl.v127 c arg7 harg7 x4) = betaV (View.readAt (Elt F) arg7.view (Rect.unit (s := S128x128) ![0, 0] S128x128.size inb_S128x128_S128x128_0_0).toLoadRect (harg7.unread x4)) := rfl

theorem cum_B : (kernelRun0_B.sl.v164 c arg7 harg7 arg11 harg11 arg12 harg12 x4 x8 x9) = cumV (decayV (View.readAt (Elt F) arg7.view (Rect.unit (s := S128x128) ![0, 0] S128x128.size inb_S128x128_S128x128_0_0).toLoadRect (harg7.unread x4)) (View.readAt (Elt F) arg11.view (Rect.unit (s := S1x128) ![0, 0] S1x128.size inb_S1x128_S1x128_0_0).toLoadRect (harg11.unread x8)) (View.readAt (Elt F) arg12.view (Rect.unit (s := S1x128) ![0, 0] S1x128.size inb_S1x128_S1x128_0_0).toLoadRect (harg12.unread x9))) := rfl

theorem trans_B : (kernelRun0_B.sl.v165 c arg7 harg7 arg11 harg11 arg12 harg12 x4 x8 x9) = transV (kernelRun0_B.sl.v164 c arg7 harg7 arg11 harg11 arg12 harg12 x4 x8 x9) := rfl

theorem state_B : (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).2.2.1 = statePieces i (kernelRun0_B.sl.v41 c arg3 harg3 arg8 harg8 arg15 harg15 x0 x5 xs0) (kernelRun0_B.sl.v80 c arg3 harg3 arg4 harg4 arg9 harg9 arg15 harg15 x0 x1 x6 xs0) (kernelRun0_B.sl.v119 c arg3 harg3 arg4 harg4 arg5 harg5 arg10 harg10 arg15 harg15 x0 x1 x2 x7 xs0) (kernelRun0_B.sl.v164 c arg7 harg7 arg11 harg11 arg12 harg12 x4 x8 x9) (kernelRun0_B.sl.v165 c arg7 harg7 arg11 harg11 arg12 harg12 x4 x8 x9) (kernelRun0_B.sl.v127 c arg7 harg7 x4) (fun h => shapeCast S128x128 (View.readAt (Elt F) arg16.view (Rect.unit (s := S16x128x128) ![h.val, 0, 0] ![1, 128, 128] (stateInb h)).toLoadRect (harg16.unread xs1)) shapeCasts_S1x128x128_S128x128) := by unfold kernelRun0_B; rfl

theorem out_B : (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).1 = outPieces i (kernelRun0_B.sl.v41 c arg3 harg3 arg8 harg8 arg15 harg15 x0 x5 xs0) (kernelRun0_B.sl.v80 c arg3 harg3 arg4 harg4 arg9 harg9 arg15 harg15 x0 x1 x6 xs0) (kernelRun0_B.sl.v119 c arg3 harg3 arg4 harg4 arg5 harg5 arg10 harg10 arg15 harg15 x0 x1 x2 x7 xs0) (kernelRun0_B.sl.v164 c arg7 harg7 arg11 harg11 arg12 harg12 x4 x8 x9) (kernelRun0_B.sl.v165 c arg7 harg7 arg11 harg11 arg12 harg12 x4 x8 x9) (kernelRun0_B.sl.v127 c arg7 harg7 x4) (fun h => shapeCast S128x128 (View.readAt (Elt F) arg16.view (Rect.unit (s := S16x128x128) ![h.val, 0, 0] ![1, 128, 128] (stateInb h)).toLoadRect (harg16.unread xs1)) shapeCasts_S1x128x128_S128x128) (View.readAt (Elt F) arg13.view (Rect.unit (s := S1x128) ![0, 0] S1x128.size inb_S1x128_S1x128_0_0).toLoadRect (harg13.unread x10)) (fun h => View.readAt (Elt F) arg6.view (Rect.unit (s := S128x2048) ![0, 128 * h.val] ![128, 128] (headInb h)).toLoadRect (harg6.unread x3)) := by unfold kernelRun0_B; rfl

theorem pay_q_B : (fun j : S128x2048.Idx => (kernelRun0_B.sl.v6 c arg3 harg3 x0) (ix3 0 (j 0) (j 1))) = x0 := by
  show (fun j : S128x2048.Idx => shapeCast S1x128x2048 (View.readAt (Elt F) arg3.view (Rect.unit (s := S128x2048) ![0, 0] S128x2048.size inb_S128x2048_S128x2048_0_0).toLoadRect (harg3.unread x0)) shapeCasts_S128x2048_S1x128x2048 (ix3 0 (j 0) (j 1))) = x0
  rw [View.readAt_eq_ld, harg3.read_unread, View.ld_unit_lit' _ _ (by decide)]
  funext j
  idx_vars j
  pointwise

theorem tap_q0_B : (kernelRun0_B.sl.v10 c arg3 harg3 arg15 harg15 x0 xs0) = tapV (fun r l => xs0 (haloIx 0 r l)) x0 0 := by
  have h := tap_read 0 5 (by decide) 0 rfl inb_S3x136x2048_S1x128x2048_0_8_0 inb_S3x136x2048_S1x128x2048_0_5_0 (kernelRun0_B.sl.v6 c arg3 harg3 x0) (fun r l => xs0 (haloIx 0 r l)) [] arg15.view (harg15.unread xs0) (fun r l => by
    exact congrFun (harg15.read_unread xs0) _)
  rw [pay_q_B] at h
  exact h

theorem tap_q1_B : (kernelRun0_B.sl.v16 c arg3 harg3 arg15 harg15 x0 xs0) = tapV (fun r l => xs0 (haloIx 0 r l)) x0 1 := by
  have h := tap_read 0 6 (by decide) 1 rfl inb_S3x136x2048_S1x128x2048_0_8_0 inb_S3x136x2048_S1x128x2048_0_6_0 (kernelRun0_B.sl.v6 c arg3 harg3 x0) (fun r l => xs0 (haloIx 0 r l)) [] arg15.view (harg15.unread xs0) (fun r l => by
    exact congrFun (harg15.read_unread xs0) _)
  rw [pay_q_B] at h
  exact h

theorem tap_q2_B : (kernelRun0_B.sl.v22 c arg3 harg3 arg15 harg15 x0 xs0) = tapV (fun r l => xs0 (haloIx 0 r l)) x0 2 := by
  have h := tap_read 0 7 (by decide) 2 rfl inb_S3x136x2048_S1x128x2048_0_8_0 inb_S3x136x2048_S1x128x2048_0_7_0 (kernelRun0_B.sl.v6 c arg3 harg3 x0) (fun r l => xs0 (haloIx 0 r l)) [] arg15.view (harg15.unread xs0) (fun r l => by
    exact congrFun (harg15.read_unread xs0) _)
  rw [pay_q_B] at h
  exact h

theorem tap_q3_B : (kernelRun0_B.sl.v28 c arg3 harg3 arg15 x0) = tapV (fun r l => xs0 (haloIx 0 r l)) x0 3 := by
  have h := tap_cov 0 8 (by decide) 3 rfl inb_S3x136x2048_S1x128x2048_0_8_0 inb_S3x136x2048_S1x128x2048_0_8_0 (kernelRun0_B.sl.v6 c arg3 harg3 x0) (fun r l => View.canon (Val := Elt F) (e := .f32) [] (haloIx 0 r l)) [] arg15.view (fun r l => by
    rfl)
  rw [tapV_three _ (fun r l => xs0 (haloIx 0 r l))] at h
  rw [pay_q_B] at h
  exact h

theorem pay_k_B : (fun j : S128x2048.Idx => (kernelRun0_B.sl.v45 c arg4 harg4 x1) (ix3 0 (j 0) (j 1))) = x1 := by
  show (fun j : S128x2048.Idx => shapeCast S1x128x2048 (View.readAt (Elt F) arg4.view (Rect.unit (s := S128x2048) ![0, 0] S128x2048.size inb_S128x2048_S128x2048_0_0).toLoadRect (harg4.unread x1)) shapeCasts_S128x2048_S1x128x2048 (ix3 0 (j 0) (j 1))) = x1
  rw [View.readAt_eq_ld, harg4.read_unread, View.ld_unit_lit' _ _ (by decide)]
  funext j
  idx_vars j
  pointwise

theorem tap_k0_B : (kernelRun0_B.sl.v49 c arg3 harg3 arg4 harg4 arg15 harg15 x0 x1 xs0) = tapV (fun r l => xs0 (haloIx 1 r l)) x1 0 := by
  have h := tap_read 1 5 (by decide) 0 rfl inb_S3x136x2048_S1x128x2048_1_8_0 inb_S3x136x2048_S1x128x2048_1_5_0 (kernelRun0_B.sl.v45 c arg4 harg4 x1) (fun r l => xs0 (haloIx 1 r l)) (⟨Rect.unit (s := S3x136x2048) ![0, 0, 0] S1x8x2048.size inb_S3x136x2048_S1x8x2048_0_0_0, (kernelRun0_B.sl.v36 c arg3 harg3 arg15 x0)⟩ :: (kernelRun0_B.sl.HS0_1 c arg3 harg3 x0)) arg15.view (harg15.unread xs0) (fun r l => by
    rw [read_writes_out _ _ _ _ _ _ (skip_rows 1 0 0 8 (by decide) (by decide) _ r l)]
    unfold kernelRun0_B.sl.HS0_1
    rw [read_writes_out _ _ _ _ _ _ (skip_rows 1 0 8 128 (by decide) (by decide) _ r l)]
    exact congrFun (harg15.read_unread xs0) _)
  rw [pay_k_B] at h
  exact h

theorem tap_k1_B : (kernelRun0_B.sl.v55 c arg3 harg3 arg4 harg4 arg15 harg15 x0 x1 xs0) = tapV (fun r l => xs0 (haloIx 1 r l)) x1 1 := by
  have h := tap_read 1 6 (by decide) 1 rfl inb_S3x136x2048_S1x128x2048_1_8_0 inb_S3x136x2048_S1x128x2048_1_6_0 (kernelRun0_B.sl.v45 c arg4 harg4 x1) (fun r l => xs0 (haloIx 1 r l)) (⟨Rect.unit (s := S3x136x2048) ![0, 0, 0] S1x8x2048.size inb_S3x136x2048_S1x8x2048_0_0_0, (kernelRun0_B.sl.v36 c arg3 harg3 arg15 x0)⟩ :: (kernelRun0_B.sl.HS0_1 c arg3 harg3 x0)) arg15.view (harg15.unread xs0) (fun r l => by
    rw [read_writes_out _ _ _ _ _ _ (skip_rows 1 0 0 8 (by decide) (by decide) _ r l)]
    unfold kernelRun0_B.sl.HS0_1
    rw [read_writes_out _ _ _ _ _ _ (skip_rows 1 0 8 128 (by decide) (by decide) _ r l)]
    exact congrFun (harg15.read_unread xs0) _)
  rw [pay_k_B] at h
  exact h

theorem tap_k2_B : (kernelRun0_B.sl.v61 c arg3 harg3 arg4 harg4 arg15 harg15 x0 x1 xs0) = tapV (fun r l => xs0 (haloIx 1 r l)) x1 2 := by
  have h := tap_read 1 7 (by decide) 2 rfl inb_S3x136x2048_S1x128x2048_1_8_0 inb_S3x136x2048_S1x128x2048_1_7_0 (kernelRun0_B.sl.v45 c arg4 harg4 x1) (fun r l => xs0 (haloIx 1 r l)) (⟨Rect.unit (s := S3x136x2048) ![0, 0, 0] S1x8x2048.size inb_S3x136x2048_S1x8x2048_0_0_0, (kernelRun0_B.sl.v36 c arg3 harg3 arg15 x0)⟩ :: (kernelRun0_B.sl.HS0_1 c arg3 harg3 x0)) arg15.view (harg15.unread xs0) (fun r l => by
    rw [read_writes_out _ _ _ _ _ _ (skip_rows 1 0 0 8 (by decide) (by decide) _ r l)]
    unfold kernelRun0_B.sl.HS0_1
    rw [read_writes_out _ _ _ _ _ _ (skip_rows 1 0 8 128 (by decide) (by decide) _ r l)]
    exact congrFun (harg15.read_unread xs0) _)
  rw [pay_k_B] at h
  exact h

theorem tap_k3_B : (kernelRun0_B.sl.v67 c arg3 harg3 arg4 harg4 arg15 x0 x1) = tapV (fun r l => xs0 (haloIx 1 r l)) x1 3 := by
  have h := tap_cov 1 8 (by decide) 3 rfl inb_S3x136x2048_S1x128x2048_1_8_0 inb_S3x136x2048_S1x128x2048_1_8_0 (kernelRun0_B.sl.v45 c arg4 harg4 x1) (fun r l => View.canon (Val := Elt F) (e := .f32) (⟨Rect.unit (s := S3x136x2048) ![0, 0, 0] S1x8x2048.size inb_S3x136x2048_S1x8x2048_0_0_0, (kernelRun0_B.sl.v36 c arg3 harg3 arg15 x0)⟩ :: (kernelRun0_B.sl.HS0_1 c arg3 harg3 x0)) (haloIx 1 r l)) (⟨Rect.unit (s := S3x136x2048) ![0, 0, 0] S1x8x2048.size inb_S3x136x2048_S1x8x2048_0_0_0, (kernelRun0_B.sl.v36 c arg3 harg3 arg15 x0)⟩ :: (kernelRun0_B.sl.HS0_1 c arg3 harg3 x0)) arg15.view (fun r l => by
    rfl)
  rw [tapV_three _ (fun r l => xs0 (haloIx 1 r l))] at h
  rw [pay_k_B] at h
  exact h

theorem pay_v_B : (fun j : S128x2048.Idx => (kernelRun0_B.sl.v84 c arg5 harg5 x2) (ix3 0 (j 0) (j 1))) = x2 := by
  show (fun j : S128x2048.Idx => shapeCast S1x128x2048 (View.readAt (Elt F) arg5.view (Rect.unit (s := S128x2048) ![0, 0] S128x2048.size inb_S128x2048_S128x2048_0_0).toLoadRect (harg5.unread x2)) shapeCasts_S128x2048_S1x128x2048 (ix3 0 (j 0) (j 1))) = x2
  rw [View.readAt_eq_ld, harg5.read_unread, View.ld_unit_lit' _ _ (by decide)]
  funext j
  idx_vars j
  pointwise

theorem tap_v0_B : (kernelRun0_B.sl.v88 c arg3 harg3 arg4 harg4 arg5 harg5 arg15 harg15 x0 x1 x2 xs0) = tapV (fun r l => xs0 (haloIx 2 r l)) x2 0 := by
  have h := tap_read 2 5 (by decide) 0 rfl inb_S3x136x2048_S1x128x2048_2_8_0 inb_S3x136x2048_S1x128x2048_2_5_0 (kernelRun0_B.sl.v84 c arg5 harg5 x2) (fun r l => xs0 (haloIx 2 r l)) (⟨Rect.unit (s := S3x136x2048) ![1, 0, 0] S1x8x2048.size inb_S3x136x2048_S1x8x2048_1_0_0, (kernelRun0_B.sl.v75 c arg3 harg3 arg4 harg4 arg15 x0 x1)⟩ :: (kernelRun0_B.sl.HS0_3 c arg3 harg3 arg4 harg4 arg15 x0 x1)) arg15.view (harg15.unread xs0) (fun r l => by
    rw [read_writes_out _ _ _ _ _ _ (skip_rows 2 1 0 8 (by decide) (by decide) _ r l)]
    unfold kernelRun0_B.sl.HS0_3
    rw [read_writes_out _ _ _ _ _ _ (skip_rows 2 1 8 128 (by decide) (by decide) _ r l)]
    rw [read_writes_out _ _ _ _ _ _ (skip_rows 2 0 0 8 (by decide) (by decide) _ r l)]
    unfold kernelRun0_B.sl.HS0_1
    rw [read_writes_out _ _ _ _ _ _ (skip_rows 2 0 8 128 (by decide) (by decide) _ r l)]
    exact congrFun (harg15.read_unread xs0) _)
  rw [pay_v_B] at h
  exact h

theorem tap_v1_B : (kernelRun0_B.sl.v94 c arg3 harg3 arg4 harg4 arg5 harg5 arg15 harg15 x0 x1 x2 xs0) = tapV (fun r l => xs0 (haloIx 2 r l)) x2 1 := by
  have h := tap_read 2 6 (by decide) 1 rfl inb_S3x136x2048_S1x128x2048_2_8_0 inb_S3x136x2048_S1x128x2048_2_6_0 (kernelRun0_B.sl.v84 c arg5 harg5 x2) (fun r l => xs0 (haloIx 2 r l)) (⟨Rect.unit (s := S3x136x2048) ![1, 0, 0] S1x8x2048.size inb_S3x136x2048_S1x8x2048_1_0_0, (kernelRun0_B.sl.v75 c arg3 harg3 arg4 harg4 arg15 x0 x1)⟩ :: (kernelRun0_B.sl.HS0_3 c arg3 harg3 arg4 harg4 arg15 x0 x1)) arg15.view (harg15.unread xs0) (fun r l => by
    rw [read_writes_out _ _ _ _ _ _ (skip_rows 2 1 0 8 (by decide) (by decide) _ r l)]
    unfold kernelRun0_B.sl.HS0_3
    rw [read_writes_out _ _ _ _ _ _ (skip_rows 2 1 8 128 (by decide) (by decide) _ r l)]
    rw [read_writes_out _ _ _ _ _ _ (skip_rows 2 0 0 8 (by decide) (by decide) _ r l)]
    unfold kernelRun0_B.sl.HS0_1
    rw [read_writes_out _ _ _ _ _ _ (skip_rows 2 0 8 128 (by decide) (by decide) _ r l)]
    exact congrFun (harg15.read_unread xs0) _)
  rw [pay_v_B] at h
  exact h

theorem tap_v2_B : (kernelRun0_B.sl.v100 c arg3 harg3 arg4 harg4 arg5 harg5 arg15 harg15 x0 x1 x2 xs0) = tapV (fun r l => xs0 (haloIx 2 r l)) x2 2 := by
  have h := tap_read 2 7 (by decide) 2 rfl inb_S3x136x2048_S1x128x2048_2_8_0 inb_S3x136x2048_S1x128x2048_2_7_0 (kernelRun0_B.sl.v84 c arg5 harg5 x2) (fun r l => xs0 (haloIx 2 r l)) (⟨Rect.unit (s := S3x136x2048) ![1, 0, 0] S1x8x2048.size inb_S3x136x2048_S1x8x2048_1_0_0, (kernelRun0_B.sl.v75 c arg3 harg3 arg4 harg4 arg15 x0 x1)⟩ :: (kernelRun0_B.sl.HS0_3 c arg3 harg3 arg4 harg4 arg15 x0 x1)) arg15.view (harg15.unread xs0) (fun r l => by
    rw [read_writes_out _ _ _ _ _ _ (skip_rows 2 1 0 8 (by decide) (by decide) _ r l)]
    unfold kernelRun0_B.sl.HS0_3
    rw [read_writes_out _ _ _ _ _ _ (skip_rows 2 1 8 128 (by decide) (by decide) _ r l)]
    rw [read_writes_out _ _ _ _ _ _ (skip_rows 2 0 0 8 (by decide) (by decide) _ r l)]
    unfold kernelRun0_B.sl.HS0_1
    rw [read_writes_out _ _ _ _ _ _ (skip_rows 2 0 8 128 (by decide) (by decide) _ r l)]
    exact congrFun (harg15.read_unread xs0) _)
  rw [pay_v_B] at h
  exact h

theorem tap_v3_B : (kernelRun0_B.sl.v106 c arg3 harg3 arg4 harg4 arg5 harg5 arg15 x0 x1 x2) = tapV (fun r l => xs0 (haloIx 2 r l)) x2 3 := by
  have h := tap_cov 2 8 (by decide) 3 rfl inb_S3x136x2048_S1x128x2048_2_8_0 inb_S3x136x2048_S1x128x2048_2_8_0 (kernelRun0_B.sl.v84 c arg5 harg5 x2) (fun r l => View.canon (Val := Elt F) (e := .f32) (⟨Rect.unit (s := S3x136x2048) ![1, 0, 0] S1x8x2048.size inb_S3x136x2048_S1x8x2048_1_0_0, (kernelRun0_B.sl.v75 c arg3 harg3 arg4 harg4 arg15 x0 x1)⟩ :: (kernelRun0_B.sl.HS0_3 c arg3 harg3 arg4 harg4 arg15 x0 x1)) (haloIx 2 r l)) (⟨Rect.unit (s := S3x136x2048) ![1, 0, 0] S1x8x2048.size inb_S3x136x2048_S1x8x2048_1_0_0, (kernelRun0_B.sl.v75 c arg3 harg3 arg4 harg4 arg15 x0 x1)⟩ :: (kernelRun0_B.sl.HS0_3 c arg3 harg3 arg4 harg4 arg15 x0 x1)) arg15.view (fun r l => by
    rfl)
  rw [tapV_three _ (fun r l => xs0 (haloIx 2 r l))] at h
  rw [pay_v_B] at h
  exact h

theorem row_q0_B : (View.readAt (Elt F) arg8.view (Rect.unit (s := S4x2048) ![0, 0] S1x2048.size inb_S4x2048_S1x2048_0_0).toLoadRect (harg8.unread x5)) = rowOfV x5 0 := by
  rw [View.readAt_eq_ld, harg8.read_unread]
  exact row_load0 x5

theorem row_q1_B : (View.readAt (Elt F) arg8.view (Rect.unit (s := S4x2048) ![1, 0] S1x2048.size inb_S4x2048_S1x2048_1_0).toLoadRect (harg8.unread x5)) = rowOfV x5 1 := by
  rw [View.readAt_eq_ld, harg8.read_unread]
  exact row_load1 x5

theorem row_q2_B : (View.readAt (Elt F) arg8.view (Rect.unit (s := S4x2048) ![2, 0] S1x2048.size inb_S4x2048_S1x2048_2_0).toLoadRect (harg8.unread x5)) = rowOfV x5 2 := by
  rw [View.readAt_eq_ld, harg8.read_unread]
  exact row_load2 x5

theorem row_q3_B : (View.readAt (Elt F) arg8.view (Rect.unit (s := S4x2048) ![3, 0] S1x2048.size inb_S4x2048_S1x2048_3_0).toLoadRect (harg8.unread x5)) = rowOfV x5 3 := by
  rw [View.readAt_eq_ld, harg8.read_unread]
  exact row_load3 x5

theorem proj_q_B : (kernelRun0_B.sl.v41 c arg3 harg3 arg8 harg8 arg15 harg15 x0 x5 xs0) = projV (fun r l => xs0 (haloIx 0 r l)) x0 x5 := by
  rw [q_B, row_q0_B, row_q1_B, row_q2_B, row_q3_B, tap_q0_B, tap_q1_B, tap_q2_B, tap_q3_B (xs0 := xs0)]
  rfl

theorem row_k0_B : (View.readAt (Elt F) arg9.view (Rect.unit (s := S4x2048) ![0, 0] S1x2048.size inb_S4x2048_S1x2048_0_0).toLoadRect (harg9.unread x6)) = rowOfV x6 0 := by
  rw [View.readAt_eq_ld, harg9.read_unread]
  exact row_load0 x6

theorem row_k1_B : (View.readAt (Elt F) arg9.view (Rect.unit (s := S4x2048) ![1, 0] S1x2048.size inb_S4x2048_S1x2048_1_0).toLoadRect (harg9.unread x6)) = rowOfV x6 1 := by
  rw [View.readAt_eq_ld, harg9.read_unread]
  exact row_load1 x6

theorem row_k2_B : (View.readAt (Elt F) arg9.view (Rect.unit (s := S4x2048) ![2, 0] S1x2048.size inb_S4x2048_S1x2048_2_0).toLoadRect (harg9.unread x6)) = rowOfV x6 2 := by
  rw [View.readAt_eq_ld, harg9.read_unread]
  exact row_load2 x6

theorem row_k3_B : (View.readAt (Elt F) arg9.view (Rect.unit (s := S4x2048) ![3, 0] S1x2048.size inb_S4x2048_S1x2048_3_0).toLoadRect (harg9.unread x6)) = rowOfV x6 3 := by
  rw [View.readAt_eq_ld, harg9.read_unread]
  exact row_load3 x6

theorem proj_k_B : (kernelRun0_B.sl.v80 c arg3 harg3 arg4 harg4 arg9 harg9 arg15 harg15 x0 x1 x6 xs0) = projV (fun r l => xs0 (haloIx 1 r l)) x1 x6 := by
  rw [k_B, row_k0_B, row_k1_B, row_k2_B, row_k3_B, tap_k0_B, tap_k1_B, tap_k2_B, tap_k3_B (xs0 := xs0)]
  rfl

theorem row_v0_B : (View.readAt (Elt F) arg10.view (Rect.unit (s := S4x2048) ![0, 0] S1x2048.size inb_S4x2048_S1x2048_0_0).toLoadRect (harg10.unread x7)) = rowOfV x7 0 := by
  rw [View.readAt_eq_ld, harg10.read_unread]
  exact row_load0 x7

theorem row_v1_B : (View.readAt (Elt F) arg10.view (Rect.unit (s := S4x2048) ![1, 0] S1x2048.size inb_S4x2048_S1x2048_1_0).toLoadRect (harg10.unread x7)) = rowOfV x7 1 := by
  rw [View.readAt_eq_ld, harg10.read_unread]
  exact row_load1 x7

theorem row_v2_B : (View.readAt (Elt F) arg10.view (Rect.unit (s := S4x2048) ![2, 0] S1x2048.size inb_S4x2048_S1x2048_2_0).toLoadRect (harg10.unread x7)) = rowOfV x7 2 := by
  rw [View.readAt_eq_ld, harg10.read_unread]
  exact row_load2 x7

theorem row_v3_B : (View.readAt (Elt F) arg10.view (Rect.unit (s := S4x2048) ![3, 0] S1x2048.size inb_S4x2048_S1x2048_3_0).toLoadRect (harg10.unread x7)) = rowOfV x7 3 := by
  rw [View.readAt_eq_ld, harg10.read_unread]
  exact row_load3 x7

theorem proj_v_B : (kernelRun0_B.sl.v119 c arg3 harg3 arg4 harg4 arg5 harg5 arg10 harg10 arg15 harg15 x0 x1 x2 x7 xs0) = projV (fun r l => xs0 (haloIx 2 r l)) x2 x7 := by
  rw [v_B, row_v0_B, row_v1_B, row_v2_B, row_v3_B, tap_v0_B, tap_v1_B, tap_v2_B, tap_v3_B (xs0 := xs0)]
  rfl

theorem whole_x4_B : (View.readAt (Elt F) arg7.view (Rect.unit (s := S128x128) ![0, 0] S128x128.size inb_S128x128_S128x128_0_0).toLoadRect (harg7.unread x4)) = x4 := by
  rw [View.readAt_eq_ld, harg7.read_unread]
  exact whole_load0 x4

theorem whole_x8_B : (View.readAt (Elt F) arg11.view (Rect.unit (s := S1x128) ![0, 0] S1x128.size inb_S1x128_S1x128_0_0).toLoadRect (harg11.unread x8)) = x8 := by
  rw [View.readAt_eq_ld, harg11.read_unread]
  exact whole_load1 x8

theorem whole_x9_B : (View.readAt (Elt F) arg12.view (Rect.unit (s := S1x128) ![0, 0] S1x128.size inb_S1x128_S1x128_0_0).toLoadRect (harg12.unread x9)) = x9 := by
  rw [View.readAt_eq_ld, harg12.read_unread]
  exact whole_load1 x9

theorem whole_x10_B : (View.readAt (Elt F) arg13.view (Rect.unit (s := S1x128) ![0, 0] S1x128.size inb_S1x128_S1x128_0_0).toLoadRect (harg13.unread x10)) = x10 := by
  rw [View.readAt_eq_ld, harg13.read_unread]
  exact whole_load1 x10

theorem betas_B : (kernelRun0_B.sl.v127 c arg7 harg7 x4) = betaV x4 := by rw [beta_B, whole_x4_B]

theorem cums_B : (kernelRun0_B.sl.v164 c arg7 harg7 arg11 harg11 arg12 harg12 x4 x8 x9) = cumV (decayV x4 x8 x9) := by rw [cum_B, whole_x4_B, whole_x8_B, whole_x9_B]

theorem zs_B : (fun h : Fin 16 => View.readAt (Elt F) arg6.view (Rect.unit (s := S128x2048) ![0, 128 * h.val] ![128, 128] (headInb h)).toLoadRect (harg6.unread x3)) = (fun h => lanesV ![0, 128 * h.val] (headSlice h) x3) := by
  funext h
  rw [View.readAt_eq_ld, harg6.read_unread]
  exact lanes_load x3 h

theorem sts_B : (fun h : Fin 16 => shapeCast S128x128 (View.readAt (Elt F) arg16.view (Rect.unit (s := S16x128x128) ![h.val, 0, 0] ![1, 128, 128] (stateInb h)).toLoadRect (harg16.unread xs1)) shapeCasts_S1x128x128_S128x128) = (fun h j => xs1 (ix3 h (j 0) (j 1))) := by
  funext h
  rw [View.readAt_eq_ld, harg16.read_unread]
  exact state_load xs1 h

theorem left_out_B : out0_B_11 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 = stepOut i (fun s r l => xs0 (haloIx s r l)) (fun h j => xs1 (ix3 h (j 0) (j 1))) x0 x1 x2 x3 x4 x5 x6 x7 x8 x9 x10 := by
  unfold out0_B_11
  rw [View.read_writes_junk_eq_canon, out_B, proj_q_B, proj_k_B, proj_v_B, trans_B, cums_B, betas_B, sts_B, whole_x10_B, zs_B]
  funext j
  rw [canon_out]
  rfl

theorem left_state_B (h : Fin 16) (a b : Fin 128) : sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 (ix3 h a b) = stepState i (fun s r l => xs0 (haloIx s r l)) (fun h j => xs1 (ix3 h (j 0) (j 1))) x0 x1 x2 x4 x5 x6 x7 x8 x9 h (ix2 a b) := by
  unfold sout0_B_1
  rw [View.read_writes_junk_eq_canon, state_B, proj_q_B, proj_k_B, proj_v_B, trans_B, cums_B, betas_B, sts_B]
  rw [← List.append_nil (statePieces _ _ _ _ _ _ _ _)]
  rw [canon_state]
  rfl

theorem left_halo0_B (r : Fin 8) (l : Fin 2048) : sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 (haloIx 0 r l) = x0 (ix2 ⟨120 + r.val, by omega⟩ l) := by
  unfold sout0_B_0
  rw [View.read_writes_junk_eq_canon]
  unfold kernelRun0_B
  dsimp only
  refine (canon_out_of _ _ _ _ (skip_rows 0 2 0 8 (by decide) (by decide) _ r l)).trans ?_
  unfold kernelRun0_B.sl.HS0_5
  refine (canon_out_of _ _ _ _ (skip_rows 0 2 8 128 (by decide) (by decide) _ r l)).trans ?_
  refine (canon_out_of _ _ _ _ (skip_rows 0 1 0 8 (by decide) (by decide) _ r l)).trans ?_
  unfold kernelRun0_B.sl.HS0_3
  refine (canon_out_of _ _ _ _ (skip_rows 0 1 8 128 (by decide) (by decide) _ r l)).trans ?_
  refine (canon_at _ _ _ _ _ (halo_emb 0 inb_S3x136x2048_S1x8x2048_0_0_0 r l)).trans ?_
  unfold kernelRun0_B.sl.v36 kernelRun0_B.sl.v33 kernelRun0_B.sl.v32 kernelRun0_B.sl.HS0_1
  refine (last_rows arg15.view 0 inb_S3x136x2048_S1x128x2048_0_8_0 inb_S3x136x2048_S1x8x2048_0_128_0 _ _ r l).trans ?_
  exact congrFun (pay_q_B c arg3 harg3 x0) (ix2 ⟨120 + r.val, by omega⟩ l)

theorem left_halo1_B (r : Fin 8) (l : Fin 2048) : sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 (haloIx 1 r l) = x1 (ix2 ⟨120 + r.val, by omega⟩ l) := by
  unfold sout0_B_0
  rw [View.read_writes_junk_eq_canon]
  unfold kernelRun0_B
  dsimp only
  refine (canon_out_of _ _ _ _ (skip_rows 1 2 0 8 (by decide) (by decide) _ r l)).trans ?_
  unfold kernelRun0_B.sl.HS0_5
  refine (canon_out_of _ _ _ _ (skip_rows 1 2 8 128 (by decide) (by decide) _ r l)).trans ?_
  refine (canon_at _ _ _ _ _ (halo_emb 1 inb_S3x136x2048_S1x8x2048_1_0_0 r l)).trans ?_
  unfold kernelRun0_B.sl.v75 kernelRun0_B.sl.v72 kernelRun0_B.sl.v71 kernelRun0_B.sl.HS0_3
  refine (last_rows arg15.view 1 inb_S3x136x2048_S1x128x2048_1_8_0 inb_S3x136x2048_S1x8x2048_1_128_0 _ _ r l).trans ?_
  exact congrFun (pay_k_B c arg4 harg4 x1) (ix2 ⟨120 + r.val, by omega⟩ l)

theorem left_halo2_B (r : Fin 8) (l : Fin 2048) : sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 (haloIx 2 r l) = x2 (ix2 ⟨120 + r.val, by omega⟩ l) := by
  unfold sout0_B_0
  rw [View.read_writes_junk_eq_canon]
  unfold kernelRun0_B
  dsimp only
  refine (canon_at _ _ _ _ _ (halo_emb 2 inb_S3x136x2048_S1x8x2048_2_0_0 r l)).trans ?_
  unfold kernelRun0_B.sl.v114 kernelRun0_B.sl.v111 kernelRun0_B.sl.v110 kernelRun0_B.sl.HS0_5
  refine (last_rows arg15.view 2 inb_S3x136x2048_S1x128x2048_2_8_0 inb_S3x136x2048_S1x8x2048_2_128_0 _ _ r l).trans ?_
  exact congrFun (pay_v_B c arg5 harg5 x2) (ix2 ⟨120 + r.val, by omega⟩ l)

end Cert.KernelIdeal.Hand
-- ==== Proof.Gdn.Fold.lean ====
module

public import proofs.«01_k».proof.Proof.Gdn.Blocks
public import proofs.«01_k».proof.Proof.Gdn.RunA
public import proofs.«01_k».proof.Proof.Gdn.RunB

/-!
# The kernel's sweep

Every grid point finds the last rows of the chunk before it and the heads' states in its scratch, and leaves its own. So after
point `n` the scratch holds the states that the tokens up to the chunk's end leave, and the output block the answers.
-/

@[expose] public section

set_option maxRecDepth 16384

noncomputable section

namespace Cert.KernelIdeal.Hand

open Cert.KernelIdeal Cert.KernelIdeal.Gen Idealize.ShloMosaic Idealize.ShloMosaic.TcCoe Idealize.SL.Sem
open Gdn (M128)

/-! ## One chunk, of real numbers -/

section

variable (X : Args) (t : ℕ) (ht : t < 128) (h : Fin 16)

/-- The rows of 2048 columns that a chunk reads of one third of the convolution's input. -/
def partR (k : Fin 3) : Matrix (Fin 128) (Fin 2048) ℝ := actR X t (8192 + 2048 * k.val) (by omega) ht

/-- The eight rows before them: zero at a sequence's beginning. -/
def haloR (k : Fin 3) (r : Fin 8) (l : Fin 2048) : ℝ :=
  if h : t % 64 = 0 then 0 else partR X (t - 1) (by omega) k ⟨120 + r.val, by omega⟩ l

/-- The states before a chunk. -/
def stateR (h : Fin 16) : M128 := Matrix.of fun a b => stateTok X (t / 64) h (128 * (t % 64)) a b

/-- A chunk's gates. -/
def smallR : M128 := Matrix.of fun i l => X.s ⟨128 * t + i.val, by omega⟩ l

/-- A head's chunk at grid point `t`. -/
def chunkAt : ChunkR :=
  stepChunk (haloR X t ht) (stateR X t) (partR X t ht 0) (partR X t ht 1) (partR X t ht 2) (smallR X t ht)
    (convR X 0) (convR X 1) (convR X 2) (laneR X.al) (laneR X.dt) h

theorem tap_at (k : Fin 3) (kk : Fin 4) (i : Fin 128) (l : Fin 2048) :
    tapR (haloR X t ht k) (partR X t ht k) kk i l =
      rawTok X (t / 64) (128 * (t % 64) + i.val + kk.val) ⟨2048 * k.val + l.val, by omega⟩ := by
  unfold tapR rawTok
  simp only [Matrix.of_apply]
  have hi := i.isLt
  have hk := kk.isLt
  by_cases h1 : i.val + (5 + kk.val) < 8
  · rw [dif_pos h1]
    unfold haloR
    by_cases h0 : t % 64 = 0
    · rw [dif_pos h0, if_neg (by omega)]
    · rw [dif_neg h0, if_pos (by omega)]
      unfold partR actR
      simp only [Matrix.of_apply]
      congr 1
      · apply Fin.ext; unfold rowTok; simp only; omega
      · apply Fin.ext; simp only; omega
  · rw [dif_neg h1, if_pos (by omega)]
    unfold partR actR
    simp only [Matrix.of_apply]
    congr 1
    · apply Fin.ext; unfold rowTok; simp only; omega
    · apply Fin.ext; simp only; omega

theorem conv_at (k : Fin 3) (i : Fin 128) (l : Fin 2048) :
    projR (haloR X t ht k) (partR X t ht k) (convR X k) i l =
      convTok X (t / 64) (128 * (t % 64) + i.val) ⟨2048 * k.val + l.val, by omega⟩ := by
  unfold projR convTok
  simp only [Matrix.of_apply, tap_at]
  rfl

theorem lanes_at (k : Fin 3) (i a : Fin 128) :
    lanesR h (projR (haloR X t ht k) (partR X t ht k) (convR X k)) i a = partTok X (t / 64) h (128 * (t % 64) + i.val) k a :=
  conv_at X t ht k i _

theorem len_at (k : Fin 3) (i : Fin 128) :
    lenR (lanesR h (projR (haloR X t ht k) (partR X t ht k) (convR X k))) i = lenTok X (t / 64) h (128 * (t % 64) + i.val) k := by
  unfold lenR lenTok
  simp only [lanes_at]

theorem small_at (i : Fin 128) (l : Fin 128) : smallR X t ht i l = X.s (rowTok (t / 64) (128 * (t % 64) + i.val)) l := by
  unfold smallR rowTok
  simp only [Matrix.of_apply]
  congr 1
  apply Fin.ext
  have := i.isLt
  simp only
  omega

theorem chunk_Q (i a : Fin 128) : (chunkAt X t ht h).Q i a = qTok X (t / 64) h (128 * (t % 64) + i.val) a := by
  show lanesR h (projR (haloR X t ht 0) (partR X t ht 0) (convR X 0)) i a * lenR _ i * scaleR = _
  rw [lanes_at, len_at]; rfl
theorem chunk_K (i a : Fin 128) : (chunkAt X t ht h).K i a = kTok X (t / 64) h (128 * (t % 64) + i.val) a := by
  show lanesR h (projR (haloR X t ht 1) (partR X t ht 1) (convR X 1)) i a * lenR _ i = _
  rw [lanes_at, len_at]; rfl
theorem chunk_V (i a : Fin 128) : (chunkAt X t ht h).V i a = vTok X (t / 64) h (128 * (t % 64) + i.val) a := lanes_at X t ht h 2 i a
theorem chunk_b (i : Fin 128) : (chunkAt X t ht h).b i = bTok X (t / 64) h (128 * (t % 64) + i.val) := by
  show sigR (smallR X t ht i _) = _
  rw [small_at]; rfl

theorem lane_at (a : Fin 16 → ℝ) : laneR a 0 ⟨64 + h.val, by omega⟩ = a h := by
  unfold laneR
  simp only [Matrix.of_apply]
  rw [dif_pos (by omega)]
  congr 1
  apply Fin.ext
  simp

theorem chunk_g (i : Fin 128) : (chunkAt X t ht h).g i = Gdn.cum (gTok X (t / 64) h) (128 * (t % 64)) (i.val + 1) := by
  show (∑ x : Fin 128, if x ≤ i then decayR (laneR X.al 0 ⟨64 + h.val, by omega⟩) (laneR X.dt 0 ⟨64 + h.val, by omega⟩) (smallR X t ht x _) else 0) = _
  unfold Gdn.cum
  rw [sum_first (C := 128) (i.val + 1) (Nat.succ_le_of_lt i.isLt)]
  refine Finset.sum_congr rfl fun x _ => ?_
  rw [lane_at h, lane_at h, small_at X t ht x]
  by_cases hx : x ≤ i
  · rw [if_pos hx, if_pos (Nat.lt_succ_of_le (show x.val ≤ i.val from hx))]; rfl
  · rw [if_neg hx, if_neg (fun q : x.val < i.val + 1 => hx (show x.val ≤ i.val from Nat.le_of_lt_succ q))]

theorem chunk_S (a b : Fin 128) : (chunkAt X t ht h).S a b = stateTok X (t / 64) h (128 * (t % 64)) a b := rfl

theorem next_at (a b : Fin 128) : (chunkAt X t ht h).next a b = stateTok X (t / 64) h (128 * (t % 64) + 128) a b :=
  chunk_next (chunkAt X t ht h) (qTok X (t / 64) h) (kTok X (t / 64) h) (vTok X (t / 64) h) (gTok X (t / 64) h) (bTok X (t / 64) h) (128 * (t % 64))
    (chunk_Q X t ht h) (chunk_K X t ht h) (chunk_V X t ht h) (chunk_b X t ht h) (chunk_g X t ht h) (chunk_S X t ht h) a b

theorem emit_at (i b : Fin 128) : (chunkAt X t ht h).out i b = emitTok X (t / 64) h (128 * (t % 64) + i.val) b :=
  chunk_emit (chunkAt X t ht h) (qTok X (t / 64) h) (kTok X (t / 64) h) (vTok X (t / 64) h) (gTok X (t / 64) h) (bTok X (t / 64) h) (128 * (t % 64))
    (chunk_Q X t ht h) (chunk_K X t ht h) (chunk_V X t ht h) (chunk_b X t ht h) (chunk_g X t ht h) (chunk_S X t ht h) i b

/-- The block of answers. -/
def blockR : Matrix (Fin 128) (Fin 2048) ℝ := Matrix.of fun i l => answer X ⟨128 * t + i.val, by omega⟩ l

theorem gate_at (i b : Fin 128) : gateR ((chunkAt X t ht h).out i) (lanesR h (actR X t 16384 (by decide) ht) i) (gainR X 0) b =
    answerTok X (t / 64) h (128 * (t % 64) + i.val) b := by
  have e1 : (chunkAt X t ht h).out i = emitTok X (t / 64) h (128 * (t % 64) + i.val) := funext fun b => emit_at X t ht h i b
  have e2 : lanesR h (actR X t 16384 (by decide) ht) i =
      fun a : Fin 128 => X.p (rowTok (t / 64) (128 * (t % 64) + i.val)) ⟨16384 + (128 * h.val + a.val), by omega⟩ := by
    funext a
    unfold lanesR actR rowTok
    simp only [Matrix.of_apply]
    congr 1
    apply Fin.ext
    have := i.isLt
    simp only
    omega
  rw [e1, e2]
  rfl

end

/-! ## Grid points -/

section

variable {m : (b : Loc nD τ sig) → Buf (Elt Ideal) b} {c : Dev nD} {X : Args} (H : Holds m c X) (t : Fin cfg0.N)

/-- What a grid point leaves. -/
structure Leaves (X : Args) (t : ℕ) (ht : t < 128) (out : FVec Ideal S128x2048 .bf16) (hal : FVec Ideal S3x136x2048 .f32)
    (st : FVec Ideal S16x128x128 .f32) : Prop where
  out : out = up (blockR X t ht)
  hal : ∀ (k : Fin 3) (r : Fin 8) (l : Fin 2048), hal (haloIx k r l) = ((partR X t ht k ⟨120 + r.val, by omega⟩ l : ℝ) : EReal)
  st : ∀ (h : Fin 16) (a b : Fin 128), st (ix3 h a b) = ((stateTok X (t / 64) h (128 * (t % 64) + 128) a b : ℝ) : EReal)

include H in
theorem step_state (h : Fin 16) :
    stepState (F := Ideal) (grid0.coords t) (fun s r l => ((haloR X t.val (pt_lt t) s r l : ℝ) : EReal)) (fun h => up (stateR X t.val h))
      (X0_0 m c t) (X0_1 m c t) (X0_2 m c t) (iblk m c 4 t) (iblk m c 5 t) (iblk m c 6 t) (iblk m c 7 t) (iblk m c 8 t) (iblk m c 9 t) h =
    up (Matrix.of (stateTok X (t.val / 64) h (128 * (t.val % 64) + 128))) := by
  rw [x0_up H t, x1_up H t, x2_up H t, x4_up H t, x5_up H t, x6_up H t, x7_up H t, x8_up H t, x9_up H t]
  refine (stepState_up (grid0.coords t) (haloR X t.val (pt_lt t)) (stateR X t.val) _ _ _ _ _ _ _ _ _ h).trans ?_
  refine congrArg up ?_
  funext a b
  exact next_at X t.val (pt_lt t) h a b

include H in
theorem step_out :
    stepOut (F := Ideal) (grid0.coords t) (fun s r l => ((haloR X t.val (pt_lt t) s r l : ℝ) : EReal)) (fun h => up (stateR X t.val h))
      (X0_0 m c t) (X0_1 m c t) (X0_2 m c t) (X0_3 m c t) (iblk m c 4 t) (iblk m c 5 t) (iblk m c 6 t) (iblk m c 7 t) (iblk m c 8 t) (iblk m c 9 t) (iblk m c 10 t) =
    up (blockR X t.val (pt_lt t)) := by
  funext j
  unfold stepOut
  rw [x0_up H t, x1_up H t, x2_up H t, x3_up H t, x4_up H t, x5_up H t, x6_up H t, x7_up H t, x8_up H t, x9_up H t, x10_up H t]
  refine (congrFun (stepHead_up (grid0.coords t) (haloR X t.val (pt_lt t)) (stateR X t.val) _ _ _ _ _ _ _ _ _ _ _ _) _).trans ?_
  refine (congrArg (fun r : ℝ => (r : EReal)) (gate_at X t.val (pt_lt t) ⟨(j 1).val / 128, by have : (j 1).val < 2048 := (j 1).isLt; omega⟩ (j 0) ⟨(j 1).val % 128, Nat.mod_lt _ (by decide)⟩)).trans ?_
  unfold up blockR answer
  have h0 : (j 0).val < 128 := (j 0).isLt
  have ht := pt_lt t
  have e1 : (128 * t.val + (j 0).val) / 8192 = t.val / 64 := by omega
  have e2 : (128 * t.val + (j 0).val) % 8192 = 128 * (t.val % 64) + (j 0).val := by omega
  show _ = ((answerTok X ((128 * t.val + (j 0).val) / 8192) _ ((128 * t.val + (j 0).val) % 8192) _ : ℝ) : EReal)
  rw [e1, e2]

include H in
theorem leaves_A (h0 : t.val % 64 = 0) : Leaves X t.val (pt_lt t) (outsAt0 m c t.val t.isLt).1 (outsAt0 m c t.val t.isLt).2.1 (outsAt0 m c t.val t.isLt).2.2 := by
  have hz : (fun (s : Fin 3) (r : Fin 8) (l : Fin 2048) => (Scalar.ofBits (F := Ideal) .f32 0x00000000#32)) =
      fun s r l => ((haloR X t.val (pt_lt t) s r l : ℝ) : EReal) := by
    funext s r l
    unfold haloR
    rw [dif_pos h0]
    exact word_zero
  have hs : (fun (h : Fin 16) (j : S128x128.Idx) => (Scalar.ofBits (F := Ideal) .f32 0x00000000#32)) = fun h => up (stateR X t.val h) := by
    funext h j
    refine word_zero.trans ?_
    unfold up stateR
    simp only [Matrix.of_apply, h0]
    rfl
  rw [outsAt0_A m c t h0]
  dsimp only
  refine ⟨?_, ?_, ?_⟩
  · rw [left_out_A]
    refine Eq.trans ?_ (step_out H t)
    exact congrArg₂ (fun a b => stepOut (F := Ideal) (grid0.coords t) a b _ _ _ _ _ _ _ _ _ _ _) hz hs
  · intro k r l
    obtain rfl | rfl | rfl : k = 0 ∨ k = 1 ∨ k = 2 := by fin_cases k <;> simp
    · rw [left_halo0_A, x0_up H t]; rfl
    · rw [left_halo1_A, x1_up H t]; rfl
    · rw [left_halo2_A, x2_up H t]; rfl
  · intro h a b
    rw [left_state_A]
    refine Eq.trans ?_ (congrFun (step_state H t h) (ix2 a b))
    exact congrArg₂ (fun x y => stepState (F := Ideal) (grid0.coords t) x y _ _ _ _ _ _ _ _ _ h (ix2 a b)) hz hs

include H in
theorem leaves_B (h0 : ¬t.val % 64 = 0)
    (ih : Leaves X (t.val - 1) (Nat.lt_of_le_of_lt (Nat.sub_le _ _) (pt_lt t)) (outsAt0 m c (t.val - 1) (Nat.lt_of_le_of_lt (Nat.sub_le _ _) t.isLt)).1
      (outsAt0 m c (t.val - 1) (Nat.lt_of_le_of_lt (Nat.sub_le _ _) t.isLt)).2.1 (outsAt0 m c (t.val - 1) (Nat.lt_of_le_of_lt (Nat.sub_le _ _) t.isLt)).2.2) :
    Leaves X t.val (pt_lt t) (outsAt0 m c t.val t.isLt).1 (outsAt0 m c t.val t.isLt).2.1 (outsAt0 m c t.val t.isLt).2.2 := by
  have hz : (fun (s : Fin 3) (r : Fin 8) (l : Fin 2048) => (outsAt0 m c (t.val - 1) (Nat.lt_of_le_of_lt (Nat.sub_le _ _) t.isLt)).2.1 (haloIx s r l)) =
      fun s r l => ((haloR X t.val (pt_lt t) s r l : ℝ) : EReal) := by
    funext s r l
    unfold haloR
    rw [dif_neg h0]
    exact ih.hal s r l
  have hs : (fun (h : Fin 16) (j : S128x128.Idx) => (outsAt0 m c (t.val - 1) (Nat.lt_of_le_of_lt (Nat.sub_le _ _) t.isLt)).2.2 (ix3 h (j 0) (j 1))) =
      fun h => up (stateR X t.val h) := by
    funext h j
    refine (ih.st h (j 0) (j 1)).trans ?_
    show ((stateTok X ((t.val - 1) / 64) h (128 * ((t.val - 1) % 64) + 128) (j 0) (j 1) : ℝ) : EReal) = ((stateTok X (t.val / 64) h (128 * (t.val % 64)) (j 0) (j 1) : ℝ) : EReal)
    have e1 : (t.val - 1) / 64 = t.val / 64 := by omega
    have e2 : 128 * ((t.val - 1) % 64) + 128 = 128 * (t.val % 64) := by omega
    rw [e1, e2]
  rw [outsAt0_B m c t h0]
  dsimp only
  refine ⟨?_, ?_, ?_⟩
  · rw [left_out_B]
    refine Eq.trans ?_ (step_out H t)
    exact congrArg₂ (fun a b => stepOut (F := Ideal) (grid0.coords t) a b _ _ _ _ _ _ _ _ _ _ _) hz hs
  · intro k r l
    obtain rfl | rfl | rfl : k = 0 ∨ k = 1 ∨ k = 2 := by fin_cases k <;> simp
    · rw [left_halo0_B, x0_up H t]; rfl
    · rw [left_halo1_B, x1_up H t]; rfl
    · rw [left_halo2_B, x2_up H t]; rfl
  · intro h a b
    rw [left_state_B]
    refine Eq.trans ?_ (congrFun (step_state H t h) (ix2 a b))
    exact congrArg₂ (fun x y => stepState (F := Ideal) (grid0.coords t) x y _ _ _ _ _ _ _ _ _ h (ix2 a b)) hz hs

include H in
theorem leaves (n : ℕ) (hn : n < cfg0.N) : Leaves X n (pt_lt ⟨n, hn⟩) (outsAt0 m c n hn).1 (outsAt0 m c n hn).2.1 (outsAt0 m c n hn).2.2 := by
  induction n with
  | zero => exact leaves_A H ⟨0, hn⟩ rfl
  | succ n ih =>
    by_cases h0 : (n + 1) % 64 = 0
    · exact leaves_A H ⟨n + 1, hn⟩ h0
    · exact leaves_B H ⟨n + 1, hn⟩ h0 (ih (Nat.lt_of_succ_lt hn))

include H in
/-- The kernel's result. -/
theorem kernel_value : Value.G11 m c = up (answer X) := by
  funext i
  unfold Value.G11
  have h0 : (i 0).val < 16384 := (i 0).isLt
  have h1 : (i 1).val < 2048 := (i 1).isLt
  have hp : Value.pt11Of i = (i 0).val / 128 := by
    show 1 * ((i 0).val / 128 - 0) + 1 * ((i 1).val / 2048 - 0) = _; omega
  have hlt : Value.pt11Of i < cfg0.N := by rw [show cfg0.N = 128 from N_0, hp]; omega
  rw [dif_pos hlt]
  rw [← Value.outsAt0_sweep m c (Value.pt11Of i) hlt, (leaves H (Value.pt11Of i) hlt).out]
  show ((answer X ⟨128 * Value.pt11Of i + (i 0).val % 128, _⟩ ⟨(i 1).val % 2048, _⟩ : ℝ) : EReal) = ((answer X (i 0) (i 1) : ℝ) : EReal)
  refine congrArg (fun r : ℝ => (r : EReal)) (congrArg₂ (answer X) (Fin.ext ?_) (Fin.ext ?_))
  · show 128 * Value.pt11Of i + (i 0).val % 128 = (i 0).val
    rw [hp]; omega
  · show (i 1).val % 2048 = (i 1).val
    omega

end

end Cert.KernelIdeal.Hand
-- ==== Proof.Gdn.RefRun.lean ====
module

public import proofs.«01_k».proof.Proof.Gen.ReferenceIdeal.Run
public import proofs.«01_k».proof.Proof.Gen.ReferenceIdeal.Step

/-!
# The reference's run as its step iterated

What the host computes before the scan is the step's initial state; one trip of the scan is the step; so the result is the
step iterated 128 times. The solve before the scan is a long line of operations, read here in stretches.
-/

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-! ## One trip -/

/-- The valuation holds a state and a trip's number. -/
structure At (V : Valuation τ sig (Elt F)) (s : State F) (j : ℕ) : Prop where
  f7 : V (Proc.devRef .tc main_v379_7) = s.main_v379_7
  f8 : V (Proc.devRef .tc main_v379_8) = s.main_v379_8
  f0 : V (Proc.devRef .tc main_v379_0) = s.main_v379_0
  f1 : V (Proc.devRef .tc main_v379_1) = s.main_v379_1
  f2 : V (Proc.devRef .tc main_v379_2) = s.main_v379_2
  f3 : V (Proc.devRef .tc main_v379_3) = s.main_v379_3
  f4 : V (Proc.devRef .tc main_v379_4) = s.main_v379_4
  f5 : V (Proc.devRef .tc main_v379_5) = s.main_v379_5
  n : V (Proc.devRef .tc main_v379_6) = constantI S_ 32 (BitVec.ofNat 32 j)

variable {V : Valuation τ sig (Elt F)} {s : State F} {j : ℕ}

theorem trip_state (h : At V s j) : step_main_v379_7 V = (step j s).main_v379_7 := by
  unfold step_main_v379_7 res_main_while0b_v410 res_main_while0b_v418 res_main_while0b_v407
  simp only [h.f7, h.f8, h.f0, h.f1, h.f2, h.f3, h.f4, h.f5, h.n]
  rfl
theorem trip_out (h : At V s j) : step_main_v379_8 V = (step j s).main_v379_8 := by
  unfold step_main_v379_8 res_main_while0b_v410 res_main_while0b_v407
  simp only [h.f7, h.f8, h.f0, h.f1, h.f2, h.f3, h.f4, h.f5, h.n]
  rfl
theorem trip_count (h : At V s j) : step_main_v379_6 V = constantI S_ 32 (BitVec.ofNat 32 (j + 1)) := by
  unfold step_main_v379_6
  rw [h.n]
  funext i
  show BitVec.ofNat 32 j + 1#32 = BitVec.ofNat 32 (j + 1)
  rw [BitVec.ofNat_add]

theorem trip (h : At V s j) : At (STEP V) (step j s) (j + 1) where
  f7 := (STEP_main_v379_7 V).trans (trip_state h)
  f8 := (STEP_main_v379_8 V).trans (trip_out h)
  n := (STEP_main_v379_6 V).trans (trip_count h)
  f0 := (STEP_main_v379_0 V).trans h.f0
  f1 := (STEP_main_v379_1 V).trans h.f1
  f2 := (STEP_main_v379_2 V).trans h.f2
  f3 := (STEP_main_v379_3 V).trans h.f3
  f4 := (STEP_main_v379_4 V).trans h.f4
  f5 := (STEP_main_v379_5 V).trans h.f5

/-! ## Before the scan -/

section

variable (x0 : (⟨S16384x21504, .f32⟩ : BufTy).Contents (Elt F)) (x1 : (⟨S16384x128, .f32⟩ : BufTy).Contents (Elt F)) (x2 : (⟨S4x6144, .f32⟩ : BufTy).Contents (Elt F))
  (x3 x4 : (⟨S16, .f32⟩ : BufTy).Contents (Elt F))

/-- What the solve and the operations after it read. -/
structure Live (V : Valuation τ sig (Elt F)) : Prop where
  h80 : V (Proc.devRef .tc main_v80) = Step.A_main_v80 x0 x1 x2 x3 x4
  h81 : V (Proc.devRef .tc main_v81) = Step.A_main_v81 x0 x1 x2 x3 x4
  h82 : V (Proc.devRef .tc main_v82) = Step.A_main_v82 x0 x1 x2 x3 x4
  h83 : V (Proc.devRef .tc main_v83) = Step.A_main_v83 x0 x1 x2 x3 x4
  h85 : V (Proc.devRef .tc main_v85) = Step.A_main_v85 x0 x1 x2 x3 x4
  h96 : V (Proc.devRef .tc main_v96) = Step.A_main_v96 x0 x1 x2 x3 x4
  h99 : V (Proc.devRef .tc main_v99) = Step.A_main_v99 x0 x1 x2 x3 x4
  h102 : V (Proc.devRef .tc main_v102) = Step.A_main_v102 x0 x1 x2 x3 x4

/-- What the masks' operations read. -/
structure Early (V : Valuation τ sig (Elt F)) : Prop where
  h80 : V (Proc.devRef .tc main_v80) = Step.A_main_v80 x0 x1 x2 x3 x4
  h81 : V (Proc.devRef .tc main_v81) = Step.A_main_v81 x0 x1 x2 x3 x4
  h82 : V (Proc.devRef .tc main_v82) = Step.A_main_v82 x0 x1 x2 x3 x4
  h83 : V (Proc.devRef .tc main_v83) = Step.A_main_v83 x0 x1 x2 x3 x4
  h85 : V (Proc.devRef .tc main_v85) = Step.A_main_v85 x0 x1 x2 x3 x4

/-- The same, with the two triangular masks. -/
structure Gap (V : Valuation τ sig (Elt F)) : Prop extends Early x0 x1 x2 x3 x4 V where
  h87 : V (Proc.devRef .tc main_v87) = Step.K_main_v87
  h89 : V (Proc.devRef .tc main_v89) = Step.K_main_v89

/-- The same, with the identity the solve subtracts from. -/
structure Mid (V : Valuation τ sig (Elt F)) : Prop extends Live x0 x1 x2 x3 x4 V where
  heye : V (Proc.devRef .tc main_v108) = Step.K_main_v108

variable {x0 x1 x2 x3 x4}

set_option maxHeartbeats 4000000 in
theorem triangles (h : Early x0 x1 x2 x3 x4 V) : Gap x0 x1 x2 x3 x4 (after (hostOps0_11 (F := F)) (after hostOps0_10 (after hostOps0_9 (after hostOps0_8 V)))) := by
  refine ⟨⟨?_, ?_, ?_, ?_, ?_⟩, ?_, ?_⟩
  · after_reads_simp; exact h.h80
  · after_reads_simp; exact h.h81
  · after_reads_simp; exact h.h82
  · after_reads_simp; exact h.h83
  · after_reads_simp; exact h.h85
  · after_reads_simp; rfl
  · after_reads_simp
    simp -implicitDefEqProofs only [StableHlo.TRef.toBuf, StableHlo.TRef.ofBuf, cast_cast, cast_eq]
    unfold Step.K_main_v89 Step.K_main_call5_v4 Step.K_main_call5_v2 Step.K_main_call5_v1 Step.K_main_call5_v0 Step.K_main_call5_v3 Step.K_main_call5_c Step.K_main_v88 Step.K_main_c_8 Step.K_main_call5_v5 Step.K_main_call5_c_0
    with_reducible rfl

set_option maxHeartbeats 4000000 in
theorem masked (h : Gap x0 x1 x2 x3 x4 V) : Live x0 x1 x2 x3 x4 (after (hostOps0_15 (F := F)) (after hostOps0_14 (after hostOps0_13
    (after hostOps0_12 V)))) := by
  constructor
  · after_reads_simp; exact h.h80
  · after_reads_simp; exact h.h81
  · after_reads_simp; exact h.h82
  · after_reads_simp; exact h.h83
  · after_reads_simp; exact h.h85
  · after_reads_simp; rw [h.h85, h.h87]; rfl
  · after_reads_simp; rw [h.h81, h.h83]; rfl
  · after_reads_simp; rw [h.h81, h.h83, h.h85, h.h87, h.h89]
    simp -implicitDefEqProofs only [StableHlo.TRef.toBuf, StableHlo.TRef.ofBuf, cast_cast, cast_eq]
    unfold Step.A_main_v102 Step.A_main_v101 Step.A_main_v100 Step.A_main_v99 Step.A_main_v98 Step.A_main_v97 Step.A_main_v96 Step.A_main_v95 Step.A_main_v94 Step.A_main_v93 Step.A_main_v92 Step.A_main_v91 Step.A_main_v90 Step.K_main_call6_v2 Step.K_main_call6_v1 Step.K_main_call6_v0 Step.K_main_cst_9 Step.K_main_call7_v1 Step.K_main_call7_v2 Step.K_main_call7_v0 Step.K_main_cst_10
    with_reducible rfl

theorem split_after (n k : ℕ) (ops : List (HloOp τ sig (Elt F))) (W : Valuation τ sig (Elt F)) :
    after (ops.drop n) W = after (ops.drop (n + k)) (after ((ops.drop n).take k) W) := by
  rw [← List.drop_drop, ← after_append, List.take_append_drop]

set_option maxHeartbeats 4000000 in
theorem seg0 (h : Live x0 x1 x2 x3 x4 V) : Mid x0 x1 x2 x3 x4 (after ((hostOps0_16 (F := F)).take 10) V) ∧
    after ((hostOps0_16 (F := F)).take 10) V (Proc.devRef .tc main_v111) = Step.A_main_v111 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; rfl
  · after_reads_simp; rw [h.h102]; rfl

set_option maxHeartbeats 4000000 in
theorem seg1 (h : Mid x0 x1 x2 x3 x4 V) (ht : V (Proc.devRef .tc main_v111) = Step.A_main_v111 x0 x1 x2 x3 x4) :
    Mid x0 x1 x2 x3 x4 (after (((hostOps0_16 (F := F)).drop 10).take 32) V) ∧
    after (((hostOps0_16 (F := F)).drop 10).take 32) V (Proc.devRef .tc main_v143) = Step.A_main_v143 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem seg2 (h : Mid x0 x1 x2 x3 x4 V) (ht : V (Proc.devRef .tc main_v143) = Step.A_main_v143 x0 x1 x2 x3 x4) :
    Mid x0 x1 x2 x3 x4 (after (((hostOps0_16 (F := F)).drop 42).take 32) V) ∧
    after (((hostOps0_16 (F := F)).drop 42).take 32) V (Proc.devRef .tc main_v175) = Step.A_main_v175 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem seg3 (h : Mid x0 x1 x2 x3 x4 V) (ht : V (Proc.devRef .tc main_v175) = Step.A_main_v175 x0 x1 x2 x3 x4) :
    Mid x0 x1 x2 x3 x4 (after (((hostOps0_16 (F := F)).drop 74).take 32) V) ∧
    after (((hostOps0_16 (F := F)).drop 74).take 32) V (Proc.devRef .tc main_v207) = Step.A_main_v207 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem seg4 (h : Mid x0 x1 x2 x3 x4 V) (ht : V (Proc.devRef .tc main_v207) = Step.A_main_v207 x0 x1 x2 x3 x4) :
    Mid x0 x1 x2 x3 x4 (after (((hostOps0_16 (F := F)).drop 106).take 32) V) ∧
    after (((hostOps0_16 (F := F)).drop 106).take 32) V (Proc.devRef .tc main_v239) = Step.A_main_v239 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem seg5 (h : Mid x0 x1 x2 x3 x4 V) (ht : V (Proc.devRef .tc main_v239) = Step.A_main_v239 x0 x1 x2 x3 x4) :
    Mid x0 x1 x2 x3 x4 (after (((hostOps0_16 (F := F)).drop 138).take 32) V) ∧
    after (((hostOps0_16 (F := F)).drop 138).take 32) V (Proc.devRef .tc main_v271) = Step.A_main_v271 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem seg6 (h : Mid x0 x1 x2 x3 x4 V) (ht : V (Proc.devRef .tc main_v271) = Step.A_main_v271 x0 x1 x2 x3 x4) :
    Mid x0 x1 x2 x3 x4 (after (((hostOps0_16 (F := F)).drop 170).take 32) V) ∧
    after (((hostOps0_16 (F := F)).drop 170).take 32) V (Proc.devRef .tc main_v303) = Step.A_main_v303 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem seg7 (h : Mid x0 x1 x2 x3 x4 V) (ht : V (Proc.devRef .tc main_v303) = Step.A_main_v303 x0 x1 x2 x3 x4) :
    Mid x0 x1 x2 x3 x4 (after (((hostOps0_16 (F := F)).drop 202).take 32) V) ∧
    after (((hostOps0_16 (F := F)).drop 202).take 32) V (Proc.devRef .tc main_v335) = Step.A_main_v335 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem seg8 (h : Mid x0 x1 x2 x3 x4 V) (ht : V (Proc.devRef .tc main_v335) = Step.A_main_v335 x0 x1 x2 x3 x4) :
    Mid x0 x1 x2 x3 x4 (after (((hostOps0_16 (F := F)).drop 234).take 24) V) ∧
    after (((hostOps0_16 (F := F)).drop 234).take 24) V (Proc.devRef .tc main_v359) = Step.A_main_v359 x0 x1 x2 x3 x4 := by
  refine ⟨⟨⟨?_, ?_, ?_, ?_, ?_, ?_, ?_, ?_⟩, ?_⟩, ?_⟩
  · after_reads_simp; exact h.h80
  · after_reads_simp; exact h.h81
  · after_reads_simp; exact h.h82
  · after_reads_simp; exact h.h83
  · after_reads_simp; exact h.h85
  · after_reads_simp; exact h.h96
  · after_reads_simp; exact h.h99
  · after_reads_simp; exact h.h102
  · after_reads_simp; exact h.heye
  · after_reads_simp; rw [h.h102, h.heye, ht]; rfl

set_option maxHeartbeats 4000000 in
theorem last (h : Mid x0 x1 x2 x3 x4 V) (ht : V (Proc.devRef .tc main_v359) = Step.A_main_v359 x0 x1 x2 x3 x4) :
    At (after ((hostOps0_16 (F := F)).drop 258) V) (init x0 x1 x2 x3 x4) 0 := by
  constructor
  · after_reads_simp; rfl
  · after_reads_simp; rfl
  · after_reads_simp; rw [h.h80]; rfl
  · after_reads_simp; rw [h.h81]; rfl
  · after_reads_simp; rw [h.h82, h.h83, ht]; rfl
  · after_reads_simp; rw [h.h99, h.h85, ht]; rfl
  · after_reads_simp; rw [h.h85]; rfl
  · after_reads_simp; rw [h.h80, h.h81, h.h96]; rfl
  · after_reads_simp; rfl

theorem solved (h : Live x0 x1 x2 x3 x4 V) : At (after (hostOps0_16 (F := F)) V) (init x0 x1 x2 x3 x4) 0 := by
  have e0 : after (hostOps0_16 (F := F)) V = after ((hostOps0_16 (F := F)).drop 10) (after ((hostOps0_16 (F := F)).take 10) V) := by
    rw [← after_append, List.take_append_drop]
  obtain ⟨m0, t0⟩ := seg0 h
  obtain ⟨m1, t1⟩ := seg1 m0 t0
  obtain ⟨m2, t2⟩ := seg2 m1 t1
  obtain ⟨m3, t3⟩ := seg3 m2 t2
  obtain ⟨m4, t4⟩ := seg4 m3 t3
  obtain ⟨m5, t5⟩ := seg5 m4 t4
  obtain ⟨m6, t6⟩ := seg6 m5 t5
  obtain ⟨m7, t7⟩ := seg7 m6 t6
  obtain ⟨m8, t8⟩ := seg8 m7 t7
  rw [e0, split_after 10 32, split_after 42 32, split_after 74 32, split_after 106 32, split_after 138 32, split_after 170 32, split_after 202 32, split_after 234 24]
  exact last m8 t8

end

variable (m : (ℓ : Loc nD τ sig) → Buf (Elt F) ℓ) (c : Dev nD)

/-- The state before the first trip. -/
abbrev start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

set_option maxRecDepth 65536 in
set_option maxHeartbeats 20000000 in
theorem entry : At (entryContents preI m c) (start m c) 0 := by
  simp only [entryContents, afterL_cons, afterL_nil]
  refine solved (masked (triangles ?_))
  constructor
  · after_reads_simp; rfl
  · after_reads_simp; rfl
  · after_reads_simp; rfl
  · after_reads_simp; rfl
  · after_reads_simp; rfl

/-- Before each condition the valuation holds the step's iterate. -/
theorem iterates (it : ℕ → State F) (h0 : it 0 = start m c) (hs : ∀ n, it (n + 1) = step n (it n)) :
    ∀ k, At (STEP^[k] (entryContents preI m c)) (it k) k
  | 0 => h0 ▸ entry m c
  | k + 1 => by
    rw [Function.iterate_succ_apply', hs k]
    exact trip (iterates it h0 hs k)

/-- The result as the step iterated, and the arguments unchanged. -/
theorem run (m : (ℓ : Loc nD τ sig) → Buf (Elt F) ℓ) (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v402) =
        Step.R_main_v402 (it c 128) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    have hk := iterates m c (it c) (h0 c) (hs c) 128
    refine ⟨(h c).1.trans ?_, (h c).2⟩
    unfold out_main_v402 Step.R_main_v402
    rw [hk.f8, iter_main_arg0 m c 128, iter_main_arg5 m c 128]
    try rfl) (Value.run m ρ)

end Cert.ReferenceIdeal.Hand
-- ==== Proof.Gdn.RefStages.lean ====
module

public import proofs.«01_k».proof.Proof.Gen.ReferenceIdeal.Step
public import proofs.«01_k».proof.Proof.Gdn.Tokens

/-!
# What the reference computes before its scan

Each operation of the reference on arrays of real entries, down to the chunks the scan reads.
-/

@[expose] public section

set_option maxRecDepth 16384

noncomputable section

namespace Cert.ReferenceIdeal.Hand

open Cert.ReferenceIdeal Cert.ReferenceIdeal.Gen Cert.ReferenceIdeal.Step Idealize.ShloMosaic Idealize.ShloMosaic.TcCoe
open Cert.KernelIdeal.Hand

/-- Real arrays as arrays of ideal values. -/
def l1 {a : ℕ} (f : Fin a → ℝ) : (⟨1, ![a]⟩ : Shape).Idx → EReal := fun j => ((f (j 0) : ℝ) : EReal)
def l3 {a b c : ℕ} (f : Fin a → Fin b → Fin c → ℝ) : (⟨3, ![a, b, c]⟩ : Shape).Idx → EReal := fun j => ((f (j 0) (j 1) (j 2) : ℝ) : EReal)
def l4 {a b c d : ℕ} (f : Fin a → Fin b → Fin c → Fin d → ℝ) : (⟨4, ![a, b, c, d]⟩ : Shape).Idx → EReal :=
  fun j => ((f (j 0) (j 1) (j 2) (j 3) : ℝ) : EReal)
def l5 {a b c d e : ℕ} (f : Fin a → Fin b → Fin c → Fin d → Fin e → ℝ) : (⟨5, ![a, b, c, d, e]⟩ : Shape).Idx → EReal :=
  fun j => ((f (j 0) (j 1) (j 2) (j 3) (j 4) : ℝ) : EReal)

section

variable {a b c d e : ℕ}

theorem l1_ix (f : Fin a → ℝ) (i : Fin a) : l1 f (ix1 i) = ((f i : ℝ) : EReal) := rfl
theorem l3_ix (f : Fin a → Fin b → Fin c → ℝ) (i : Fin a) (j : Fin b) (k : Fin c) : l3 f (ix3 i j k) = ((f i j k : ℝ) : EReal) := rfl
theorem l4_ix (f : Fin a → Fin b → Fin c → Fin d → ℝ) (i : Fin a) (j : Fin b) (k : Fin c) (l : Fin d) :
    l4 f (ix4 i j k l) = ((f i j k l : ℝ) : EReal) := rfl
theorem l5_ix (f : Fin a → Fin b → Fin c → Fin d → Fin e → ℝ) (i : Fin a) (j : Fin b) (k : Fin c) (l : Fin d) (n : Fin e) :
    l5 f (ix5 i j k l n) = ((f i j k l n : ℝ) : EReal) := rfl

end

variable (X : Args)

/-! ## The convolution -/

theorem pad_ref : A_main_v6 (F := Ideal) (up X.p) (up X.s) (up X.w) (l1 X.al) (l1 X.dt) = l3 fun (b : Fin 2) (z : Fin 8195) l => rawTok X b.val z.val l := by
  funext j; idx_vars j
  unfold A_main_v6 A_main_v1 A_main_v0 K_main_call0_v0 K_main_c
  pointwise
  simp only [l3_ix, up_apply]
  unfold rawTok rowTok
  have h1 := j1.isLt
  have h0 := j0.isLt
  by_cases h : 3 ≤ j1.val
  · rw [dif_pos ⟨h, by omega⟩, if_pos h]
    refine congrArg (fun r : Fin 16384 => ((X.p r ⟨8192 + j2.val, by omega⟩ : ℝ) : EReal)) (Fin.ext ?_)
    show j0.val * 8192 + (j1.val - 3) = (8192 * j0.val + (j1.val - 3)) % 16384
    omega
  · rw [dif_neg (fun q => h q.1), if_neg h]
    show (((0#32 : BitVec 32).toInt : ℝ) : EReal) = ((0 : ℝ) : EReal)
    simp

theorem sig_ideal (x : ℝ) : Ideal.div 1 (1 + Ideal.exp (-(x : EReal))) = ((sigR x : ℝ) : EReal) := by
  have h : (1 + Real.exp (-x) : ℝ) ≠ 0 := (add_pos one_pos (Real.exp_pos _)).ne'
  rw [← EReal.coe_neg, Ideal.exp_coe, ← EReal.coe_one, ← EReal.coe_add, Ideal.div_coe h, ← EReal.coe_mul]
  unfold sigR
  congr 1
  rw [one_mul, one_div]

theorem conv_ref : A_main_v36 (F := Ideal) (up X.p) (up X.s) (up X.w) (l1 X.al) (l1 X.dt) = l3 fun (b : Fin 2) (n : Fin 8192) l => convTok X b.val n.val l := by
  funext j; idx_vars j
  unfold A_main_v36 A_main_call1_v5 A_main_call1_v3 A_main_call1_v1 A_main_call1_v0 A_main_v35 A_main_v34 A_main_v33 A_main_v32 A_main_v31 A_main_v30
    A_main_v29 A_main_v28 A_main_v27 A_main_v26 A_main_v25 A_main_v24 A_main_v23 A_main_v22 A_main_v21 A_main_v20 A_main_v19 A_main_v18 A_main_v17
    A_main_v16 A_main_v15 A_main_v14 A_main_v12 A_main_v11 A_main_v10 A_main_v9 A_main_v8 A_main_v7 K_main_v13 K_main_cst K_main_call1_v2 K_main_call1_v4
    K_main_call1_cst K_main_call1_cst_0
  rw [pad_ref]
  pointwise
  simp only [l3_ix, up_apply, ← EReal.coe_mul, ← EReal.coe_add, sig_ideal]
  unfold convTok siluR
  simp only [Nat.add_comm, mul_comm]

theorem parts_ref : A_main_v38 (F := Ideal) (up X.p) (up X.s) (up X.w) (l1 X.al) (l1 X.dt) =
    l5 fun (k : Fin 3) (b : Fin 2) (h : Fin 16) (n : Fin 8192) (a : Fin 128) => partTok X b.val h n.val k a := by
  funext j; idx_vars j
  unfold A_main_v38 A_main_v37
  rw [conv_ref]
  pointwise
  simp only [l3_ix, l5_ix]
  unfold partTok
  refine congrArg (fun r : Fin 6144 => ((convTok X j1.val j3.val r : ℝ) : EReal)) (Fin.ext ?_)
  show j0.val * 2048 + j2.val * 128 + j4.val = 2048 * j0.val + (128 * j2.val + j4.val)
  omega

/-! ## Queries, keys, values, gates -/

theorem len_ideal (k : Fin 3) (b : ℕ) (h : Fin 16) (n : ℕ) :
    Ideal.rsqrt ((∑ a : Fin 128, ((partTok X b h n k a : ℝ) : EReal) * ((partTok X b h n k a : ℝ) : EReal)) + ((epsR : ℝ) : EReal)) =
      ((lenTok X b h n k : ℝ) : EReal) := by
  simp only [← EReal.coe_mul]
  rw [← coe_sum, ← EReal.coe_add]
  exact rsqrt_pos (add_pos_of_nonneg_of_pos (Finset.sum_nonneg fun a _ => mul_self_nonneg _) eps_pos)

theorem q_ref : A_main_v50 (F := Ideal) (up X.p) (up X.s) (up X.w) (l1 X.al) (l1 X.dt) = l4 fun (b : Fin 2) h (n : Fin 8192) a => qTok X b.val h n.val a := by
  funext j; idx_vars j
  unfold A_main_v50 A_main_v48 A_main_v47 A_main_v46 A_main_v45 A_main_v43 A_main_v42 A_main_v41 A_main_v40 A_main_v39 K_main_v44 K_main_v49 K_main_cst_0 K_main_cst_1 K_main_cst_2
  rw [parts_ref]
  pointwise
  simp only [l5_ix, l4_ix, word_eps, word_scale, zero_add, len_ideal]
  simp only [← EReal.coe_mul]
  rfl

theorem k_ref : A_main_v60 (F := Ideal) (up X.p) (up X.s) (up X.w) (l1 X.al) (l1 X.dt) = l4 fun (b : Fin 2) h (n : Fin 8192) a => kTok X b.val h n.val a := by
  funext j; idx_vars j
  unfold A_main_v60 A_main_v59 A_main_v58 A_main_v57 A_main_v55 A_main_v54 A_main_v53 A_main_v52 A_main_v51 K_main_v56 K_main_cst_3 K_main_cst_4
  rw [parts_ref]
  pointwise
  simp only [l5_ix, l4_ix, word_eps, zero_add, len_ideal]
  simp only [← EReal.coe_mul]
  rfl

theorem v_ref : A_main_v62 (F := Ideal) (up X.p) (up X.s) (up X.w) (l1 X.al) (l1 X.dt) = l4 fun (b : Fin 2) h (n : Fin 8192) a => vTok X b.val h n.val a := by
  funext j; idx_vars j
  unfold A_main_v62 A_main_v61
  rw [parts_ref]
  pointwise
  simp only [l5_ix, l4_ix]
  rfl

theorem row_eq (b : Fin 2) (n : Fin 8192) (hq : b.val * 8192 + n.val < 16384) : (⟨b.val * 8192 + n.val, hq⟩ : Fin 16384) = rowTok b.val n.val := by
  apply Fin.ext
  show b.val * 8192 + n.val = (8192 * b.val + n.val) % 16384
  omega

theorem b_ref : A_main_v69 (F := Ideal) (up X.p) (up X.s) (up X.w) (l1 X.al) (l1 X.dt) = l3 fun (b : Fin 2) h (n : Fin 8192) => bTok X b.val h n.val := by
  funext j; idx_vars j
  unfold A_main_v69 A_main_v68 A_main_v66 A_main_v64 A_main_v63 A_main_v3 A_main_v2 K_main_v65 K_main_v67 K_main_cst_5 K_main_cst_6
  pointwise
  simp only [l3_ix, up_apply, sig_ideal, row_eq]
  rfl

theorem soft_ideal (y : ℝ) : max (y : EReal) 0 + Ideal.log1p (Ideal.exp (-FloatOps.absf (F := Ideal) (φ := .f32) (y : EReal))) = ((softR y : ℝ) : EReal) := by
  have h1 : FloatOps.absf (F := Ideal) (φ := .f32) (y : EReal) = ((|y| : ℝ) : EReal) := by
    show max (y : EReal) (-(y : EReal)) = _
    rw [← EReal.coe_neg]
    exact (EReal.coe_strictMono.monotone.map_max).symm
  rw [h1, ← EReal.coe_neg, Ideal.exp_coe, log1p_coe, ← EReal.coe_zero, ← EReal.coe_strictMono.monotone.map_max, ← EReal.coe_add]
  rfl

theorem g_ref : A_main_v79 (F := Ideal) (up X.p) (up X.s) (up X.w) (l1 X.al) (l1 X.dt) = l3 fun (b : Fin 2) h (n : Fin 8192) => gTok X b.val h n.val := by
  funext j; idx_vars j
  unfold A_main_v79 A_main_v78 A_main_v77 A_main_v76 A_main_v75 A_main_v74 A_main_call2_v11 A_main_call2_v10 A_main_call2_v9 A_main_call2_v8 A_main_call2_v7
    A_main_call2_v6 A_main_call2_v4 A_main_call2_v3 A_main_call2_v1 A_main_v73 A_main_v72 A_main_v71 A_main_v70 A_main_v5 A_main_v4 K_main_call2_v0 K_main_call2_v2
    K_main_call2_v5 K_main_call2_cst
  pointwise
  simp only [l3_ix, l1_ix, up_apply, row_eq]
  rw [if_neg (fun h => h rfl)]
  simp only [← EReal.coe_add]
  rw [soft_ideal, Ideal.exp_coe, ← EReal.coe_mul, ← EReal.coe_neg]
  rfl

/-! ## Chunks -/

theorem qc_ref : A_main_v80 (F := Ideal) (up X.p) (up X.s) (up X.w) (l1 X.al) (l1 X.dt) = l5 fun (b : Fin 2) h (c : Fin 128) (i : Fin 64) a => qTok X b.val h (64 * c.val + i.val) a := by
  funext j; idx_vars j
  unfold A_main_v80
  rw [q_ref]
  pointwise
  simp only [l5_ix, l4_ix, Nat.mul_comm]

theorem kc_ref : A_main_v81 (F := Ideal) (up X.p) (up X.s) (up X.w) (l1 X.al) (l1 X.dt) = l5 fun (b : Fin 2) h (c : Fin 128) (i : Fin 64) a => kTok X b.val h (64 * c.val + i.val) a := by
  funext j; idx_vars j
  unfold A_main_v81
  rw [k_ref]
  pointwise
  simp only [l5_ix, l4_ix, Nat.mul_comm]

theorem vc_ref : A_main_v82 (F := Ideal) (up X.p) (up X.s) (up X.w) (l1 X.al) (l1 X.dt) = l5 fun (b : Fin 2) h (c : Fin 128) (i : Fin 64) a => vTok X b.val h (64 * c.val + i.val) a := by
  funext j; idx_vars j
  unfold A_main_v82
  rw [v_ref]
  pointwise
  simp only [l5_ix, l4_ix, Nat.mul_comm]

theorem bc_ref : A_main_v83 (F := Ideal) (up X.p) (up X.s) (up X.w) (l1 X.al) (l1 X.dt) = l4 fun (b : Fin 2) h (c : Fin 128) (i : Fin 64) => bTok X b.val h (64 * c.val + i.val) := by
  funext j; idx_vars j
  unfold A_main_v83
  rw [b_ref]
  pointwise
  simp only [l4_ix, l3_ix, Nat.mul_comm]

theorem gc_ref : A_main_v84 (F := Ideal) (up X.p) (up X.s) (up X.w) (l1 X.al) (l1 X.dt) = l4 fun (b : Fin 2) h (c : Fin 128) (i : Fin 64) => gTok X b.val h (64 * c.val + i.val) := by
  funext j; idx_vars j
  unfold A_main_v84
  rw [g_ref]
  pointwise
  simp only [l4_ix, l3_ix, Nat.mul_comm]

/-- A fold that adds is a sum. -/
theorem foldl_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; simp only [List.foldl_cons, List.map_cons, List.sum_cons]; rw [ih, add_assoc]
  rw [h, ← List.ofFn_eq_map, List.sum_ofFn]

/-- The part of a window of 64 that reaches back from place `i` and does not leave the row. -/
theorem window_sum (G : ℕ → ℝ) (i : ℕ) (hi : i < 64) :
    (∑ w : Fin 64, if 63 ≤ i + w.val then G (i + w.val - 63) else 0) = ∑ j ∈ Finset.range (i + 1), G j := by
  rw [Fin.sum_univ_eq_sum_range (fun w => if 63 ≤ i + w then G (i + w - 63) else 0) 64]
  rw [show 64 = (63 - i) + (i + 1) from by omega, Finset.sum_range_add]
  rw [Finset.sum_eq_zero (fun w hw => if_neg (by have := Finset.mem_range.1 hw; omega)), zero_add]
  refine Finset.sum_congr rfl fun w hw => ?_
  have := Finset.mem_range.1 hw
  rw [if_pos (by omega)]
  congr 1
  omega

theorem args_eq (G : Fin 2 → Fin 16 → Fin 128 → ℕ → ℝ) {b b' : Fin 2} {h h' : Fin 16} {c c' : Fin 128} {n n' : ℕ} (e1 : b = b') (e2 : h = h')
    (e3 : c = c') (e4 : n = n') : G b h c n = G b' h' c' n' := by rw [e1, e2, e3, e4]

theorem window_term (G : Fin 2 → Fin 16 → Fin 128 → ℕ → ℝ) (b : Fin 2) (h : Fin 16) (c : Fin 128) (i : Fin 64) (w : (⟨4, ![1, 1, 1, 64]⟩ : Shape).Idx)
    (w0 : (w 0).val = 0) (w1 : (w 1).val = 0) (w2 : (w 2).val = 0) (w3 : (w 3).val < 64)
    (D : Decidable (∀ a : Fin 4, (![0, 0, 0, 63] : Fin 4 → ℕ) a ≤ (ix4 b h c i a).val * (![1, 1, 1, 1] : Fin 4 → ℕ) a + (w a).val ∧
        (ix4 b h c i a).val * (![1, 1, 1, 1] : Fin 4 → ℕ) a + (w a).val - (![0, 0, 0, 63] : Fin 4 → ℕ) a < (![2, 16, 128, 64] : Fin 4 → ℕ) a)) :
    @dite EReal _ D (fun hin =>
      l4 (fun (b : Fin 2) (h : Fin 16) (c : Fin 128) (i : Fin 64) => G b h c i.val)
        (fun a => ⟨(ix4 b h c i a).val * (![1, 1, 1, 1] : Fin 4 → ℕ) a + (w a).val - (![0, 0, 0, 63] : Fin 4 → ℕ) a, (hin a).2⟩)) (fun _ => (0 : EReal)) = ((if 63 ≤ i.val + (w 3).val then G b h c (i.val + (w 3).val - 63) else 0 : ℝ) : EReal) := by
  have hi := i.isLt
  by_cases e : 63 ≤ i.val + (w 3).val
  · have hin : ∀ a : Fin 4, (![0, 0, 0, 63] : Fin 4 → ℕ) a ≤ (ix4 b h c i a).val * (![1, 1, 1, 1] : Fin 4 → ℕ) a + (w a).val ∧
        (ix4 b h c i a).val * (![1, 1, 1, 1] : Fin 4 → ℕ) a + (w a).val - (![0, 0, 0, 63] : Fin 4 → ℕ) a < (![2, 16, 128, 64] : Fin 4 → ℕ) a := by
      rw [Fin.forall_fin_succ, Fin.forall_fin_succ, Fin.forall_fin_succ, Fin.forall_fin_one]
      refine ⟨⟨Nat.zero_le _, ?_⟩, ⟨Nat.zero_le _, ?_⟩, ⟨Nat.zero_le _, ?_⟩, ?_, ?_⟩
      · show b.val * 1 + (w 0).val - 0 < 2
        have := b.isLt; omega
      · show h.val * 1 + (w 1).val - 0 < 16
        have := h.isLt; omega
      · show c.val * 1 + (w 2).val - 0 < 128
        have := c.isLt; omega
      · show 63 ≤ i.val * 1 + (w 3).val
        omega
      · show i.val * 1 + (w 3).val - 63 < 64
        omega
    rw [dif_pos hin, if_pos e]
    refine congrArg (fun r : ℝ => (r : EReal)) (args_eq G (Fin.ext ?_) (Fin.ext ?_) (Fin.ext ?_) ?_)
    · show b.val * 1 + (w 0).val - 0 = b.val
      omega
    · show h.val * 1 + (w 1).val - 0 = h.val
      omega
    · show c.val * 1 + (w 2).val - 0 = c.val
      omega
    · show i.val * 1 + (w 3).val - 63 = _
      omega
  · rw [if_neg e, dif_neg, EReal.coe_zero]
    intro hin
    have : 63 ≤ i.val * 1 + (w 3).val := (hin 3).1
    omega

theorem cumsum_ref (G : Fin 2 → Fin 16 → Fin 128 → ℕ → ℝ) (init : S_.Idx → EReal) (h0 : ∀ i, init i = ((0 : ℝ) : EReal)) (b : Fin 2) (h : Fin 16) (c : Fin 128) (i : Fin 64) :
    Host.reduceWindowAdd (F := Ideal) (φ := .f32) ![1, 1, 1, 64] ![1, 1, 1, 1] ![0, 0, 0, 63] ![0, 0, 0, 0]
      (l4 fun (b : Fin 2) (h : Fin 16) (c : Fin 128) (i : Fin 64) => G b h c i.val : FVec Ideal S2x16x128x64 .f32) init
      reduceWindows_S2x16x128x64_S2x16x128x64_w1s1p0_0_w1s1p0_0_w1s1p0_0_w64s1p63_0 h_S_ (ix4 b h c i) =
    ((∑ j ∈ Finset.range (i.val + 1), G b h c j : ℝ) : EReal) := by
  show Host.reduceWindow (s := S2x16x128x64) (t := S2x16x128x64) (α := EReal) (· + ·) ![1, 1, 1, 64] ![1, 1, 1, 1] ![0, 0, 0, 63] ![0, 0, 0, 0] _ (fun _ : (⟨0, ![]⟩ : Shape).Idx => init (Shape.Idx.first h_S_)) reduceWindows_S2x16x128x64_S2x16x128x64_w1s1p0_0_w1s1p0_0_w1s1p0_0_w64s1p63_0 (by decide) (ix4 b h c i) = _
  unfold Host.reduceWindow
  dsimp only
  rw [foldl_sum, h0, EReal.coe_zero, zero_add]
  refine Eq.trans (b := ∑ k, (fun w : (⟨4, ![1, 1, 1, 64]⟩ : Shape).Idx => ((if 63 ≤ i.val + (w 3).val then G b h c (i.val + (w 3).val - 63) else 0 : ℝ) : EReal))
    ((Shape.rowMajor ⟨4, ![1, 1, 1, 64]⟩).symm k)) ?_ ?_
  · refine Finset.sum_congr rfl fun k _ => ?_
    exact window_term G b h c i ((Shape.rowMajor ⟨4, ![1, 1, 1, 64]⟩).symm k) (Nat.lt_one_iff.1 (Fin.isLt _))
      (Nat.lt_one_iff.1 (Fin.isLt _)) (Nat.lt_one_iff.1 (Fin.isLt _)) (Fin.isLt _) _
  refine (Equiv.sum_comp (Shape.rowMajor ⟨4, ![1, 1, 1, 64]⟩).symm (fun w : (⟨4, ![1, 1, 1, 64]⟩ : Shape).Idx =>
    ((if 63 ≤ i.val + (w 3).val then G b h c (i.val + (w 3).val - 63) else 0 : ℝ) : EReal))).trans ?_
  rw [sum_idx4]
  simp only [Fin.sum_univ_one, Fintype.sum_unique]
  rw [← window_sum _ _ i.isLt, coe_sum]
  rfl

theorem cum_ref : A_main_v85 (F := Ideal) (up X.p) (up X.s) (up X.w) (l1 X.al) (l1 X.dt) =
    l4 fun (b : Fin 2) h (c : Fin 128) (i : Fin 64) => Gdn.cum (gTok X b.val h) (64 * c.val) (i.val + 1) := by
  funext j; idx_vars j
  unfold A_main_v85
  rw [gc_ref]
  exact cumsum_ref (fun b h c n => gTok X b.val h (64 * c.val + n)) _ (fun i => word_zero) _ _ _ _

/-! ## The chunk's matrices -/

section

variable (b h c : ℕ)

end

end Cert.ReferenceIdeal.Hand
-- ==== Proof.Gdn.RefChunk.lean ====
module

public import proofs.«01_k».proof.Proof.Gdn.RefStages

/-!
# The reference's matrices of a chunk

The decay matrix, the strictly lower matrix of the chunk's system and the products the scan reads.
-/

@[expose] public section

set_option maxRecDepth 16384

noncomputable section

namespace Cert.ReferenceIdeal.Hand

open Cert.ReferenceIdeal Cert.ReferenceIdeal.Gen Cert.ReferenceIdeal.Step Idealize.ShloMosaic Idealize.ShloMosaic.TcCoe
open Cert.KernelIdeal.Hand

variable (X : Args)

/-- The running decay, the decay matrix and the strictly lower matrix of chunk `c`. -/
def cumC (b : ℕ) (h : Fin 16) (c i : ℕ) : ℝ := Gdn.cum (gTok X b h) (64 * c) (i + 1)
def gammaC (b : ℕ) (h : Fin 16) (c i j : ℕ) : ℝ := if j ≤ i then Real.exp (cumC X b h c i - cumC X b h c j) else 0
def lowC (b : ℕ) (h : Fin 16) (c i j : ℕ) : ℝ :=
  if j < i then (∑ a, kTok X b h (64 * c + i) a * bTok X b h (64 * c + i) * kTok X b h (64 * c + j) a) * gammaC X b h c i j else 0
theorem word_bot : Ideal.ofBits .f32 0xFF800000#32 = ⊥ := by simp [Ideal.ofBits, Ideal.ieee]

def attnC (b : ℕ) (h : Fin 16) (c i j : ℕ) : ℝ :=
  (∑ a, qTok X b h (64 * c + i) a * kTok X b h (64 * c + j) a) * gammaC X b h c i j

theorem tril_bit (i j : Fin 64) : (K_main_v87 (F := Ideal)) (ix2 i j) = BitVec.ofBool (decide (j.val ≤ i.val)) := by
  unfold K_main_v87 K_main_call4_v4 K_main_v86 K_main_call4_v5 K_main_call4_v2 K_main_call4_v3 K_main_call4_v0 K_main_call4_v1 K_main_call4_c K_main_c_7 K_main_call4_c_0
  pointwise
  revert i j; decide +kernel

theorem stril_bit (i j : Fin 64) : (K_main_v89 (F := Ideal)) (ix2 i j) = BitVec.ofBool (decide (j.val < i.val)) := by
  unfold K_main_v89 K_main_call5_v4 K_main_v88 K_main_call5_v5 K_main_call5_v2 K_main_call5_v3 K_main_call5_v0 K_main_call5_v1 K_main_call5_c K_main_c_8 K_main_call5_c_0
  pointwise
  revert i j; decide +kernel

theorem eq_bit (i j : Fin 64) : (K_main_v107 (F := Ideal)) (ix2 i j) = BitVec.ofBool (decide (i = j)) := by
  unfold K_main_v107 K_main_v106 K_main_v105 K_main_v104 K_main_v103 K_main_c_11
  pointwise
  revert i j; decide +kernel

theorem uitofp_bit (b : Bool) : FloatOps.uitofp (F := Ideal) FTy.f32 (BitVec.ofBool b) = (((if b then 1 else 0 : ℝ)) : EReal) := by
  cases b <;> simp [FloatOps.uitofp]

theorem eye_ref : (K_main_v110 (F := Ideal)) = l5 fun (_ : Fin 2) (_ : Fin 16) (_ : Fin 128) (i j : Fin 64) => (1 : Matrix (Fin 64) (Fin 64) ℝ) i j := by
  funext j; idx_vars j
  unfold K_main_v110 K_main_v109 K_main_v108
  pointwise
  rw [eq_bit, uitofp_bit, l5_ix, Matrix.one_apply]
  simp only [decide_eq_true_eq]

theorem gamma_ref : A_main_v96 (F := Ideal) (up X.p) (up X.s) (up X.w) (l1 X.al) (l1 X.dt) = l5 fun (b : Fin 2) h (c : Fin 128) (i j : Fin 64) => gammaC X b.val h c.val i.val j.val := by
  funext j; idx_vars j
  unfold A_main_v96 A_main_v95 A_main_v94 A_main_v93 A_main_v92 A_main_v91 A_main_v90 K_main_call6_v1 K_main_call6_v2 K_main_call6_v0 K_main_cst_9
  rw [cum_ref]
  pointwise
  rw [tril_bit, select_bit, l5_ix, l4_ix, l4_ix]
  unfold gammaC cumC
  by_cases e : j4.val ≤ j3.val
  · rw [if_pos e, if_pos (decide_eq_true e), ← EReal.coe_sub, Ideal.exp_coe]
  · rw [if_neg e, if_neg (by simpa using e)]
    show Ideal.exp (Ideal.ofBits .f32 0xFF800000#32) = _
    rw [word_bot, Ideal.exp_bot, EReal.coe_zero]

theorem low_ref : A_main_v102 (F := Ideal) (up X.p) (up X.s) (up X.w) (l1 X.al) (l1 X.dt) = l5 fun (b : Fin 2) h (c : Fin 128) (i j : Fin 64) => lowC X b.val h c.val i.val j.val := by
  funext j; idx_vars j
  unfold A_main_v102 A_main_v101 A_main_v100 A_main_v99 A_main_v98 A_main_v97 K_main_call7_v1 K_main_call7_v2 K_main_call7_v0 K_main_cst_10
  rw [gamma_ref, kc_ref, bc_ref]
  pointwise
  rw [stril_bit, select_bit, l5_ix, l5_ix]
  unfold lowC
  by_cases e : j4.val < j3.val
  · rw [if_pos e, if_pos (decide_eq_true e)]
    simp only [l5_ix, l4_ix, coe_sum, EReal.coe_mul]
  · rw [if_neg e, if_neg (by simpa using e)]
    exact word_zero

theorem attn_ref : A_main_v370 (F := Ideal) (up X.p) (up X.s) (up X.w) (l1 X.al) (l1 X.dt) = l5 fun (b : Fin 2) h (c : Fin 128) (i j : Fin 64) => attnC X b.val h c.val i.val j.val := by
  funext j; idx_vars j
  unfold A_main_v370 A_main_v369
  rw [gamma_ref, kc_ref, qc_ref]
  pointwise
  unfold attnC
  simp only [l5_ix, coe_sum, EReal.coe_mul]

/-! ## The inverse -/

/-- The reference's iteration for the inverse of `1 + A`. -/
def tSeq (A : Matrix (Fin 64) (Fin 64) ℝ) : ℕ → Matrix (Fin 64) (Fin 64) ℝ
  | 0 => 1
  | n + 1 => 1 - A * tSeq A n

def lowM (b : ℕ) (h : Fin 16) (c : ℕ) : Matrix (Fin 64) (Fin 64) ℝ := Matrix.of fun i j => lowC X b h c i.val j.val

theorem low_refM : A_main_v102 (F := Ideal) (up X.p) (up X.s) (up X.w) (l1 X.al) (l1 X.dt) = l5 fun (b : Fin 2) h (c : Fin 128) (i j : Fin 64) => lowM X b.val h c.val i j := low_ref X

theorem sub_dot (M N : Fin 2 → Fin 16 → Fin 128 → Matrix (Fin 64) (Fin 64) ℝ) :
    subf (F := Ideal) (φ := .f32) (K_main_v110 (F := Ideal)) (Host.dotGeneral (F := Ideal) (φ₁ := .f32) (φ₂ := .f32) dot_S2x16x128x64x64_S2x16x128x64x64_S2x16x128x64x64_4_3_3_4_012_012 none
      (l5 fun b h c i j => M b h c i j) (l5 fun b h c i j => N b h c i j)) = l5 fun b h c i j => (1 - M b h c * N b h c) i j := by
  funext j; idx_vars j
  rw [eye_ref]
  pointwise
  rw [l5_ix]
  simp only [l5_ix, Matrix.sub_apply, Matrix.mul_apply, coe_sum, EReal.coe_mul, EReal.coe_sub]

theorem t_1 : A_main_v111 (F := Ideal) (up X.p) (up X.s) (up X.w) (l1 X.al) (l1 X.dt) = l5 fun (b : Fin 2) h (c : Fin 128) (i j : Fin 64) => tSeq (lowM X b.val h c.val) 1 i j := by
  funext j; idx_vars j
  unfold A_main_v111
  rw [eye_ref, low_refM]
  pointwise
  simp only [l5_ix, tSeq, Matrix.mul_one, Matrix.sub_apply, EReal.coe_sub]

theorem t_2 : A_main_v115 (F := Ideal) (up X.p) (up X.s) (up X.w) (l1 X.al) (l1 X.dt) = l5 fun (b : Fin 2) h (c : Fin 128) (i j : Fin 64) => tSeq (lowM X b.val h c.val) 2 i j := by
  unfold A_main_v115 A_main_v112
  rw [t_1, low_refM]
  exact sub_dot (fun b h c => lowM X b.val h c.val) (fun b h c => tSeq (lowM X b.val h c.val) 1)

theorem t_3 : A_main_v119 (F := Ideal) (up X.p) (up X.s) (up X.w) (l1 X.al) (l1 X.dt) = l5 fun (b : Fin 2) h (c : Fin 128) (i j : Fin 64) => tSeq (lowM X b.val h c.val) 3 i j := by
  unfold A_main_v119 A_main_v116
  rw [t_2, low_refM]
  exact sub_dot (fun b h c => lowM X b.val h c.val) (fun b h c => tSeq (lowM X b.val h c.val) 2)

theorem t_4 : A_main_v123 (F := Ideal) (up X.p) (up X.s) (up X.w) (l1 X.al) (l1 X.dt) = l5 fun (b : Fin 2) h (c : Fin 128) (i j : Fin 64) => tSeq (lowM X b.val h c.val) 4 i j := by
  unfold A_main_v123 A_main_v120
  rw [t_3, low_refM]
  exact sub_dot (fun b h c => lowM X b.val h c.val) (fun b h c => tSeq (lowM X b.val h c.val) 3)

theorem t_5 : A_main_v127 (F := Ideal) (up X.p) (up X.s) (up X.w) (l1 X.al) (l1 X.dt) = l5 fun (b : Fin 2) h (c : Fin 128) (i j : Fin 64) => tSeq (lowM X b.val h c.val) 5 i j := by
  unfold A_main_v127 A_main_v124
  rw [t_4, low_refM]
  exact sub_dot (fun b h c => lowM X b.val h c.val) (fun b h c => tSeq (lowM X b.val h c.val) 4)

theorem t_6 : A_main_v131 (F := Ideal) (up X.p) (up X.s) (up X.w) (l1 X.al) (l1 X.dt) = l5 fun (b : Fin 2) h (c : Fin 128) (i j : Fin 64) => tSeq (lowM X b.val h c.val) 6 i j := by
  unfold A_main_v131 A_main_v128
  rw [t_5, low_refM]
  exact sub_dot (fun b h c => lowM X b.val h c.val) (fun b h c => tSeq (lowM X b.val h c.val) 5)

theorem t_7 : A_main_v135 (F := Ideal) (up X.p) (up X.s) (up X.w) (l1 X.al) (l1 X.dt) = l5 fun (b : Fin 2) h (c : Fin 128) (i j : Fin 64) => tSeq (lowM X b.val h c.val) 7 i j := by
  unfold A_main_v135 A_main_v132
  rw [t_6, low_refM]
  exact sub_dot (fun b h c => lowM X b.val h c.val) (fun b h c => tSeq (lowM X b.val h c.val) 6)

theorem t_8 : A_main_v139 (F := Ideal) (up X.p) (up X.s) (up X.w) (l1 X.al) (l1 X.dt) = l5 fun (b : Fin 2) h (c : Fin 128) (i j : Fin 64) => tSeq (lowM X b.val h c.val) 8 i j := by
  unfold A_main_v139 A_main_v136
  rw [t_7, low_refM]
  exact sub_dot (fun b h c => lowM X b.val h c.val) (fun b h c => tSeq (lowM X b.val h c.val) 7)

theorem t_9 : A_main_v143 (F := Ideal) (up X.p) (up X.s) (up X.w) (l1 X.al) (l1 X.dt) = l5 fun (b : Fin 2) h (c : Fin 128) (i j : Fin 64) => tSeq (lowM X b.val h c.val) 9 i j := by
  unfold A_main_v143 A_main_v140
  rw [t_8, low_refM]
  exact sub_dot (fun b h c => lowM X b.val h c.val) (fun b h c => tSeq (lowM X b.val h c.val) 8)

theorem t_10 : A_main_v147 (F := Ideal) (up X.p) (up X.s) (up X.w) (l1 X.al) (l1 X.dt) = l5 fun (b : Fin 2) h (c : Fin 128) (i j : Fin 64) => tSeq (lowM X b.val h c.val) 10 i j := by
  unfold A_main_v147 A_main_v144
  rw [t_9, low_refM]
  exact sub_dot (fun b h c => lowM X b.val h c.val) (fun b h c => tSeq (lowM X b.val h c.val) 9)

theorem t_11 : A_main_v151 (F := Ideal) (up X.p) (up X.s) (up X.w) (l1 X.al) (l1 X.dt) = l5 fun (b : Fin 2) h (c : Fin 128) (i j : Fin 64) => tSeq (lowM X b.val h c.val) 11 i j := by
  unfold A_main_v151 A_main_v148
  rw [t_10, low_refM]
  exact sub_dot (fun b h c => lowM X b.val h c.val) (fun b h c => tSeq (lowM X b.val h c.val) 10)

theorem t_12 : A_main_v155 (F := Ideal) (up X.p) (up X.s) (up X.w) (l1 X.al) (l1 X.dt) = l5 fun (b : Fin 2) h (c : Fin 128) (i j : Fin 64) => tSeq (lowM X b.val h c.val) 12 i j := by
  unfold A_main_v155 A_main_v152
  rw [t_11, low_refM]
  exact sub_dot (fun b h c => lowM X b.val h c.val) (fun b h c => tSeq (lowM X b.val h c.val) 11)

theorem t_13 : A_main_v159 (F := Ideal) (up X.p) (up X.s) (up X.w) (l1 X.al) (l1 X.dt) = l5 fun (b : Fin 2) h (c : Fin 128) (i j : Fin 64) => tSeq (lowM X b.val h c.val) 13 i j := by
  unfold A_main_v159 A_main_v156
  rw [t_12, low_refM]
  exact sub_dot (fun b h c => lowM X b.val h c.val) (fun b h c => tSeq (lowM X b.val h c.val) 12)

theorem t_14 : A_main_v163 (F := Ideal) (up X.p) (up X.s) (up X.w) (l1 X.al) (l1 X.dt) = l5 fun (b : Fin 2) h (c : Fin 128) (i j : Fin 64) => tSeq (lowM X b.val h c.val) 14 i j := by
  unfold A_main_v163 A_main_v160
  rw [t_13, low_refM]
  exact sub_dot (fun b h c => lowM X b.val h c.val) (fun b h c => tSeq (lowM X b.val h c.val) 13)

theorem t_15 : A_main_v167 (F := Ideal) (up X.p) (up X.s) (up X.w) (l1 X.al) (l1 X.dt) = l5 fun (b : Fin 2) h (c : Fin 128) (i j : Fin 64) => tSeq (lowM X b.val h c.val) 15 i j := by
  unfold A_main_v167 A_main_v164
  rw [t_14, low_refM]
  exact sub_dot (fun b h c => lowM X b.val h c.val) (fun b h c => tSeq (lowM X b.val h c.val) 14)

theorem t_16 : A_main_v171 (F := Ideal) (up X.p) (up X.s) (up X.w) (l1 X.al) (l1 X.dt) = l5 fun (b : Fin 2) h (c : Fin 128) (i j : Fin 64) => tSeq (lowM X b.val h c.val) 16 i j := by
  unfold A_main_v171 A_main_v168
  rw [t_15, low_refM]
  exact sub_dot (fun b h c => lowM X b.val h c.val) (fun b h c => tSeq (lowM X b.val h c.val) 15)

theorem t_17 : A_main_v175 (F := Ideal) (up X.p) (up X.s) (up X.w) (l1 X.al) (l1 X.dt) = l5 fun (b : Fin 2) h (c : Fin 128) (i j : Fin 64) => tSeq (lowM X b.val h c.val) 17 i j := by
  unfold A_main_v175 A_main_v172
  rw [t_16, low_refM]
  exact sub_dot (fun b h c => lowM X b.val h c.val) (fun b h c => tSeq (lowM X b.val h c.val) 16)

theorem t_18 : A_main_v179 (F := Ideal) (up X.p) (up X.s) (up X.w) (l1 X.al) (l1 X.dt) = l5 fun (b : Fin 2) h (c : Fin 128) (i j : Fin 64) => tSeq (lowM X b.val h c.val) 18 i j := by
  unfold A_main_v179 A_main_v176
  rw [t_17, low_refM]
  exact sub_dot (fun b h c => lowM X b.val h c.val) (fun b h c => tSeq (lowM X b.val h c.val) 17)

theorem t_19 : A_main_v183 (F := Ideal) (up X.p) (up X.s) (up X.w) (l1 X.al) (l1 X.dt) = l5 fun (b : Fin 2) h (c : Fin 128) (i j : Fin 64) => tSeq (lowM X b.val h c.val) 19 i j := by
  unfold A_main_v183 A_main_v180
  rw [t_18, low_refM]
  exact sub_dot (fun b h c => lowM X b.val h c.val) (fun b h c => tSeq (lowM X b.val h c.val) 18)

theorem t_20 : A_main_v187 (F := Ideal) (up X.p) (up X.s) (up X.w) (l1 X.al) (l1 X.dt) = l5 fun (b : Fin 2) h (c : Fin 128) (i j : Fin 64) => tSeq (lowM X b.val h c.val) 20 i j := by
  unfold A_main_v187 A_main_v184
  rw [t_19, low_refM]
  exact sub_dot (fun b h c => lowM X b.val h c.val) (fun b h c => tSeq (lowM X b.val h c.val) 19)

theorem t_21 : A_main_v191 (F := Ideal) (up X.p) (up X.s) (up X.w) (l1 X.al) (l1 X.dt) = l5 fun (b : Fin 2) h (c : Fin 128) (i j : Fin 64) => tSeq (lowM X b.val h c.val) 21 i j := by
  unfold A_main_v191 A_main_v188
  rw [t_20, low_refM]
  exact sub_dot (fun b h c => lowM X b.val h c.val) (fun b h c => tSeq (lowM X b.val h c.val) 20)

theorem t_22 : A_main_v195 (F := Ideal) (up X.p) (up X.s) (up X.w) (l1 X.al) (l1 X.dt) = l5 fun (b : Fin 2) h (c : Fin 128) (i j : Fin 64) => tSeq (lowM X b.val h c.val) 22 i j := by
  unfold A_main_v195 A_main_v192
  rw [t_21, low_refM]
  exact sub_dot (fun b h c => lowM X b.val h c.val) (fun b h c => tSeq (lowM X b.val h c.val) 21)

theorem t_23 : A_main_v199 (F := Ideal) (up X.p) (up X.s) (up X.w) (l1 X.al) (l1 X.dt) = l5 fun (b : Fin 2) h (c : Fin 128) (i j : Fin 64) => tSeq (lowM X b.val h c.val) 23 i j := by
  unfold A_main_v199 A_main_v196
  rw [t_22, low_refM]
  exact sub_dot (fun b h c => lowM X b.val h c.val) (fun b h c => tSeq (lowM X b.val h c.val) 22)

theorem t_24 : A_main_v203 (F := Ideal) (up X.p) (up X.s) (up X.w) (l1 X.al) (l1 X.dt) = l5 fun (b : Fin 2) h (c : Fin 128) (i j : Fin 64) => tSeq (lowM X b.val h c.val) 24 i j := by
  unfold A_main_v203 A_main_v200
  rw [t_23, low_refM]
  exact sub_dot (fun b h c => lowM X b.val h c.val) (fun b h c => tSeq (lowM X b.val h c.val) 23)

theorem t_25 : A_main_v207 (F := Ideal) (up X.p) (up X.s) (up X.w) (l1 X.al) (l1 X.dt) = l5 fun (b : Fin 2) h (c : Fin 128) (i j : Fin 64) => tSeq (lowM X b.val h c.val) 25 i j := by
  unfold A_main_v207 A_main_v204
  rw [t_24, low_refM]
  exact sub_dot (fun b h c => lowM X b.val h c.val) (fun b h c => tSeq (lowM X b.val h c.val) 24)

theorem t_26 : A_main_v211 (F := Ideal) (up X.p) (up X.s) (up X.w) (l1 X.al) (l1 X.dt) = l5 fun (b : Fin 2) h (c : Fin 128) (i j : Fin 64) => tSeq (lowM X b.val h c.val) 26 i j := by
  unfold A_main_v211 A_main_v208
  rw [t_25, low_refM]
  exact sub_dot (fun b h c => lowM X b.val h c.val) (fun b h c => tSeq (lowM X b.val h c.val) 25)

theorem t_27 : A_main_v215 (F := Ideal) (up X.p) (up X.s) (up X.w) (l1 X.al) (l1 X.dt) = l5 fun (b : Fin 2) h (c : Fin 128) (i j : Fin 64) => tSeq (lowM X b.val h c.val) 27 i j := by
  unfold A_main_v215 A_main_v212
  rw [t_26, low_refM]
  exact sub_dot (fun b h c => lowM X b.val h c.val) (fun b h c => tSeq (lowM X b.val h c.val) 26)

theorem t_28 : A_main_v219 (F := Ideal) (up X.p) (up X.s) (up X.w) (l1 X.al) (l1 X.dt) = l5 fun (b : Fin 2) h (c : Fin 128) (i j : Fin 64) => tSeq (lowM X b.val h c.val) 28 i j := by
  unfold A_main_v219 A_main_v216
  rw [t_27, low_refM]
  exact sub_dot (fun b h c => lowM X b.val h c.val) (fun b h c => tSeq (lowM X b.val h c.val) 27)

theorem t_29 : A_main_v223 (F := Ideal) (up X.p) (up X.s) (up X.w) (l1 X.al) (l1 X.dt) = l5 fun (b : Fin 2) h (c : Fin 128) (i j : Fin 64) => tSeq (lowM X b.val h c.val) 29 i j := by
  unfold A_main_v223 A_main_v220
  rw [t_28, low_refM]
  exact sub_dot (fun b h c => lowM X b.val h c.val) (fun b h c => tSeq (lowM X b.val h c.val) 28)

theorem t_30 : A_main_v227 (F := Ideal) (up X.p) (up X.s) (up X.w) (l1 X.al) (l1 X.dt) = l5 fun (b : Fin 2) h (c : Fin 128) (i j : Fin 64) => tSeq (lowM X b.val h c.val) 30 i j := by
  unfold A_main_v227 A_main_v224
  rw [t_29, low_refM]
  exact sub_dot (fun b h c => lowM X b.val h c.val) (fun b h c => tSeq (lowM X b.val h c.val) 29)

theorem t_31 : A_main_v231 (F := Ideal) (up X.p) (up X.s) (up X.w) (l1 X.al) (l1 X.dt) = l5 fun (b : Fin 2) h (c : Fin 128) (i j : Fin 64) => tSeq (lowM X b.val h c.val) 31 i j := by
  unfold A_main_v231 A_main_v228
  rw [t_30, low_refM]
  exact sub_dot (fun b h c => lowM X b.val h c.val) (fun b h c => tSeq (lowM X b.val h c.val) 30)

theorem t_32 : A_main_v235 (F := Ideal) (up X.p) (up X.s) (up X.w) (l1 X.al) (l1 X.dt) = l5 fun (b : Fin 2) h (c : Fin 128) (i j : Fin 64) => tSeq (lowM X b.val h c.val) 32 i j := by
  unfold A_main_v235 A_main_v232
  rw [t_31, low_refM]
  exact sub_dot (fun b h c => lowM X b.val h c.val) (fun b h c => tSeq (lowM X b.val h c.val) 31)

theorem t_33 : A_main_v239 (F := Ideal) (up X.p) (up X.s) (up X.w) (l1 X.al) (l1 X.dt) = l5 fun (b : Fin 2) h (c : Fin 128) (i j : Fin 64) => tSeq (lowM X b.val h c.val) 33 i j := by
  unfold A_main_v239 A_main_v236
  rw [t_32, low_refM]
  exact sub_dot (fun b h c => lowM X b.val h c.val) (fun b h c => tSeq (lowM X b.val h c.val) 32)

theorem t_34 : A_main_v243 (F := Ideal) (up X.p) (up X.s) (up X.w) (l1 X.al) (l1 X.dt) = l5 fun (b : Fin 2) h (c : Fin 128) (i j : Fin 64) => tSeq (lowM X b.val h c.val) 34 i j := by
  unfold A_main_v243 A_main_v240
  rw [t_33, low_refM]
  exact sub_dot (fun b h c => lowM X b.val h c.val) (fun b h c => tSeq (lowM X b.val h c.val) 33)

theorem t_35 : A_main_v247 (F := Ideal) (up X.p) (up X.s) (up X.w) (l1 X.al) (l1 X.dt) = l5 fun (b : Fin 2) h (c : Fin 128) (i j : Fin 64) => tSeq (lowM X b.val h c.val) 35 i j := by
  unfold A_main_v247 A_main_v244
  rw [t_34, low_refM]
  exact sub_dot (fun b h c => lowM X b.val h c.val) (fun b h c => tSeq (lowM X b.val h c.val) 34)

theorem t_36 : A_main_v251 (F := Ideal) (up X.p) (up X.s) (up X.w) (l1 X.al) (l1 X.dt) = l5 fun (b : Fin 2) h (c : Fin 128) (i j : Fin 64) => tSeq (lowM X b.val h c.val) 36 i j := by
  unfold A_main_v251 A_main_v248
  rw [t_35, low_refM]
  exact sub_dot (fun b h c => lowM X b.val h c.val) (fun b h c => tSeq (lowM X b.val h c.val) 35)

theorem t_37 : A_main_v255 (F := Ideal) (up X.p) (up X.s) (up X.w) (l1 X.al) (l1 X.dt) = l5 fun (b : Fin 2) h (c : Fin 128) (i j : Fin 64) => tSeq (lowM X b.val h c.val) 37 i j := by
  unfold A_main_v255 A_main_v252
  rw [t_36, low_refM]
  exact sub_dot (fun b h c => lowM X b.val h c.val) (fun b h c => tSeq (lowM X b.val h c.val) 36)

theorem t_38 : A_main_v259 (F := Ideal) (up X.p) (up X.s) (up X.w) (l1 X.al) (l1 X.dt) = l5 fun (b : Fin 2) h (c : Fin 128) (i j : Fin 64) => tSeq (lowM X b.val h c.val) 38 i j := by
  unfold A_main_v259 A_main_v256
  rw [t_37, low_refM]
  exact sub_dot (fun b h c => lowM X b.val h c.val) (fun b h c => tSeq (lowM X b.val h c.val) 37)

theorem t_39 : A_main_v263 (F := Ideal) (up X.p) (up X.s) (up X.w) (l1 X.al) (l1 X.dt) = l5 fun (b : Fin 2) h (c : Fin 128) (i j : Fin 64) => tSeq (lowM X b.val h c.val) 39 i j := by
  unfold A_main_v263 A_main_v260
  rw [t_38, low_refM]
  exact sub_dot (fun b h c => lowM X b.val h c.val) (fun b h c => tSeq (lowM X b.val h c.val) 38)

theorem t_40 : A_main_v267 (F := Ideal) (up X.p) (up X.s) (up X.w) (l1 X.al) (l1 X.dt) = l5 fun (b : Fin 2) h (c : Fin 128) (i j : Fin 64) => tSeq (lowM X b.val h c.val) 40 i j := by
  unfold A_main_v267 A_main_v264
  rw [t_39, low_refM]
  exact sub_dot (fun b h c => lowM X b.val h c.val) (fun b h c => tSeq (lowM X b.val h c.val) 39)

theorem t_41 : A_main_v271 (F := Ideal) (up X.p) (up X.s) (up X.w) (l1 X.al) (l1 X.dt) = l5 fun (b : Fin 2) h (c : Fin 128) (i j : Fin 64) => tSeq (lowM X b.val h c.val) 41 i j := by
  unfold A_main_v271 A_main_v268
  rw [t_40, low_refM]
  exact sub_dot (fun b h c => lowM X b.val h c.val) (fun b h c => tSeq (lowM X b.val h c.val) 40)

theorem t_42 : A_main_v275 (F := Ideal) (up X.p) (up X.s) (up X.w) (l1 X.al) (l1 X.dt) = l5 fun (b : Fin 2) h (c : Fin 128) (i j : Fin 64) => tSeq (lowM X b.val h c.val) 42 i j := by
  unfold A_main_v275 A_main_v272
  rw [t_41, low_refM]
  exact sub_dot (fun b h c => lowM X b.val h c.val) (fun b h c => tSeq (lowM X b.val h c.val) 41)

theorem t_43 : A_main_v279 (F := Ideal) (up X.p) (up X.s) (up X.w) (l1 X.al) (l1 X.dt) = l5 fun (b : Fin 2) h (c : Fin 128) (i j : Fin 64) => tSeq (lowM X b.val h c.val) 43 i j := by
  unfold A_main_v279 A_main_v276
  rw [t_42, low_refM]
  exact sub_dot (fun b h c => lowM X b.val h c.val) (fun b h c => tSeq (lowM X b.val h c.val) 42)

theorem t_44 : A_main_v283 (F := Ideal) (up X.p) (up X.s) (up X.w) (l1 X.al) (l1 X.dt) = l5 fun (b : Fin 2) h (c : Fin 128) (i j : Fin 64) => tSeq (lowM X b.val h c.val) 44 i j := by
  unfold A_main_v283 A_main_v280
  rw [t_43, low_refM]
  exact sub_dot (fun b h c => lowM X b.val h c.val) (fun b h c => tSeq (lowM X b.val h c.val) 43)

theorem t_45 : A_main_v287 (F := Ideal) (up X.p) (up X.s) (up X.w) (l1 X.al) (l1 X.dt) = l5 fun (b : Fin 2) h (c : Fin 128) (i j : Fin 64) => tSeq (lowM X b.val h c.val) 45 i j := by
  unfold A_main_v287 A_main_v284
  rw [t_44, low_refM]
  exact sub_dot (fun b h c => lowM X b.val h c.val) (fun b h c => tSeq (lowM X b.val h c.val) 44)

theorem t_46 : A_main_v291 (F := Ideal) (up X.p) (up X.s) (up X.w) (l1 X.al) (l1 X.dt) = l5 fun (b : Fin 2) h (c : Fin 128) (i j : Fin 64) => tSeq (lowM X b.val h c.val) 46 i j := by
  unfold A_main_v291 A_main_v288
  rw [t_45, low_refM]
  exact sub_dot (fun b h c => lowM X b.val h c.val) (fun b h c => tSeq (lowM X b.val h c.val) 45)

theorem t_47 : A_main_v295 (F := Ideal) (up X.p) (up X.s) (up X.w) (l1 X.al) (l1 X.dt) = l5 fun (b : Fin 2) h (c : Fin 128) (i j : Fin 64) => tSeq (lowM X b.val h c.val) 47 i j := by
  unfold A_main_v295 A_main_v292
  rw [t_46, low_refM]
  exact sub_dot (fun b h c => lowM X b.val h c.val) (fun b h c => tSeq (lowM X b.val h c.val) 46)

theorem t_48 : A_main_v299 (F := Ideal) (up X.p) (up X.s) (up X.w) (l1 X.al) (l1 X.dt) = l5 fun (b : Fin 2) h (c : Fin 128) (i j : Fin 64) => tSeq (lowM X b.val h c.val) 48 i j := by
  unfold A_main_v299 A_main_v296
  rw [t_47, low_refM]
  exact sub_dot (fun b h c => lowM X b.val h c.val) (fun b h c => tSeq (lowM X b.val h c.val) 47)

theorem t_49 : A_main_v303 (F := Ideal) (up X.p) (up X.s) (up X.w) (l1 X.al) (l1 X.dt) = l5 fun (b : Fin 2) h (c : Fin 128) (i j : Fin 64) => tSeq (lowM X b.val h c.val) 49 i j := by
  unfold A_main_v303 A_main_v300
  rw [t_48, low_refM]
  exact sub_dot (fun b h c => lowM X b.val h c.val) (fun b h c => tSeq (lowM X b.val h c.val) 48)

theorem t_50 : A_main_v307 (F := Ideal) (up X.p) (up X.s) (up X.w) (l1 X.al) (l1 X.dt) = l5 fun (b : Fin 2) h (c : Fin 128) (i j : Fin 64) => tSeq (lowM X b.val h c.val) 50 i j := by
  unfold A_main_v307 A_main_v304
  rw [t_49, low_refM]
  exact sub_dot (fun b h c => lowM X b.val h c.val) (fun b h c => tSeq (lowM X b.val h c.val) 49)

theorem t_51 : A_main_v311 (F := Ideal) (up X.p) (up X.s) (up X.w) (l1 X.al) (l1 X.dt) = l5 fun (b : Fin 2) h (c : Fin 128) (i j : Fin 64) => tSeq (lowM X b.val h c.val) 51 i j := by
  unfold A_main_v311 A_main_v308
  rw [t_50, low_refM]
  exact sub_dot (fun b h c => lowM X b.val h c.val) (fun b h c => tSeq (lowM X b.val h c.val) 50)

theorem t_52 : A_main_v315 (F := Ideal) (up X.p) (up X.s) (up X.w) (l1 X.al) (l1 X.dt) = l5 fun (b : Fin 2) h (c : Fin 128) (i j : Fin 64) => tSeq (lowM X b.val h c.val) 52 i j := by
  unfold A_main_v315 A_main_v312
  rw [t_51, low_refM]
  exact sub_dot (fun b h c => lowM X b.val h c.val) (fun b h c => tSeq (lowM X b.val h c.val) 51)

theorem t_53 : A_main_v319 (F := Ideal) (up X.p) (up X.s) (up X.w) (l1 X.al) (l1 X.dt) = l5 fun (b : Fin 2) h (c : Fin 128) (i j : Fin 64) => tSeq (lowM X b.val h c.val) 53 i j := by
  unfold A_main_v319 A_main_v316
  rw [t_52, low_refM]
  exact sub_dot (fun b h c => lowM X b.val h c.val) (fun b h c => tSeq (lowM X b.val h c.val) 52)

theorem t_54 : A_main_v323 (F := Ideal) (up X.p) (up X.s) (up X.w) (l1 X.al) (l1 X.dt) = l5 fun (b : Fin 2) h (c : Fin 128) (i j : Fin 64) => tSeq (lowM X b.val h c.val) 54 i j := by
  unfold A_main_v323 A_main_v320
  rw [t_53, low_refM]
  exact sub_dot (fun b h c => lowM X b.val h c.val) (fun b h c => tSeq (lowM X b.val h c.val) 53)

theorem t_55 : A_main_v327 (F := Ideal) (up X.p) (up X.s) (up X.w) (l1 X.al) (l1 X.dt) = l5 fun (b : Fin 2) h (c : Fin 128) (i j : Fin 64) => tSeq (lowM X b.val h c.val) 55 i j := by
  unfold A_main_v327 A_main_v324
  rw [t_54, low_refM]
  exact sub_dot (fun b h c => lowM X b.val h c.val) (fun b h c => tSeq (lowM X b.val h c.val) 54)

theorem t_56 : A_main_v331 (F := Ideal) (up X.p) (up X.s) (up X.w) (l1 X.al) (l1 X.dt) = l5 fun (b : Fin 2) h (c : Fin 128) (i j : Fin 64) => tSeq (lowM X b.val h c.val) 56 i j := by
  unfold A_main_v331 A_main_v328
  rw [t_55, low_refM]
  exact sub_dot (fun b h c => lowM X b.val h c.val) (fun b h c => tSeq (lowM X b.val h c.val) 55)

theorem t_57 : A_main_v335 (F := Ideal) (up X.p) (up X.s) (up X.w) (l1 X.al) (l1 X.dt) = l5 fun (b : Fin 2) h (c : Fin 128) (i j : Fin 64) => tSeq (lowM X b.val h c.val) 57 i j := by
  unfold A_main_v335 A_main_v332
  rw [t_56, low_refM]
  exact sub_dot (fun b h c => lowM X b.val h c.val) (fun b h c => tSeq (lowM X b.val h c.val) 56)

theorem t_58 : A_main_v339 (F := Ideal) (up X.p) (up X.s) (up X.w) (l1 X.al) (l1 X.dt) = l5 fun (b : Fin 2) h (c : Fin 128) (i j : Fin 64) => tSeq (lowM X b.val h c.val) 58 i j := by
  unfold A_main_v339 A_main_v336
  rw [t_57, low_refM]
  exact sub_dot (fun b h c => lowM X b.val h c.val) (fun b h c => tSeq (lowM X b.val h c.val) 57)

theorem t_59 : A_main_v343 (F := Ideal) (up X.p) (up X.s) (up X.w) (l1 X.al) (l1 X.dt) = l5 fun (b : Fin 2) h (c : Fin 128) (i j : Fin 64) => tSeq (lowM X b.val h c.val) 59 i j := by
  unfold A_main_v343 A_main_v340
  rw [t_58, low_refM]
  exact sub_dot (fun b h c => lowM X b.val h c.val) (fun b h c => tSeq (lowM X b.val h c.val) 58)

theorem t_60 : A_main_v347 (F := Ideal) (up X.p) (up X.s) (up X.w) (l1 X.al) (l1 X.dt) = l5 fun (b : Fin 2) h (c : Fin 128) (i j : Fin 64) => tSeq (lowM X b.val h c.val) 60 i j := by
  unfold A_main_v347 A_main_v344
  rw [t_59, low_refM]
  exact sub_dot (fun b h c => lowM X b.val h c.val) (fun b h c => tSeq (lowM X b.val h c.val) 59)

theorem t_61 : A_main_v351 (F := Ideal) (up X.p) (up X.s) (up X.w) (l1 X.al) (l1 X.dt) = l5 fun (b : Fin 2) h (c : Fin 128) (i j : Fin 64) => tSeq (lowM X b.val h c.val) 61 i j := by
  unfold A_main_v351 A_main_v348
  rw [t_60, low_refM]
  exact sub_dot (fun b h c => lowM X b.val h c.val) (fun b h c => tSeq (lowM X b.val h c.val) 60)

theorem t_62 : A_main_v355 (F := Ideal) (up X.p) (up X.s) (up X.w) (l1 X.al) (l1 X.dt) = l5 fun (b : Fin 2) h (c : Fin 128) (i j : Fin 64) => tSeq (lowM X b.val h c.val) 62 i j := by
  unfold A_main_v355 A_main_v352
  rw [t_61, low_refM]
  exact sub_dot (fun b h c => lowM X b.val h c.val) (fun b h c => tSeq (lowM X b.val h c.val) 61)

theorem t_63 : A_main_v359 (F := Ideal) (up X.p) (up X.s) (up X.w) (l1 X.al) (l1 X.dt) = l5 fun (b : Fin 2) h (c : Fin 128) (i j : Fin 64) => tSeq (lowM X b.val h c.val) 63 i j := by
  unfold A_main_v359 A_main_v356
  rw [t_62, low_refM]
  exact sub_dot (fun b h c => lowM X b.val h c.val) (fun b h c => tSeq (lowM X b.val h c.val) 62)

/-! ## The inverse applied -/

def invM (b : ℕ) (h : Fin 16) (c : ℕ) : Matrix (Fin 64) (Fin 64) ℝ := tSeq (lowM X b h c) 63

def uC (b : ℕ) (h : Fin 16) (c : ℕ) (i : Fin 64) (a : Fin 128) : ℝ :=
  ∑ j, invM X b h c i j * (vTok X b h (64 * c + j.val) a * bTok X b h (64 * c + j.val))
def wC (b : ℕ) (h : Fin 16) (c : ℕ) (i : Fin 64) (a : Fin 128) : ℝ :=
  ∑ j, invM X b h c i j * (kTok X b h (64 * c + j.val) a * bTok X b h (64 * c + j.val) * Real.exp (cumC X b h c j.val))

theorem u_ref : A_main_v363 (F := Ideal) (up X.p) (up X.s) (up X.w) (l1 X.al) (l1 X.dt) = l5 fun (b : Fin 2) h (c : Fin 128) (i : Fin 64) a => uC X b.val h c.val i a := by
  funext j; idx_vars j
  unfold A_main_v363 A_main_v362 A_main_v361 A_main_v360
  rw [t_63, vc_ref, bc_ref]
  pointwise
  unfold uC
  simp only [l5_ix, l4_ix, coe_sum, EReal.coe_mul]
  rfl

theorem w_ref : A_main_v368 (F := Ideal) (up X.p) (up X.s) (up X.w) (l1 X.al) (l1 X.dt) = l5 fun (b : Fin 2) h (c : Fin 128) (i : Fin 64) a => wC X b.val h c.val i a := by
  funext j; idx_vars j
  unfold A_main_v368 A_main_v367 A_main_v366 A_main_v365 A_main_v364 A_main_v99 A_main_v98 A_main_v97
  rw [t_63, kc_ref, bc_ref, cum_ref]
  pointwise
  unfold wC
  simp only [l5_ix, l4_ix, coe_sum, EReal.coe_mul, Ideal.exp_coe]
  rfl

end Cert.ReferenceIdeal.Hand
-- ==== Proof.Gdn.RefSolve.lean ====
module

public import proofs.«01_k».proof.Proof.Gdn.RefChunk

/-!
# The reference's solve

The iteration before the scan ends at the inverse of the chunk's unit lower triangular system, so what the scan computes from
it solves the chunk's rule.
-/

@[expose] public section

set_option maxRecDepth 16384

noncomputable section

namespace Cert.ReferenceIdeal.Hand

open Cert.KernelIdeal.Hand

section

variable (A : Matrix (Fin 64) (Fin 64) ℝ) (hA : ∀ i j : Fin 64, i ≤ j → A i j = 0)

include hA

/-- The iteration's difference has no entry in its first rows. -/
theorem tSeq_rows (n : ℕ) (i j : Fin 64) (hi : i.val ≤ n) : (tSeq A (n + 1) - tSeq A n) i j = 0 := by
  induction n generalizing i j with
  | zero =>
    show ((1 - A * 1) - 1 : Matrix (Fin 64) (Fin 64) ℝ) i j = 0
    rw [Matrix.mul_one, sub_sub_cancel_left, Matrix.neg_apply, hA i j (Fin.le_def.2 (by omega)), neg_zero]
  | succ n ih =>
    have e : tSeq A (n + 1 + 1) - tSeq A (n + 1) = -(A * (tSeq A (n + 1) - tSeq A n)) := by
      rw [Matrix.mul_sub]
      show (1 - A * tSeq A (n + 1)) - (1 - A * tSeq A n) = _
      abel
    rw [e, Matrix.neg_apply, Matrix.mul_apply, Finset.sum_eq_zero, neg_zero]
    intro x _
    by_cases hx : i ≤ x
    · rw [hA i x hx, zero_mul]
    · rw [ih x j (by have := Fin.lt_def.1 (not_le.1 hx); omega), mul_zero]

theorem tSeq_fixed : tSeq A 63 = 1 - A * tSeq A 63 := by
  have e : tSeq A 64 - tSeq A 63 = 0 := by
    funext i j
    exact tSeq_rows A hA 63 i j (by omega)
  exact (sub_eq_zero.1 e).symm

/-- The iterate applied to `R` solves the system. -/
theorem tSeq_solves {m : ℕ} (R : Matrix (Fin 64) (Fin m) ℝ) (i : Fin 64) (b : Fin m) :
    (tSeq A 63 * R) i b = R i b - ∑ j, A i j * (tSeq A 63 * R) j b := by
  have e : tSeq A 63 * R = R - A * (tSeq A 63 * R) := by
    conv_lhs => rw [tSeq_fixed A hA]
    rw [Matrix.sub_mul, Matrix.one_mul, Matrix.mul_assoc]
  conv_lhs => rw [e]
  rw [Matrix.sub_apply, Matrix.mul_apply]

end

variable (X : Args) (b : ℕ) (h : Fin 16) (c : ℕ)

theorem lowM_upper (i j : Fin 64) (hij : i ≤ j) : lowM X b h c i j = 0 := by
  show lowC X b h c i.val j.val = 0
  exact if_neg (by have := Fin.le_def.1 hij; omega)

/-- What the scan writes of chunk `c`. -/
def newC (i : Fin 64) (a : Fin 128) : ℝ := uC X b h c i a - ∑ x, wC X b h c i x * stateTok X b h (64 * c) x a

/-- The chunk's right-hand side. -/
def rhsM : Matrix (Fin 64) (Fin 128) ℝ := Matrix.of fun i a =>
  vTok X b h (64 * c + i.val) a * bTok X b h (64 * c + i.val)
    - ∑ x, kTok X b h (64 * c + i.val) x * bTok X b h (64 * c + i.val) * Real.exp (cumC X b h c i.val) * stateTok X b h (64 * c) x a

theorem newC_eq (i : Fin 64) (a : Fin 128) : newC X b h c i a = (tSeq (lowM X b h c) 63 * rhsM X b h c) i a := by
  have e : rhsM X b h c = (Matrix.of fun i a => vTok X b h (64 * c + i.val) a * bTok X b h (64 * c + i.val))
      - (Matrix.of fun (i : Fin 64) (x : Fin 128) => kTok X b h (64 * c + i.val) x * bTok X b h (64 * c + i.val) * Real.exp (cumC X b h c i.val))
        * (Matrix.of fun x a => stateTok X b h (64 * c) x a) := by
    funext i a
    rw [Matrix.sub_apply, Matrix.mul_apply]
    rfl
  rw [e, Matrix.mul_sub, ← Matrix.mul_assoc, Matrix.sub_apply, Matrix.mul_apply, Matrix.mul_apply]
  simp only [Matrix.mul_apply]
  rfl

/-- The same on all numbers. -/
def newN (i : ℕ) (a : Fin 128) : ℝ := if hi : i < 64 then newC X b h c ⟨i, hi⟩ a else 0

theorem newN_val (i : Fin 64) (a : Fin 128) : newN X b h c i.val a = newC X b h c i a := dif_pos i.isLt

theorem new_solves : Gdn.Solves (kTok X b h) (vTok X b h) (gTok X b h) (bTok X b h) (64 * c) 64 (newN X b h c) := by
  intro i hi a
  have e := tSeq_solves (lowM X b h c) (lowM_upper X b h c) (rhsM X b h c) ⟨i, hi⟩ a
  simp only [← newC_eq] at e
  rw [show newN X b h c i a = newC X b h c ⟨i, hi⟩ a from dif_pos hi, e]
  rw [sum_first (C := 64) i hi.le]
  have e1 : ∑ x, kTok X b h (64 * c + i) x * bTok X b h (64 * c + i) * Real.exp (cumC X b h c i) * stateTok X b h (64 * c) x a =
      bTok X b h (64 * c + i) * (Real.exp (cumC X b h c i) * ∑ x, kTok X b h (64 * c + i) x * stateTok X b h (64 * c) x a) := by
    rw [Finset.mul_sum, Finset.mul_sum]
    exact Finset.sum_congr rfl fun x _ => by ring
  have e2 : ∑ j : Fin 64, lowM X b h c ⟨i, hi⟩ j * newC X b h c j a = bTok X b h (64 * c + i) * ∑ j : Fin 64, (if j.val < i then
      (∑ x, kTok X b h (64 * c + i) x * kTok X b h (64 * c + j.val) x) * Real.exp (cumC X b h c i - cumC X b h c j.val) * newN X b h c j.val a else 0) := by
    rw [Finset.mul_sum]
    refine Finset.sum_congr rfl fun j _ => ?_
    show lowC X b h c i j.val * _ = _
    unfold lowC gammaC
    by_cases e : j.val < i
    · rw [if_pos e, if_pos e, if_pos e.le, newN_val]
      have : ∑ x, kTok X b h (64 * c + i) x * bTok X b h (64 * c + i) * kTok X b h (64 * c + j.val) x =
          bTok X b h (64 * c + i) * ∑ x, kTok X b h (64 * c + i) x * kTok X b h (64 * c + j.val) x := by
        rw [Finset.mul_sum]
        exact Finset.sum_congr rfl fun x _ => by ring
      rw [this]; ring
    · rw [if_neg e, if_neg e]; ring
  rw [e2]
  show vTok X b h (64 * c + i) a * bTok X b h (64 * c + i) - ∑ x, kTok X b h (64 * c + i) x * bTok X b h (64 * c + i) * Real.exp (cumC X b h c i) * stateTok X b h (64 * c) x a - _ = _
  rw [e1]
  unfold cumC stateTok
  ring

/-- The state after the chunk, as the scan computes it. -/
theorem scan_state (a y : Fin 128) : stateTok X b h (64 * (c + 1)) a y =
    stateTok X b h (64 * c) a y * Real.exp (cumC X b h c 63)
      + ∑ j : Fin 64, kTok X b h (64 * c + j.val) a * Real.exp (cumC X b h c 63 - cumC X b h c j.val) * newC X b h c j y := by
  have e := Gdn.chunk_state _ _ _ _ _ 64 _ (new_solves X b h c) 64 le_rfl a y
  rw [show 64 * (c + 1) = 64 * c + 64 from by ring]
  refine e.trans ?_
  rw [sum_first (C := 64) 64 le_rfl, mul_comm]
  refine congrArg₂ (· + ·) rfl (Finset.sum_congr rfl fun j _ => ?_)
  rw [if_pos j.isLt, newN_val]
  unfold cumC
  ring

/-- What the chunk emits, as the scan computes it. -/
theorem scan_out (i : Fin 64) (y : Fin 128) : emitTok X b h (64 * c + i.val) y =
    ∑ a, qTok X b h (64 * c + i.val) a * Real.exp (cumC X b h c i.val) * stateTok X b h (64 * c) a y
      + ∑ j : Fin 64, attnC X b h c i.val j.val * newC X b h c j y := by
  refine (Gdn.chunk_out _ _ _ _ _ _ 64 _ (new_solves X b h c) i.val i.isLt y).trans ?_
  rw [sum_first (C := 64) (i.val + 1) i.isLt, Finset.mul_sum]
  refine congrArg₂ (· + ·) (Finset.sum_congr rfl fun a _ => ?_) (Finset.sum_congr rfl fun j _ => ?_)
  · unfold cumC stateTok; ring
  · unfold attnC gammaC cumC
    by_cases e : j.val ≤ i.val
    · rw [if_pos e, if_pos (Nat.lt_succ_of_le e), newN_val]
    · rw [if_neg e, if_neg (by omega)]; ring

end Cert.ReferenceIdeal.Hand
-- ==== Proof.Gdn.RefScan.lean ====
module

public import proofs.«01_k».proof.Proof.Gdn.RefSolve

/-!
# The reference's scan

One trip of the scan takes the state at the chunk's first token to the state after its last, and writes what the chunk emits.
-/

@[expose] public section

set_option maxRecDepth 16384

noncomputable section

namespace Cert.ReferenceIdeal.Hand

open Cert.ReferenceIdeal Cert.ReferenceIdeal.Gen Cert.ReferenceIdeal.Step Idealize.ShloMosaic Idealize.ShloMosaic.TcCoe
open Cert.KernelIdeal.Hand

/-! ## Reading and writing one chunk -/

section

variable {j : ℕ}

theorem toInt_small (hj : j < 128) : (BitVec.ofNat 32 j).toInt = (j : ℤ) := by
  have e := (by decide +kernel : ∀ k : Fin 128, (BitVec.ofNat 32 k.val).toInt = (k.val : ℤ)) ⟨j, hj⟩
  exact e

/-- Where a block of one chunk starts. -/
def starts (j : ℕ) (z1 z2 z3 z4 : S_.Idx → BitVec 32) : Fin 5 → ℤ :=
  fun k => ((![(constantI S_ 32 (BitVec.ofNat 32 j)), z1, z2, z3, z4] : Fin 5 → S_.Idx → BitVec 32) k (Shape.Idx.first h_S_)).toInt

/-- An index moved by a clamped start that is nothing. -/
theorem fin_move {n k s : ℕ} {v : Fin n} (hs : s = 0) (h : s + v.val < n) : (⟨s + v.val, h⟩ : Fin n) = v := Fin.ext (by simp [hs])

theorem slice128 (hj : j < 128) (x : S128x2x16x64x128.Idx → EReal) (start : Fin 5 → ℤ) (h0 : start 0 = j) (h1 : start 1 = 0) (h2 : start 2 = 0) (h3 : start 3 = 0)
    (h4 : start 4 = 0) (b : Fin 2) (h : Fin 16) (i : Fin 64) (a : Fin 128) :
    shapeCast S2x16x64x128 (Host.dynamicSlice S1x2x16x64x128 x start sliceFits_S128x2x16x64x128_S1x2x16x64x128) shapeCasts_S1x2x16x64x128_S2x16x64x128 (ix4 b h i a) =
      x (ix5 ⟨j, hj⟩ b h i a) := by
  have e0 := Host.clampedStart_of_le (s := S128x2x16x64x128) (t := S1x2x16x64x128) rfl start 0 j h0 (by show j + 1 ≤ 128; omega)
  have e1 := Host.clampedStart_of_le (s := S128x2x16x64x128) (t := S1x2x16x64x128) rfl start 1 0 h1 (by show 0 + 2 ≤ 2; omega)
  have e2 := Host.clampedStart_of_le (s := S128x2x16x64x128) (t := S1x2x16x64x128) rfl start 2 0 h2 (by show 0 + 16 ≤ 16; omega)
  have e3 := Host.clampedStart_of_le (s := S128x2x16x64x128) (t := S1x2x16x64x128) rfl start 3 0 h3 (by show 0 + 64 ≤ 64; omega)
  have e4 := Host.clampedStart_of_le (s := S128x2x16x64x128) (t := S1x2x16x64x128) rfl start 4 0 h4 (by show 0 + 128 ≤ 128; omega)
  pointwise
  simp only [e0, e1, e2, e3, e4, Nat.zero_add, Fin.eta]

theorem slice64 (hj : j < 128) (x : S128x2x16x64x64.Idx → EReal) (start : Fin 5 → ℤ) (h0 : start 0 = j) (h1 : start 1 = 0) (h2 : start 2 = 0) (h3 : start 3 = 0)
    (h4 : start 4 = 0) (b : Fin 2) (h : Fin 16) (i : Fin 64) (a : Fin 64) :
    shapeCast S2x16x64x64 (Host.dynamicSlice S1x2x16x64x64 x start sliceFits_S128x2x16x64x64_S1x2x16x64x64) shapeCasts_S1x2x16x64x64_S2x16x64x64 (ix4 b h i a) =
      x (ix5 ⟨j, hj⟩ b h i a) := by
  have e0 := Host.clampedStart_of_le (s := S128x2x16x64x64) (t := S1x2x16x64x64) rfl start 0 j h0 (by show j + 1 ≤ 128; omega)
  have e1 := Host.clampedStart_of_le (s := S128x2x16x64x64) (t := S1x2x16x64x64) rfl start 1 0 h1 (by show 0 + 2 ≤ 2; omega)
  have e2 := Host.clampedStart_of_le (s := S128x2x16x64x64) (t := S1x2x16x64x64) rfl start 2 0 h2 (by show 0 + 16 ≤ 16; omega)
  have e3 := Host.clampedStart_of_le (s := S128x2x16x64x64) (t := S1x2x16x64x64) rfl start 3 0 h3 (by show 0 + 64 ≤ 64; omega)
  have e4 := Host.clampedStart_of_le (s := S128x2x16x64x64) (t := S1x2x16x64x64) rfl start 4 0 h4 (by show 0 + 64 ≤ 64; omega)
  pointwise
  simp only [e0, e1, e2, e3, e4, Nat.zero_add, Fin.eta]

theorem slice4 (hj : j < 128) (x : S128x2x16x64.Idx → EReal) (start : Fin 4 → ℤ) (h0 : start 0 = j) (h1 : start 1 = 0) (h2 : start 2 = 0) (h3 : start 3 = 0)
    (b : Fin 2) (h : Fin 16) (i : Fin 64) :
    shapeCast S2x16x64 (Host.dynamicSlice S1x2x16x64 x start sliceFits_S128x2x16x64_S1x2x16x64) shapeCasts_S1x2x16x64_S2x16x64 (ix3 b h i) =
      x (ix4 ⟨j, hj⟩ b h i) := by
  have e0 := Host.clampedStart_of_le (s := S128x2x16x64) (t := S1x2x16x64) rfl start 0 j h0 (by show j + 1 ≤ 128; omega)
  have e1 := Host.clampedStart_of_le (s := S128x2x16x64) (t := S1x2x16x64) rfl start 1 0 h1 (by show 0 + 2 ≤ 2; omega)
  have e2 := Host.clampedStart_of_le (s := S128x2x16x64) (t := S1x2x16x64) rfl start 2 0 h2 (by show 0 + 16 ≤ 16; omega)
  have e3 := Host.clampedStart_of_le (s := S128x2x16x64) (t := S1x2x16x64) rfl start 3 0 h3 (by show 0 + 64 ≤ 64; omega)
  pointwise
  simp only [e0, e1, e2, e3, Nat.zero_add, Fin.eta]

theorem update128 (hj : j < 128) (x : S128x2x16x64x128.Idx → EReal) (u : S1x2x16x64x128.Idx → EReal) (start : Fin 5 → ℤ) (h0 : start 0 = j) (h1 : start 1 = 0) (h2 : start 2 = 0) (h3 : start 3 = 0)
    (h4 : start 4 = 0) (c : Fin 128) (b : Fin 2) (h : Fin 16) (i : Fin 64) (a : Fin 128) :
    Host.dynamicUpdateSlice x u start updateFits_S128x2x16x64x128_S1x2x16x64x128 (ix5 c b h i a) =
      if c.val = j then u (ix5 0 b h i a) else x (ix5 c b h i a) := by
  have e0 := Host.clampedStart_of_le (s := S128x2x16x64x128) (t := S1x2x16x64x128) rfl start 0 j h0 (by show j + 1 ≤ 128; omega)
  have e1 := Host.clampedStart_of_le (s := S128x2x16x64x128) (t := S1x2x16x64x128) rfl start 1 0 h1 (by show 0 + 2 ≤ 2; omega)
  have e2 := Host.clampedStart_of_le (s := S128x2x16x64x128) (t := S1x2x16x64x128) rfl start 2 0 h2 (by show 0 + 16 ≤ 16; omega)
  have e3 := Host.clampedStart_of_le (s := S128x2x16x64x128) (t := S1x2x16x64x128) rfl start 3 0 h3 (by show 0 + 64 ≤ 64; omega)
  have e4 := Host.clampedStart_of_le (s := S128x2x16x64x128) (t := S1x2x16x64x128) rfl start 4 0 h4 (by show 0 + 128 ≤ 128; omega)
  pointwise
  simp only [e0, e1, e2, e3, e4, Nat.sub_zero, Fin.eta]
  by_cases e : c.val = j
  · rw [if_pos e, dif_pos ⟨by omega, ⟨by omega, by omega⟩, ⟨by omega, by omega⟩, ⟨by omega, by omega⟩, by omega, by omega⟩]
    congr 2
    exact Fin.ext (by show c.val - j = 0; omega)
  · rw [if_neg e, dif_neg]
    rintro ⟨h, _⟩
    omega

end

/-! ## One trip -/

variable (X : Args)

/-- The scan's state before trip `n`. -/
structure Carry (n : ℕ) (s : State Ideal) : Prop where
  f0 : s.main_v379_0 = l5 fun (c : Fin 128) (b : Fin 2) h (i : Fin 64) a => qTok X b.val h (64 * c.val + i.val) a
  f1 : s.main_v379_1 = l5 fun (c : Fin 128) (b : Fin 2) h (i : Fin 64) a => kTok X b.val h (64 * c.val + i.val) a
  f2 : s.main_v379_2 = l5 fun (c : Fin 128) (b : Fin 2) h (i : Fin 64) a => uC X b.val h c.val i a
  f3 : s.main_v379_3 = l5 fun (c : Fin 128) (b : Fin 2) h (i : Fin 64) a => wC X b.val h c.val i a
  f4 : s.main_v379_4 = l4 fun (c : Fin 128) (b : Fin 2) h (i : Fin 64) => cumC X b.val h c.val i.val
  f5 : s.main_v379_5 = l5 fun (c : Fin 128) (b : Fin 2) h (i j : Fin 64) => attnC X b.val h c.val i.val j.val
  f7 : s.main_v379_7 = l4 fun (b : Fin 2) h a y => stateTok X b.val h (64 * n) a y
  f8 : s.main_v379_8 = l5 fun (c : Fin 128) (b : Fin 2) h (i : Fin 64) a => if c.val < n then emitTok X b.val h (64 * c.val + i.val) a else 0

theorem start_f0 : A_main_v371 (F := Ideal) (up X.p) (up X.s) (up X.w) (l1 X.al) (l1 X.dt) = l5 fun (c : Fin 128) (b : Fin 2) h (i : Fin 64) a => qTok X b.val h (64 * c.val + i.val) a := by
  funext j; idx_vars j
  unfold A_main_v371
  rw [qc_ref]
  pointwise
  rfl

theorem start_f1 : A_main_v372 (F := Ideal) (up X.p) (up X.s) (up X.w) (l1 X.al) (l1 X.dt) = l5 fun (c : Fin 128) (b : Fin 2) h (i : Fin 64) a => kTok X b.val h (64 * c.val + i.val) a := by
  funext j; idx_vars j
  unfold A_main_v372
  rw [kc_ref]
  pointwise
  rfl

theorem start_f2 : A_main_v373 (F := Ideal) (up X.p) (up X.s) (up X.w) (l1 X.al) (l1 X.dt) = l5 fun (c : Fin 128) (b : Fin 2) h (i : Fin 64) a => uC X b.val h c.val i a := by
  funext j; idx_vars j
  unfold A_main_v373
  rw [u_ref]
  pointwise
  rfl

theorem start_f3 : A_main_v374 (F := Ideal) (up X.p) (up X.s) (up X.w) (l1 X.al) (l1 X.dt) = l5 fun (c : Fin 128) (b : Fin 2) h (i : Fin 64) a => wC X b.val h c.val i a := by
  funext j; idx_vars j
  unfold A_main_v374
  rw [w_ref]
  pointwise
  rfl

theorem start_f4 : A_main_v375 (F := Ideal) (up X.p) (up X.s) (up X.w) (l1 X.al) (l1 X.dt) = l4 fun (c : Fin 128) (b : Fin 2) h (i : Fin 64) => cumC X b.val h c.val i.val := by
  funext j; idx_vars j
  unfold A_main_v375
  rw [cum_ref]
  pointwise
  rfl

theorem start_f5 : A_main_v376 (F := Ideal) (up X.p) (up X.s) (up X.w) (l1 X.al) (l1 X.dt) = l5 fun (c : Fin 128) (b : Fin 2) h (i j : Fin 64) => attnC X b.val h c.val i.val j.val := by
  funext j; idx_vars j
  unfold A_main_v376
  rw [attn_ref]
  pointwise
  rfl

theorem start_f7 : K_main_v377 (F := Ideal) = l4 fun (b : Fin 2) h a y => stateTok X b.val h (64 * 0) a y := by
  funext j; idx_vars j
  unfold K_main_v377 K_main_cst_12
  pointwise
  exact EReal.coe_zero.symm

theorem start_f8 : K_main_v378 (F := Ideal) = l5 fun (c : Fin 128) (b : Fin 2) h (i : Fin 64) a => if c.val < 0 then emitTok X b.val h (64 * c.val + i.val) a else 0 := by
  funext j; idx_vars j
  unfold K_main_v378 K_main_cst_13
  pointwise
  rw [l5_ix, if_neg (Nat.not_lt_zero _)]
  exact EReal.coe_zero.symm

theorem carry_start : Carry X 0 (init (up X.p) (up X.s) (up X.w) (l1 X.al) (l1 X.dt)) :=
  ⟨start_f0 X, start_f1 X, start_f2 X, start_f3 X, start_f4 X, start_f5 X, start_f7 X, start_f8 X⟩

section

variable {X} {n : ℕ} {s : State Ideal} (C : Carry X n s) (hn : n < 128)

include C hn

theorem b5_at : b5 n s = l4 fun (b : Fin 2) h (i : Fin 64) a => qTok X b.val h (64 * n + i.val) a := by
  funext j; idx_vars j
  unfold b5 b4
  rw [C.f0]
  exact slice128 hn _ _ (toInt_small hn) rfl rfl rfl rfl _ _ _ _

theorem b11_at : b11 n s = l4 fun (b : Fin 2) h (i : Fin 64) a => kTok X b.val h (64 * n + i.val) a := by
  funext j; idx_vars j
  unfold b11 b10
  rw [C.f1]
  exact slice128 hn _ _ (toInt_small hn) rfl rfl rfl rfl _ _ _ _

theorem b17_at : b17 n s = l4 fun (b : Fin 2) h (i : Fin 64) a => uC X b.val h n i a := by
  funext j; idx_vars j
  unfold b17 b16
  rw [C.f2]
  exact slice128 hn _ _ (toInt_small hn) rfl rfl rfl rfl _ _ _ _

theorem b23_at : b23 n s = l4 fun (b : Fin 2) h (i : Fin 64) a => wC X b.val h n i a := by
  funext j; idx_vars j
  unfold b23 b22
  rw [C.f3]
  exact slice128 hn _ _ (toInt_small hn) rfl rfl rfl rfl _ _ _ _

theorem b28_at : b28 n s = l3 fun (b : Fin 2) h (i : Fin 64) => cumC X b.val h n i.val := by
  funext j; idx_vars j
  unfold b28 b27
  rw [C.f4]
  exact slice4 hn _ _ (toInt_small hn) rfl rfl rfl _ _ _

theorem b34_at : b34 n s = l4 fun (b : Fin 2) h (i j : Fin 64) => attnC X b.val h n i.val j.val := by
  funext j; idx_vars j
  unfold b34 b33
  rw [C.f5]
  exact slice64 hn _ _ (toInt_small hn) rfl rfl rfl rfl _ _ _ _

theorem b36_at : b36 n s = l4 fun (b : Fin 2) h (i : Fin 64) a => newC X b.val h n i a := by
  funext j; idx_vars j
  unfold b36 b35
  rw [b17_at C hn, b23_at C hn, C.f7]
  pointwise
  unfold newC
  simp only [l4_ix, coe_sum, EReal.coe_mul, EReal.coe_sub]

theorem b43_at : b43 n s = l4 fun (b : Fin 2) h (i : Fin 64) a => emitTok X b.val h (64 * n + i.val) a := by
  funext j; idx_vars j
  unfold b43 b42 b41 b40 b39 b38 b37
  rw [b36_at C hn, b34_at C hn, b5_at C hn, b28_at C hn, C.f7]
  pointwise
  rw [l4_ix, scan_out]
  simp only [l4_ix, l3_ix, Ideal.exp_coe, coe_sum, EReal.coe_mul, EReal.coe_add]

theorem b56_at : b56 n s = l4 fun (b : Fin 2) h a y => stateTok X b.val h (64 * (n + 1)) a y := by
  funext j; idx_vars j
  unfold b56 b55 b54 b53 b52 b51 b50 b49 b48 b47 b46 b45 b44
  rw [b36_at C hn, b11_at C hn, b28_at C hn, C.f7]
  pointwise
  simp only [l4_ix, l3_ix]
  rw [scan_state]
  simp only [← EReal.coe_sub, Ideal.exp_coe]
  simp only [coe_sum, EReal.coe_mul, EReal.coe_add]
  rfl

theorem b62_at : b62 n s = l5 fun (c : Fin 128) (b : Fin 2) h (i : Fin 64) a => if c.val < n + 1 then emitTok X b.val h (64 * c.val + i.val) a else 0 := by
  funext j; idx_vars j
  unfold b62
  refine (update128 hn _ _ _ (toInt_small hn) rfl rfl rfl rfl _ _ _ _ _).trans ?_
  rw [C.f8, l5_ix, l5_ix]
  by_cases e : j0.val = n
  · rw [if_pos e, if_pos (by omega)]
    unfold b57
    rw [b43_at C hn]
    pointwise
    rw [l4_ix, e]
  · rw [if_neg e]
    by_cases e2 : j0.val < n
    · rw [if_pos e2, if_pos (by omega)]
    · rw [if_neg e2, if_neg (by omega)]

theorem carry_step : Carry X (n + 1) (step n s) where
  f0 := C.f0
  f1 := C.f1
  f2 := C.f2
  f3 := C.f3
  f4 := C.f4
  f5 := C.f5
  f7 := b56_at C hn
  f8 := b62_at C hn

end

/-- The scan's states. -/
def states (X : Args) : ℕ → State Ideal
  | 0 => init (up X.p) (up X.s) (up X.w) (l1 X.al) (l1 X.dt)
  | n + 1 => step n (states X n)

theorem carries (n : ℕ) (hn : n ≤ 128) : Carry X n (states X n) := by
  induction n with
  | zero => exact carry_start X
  | succ n ih => exact carry_step (ih (by omega)) (by omega)

theorem scanned : (states X 128).main_v379_8 = l5 fun (c : Fin 128) (b : Fin 2) h (i : Fin 64) a => emitTok X b.val h (64 * c.val + i.val) a := by
  rw [(carries X 128 le_rfl).f8]
  funext j; idx_vars j
  rw [l5_ix, l5_ix, if_pos j0.isLt]

/-- The reference's answer: the norm, gain and gate of what the tokens emit. -/
theorem answer_ref : R_main_v402 (states X 128) (up X.p) (l1 X.og) = up (answer X) := by
  funext j; idx_vars j
  unfold R_main_v402
  rw [scanned]
  pointwise
  have hd : 64 * (j0.val % 8192 / 64) + j0.val % 8192 % 64 = j0.val % 8192 := Nat.div_add_mod _ _
  have hz : X.p j0 ⟨16384 + j1.val, by omega⟩ =
      X.p (rowTok (j0.val / 8192) (j0.val % 8192)) ⟨16384 + (128 * (j1.val / 128) + j1.val % 128), by omega⟩ := by
    congr 1
    · congr 1
      exact Fin.ext (by show j0.val = (8192 * (j0.val / 8192) + j0.val % 8192) % 16384; omega)
    · exact Fin.ext (by show 16384 + j1.val = 16384 + (128 * (j1.val / 128) + j1.val % 128); omega)
  simp only [l5_ix, l1_ix, up_apply, hd, word_128, word_eps, sig_ideal, hz]
  have hp : 0 < (∑ l, emitTok X (j0.val / 8192) ⟨j1.val / 128, by omega⟩ (j0.val % 8192) l * emitTok X (j0.val / 8192) ⟨j1.val / 128, by omega⟩ (j0.val % 8192) l) / 128 + epsR :=
    add_pos_of_nonneg_of_pos (div_nonneg (Finset.sum_nonneg fun l _ => mul_self_nonneg _) (by norm_num)) eps_pos
  have e : (∑ x, ((emitTok X (j0.val / 8192) ⟨j1.val / 128, by omega⟩ (j0.val % 8192) x : ℝ) : EReal) * ((emitTok X (j0.val / 8192) ⟨j1.val / 128, by omega⟩ (j0.val % 8192) x : ℝ) : EReal)) =
      ((∑ l, emitTok X (j0.val / 8192) ⟨j1.val / 128, by omega⟩ (j0.val % 8192) l * emitTok X (j0.val / 8192) ⟨j1.val / 128, by omega⟩ (j0.val % 8192) l : ℝ) : EReal) := by
    simp only [coe_sum, EReal.coe_mul]
  rw [e, Ideal.div_coe (by norm_num), ← EReal.coe_mul, ← EReal.coe_add, mul_one_div, rsqrt_pos hp]
  simp only [← EReal.coe_mul]
  show _ = ((answerTok X (j0.val / 8192) ⟨j1.val / 128, by omega⟩ (j0.val % 8192) ⟨j1.val % 128, by omega⟩ : ℝ) : EReal)
  unfold answerTok gateR siluR
  rfl

end Cert.ReferenceIdeal.Hand
-- ==== Proof.Gdn.Final.lean ====
module

public import proofs.«01_k».proof.Defs
public import proofs.«01_k».proof.Proof.Gdn.Fold
public import proofs.«01_k».proof.Proof.Gdn.RefRun
public import proofs.«01_k».proof.Proof.Gdn.RefScan
public import Idealize.ShloMosaic.Lib.Quiescent

/-!
# The recurrence: kernel and reference agree

From finite arguments both programs end with the answer token by token.
-/

@[expose] public section

set_option maxRecDepth 16384

noncomputable section

namespace Cert.Final

open Idealize.ShloMosaic Idealize.ShloMosaic.TcCoe Idealize.SL.Sem
open Cert.KernelIdeal.Hand

instance preFacts : Cert.Pre_finite.Facts where
  bcast_S_S16384x21504 := by decide
  bcast_S_S16384x128 := by decide
  bcast_S_S4x6144 := by decide
  bcast_S_S16 := by decide
  bcast_S_S128 := by decide

theorem word_top : Ideal.ofBits .f32 0x7F800000#32 = ⊤ := by simp [Ideal.ofBits, Ideal.ieee]

/-- A number below infinity in size is real. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [word_top] at h
  induction x using EReal.rec with
  | bot =>
    exfalso; revert h; simp [FloatOps.cmpf, FloatOps.absf, Ideal.cmp]
  | coe r => simp
  | top =>
    exfalso; revert h; simp [FloatOps.cmpf, FloatOps.absf, Ideal.cmp]

section

variable (m : (ℓ : Loc Cert.KernelIdeal.nD Cert.KernelIdeal.τ Cert.KernelIdeal.sig) → Buf (Elt Ideal) ℓ) (c : Dev Cert.KernelIdeal.nD)

/-- The real entries of a memory's arguments. -/
def args : Args where
  p := Matrix.of fun i j => ((m ((c.tc : Thread Cert.KernelIdeal.nD Cert.KernelIdeal.τ).loc Cert.KernelIdeal.main_arg0) : Cert.KernelIdeal.S16384x21504.Idx → EReal) (ix2 i j)).toReal
  s := Matrix.of fun i j => ((m ((c.tc : Thread Cert.KernelIdeal.nD Cert.KernelIdeal.τ).loc Cert.KernelIdeal.main_arg1) : Cert.KernelIdeal.S16384x128.Idx → EReal) (ix2 i j)).toReal
  w := Matrix.of fun i j => ((m ((c.tc : Thread Cert.KernelIdeal.nD Cert.KernelIdeal.τ).loc Cert.KernelIdeal.main_arg2) : Cert.KernelIdeal.S4x6144.Idx → EReal) (ix2 i j)).toReal
  al := fun i => ((m ((c.tc : Thread Cert.KernelIdeal.nD Cert.KernelIdeal.τ).loc Cert.KernelIdeal.main_arg3) : Cert.KernelIdeal.S16.Idx → EReal) (ix1 i)).toReal
  dt := fun i => ((m ((c.tc : Thread Cert.KernelIdeal.nD Cert.KernelIdeal.τ).loc Cert.KernelIdeal.main_arg4) : Cert.KernelIdeal.S16.Idx → EReal) (ix1 i)).toReal
  og := fun i => ((m ((c.tc : Thread Cert.KernelIdeal.nD Cert.KernelIdeal.τ).loc Cert.KernelIdeal.main_arg5) : Cert.KernelIdeal.S128.Idx → EReal) (ix1 i)).toReal

theorem holds (h : Cert.Pre_KernelIdeal_finite m) : Holds m c (args m c) := by
  obtain ⟨h0, h1, h2, h3, h4, h5⟩ := h c
  constructor
  · funext j; idx_vars j
    exact real_of_lt _ (congrFun h0 (ix2 j0 j1))
  · funext j; idx_vars j
    exact real_of_lt _ (congrFun h1 (ix2 j0 j1))
  · funext j; idx_vars j
    exact real_of_lt _ (congrFun h2 (ix2 j0 j1))
  · funext j; idx_vars j
    exact real_of_lt _ (congrFun h3 (ix1 j0))
  · funext j; idx_vars j
    exact real_of_lt _ (congrFun h4 (ix1 j0))
  · funext j; idx_vars j
    exact real_of_lt _ (congrFun h5 (ix1 j0))

end

/-- The reference runs and keeps its arguments. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2, sem_eq_zero_of_no_sems (by decide) r.2⟩)
    (Cert.ReferenceIdeal.Hand.run m g (fun c n => Nat.rec (Cert.ReferenceIdeal.Hand.start m c) (fun k s => Cert.ReferenceIdeal.Step.step k s) n)
      (fun _ => rfl) (fun _ _ => rfl))

theorem equal : Cert.algebraic_KernelIdeal_ReferenceIdeal_pre_finite := by
  intro m ρ m' ρ' hp hag
  refine ⟨fun c => Cert.KernelIdeal.Value.G11 m c, Cert.KernelIdeal.Value.run m ρ, ?_⟩
  refine (θ_run _ _ _).mono (fun r h c => ⟨?_, (h c).2⟩) (Cert.ReferenceIdeal.Hand.run m' ρ' (fun c => Cert.ReferenceIdeal.Hand.states (args m c)) ?_ (fun _ _ => rfl))
  · have H := holds m c hp
    obtain ⟨a0, a1, a2, a3, a4, a5⟩ := hag c
    refine (h c).1.trans ?_
    rw [a0, a5]
    refine Eq.trans ?_ (kernel_value H).symm
    rw [← Cert.ReferenceIdeal.Hand.answer_ref]
    exact congrArg₂ _ H.h0 H.h5
  · intro c
    have H := holds m c hp
    obtain ⟨a0, a1, a2, a3, a4, a5⟩ := hag c
    unfold Cert.ReferenceIdeal.Hand.start
    rw [a0, a1, a2, a3, a4]
    show Cert.ReferenceIdeal.Step.init _ _ _ _ _ = _
    refine Eq.symm ?_
    refine (congr (congr (congr (congr (congrArg Cert.ReferenceIdeal.Step.init H.h0) H.h1) H.h2) H.h3) H.h4)

end Cert.Final
-- ==== Proof.Dense.Scalars.lean ====
module

public import Idealize.ShloMosaic.PureOps.Ideal
public import Idealize.ShloMosaic.Lib.Claim
public import Mathlib.Analysis.SpecialFunctions.Exp
public import Mathlib.Analysis.SpecialFunctions.Trigonometric.DerivHyp

/-!
# Facts on the extended reals

The gate in its two forms, the norm's factor, and a product of a sum with a factor that is neither negative nor infinite.
-/

@[expose] public section

noncomputable section

namespace Cert.Dense

open Idealize.ShloMosaic

theorem word_0 : Ideal.ofBits .f32 0x00000000#32 = 0 := by simp [Ideal.ofBits, Ideal.ieee]
theorem word_2 : Ideal.ofBits .f32 0x3F000000#32 = ((1 / 2 : ℝ) : EReal) := by
  simp [Ideal.ofBits, Ideal.ieee]; rw [← EReal.coe_mul]; congr 1; norm_num
theorem word_4096 : Ideal.ofBits .f32 0x45800000#32 = ((4096 : ℝ) : EReal) := by
  simp [Ideal.ofBits, Ideal.ieee]; rw [← EReal.coe_mul]; congr 1; norm_num
theorem word_inv : Ideal.ofBits .f32 0x39800000#32 = ((1 / 4096 : ℝ) : EReal) := by
  simp [Ideal.ofBits, Ideal.ieee]; rw [← EReal.coe_mul]; congr 1; norm_num
theorem word_e : ∃ e : ℝ, 0 < e ∧ Ideal.ofBits .f32 0x358637BD#32 = (e : EReal) :=
  ⟨8796093 * (2 ^ 43)⁻¹, by positivity, by simp [Ideal.ofBits, Ideal.ieee]⟩

/-- The logistic function. -/
def gate (x : EReal) : EReal := Ideal.div 1 (1 + Ideal.exp (-x))

/-- It is half a hyperbolic tangent and a half. -/
theorem gate_half (x : EReal) : Ideal.ofBits .f32 0x3F000000#32 * Ideal.tanh (Ideal.ofBits .f32 0x3F000000#32 * x) + Ideal.ofBits .f32 0x3F000000#32 = gate x := by
  unfold gate
  rw [← EReal.coe_one, word_2]
  induction x using EReal.rec with
  | bot =>
    rw [EReal.coe_mul_bot_of_pos (by norm_num)]
    show ((1 / 2 : ℝ) : EReal) * (-1) + _ = Ideal.div _ (((1 : ℝ) : EReal) + ⊤)
    have : ((1 / 2 : ℝ) : EReal) * (-1) + ((1 / 2 : ℝ) : EReal) = 0 := by
      rw [← EReal.coe_one, ← EReal.coe_neg, ← EReal.coe_mul, ← EReal.coe_add]; norm_num
    rw [this, EReal.coe_add_top]
    simp [Ideal.div]
  | top =>
    rw [EReal.coe_mul_top_of_pos (by norm_num)]
    show ((1 / 2 : ℝ) : EReal) * 1 + _ = Ideal.div _ (_ + 0)
    rw [mul_one, ← EReal.coe_add, add_zero]
    norm_num [Ideal.div]
  | coe r =>
    show ((1 / 2 : ℝ) : EReal) * ((Real.tanh (1 / 2 * r) : ℝ) : EReal) + _ = Ideal.div _ (_ + ((Real.exp (-r) : ℝ) : EReal))
    rw [← EReal.coe_add, ← EReal.coe_mul, ← EReal.coe_add]
    have hp : 0 < 1 + Real.exp (-r) := by positivity
    rw [Ideal.div, if_neg (by rw [← EReal.coe_zero]; exact fun h => hp.ne' (EReal.coe_injective h)), ← EReal.coe_inv, ← EReal.coe_mul]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e2 : Real.exp (1 / 2 * r) = (Real.exp (-(1 / 2 * r)))⁻¹ := by rw [← Real.exp_neg, neg_neg]
    rw [e, e2]
    have := Real.exp_pos (-(1 / 2 * r))
    field_simp
    ring

/-- The factor by which a norm scales a row, from the sum of its squares. -/
def scale (s : EReal) : EReal := Ideal.rsqrt (s * Ideal.ofBits .f32 0x39800000#32 + Ideal.ofBits .f32 0x358637BD#32)

theorem div_word (s : EReal) : Ideal.div s (Ideal.ofBits .f32 0x45800000#32) = s * Ideal.ofBits .f32 0x39800000#32 := by
  rw [word_4096, word_inv, Ideal.div, if_neg (by norm_num), ← EReal.coe_inv]; norm_num

theorem scale_range (s : EReal) (h : 0 ≤ s) : 0 ≤ scale s ∧ scale s ≠ ⊤ := by
  obtain ⟨e, he, hw⟩ := word_e
  unfold scale
  rw [hw, word_inv]
  induction s using EReal.rec with
  | bot => simp at h
  | top =>
    rw [EReal.top_mul_coe_of_pos (by norm_num), EReal.top_add_coe]
    exact ⟨le_refl _, EReal.zero_ne_top⟩
  | coe r =>
    have hr : 0 ≤ r := EReal.coe_nonneg.1 h
    rw [← EReal.coe_mul, ← EReal.coe_add]
    have hp : 0 < r * (1 / 4096) + e := by positivity
    have : Ideal.rsqrt ((r * (1 / 4096) + e : ℝ) : EReal) = (((Real.sqrt (r * (1 / 4096) + e))⁻¹ : ℝ) : EReal) := by
      show (if _ then _ else _) = _
      rw [if_neg (not_lt.2 hp.le), if_neg hp.ne']
    rw [this]
    exact ⟨EReal.coe_nonneg.2 (by positivity), EReal.coe_ne_top _⟩

/-- A number plus a sum of products. -/
def plus {n : ℕ} (z : EReal) (a b : Fin n → EReal) : EReal := z + ∑ k, a k * b k

/-- A row's factor may be taken before or after the product. -/
theorem sum_scale {n : ℕ} (a b : Fin n → EReal) (r : EReal) (h0 : 0 ≤ r) (h1 : r ≠ ⊤) :
    ∑ k, a k * r * b k = (∑ k, a k * b k) * r := by
  have key : ∀ s : Finset (Fin n), ∑ k ∈ s, a k * r * b k = (∑ k ∈ s, a k * b k) * r := by
    intro s
    induction s using Finset.induction_on with
    | empty => simp
    | insert i s hi ih =>
      rw [Finset.sum_insert hi, Finset.sum_insert hi, ih, EReal.right_distrib_of_nonneg_of_ne_top h0 h1, mul_right_comm]
  exact key _

theorem nonneg_of_test (x : EReal) (h : Ideal.cmp .oge x (Ideal.ofBits .f32 0x00000000#32) = 1#1) : 0 ≤ x := by
  rw [word_0] at h
  by_contra hn
  simp [Ideal.cmp, hn] at h

theorem sum_nonneg {n : ℕ} (a : Fin n → EReal) (h : ∀ k, 0 ≤ a k) : 0 ≤ ∑ k, a k := Finset.sum_nonneg fun k _ => h k

end Cert.Dense
end
-- ==== Proof.Dense.MlpIn.lean ====
module

public import proofs.«01_k».proof.Defs
public import proofs.«01_k».proof.Proof.Gen.Kernel2Ideal.Value
public import proofs.«01_k».proof.Proof.Gen.Reference2Ideal.Run
public import proofs.«01_k».proof.Proof.Dense.Scalars
public import Idealize.ShloMosaic.Lib.Pipeline.ValueKit.Point
public import Idealize.ShloMosaic.Lib.Quiescent

/-!
# The call into the MLP: kernel and reference agree
-/

@[expose] public section

set_option maxRecDepth 16384

noncomputable section

namespace Cert.Dense.MlpIn

open Cert.Kernel2Ideal Cert.Kernel2Ideal.Gen Idealize.ShloMosaic Idealize.ShloMosaic.TcCoe Idealize.SL.Sem

/-- The hidden rows, entry by entry: the product, scaled by the row's factor, cut off at zero and squared. -/
def G (xg : S16384x4096.Idx → EReal) (ss : S16384x1024.Idx → EReal) (w : S4096x16384.Idx → EReal) : S16384x16384.Idx → EReal := fun i =>
  max ((∑ x : Fin 4096, xg (ix2 (i 0) x) * w (ix2 x (i 1))) * scale (∑ x : Fin 1024, ss (ix2 (i 0) x))) 0
    * max ((∑ x : Fin 4096, xg (ix2 (i 0) x) * w (ix2 x (i 1))) * scale (∑ x : Fin 1024, ss (ix2 (i 0) x))) 0

section

variable (m : (ℓ : Loc nD τ sig) → Buf (Elt Ideal) ℓ) (c : Dev nD)

/-- Where each window's block lies at a grid point. -/
theorem idx_all : ∀ t : Fin grid0.N, win0_0.index t = ![t.val / 16, 0] ∧ win0_1.index t = ![0, t.val % 16] ∧ win0_2.index t = ![t.val / 16, 0] ∧
    win0_3.index t = ![t.val / 16, t.val % 16] := by
  decide +kernel

/-- The kernel's result. -/
theorem final : (dats m 0 c).arrAt 3 cfg0.N = G (m (c.tc.loc main_arg0)) (m (c.tc.loc main_arg1)) (m (c.tc.loc main_arg2)) := by
  refine (dats m 0 c).arrAt_eq_of_covers 3 _ (by decide +kernel) fun t hf y => ?_
  blk_simp
  rw [after0_3]
  unfold out0_3
  frame_out
  idx_vars y
  pointwise [k0_pay1]
  have h1 : ∀ x, iblk m c 0 t (ix2 y0 x) = m (c.tc.loc main_arg0) (ix2 (((View.whole main_v1).slice (win0_3.rect t)).emb (ix2 y0 y1) 0) x) := fun x => by
    blk_point [iblk, V, idx_all t]
  have h2 : ∀ x, iblk m c 1 t (ix2 x y1) = m (c.tc.loc main_arg2) (ix2 x (((View.whole main_v1).slice (win0_3.rect t)).emb (ix2 y0 y1) 1)) := fun x => by
    blk_point [iblk, V, idx_all t]
  have h3 : ∀ x, iblk m c 2 t (ix2 y0 x) = m (c.tc.loc main_arg1) (ix2 (((View.whole main_v1).slice (win0_3.rect t)).emb (ix2 y0 y1) 0) x) := fun x => by
    blk_point [iblk, V, idx_all t]
  simp only [h1, h2, h3]
  rfl

end

/-- The reference runs and keeps its arguments. -/
theorem frame_ref : Cert.quiescent_Reference2Ideal := fun m ρ _ =>
  (θ_run _ _ _).mono (fun r h => ⟨fun c => (h c).2, sem_eq_zero_of_no_sems (by decide) r.2⟩) (Reference2Ideal.Value.run m ρ)

instance preFacts : Cert.Pre_squares_mlp.Facts where
  bcast_S_S16384x1024 := by decide

/-- Kernel and reference agree where the rows' sums are not negative. -/
theorem equal : Cert.algebraic_Kernel2Ideal_Reference2Ideal_pre_squares_mlp := by
  intro m ρ m' ρ' hp hag
  refine ⟨fun c => G (m (c.tc.loc main_arg0)) (m (c.tc.loc main_arg1)) (m (c.tc.loc main_arg2)),
    (θ_run _ _ _).mono (fun r h c => ⟨(h c).1.trans (final m c), (h c).2⟩) (Cert.Kernel2Ideal.Value.run_blocks m ρ),
    (θ_run _ _ _).mono (fun r h c => ⟨(h c).1.trans ?_, (h c).2⟩) (Reference2Ideal.Value.run m' ρ')⟩
  obtain ⟨a0, a1, a2⟩ := hag c
  have hp' : ∀ i k, (0 : EReal) ≤ (m (c.tc.loc main_arg1) : S16384x1024.Idx → EReal) (ix2 i k) := fun i k => nonneg_of_test _ (congrFun (hp c) (ix2 i k))
  rw [a0, a1, a2]
  clear h
  funext j
  idx_vars j
  pointwise
  obtain ⟨s0, s1⟩ := scale_range _ (sum_nonneg _ (hp' j0))
  have e := sum_scale (fun x => (m (c.tc.loc main_arg0) : S16384x4096.Idx → EReal) (ix2 j0 x)) (fun x => (m (c.tc.loc main_arg2) : S4096x16384.Idx → EReal) (ix2 x j1)) _ s0 s1
  simp only [div_word]
  exact congrArg (fun z : EReal => max z 0 * max z 0) e

end Cert.Dense.MlpIn
end
-- ==== Proof.Dense.MlpOut.lean ====
module

public import proofs.«01_k».proof.Defs
public import proofs.«01_k».proof.Proof.Gen.Kernel3Ideal.Value
public import proofs.«01_k».proof.Proof.Gen.Reference3Ideal.Run
public import proofs.«01_k».proof.Proof.Dense.Scalars
public import Idealize.ShloMosaic.Lib.Pipeline.ValueKit.Point
public import Idealize.ShloMosaic.Lib.Quiescent

/-!
# The call out of the MLP: kernel and reference agree
-/

@[expose] public section

set_option maxRecDepth 16384

noncomputable section

namespace Cert.Dense.MlpOut

open Cert.Kernel3Ideal Cert.Kernel3Ideal.Gen Idealize.ShloMosaic Idealize.ShloMosaic.TcCoe Idealize.SL.Sem

/-- The new rows: the rows plus the product. -/
def Y (a : S16384x16384.Idx → EReal) (w : S16384x4096.Idx → EReal) (xs : S16384x4096.Idx → EReal) (i : Fin 16384) (j : Fin 4096) : EReal :=
  xs (ix2 i j) + ∑ x : Fin 16384, a (ix2 i x) * w (ix2 x j)

def G4 (a : S16384x16384.Idx → EReal) (w : S16384x4096.Idx → EReal) (xs : S16384x4096.Idx → EReal) : S16384x4096.Idx → EReal := fun i => Y a w xs (i 0) (i 1)

/-- The new rows times the next norm's gains. -/
def G5 (a : S16384x16384.Idx → EReal) (w : S16384x4096.Idx → EReal) (xs : S16384x4096.Idx → EReal) (g : S4096.Idx → EReal) : S16384x4096.Idx → EReal :=
  fun i => Y a w xs (i 0) (i 1) * g (ix1 (i 1))

/-- The `k`-th of the columns whose squares the column `j` holds. -/
def col (j : Fin 512) (k : Fin 8) : Fin 4096 := ⟨j.val / 128 * 1024 + k.val * 128 + j.val % 128, by have := j.isLt; have := k.isLt; omega⟩

/-- The sums of squares of the new rows, eight columns each. -/
def G6 (a : S16384x16384.Idx → EReal) (w : S16384x4096.Idx → EReal) (xs : S16384x4096.Idx → EReal) : S16384x512.Idx → EReal :=
  fun i => ∑ k : Fin 8, Y a w xs (i 0) (col (i 1) k) * Y a w xs (i 0) (col (i 1) k)

/-- The part of a product that one step along the long axis adds. -/
def part (a : S16384x16384.Idx → EReal) (w : S16384x4096.Idx → EReal) (i : Fin 16384) (j : Fin 4096) (k : Fin 8) : EReal :=
  ∑ x : Fin 2048, a (ix2 i ⟨k.val * 2048 + x.val, by have := k.isLt; have := x.isLt; omega⟩) * w (ix2 ⟨k.val * 2048 + x.val, by have := k.isLt; have := x.isLt; omega⟩ j)

/-- The parts of all steps make up the product. -/
theorem sum_part (a : S16384x16384.Idx → EReal) (w : S16384x4096.Idx → EReal) (i : Fin 16384) (j : Fin 4096) :
    ∑ k : Fin 8, part a w i j k = ∑ x : Fin 16384, a (ix2 i x) * w (ix2 x j) :=
  Fin.sum_mul_add_fin (L := 16384) 8 2048 (fun x => a (ix2 i x) * w (ix2 x j))

/-- The first parts, added in order. -/
def upto (a : S16384x16384.Idx → EReal) (w : S16384x4096.Idx → EReal) (xs : S16384x4096.Idx → EReal) (i : Fin 16384) (j : Fin 4096) (n : ℕ) : EReal :=
  xs (ix2 i j) + ∑ k ∈ Finset.range n, if h : k < 8 then part a w i j ⟨k, h⟩ else 0

theorem upto_succ (a : S16384x16384.Idx → EReal) (w : S16384x4096.Idx → EReal) (xs : S16384x4096.Idx → EReal) (i : Fin 16384) (j : Fin 4096) (n : ℕ) (h : n < 8) :
    upto a w xs i j n + part a w i j ⟨n, h⟩ = upto a w xs i j (n + 1) := by
  unfold upto
  rw [Finset.sum_range_succ, dif_pos h, add_assoc]

theorem upto_zero (a : S16384x16384.Idx → EReal) (w : S16384x4096.Idx → EReal) (xs : S16384x4096.Idx → EReal) (i : Fin 16384) (j : Fin 4096) :
    upto a w xs i j 0 = xs (ix2 i j) := by
  simp [upto]

theorem upto_eight (a : S16384x16384.Idx → EReal) (w : S16384x4096.Idx → EReal) (xs : S16384x4096.Idx → EReal) (i : Fin 16384) (j : Fin 4096) :
    upto a w xs i j 8 = Y a w xs i j := by
  unfold upto Y
  rw [← sum_part, Finset.sum_range]
  exact congrArg _ (Finset.sum_congr rfl fun k _ => dif_pos k.isLt)

section

variable (m : (ℓ : Loc nD τ sig) → Buf (Elt Ideal) ℓ) (c : Dev nD)

/-- Where each window's block lies at a grid point. -/
theorem idx_all : ∀ t : Fin grid0.N, win0_0.index t = ![t.val / 32, t.val % 8] ∧ win0_1.index t = ![t.val % 8, t.val / 8 % 4] ∧ win0_2.index t = ![t.val / 32, t.val / 8 % 4] ∧
    win0_3.index t = ![0, t.val / 8 % 4] ∧ win0_4.index t = ![t.val / 32, t.val / 8 % 4] ∧ win0_5.index t = ![t.val / 32, t.val / 8 % 4] ∧
    win0_6.index t = ![t.val / 32, t.val / 8 % 4] := by
  decide +kernel

/-- The row and the column that an entry of a block has in the array. -/
def row (n : ℕ) (h : n < cfg0.N) (y : Fin 1024) : Fin 16384 := ⟨n / 32 * 1024 + y.val, by have : n < 512 := lt_of_lt_of_eq h N_0; have := y.isLt; omega⟩
def clm (n : ℕ) (y : Fin 1024) : Fin 4096 := ⟨n / 8 % 4 * 1024 + y.val, by have := y.isLt; omega⟩

/-- One step adds one part. -/
theorem pay (acc : S1024x1024.Idx → EReal) (t : Fin cfg0.N) (y0 y1 : Fin 1024) :
    k0_pay1 (F := Ideal) acc (iblk m c 0 t) (iblk m c 1 t) (ix2 y0 y1)
      = acc (ix2 y0 y1) + part (m (c.tc.loc main_arg0)) (m (c.tc.loc main_arg1)) (row t.val t.isLt y0) (clm t.val y1) ⟨t.val % 8, Nat.mod_lt _ (by decide)⟩ := by
  pointwise [k0_pay1]
  unfold part
  refine congrArg _ (Finset.sum_congr rfl fun x _ => congrArg₂ _ ?_ ?_)
  · blk_ext! [iblk, V, idx_all t, row, clm]
  · blk_ext! [iblk, V, idx_all t, row, clm]

theorem start (t : Fin cfg0.N) (y0 y1 : Fin 1024) :
    iblk m c 2 t (ix2 y0 y1) = (m (c.tc.loc main_arg2) : S16384x4096.Idx → EReal) (ix2 (row t.val t.isLt y0) (clm t.val y1)) := by
  blk_ext! [iblk, V, idx_all t, row, clm]

/-- What the first output's block holds after a point. -/
theorem outs : ∀ (n : ℕ) (hn : n < cfg0.N) (y0 y1 : Fin 1024), (outsAt0 m c n hn).1 (ix2 y0 y1)
    = upto (m (c.tc.loc main_arg0)) (m (c.tc.loc main_arg1)) (m (c.tc.loc main_arg2)) (row n hn y0) (clm n y1) (n % 8 + 1) := by
  intro n
  induction n with
  | zero =>
    intro hn y0 y1
    rw [outsAt0_A m c ⟨0, hn⟩ rfl (fun h => absurd (show (0 : ℕ) = 7 from h) (by decide))]
    frame_out
    refine (pay m c _ ⟨0, hn⟩ y0 y1).trans ?_
    refine Eq.trans ?_ (upto_succ _ _ _ _ _ 0 (by decide))
    rw [upto_zero]
    exact congrArg₂ _ (start m c ⟨0, hn⟩ y0 y1) rfl
  | succ n ih =>
    intro hn y0 y1
    have hlt : n < cfg0.N := Nat.lt_of_succ_lt hn
    by_cases h0 : (n + 1) % 8 = 0
    · rw [outsAt0_A m c ⟨n + 1, hn⟩ h0 (fun h => by have : (n + 1) % 8 = 7 := h; omega)]
      frame_out
      refine (pay m c _ ⟨n + 1, hn⟩ y0 y1).trans ?_
      refine Eq.trans ?_ (upto_succ _ _ _ _ _ ((n + 1) % 8) (Nat.mod_lt _ (by decide)))
      refine congrArg₂ _ ((start m c ⟨n + 1, hn⟩ y0 y1).trans ?_) rfl
      rw [h0, upto_zero]
    · have key : ∀ z : EReal, z = (outsAt0 m c n hlt).1 (ix2 y0 y1) →
          z + part (m (c.tc.loc main_arg0)) (m (c.tc.loc main_arg1)) (row (n + 1) hn y0) (clm (n + 1) y1) ⟨(n + 1) % 8, Nat.mod_lt _ (by decide)⟩
          = upto (m (c.tc.loc main_arg0)) (m (c.tc.loc main_arg1)) (m (c.tc.loc main_arg2)) (row (n + 1) hn y0) (clm (n + 1) y1) ((n + 1) % 8 + 1) := by
        intro z hz
        refine Eq.trans ?_ (upto_succ _ _ _ _ _ ((n + 1) % 8) (Nat.mod_lt _ (by decide)))
        refine congrArg₂ _ (hz.trans ((ih hlt y0 y1).trans ?_)) rfl
        have e1 : row n hlt y0 = row (n + 1) hn y0 := Fin.ext (by unfold row; dsimp only; omega)
        have e2 : clm n y1 = clm (n + 1) y1 := Fin.ext (by unfold clm; dsimp only; omega)
        have e3 : n % 8 + 1 = (n + 1) % 8 := by omega
        rw [e1, e2, e3]
      by_cases h1 : (n + 1) % 8 = 7
      · rw [outsAt0_C m c ⟨n + 1, hn⟩ h0 h1]
        frame_out
        exact (pay m c _ ⟨n + 1, hn⟩ y0 y1).trans (key _ rfl)
      · rw [outsAt0_B m c ⟨n + 1, hn⟩ h0 h1]
        frame_out
        exact (pay m c _ ⟨n + 1, hn⟩ y0 y1).trans (key _ rfl)

/-- What it holds when it is written back. -/
theorem outs_last (t : Fin cfg0.N) (h : t.val % 8 = 7) (y0 y1 : Fin 1024) : (outsAt0 m c t.val t.isLt).1 (ix2 y0 y1)
    = Y (m (c.tc.loc main_arg0)) (m (c.tc.loc main_arg1)) (m (c.tc.loc main_arg2)) (row t.val t.isLt y0) (clm t.val y1) := by
  rw [outs m c t.val t.isLt, h]
  exact upto_eight _ _ _ _ _

/-- The kernel's first result. -/
theorem final4 : (dats m 0 c).arrAt 4 cfg0.N = G4 (m (c.tc.loc main_arg0)) (m (c.tc.loc main_arg1)) (m (c.tc.loc main_arg2)) := by
  refine (dats m 0 c).arrAt_eq_of_covers 4 _ (by decide +kernel) fun t hf y => ?_
  have h7 := (flush0_4 t).mp hf
  blk_simp
  rw [after0_4]
  idx_vars y
  refine (outs_last m c t h7 y0 y1).trans ?_
  unfold G4
  refine congrArg₂ _ ?_ ?_
  · refine Fin.ext ?_
    blk_ext! [V, idx_all t, row, clm]
  · refine Fin.ext ?_
    blk_ext! [V, idx_all t, row, clm]

/-- The kernel's second result. -/
theorem final5 : (dats m 0 c).arrAt 5 cfg0.N = G5 (m (c.tc.loc main_arg0)) (m (c.tc.loc main_arg1)) (m (c.tc.loc main_arg2)) (m (c.tc.loc main_arg3)) := by
  refine (dats m 0 c).arrAt_eq_of_covers 5 _ (by decide +kernel) fun t hf y => ?_
  have h7 := (flush0_5 t).mp hf
  have h0 : ¬t.val % 8 = 0 := by omega
  blk_simp
  rw [after0_5]
  idx_vars y
  have e := outs_last m c t h7 y0 y1
  rw [outsAt0_C m c t h0 h7] at e ⊢
  frame_out at e
  frame_out
  pointwise [k0_pay3, k0_pay2]
  refine congrArg₂ _ (e.trans ?_) ?_
  · refine congrArg₂ _ ?_ ?_
    · refine Fin.ext ?_
      blk_ext! [V, idx_all t, row, clm]
    · refine Fin.ext ?_
      blk_ext! [V, idx_all t, row, clm]
  · blk_point [iblk, V, idx_all t]

/-- The kernel's third result. -/
theorem final6 : (dats m 0 c).arrAt 6 cfg0.N = G6 (m (c.tc.loc main_arg0)) (m (c.tc.loc main_arg1)) (m (c.tc.loc main_arg2)) := by
  refine (dats m 0 c).arrAt_eq_of_covers 6 _ (by decide +kernel) fun t hf y => ?_
  have h7 := (flush0_6 t).mp hf
  have h0 : ¬t.val % 8 = 0 := by omega
  blk_simp
  rw [after0_6]
  idx_vars y
  have e := fun y0 y1 => outs_last m c t h7 y0 y1
  rw [outsAt0_C m c t h0 h7] at e ⊢
  frame_out at e
  frame_out
  pointwise [k0_pay4, k0_pay2]
  have hv : ((((View.whole main_v2_2).slice (win0_6.rect t)).emb (ix2 y0 y1)) 1 : Fin 512).val = t.val / 8 % 4 * 128 + y1.val := by
    blk_point [iblk, V, idx_all t]
  have hr : row t.val t.isLt y0 = (((View.whole main_v2_2).slice (win0_6.rect t)).emb (ix2 y0 y1)) 0 := by
    refine Fin.ext ?_
    blk_ext! [V, idx_all t, row, clm]
  have hc : ∀ (z : Fin 1024) (k : Fin 8), z.val = 128 * k.val + y1.val → clm t.val z = col ((((View.whole main_v2_2).slice (win0_6.rect t)).emb (ix2 y0 y1)) 1) k := by
    intro z k hz
    have := y1.isLt
    refine Fin.ext ?_
    unfold col clm
    show _ = _ / 128 * 1024 + _ + _ % 128
    rw [hv]
    dsimp only
    omega
  unfold G6
  rw [Fin.sum_univ_eight]
  have k0 := (e y0 ⟨y1.val, by have := y1.isLt; omega⟩).trans (congrArg₂ (Y (m (c.tc.loc main_arg0)) (m (c.tc.loc main_arg1)) (m (c.tc.loc main_arg2))) hr (hc ⟨y1.val, by have := y1.isLt; omega⟩ 0 (by simp)))
  have k1 := (e y0 ⟨128 + y1.val, by have := y1.isLt; omega⟩).trans (congrArg₂ (Y (m (c.tc.loc main_arg0)) (m (c.tc.loc main_arg1)) (m (c.tc.loc main_arg2))) hr (hc ⟨128 + y1.val, by have := y1.isLt; omega⟩ 1 (by simp)))
  have k2 := (e y0 ⟨256 + y1.val, by have := y1.isLt; omega⟩).trans (congrArg₂ (Y (m (c.tc.loc main_arg0)) (m (c.tc.loc main_arg1)) (m (c.tc.loc main_arg2))) hr (hc ⟨256 + y1.val, by have := y1.isLt; omega⟩ 2 (by simp)))
  have k3 := (e y0 ⟨384 + y1.val, by have := y1.isLt; omega⟩).trans (congrArg₂ (Y (m (c.tc.loc main_arg0)) (m (c.tc.loc main_arg1)) (m (c.tc.loc main_arg2))) hr (hc ⟨384 + y1.val, by have := y1.isLt; omega⟩ 3 (by simp)))
  have k4 := (e y0 ⟨512 + y1.val, by have := y1.isLt; omega⟩).trans (congrArg₂ (Y (m (c.tc.loc main_arg0)) (m (c.tc.loc main_arg1)) (m (c.tc.loc main_arg2))) hr (hc ⟨512 + y1.val, by have := y1.isLt; omega⟩ 4 (by simp)))
  have k5 := (e y0 ⟨640 + y1.val, by have := y1.isLt; omega⟩).trans (congrArg₂ (Y (m (c.tc.loc main_arg0)) (m (c.tc.loc main_arg1)) (m (c.tc.loc main_arg2))) hr (hc ⟨640 + y1.val, by have := y1.isLt; omega⟩ 5 (by simp)))
  have k6 := (e y0 ⟨768 + y1.val, by have := y1.isLt; omega⟩).trans (congrArg₂ (Y (m (c.tc.loc main_arg0)) (m (c.tc.loc main_arg1)) (m (c.tc.loc main_arg2))) hr (hc ⟨768 + y1.val, by have := y1.isLt; omega⟩ 6 (by simp)))
  have k7 := (e y0 ⟨896 + y1.val, by have := y1.isLt; omega⟩).trans (congrArg₂ (Y (m (c.tc.loc main_arg0)) (m (c.tc.loc main_arg1)) (m (c.tc.loc main_arg2))) hr (hc ⟨896 + y1.val, by have := y1.isLt; omega⟩ 7 (by simp)))
  exact (congrArg₂ _ (congrArg₂ _ (congrArg₂ _ (congrArg₂ _ (congrArg₂ _ (congrArg₂ _ (congrArg₂ _ (congrArg₂ _ k0 k0) (congrArg₂ _ k1 k1)) (congrArg₂ _ k2 k2)) (congrArg₂ _ k3 k3)) (congrArg₂ _ k4 k4)) (congrArg₂ _ k5 k5)) (congrArg₂ _ k6 k6)) (congrArg₂ _ k7 k7))

end

/-- The reference runs and keeps its arguments. -/
theorem frame_ref : Cert.quiescent_Reference3Ideal := fun m ρ _ =>
  (θ_run _ _ _).mono (fun r h => ⟨fun c => (h c).2.2.2, sem_eq_zero_of_no_sems (by decide) r.2⟩) (Reference3Ideal.Value.run m ρ)

/-- Kernel and reference agree. -/
theorem equal : Cert.algebraic_Kernel3Ideal_Reference3Ideal := by
  intro m ρ m' ρ' _ hag
  refine ⟨fun c => G4 (m (c.tc.loc main_arg0)) (m (c.tc.loc main_arg1)) (m (c.tc.loc main_arg2)),
    fun c => G5 (m (c.tc.loc main_arg0)) (m (c.tc.loc main_arg1)) (m (c.tc.loc main_arg2)) (m (c.tc.loc main_arg3)),
    fun c => G6 (m (c.tc.loc main_arg0)) (m (c.tc.loc main_arg1)) (m (c.tc.loc main_arg2)),
    (θ_run _ _ _).mono (fun r h c => ⟨(h c).1.trans (final4 m c), (h c).2.1.trans (final5 m c), (h c).2.2.1.trans (final6 m c), (h c).2.2.2⟩) (Cert.Kernel3Ideal.Value.run_blocks m ρ),
    (θ_run _ _ _).mono (fun r h c => ⟨(h c).1.trans ?_, (h c).2.1.trans ?_, (h c).2.2.1.trans ?_, (h c).2.2.2⟩) (Reference3Ideal.Value.run m' ρ')⟩
  all_goals
    obtain ⟨a0, a1, a2, a3⟩ := hag c
    simp only [a0, a1, a2, a3]
    clear h
    funext j
    idx_vars j
    pointwise
    rfl

end Cert.Dense.MlpOut
end
-- ==== Proof.Dense.OutProj.lean ====
module

public import proofs.«01_k».proof.Defs
public import proofs.«01_k».proof.Proof.Gen.Kernel4Ideal.Value
public import proofs.«01_k».proof.Proof.Gen.Reference4Ideal.Run
public import proofs.«01_k».proof.Proof.Dense.Scalars
public import Idealize.ShloMosaic.Lib.Pipeline.ValueKit.Point
public import Idealize.ShloMosaic.Lib.Quiescent

/-!
# The call out of the mixer: kernel and reference agree
-/

@[expose] public section

set_option maxRecDepth 16384

noncomputable section

namespace Cert.Dense.OutProj

open Cert.Kernel4Ideal Cert.Kernel4Ideal.Gen Idealize.ShloMosaic Idealize.ShloMosaic.TcCoe Idealize.SL.Sem

/-- The new rows: the rows plus the product. -/
def Y (a : S16384x4096.Idx → EReal) (w : S4096x4096.Idx → EReal) (xs : S16384x4096.Idx → EReal) (i : Fin 16384) (j : Fin 4096) : EReal :=
  xs (ix2 i j) + ∑ x : Fin 4096, a (ix2 i x) * w (ix2 x j)

def G4 (a : S16384x4096.Idx → EReal) (w : S4096x4096.Idx → EReal) (xs : S16384x4096.Idx → EReal) : S16384x4096.Idx → EReal := fun i => Y a w xs (i 0) (i 1)

/-- The new rows times the next norm's gains. -/
def G5 (a : S16384x4096.Idx → EReal) (w : S4096x4096.Idx → EReal) (xs : S16384x4096.Idx → EReal) (g : S4096.Idx → EReal) : S16384x4096.Idx → EReal :=
  fun i => Y a w xs (i 0) (i 1) * g (ix1 (i 1))

/-- The `k`-th of the columns whose squares the column `j` holds. -/
def col (j : Fin 1024) (k : Fin 4) : Fin 4096 := ⟨j.val / 128 * 512 + k.val * 128 + j.val % 128, by have := j.isLt; have := k.isLt; omega⟩

/-- The sums of squares of the new rows, four columns each. -/
def G6 (a : S16384x4096.Idx → EReal) (w : S4096x4096.Idx → EReal) (xs : S16384x4096.Idx → EReal) : S16384x1024.Idx → EReal :=
  fun i => ∑ k : Fin 4, Y a w xs (i 0) (col (i 1) k) * Y a w xs (i 0) (col (i 1) k)

section

variable (m : (ℓ : Loc nD τ sig) → Buf (Elt Ideal) ℓ) (c : Dev nD)

/-- Where each window's block lies at a grid point. -/
theorem idx_all : ∀ t : Fin grid0.N, win0_0.index t = ![t.val / 8, 0] ∧ win0_1.index t = ![0, t.val % 8] ∧ win0_2.index t = ![t.val / 8, t.val % 8] ∧
    win0_3.index t = ![0, t.val % 8] ∧ win0_4.index t = ![t.val / 8, t.val % 8] ∧ win0_5.index t = ![t.val / 8, t.val % 8] ∧
    win0_6.index t = ![t.val / 8, t.val % 8] := by
  decide +kernel

/-- The kernel's first result. -/
theorem final4 : (dats m 0 c).arrAt 4 cfg0.N = G4 (m (c.tc.loc main_arg0)) (m (c.tc.loc main_arg1)) (m (c.tc.loc main_arg2)) := by
  refine (dats m 0 c).arrAt_eq_of_covers 4 _ (by decide +kernel) fun t hf y => ?_
  blk_simp
  rw [after0_4]
  unfold out0_4
  frame_out
  idx_vars y
  pointwise [k0_pay1]
  unfold G4 Y
  refine congrArg₂ _ ?_ (Finset.sum_congr rfl fun x _ => congrArg₂ _ ?_ ?_)
  · blk_point [iblk, V, idx_all t]
  · blk_point [iblk, V, idx_all t]
  · blk_point [iblk, V, idx_all t]

/-- The kernel's second result. -/
theorem final5 : (dats m 0 c).arrAt 5 cfg0.N = G5 (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold out0_5
  frame_out
  idx_vars y
  pointwise [k0_pay2, k0_pay1]
  unfold G5 Y
  refine congrArg₂ _ (congrArg₂ _ ?_ (Finset.sum_congr rfl fun x _ => congrArg₂ _ ?_ ?_)) ?_
  · blk_point [iblk, V, idx_all t]
  · blk_point [iblk, V, idx_all t]
  · blk_point [iblk, V, idx_all t]
  · blk_point [iblk, V, idx_all t]

/-- The kernel's third result. -/
theorem final6 : (dats m 0 c).arrAt 6 cfg0.N = G6 (m (c.tc.loc main_arg0)) (m (c.tc.loc main_arg1)) (m (c.tc.loc main_arg2)) := by
  refine (dats m 0 c).arrAt_eq_of_covers 6 _ (by decide +kernel) fun t hf y => ?_
  blk_simp
  rw [after0_6]
  unfold out0_6
  frame_out
  idx_vars y
  pointwise [k0_pay3, k0_pay1]
  have hv : ((((View.whole main_v2_2).slice (win0_6.rect t)).emb (ix2 y0 y1)) 1 : Fin 1024).val = t.val % 8 * 128 + y1.val := by
    blk_point [iblk, V, idx_all t]
  have hc : ∀ (z : Fin 512) (k : Fin 4), z.val = 128 * k.val + y1.val → (col ((((View.whole main_v2_2).slice (win0_6.rect t)).emb (ix2 y0 y1)) 1) k).val = t.val % 8 * 512 + z.val := by
    intro z k hz
    have := y1.isLt
    unfold col
    show _ / 128 * 512 + _ + _ % 128 = _
    rw [hv]
    omega
  have hx : ∀ (z : Fin 512) (k : Fin 4), z.val = 128 * k.val + y1.val → plus (iblk m c 2 t (ix2 y0 z)) (fun x : Fin 4096 => iblk m c 0 t (ix2 y0 x)) (fun x => iblk m c 1 t (ix2 x z))
      = Y (m (c.tc.loc main_arg0)) (m (c.tc.loc main_arg1)) (m (c.tc.loc main_arg2)) ((((View.whole main_v2_2).slice (win0_6.rect t)).emb (ix2 y0 y1)) 0)
        (col ((((View.whole main_v2_2).slice (win0_6.rect t)).emb (ix2 y0 y1)) 1) k) := by
    intro z k hz
    have e := hc z k hz
    unfold Y plus
    refine congrArg₂ _ ?_ (Finset.sum_congr rfl fun x _ => congrArg₂ _ ?_ ?_)
    · blk_ext! [iblk, V, idx_all t]
    · blk_point [iblk, V, idx_all t]
    · blk_ext! [iblk, V, idx_all t]
  unfold G6
  rw [Fin.sum_univ_four]
  have k0 := hx ⟨y1.val, by have := y1.isLt; omega⟩ 0 (by simp)
  have k1 := hx ⟨128 + y1.val, by have := y1.isLt; omega⟩ 1 (by simp)
  have k2 := hx ⟨256 + y1.val, by have := y1.isLt; omega⟩ 2 (by simp)
  have k3 := hx ⟨384 + y1.val, by have := y1.isLt; omega⟩ 3 (by simp)
  exact congrArg₂ _ (congrArg₂ _ (congrArg₂ _ (congrArg₂ _ k0 k0) (congrArg₂ _ k1 k1)) (congrArg₂ _ k2 k2)) (congrArg₂ _ k3 k3)

end

/-- The reference runs and keeps its arguments. -/
theorem frame_ref : Cert.quiescent_Reference4Ideal := fun m ρ _ =>
  (θ_run _ _ _).mono (fun r h => ⟨fun c => (h c).2.2.2, sem_eq_zero_of_no_sems (by decide) r.2⟩) (Reference4Ideal.Value.run m ρ)

/-- Kernel and reference agree. -/
theorem equal : Cert.algebraic_Kernel4Ideal_Reference4Ideal := by
  intro m ρ m' ρ' _ hag
  refine ⟨fun c => G4 (m (c.tc.loc main_arg0)) (m (c.tc.loc main_arg1)) (m (c.tc.loc main_arg2)),
    fun c => G5 (m (c.tc.loc main_arg0)) (m (c.tc.loc main_arg1)) (m (c.tc.loc main_arg2)) (m (c.tc.loc main_arg3)),
    fun c => G6 (m (c.tc.loc main_arg0)) (m (c.tc.loc main_arg1)) (m (c.tc.loc main_arg2)),
    (θ_run _ _ _).mono (fun r h c => ⟨(h c).1.trans (final4 m c), (h c).2.1.trans (final5 m c), (h c).2.2.1.trans (final6 m c), (h c).2.2.2⟩) (Cert.Kernel4Ideal.Value.run_blocks m ρ),
    (θ_run _ _ _).mono (fun r h c => ⟨(h c).1.trans ?_, (h c).2.1.trans ?_, (h c).2.2.1.trans ?_, (h c).2.2.2⟩) (Reference4Ideal.Value.run m' ρ')⟩
  all_goals
    obtain ⟨a0, a1, a2, a3⟩ := hag c
    simp only [a0, a1, a2, a3]
    clear h
    funext j
    idx_vars j
    pointwise
    rfl

end Cert.Dense.OutProj
end
-- ==== Proof.Dense.Ple.lean ====
module

public import proofs.«01_k».proof.Defs
public import proofs.«01_k».proof.Proof.Gen.Kernel5Ideal.Value
public import proofs.«01_k».proof.Proof.Gen.Reference5Ideal.Run
public import proofs.«01_k».proof.Proof.Dense.Scalars
public import Idealize.ShloMosaic.Lib.Pipeline.ValueKit.Point
public import Idealize.ShloMosaic.Lib.Quiescent

/-!
# The call that gives the result: kernel and reference agree
-/

@[expose] public section

set_option maxRecDepth 16384

noncomputable section

namespace Cert.Dense.Ple

open Cert.Kernel5Ideal Cert.Kernel5Ideal.Gen Idealize.ShloMosaic Idealize.ShloMosaic.TcCoe Idealize.SL.Sem

/-- The result, entry by entry: the gate of the scaled product times the projection, added to the rows. -/
def G (xg : S16384x4096.Idx → EReal) (ss : S16384x512.Idx → EReal) (xs : S16384x4096.Idx → EReal) (p : S16384x256.Idx → EReal)
    (wg : S4096x4096.Idx → EReal) (wp : S256x4096.Idx → EReal) : S16384x4096.Idx → EReal := fun i =>
  xs i + gate ((∑ x : Fin 4096, xg (ix2 (i 0) x) * wg (ix2 x (i 1))) * scale (∑ x : Fin 512, ss (ix2 (i 0) x)))
    * (∑ x : Fin 256, p (ix2 (i 0) x) * wp (ix2 x (i 1)))

section

variable (m : (ℓ : Loc nD τ sig) → Buf (Elt Ideal) ℓ) (c : Dev nD)

/-- Where each window's block lies at a grid point. -/
theorem idx_all : ∀ t : Fin grid0.N, win0_0.index t = ![t.val / 8, 0] ∧ win0_1.index t = ![0, t.val % 8] ∧ win0_2.index t = ![t.val / 8, 0] ∧
    win0_3.index t = ![0, t.val % 8] ∧ win0_4.index t = ![t.val / 8, t.val % 8] ∧ win0_5.index t = ![t.val / 8, 0] ∧
    win0_6.index t = ![t.val / 8, t.val % 8] := by
  decide +kernel

/-- The kernel's result. -/
theorem final : (dats m 0 c).arrAt 6 cfg0.N = G (m (c.tc.loc main_arg0)) (m (c.tc.loc main_arg1)) (m (c.tc.loc main_arg2)) (m (c.tc.loc main_arg3))
    (m (c.tc.loc main_arg4)) (m (c.tc.loc main_arg5)) := by
  refine (dats m 0 c).arrAt_eq_of_covers 6 _ (by decide +kernel) fun t hf y => ?_
  blk_simp
  rw [after0_6]
  unfold out0_6
  frame_out
  idx_vars y
  pointwise [k0_pay1]
  have h0 : ∀ x, iblk m c 0 t (ix2 y0 x) = m (c.tc.loc main_arg0) (ix2 (((View.whole main_v3).slice (win0_6.rect t)).emb (ix2 y0 y1) 0) x) := fun x => by
    blk_point [iblk, V, idx_all t]
  have h1 : ∀ x, iblk m c 1 t (ix2 x y1) = m (c.tc.loc main_arg4) (ix2 x (((View.whole main_v3).slice (win0_6.rect t)).emb (ix2 y0 y1) 1)) := fun x => by
    blk_point [iblk, V, idx_all t]
  have h2 : ∀ x, iblk m c 2 t (ix2 y0 x) = m (c.tc.loc main_arg3) (ix2 (((View.whole main_v3).slice (win0_6.rect t)).emb (ix2 y0 y1) 0) x) := fun x => by
    blk_point [iblk, V, idx_all t]
  have h3 : ∀ x, iblk m c 3 t (ix2 x y1) = m (c.tc.loc main_arg5) (ix2 x (((View.whole main_v3).slice (win0_6.rect t)).emb (ix2 y0 y1) 1)) := fun x => by
    blk_point [iblk, V, idx_all t]
  have h4 : iblk m c 4 t (ix2 y0 y1) = m (c.tc.loc main_arg2) (((View.whole main_v3).slice (win0_6.rect t)).emb (ix2 y0 y1)) := by
    blk_point [iblk, V, idx_all t]
  have h5 : ∀ x, iblk m c 5 t (ix2 y0 x) = m (c.tc.loc main_arg1) (ix2 (((View.whole main_v3).slice (win0_6.rect t)).emb (ix2 y0 y1) 0) x) := fun x => by
    blk_point [iblk, V, idx_all t]
  simp only [h0, h1, h2, h3, h4, h5, gate_half]
  rfl

end

/-- The reference runs and keeps its arguments. -/
theorem frame_ref : Cert.quiescent_Reference5Ideal := fun m ρ _ =>
  (θ_run _ _ _).mono (fun r h => ⟨fun c => (h c).2, sem_eq_zero_of_no_sems (by decide) r.2⟩) (Reference5Ideal.Value.run m ρ)

instance preFacts : Cert.Pre_squares_ple.Facts where
  bcast_S_S16384x512 := by decide

/-- Kernel and reference agree where the rows' sums are not negative. -/
theorem equal : Cert.algebraic_Kernel5Ideal_Reference5Ideal_pre_squares_ple := by
  intro m ρ m' ρ' hp hag
  refine ⟨fun c => G (m (c.tc.loc main_arg0)) (m (c.tc.loc main_arg1)) (m (c.tc.loc main_arg2)) (m (c.tc.loc main_arg3))
    (m (c.tc.loc main_arg4)) (m (c.tc.loc main_arg5)),
    (θ_run _ _ _).mono (fun r h c => ⟨(h c).1.trans (final m c), (h c).2⟩) (Cert.Kernel5Ideal.Value.run_blocks m ρ),
    (θ_run _ _ _).mono (fun r h c => ⟨(h c).1.trans ?_, (h c).2⟩) (Reference5Ideal.Value.run m' ρ')⟩
  obtain ⟨a0, a1, a2, a3, a4, a5⟩ := hag c
  have hp' : ∀ i k, (0 : EReal) ≤ (m (c.tc.loc main_arg1) : S16384x512.Idx → EReal) (ix2 i k) := fun i k => nonneg_of_test _ (congrFun (hp c) (ix2 i k))
  rw [a0, a1, a2, a3, a4, a5]
  clear h
  funext j
  idx_vars j
  pointwise
  obtain ⟨s0, s1⟩ := scale_range _ (sum_nonneg _ (hp' j0))
  have e := sum_scale (fun x => (m (c.tc.loc main_arg0) : S16384x4096.Idx → EReal) (ix2 j0 x)) (fun x => (m (c.tc.loc main_arg4) : S4096x4096.Idx → EReal) (ix2 x j1)) _ s0 s1
  simp only [div_word]
  exact congrArg (fun z : EReal => _ + Ideal.div 1 (1 + Ideal.exp (-z)) * _) e

end Cert.Dense.Ple
end
-- ==== Proof.Dense.Merge.lean ====
module

public import proofs.«01_k».proof.Defs
public import proofs.«01_k».proof.Proof.Gen.Kernel6Ideal.Value
public import proofs.«01_k».proof.Proof.Gen.Reference6Ideal.Run
public import proofs.«01_k».proof.Proof.Dense.Scalars
public import Idealize.ShloMosaic.Lib.Pipeline.ValueKit.Point
public import Idealize.ShloMosaic.Lib.Quiescent

@[expose] public section

set_option maxRecDepth 16384

noncomputable section

namespace Cert.Dense.Merge

open Cert.Kernel6Ideal Cert.Kernel6Ideal.Gen Idealize.ShloMosaic Idealize.ShloMosaic.TcCoe Idealize.SL.Sem

/-- The merge of the two branches, entry by entry. -/
def G (oa : S16384x2048.Idx → EReal) (wa : S2048x4096.Idx → EReal) (ob : S16384x2048.Idx → EReal) (wb : S2048x4096.Idx → EReal)
    (pr : S16384x21504.Idx → EReal) : S16384x4096.Idx → EReal := fun i =>
  gate (pr (ix2 (i 0) ⟨(i 1).val, by have := (i 1).isLt; simp at this; omega⟩)) * (∑ x : Fin 2048, oa (ix2 (i 0) x) * wa (ix2 x (i 1)))
    + gate (pr (ix2 (i 0) ⟨4096 + (i 1).val, by have := (i 1).isLt; simp at this; omega⟩)) * (∑ x : Fin 2048, ob (ix2 (i 0) x) * wb (ix2 x (i 1)))

variable (m : (ℓ : Loc nD τ sig) → Buf (Elt Ideal) ℓ) (c : Dev nD)

/-- Where each window's block lies at a grid point. -/
theorem idx_all : ∀ t : Fin grid0.N, win0_0.index t = ![t.val / 8, 0] ∧ win0_1.index t = ![0, t.val % 8] ∧ win0_2.index t = ![t.val / 8, 0] ∧
    win0_3.index t = ![0, t.val % 8] ∧ win0_4.index t = ![t.val / 8, t.val % 8] ∧ win0_5.index t = ![t.val / 8, 8 + t.val % 8] ∧
    win0_6.index t = ![t.val / 8, t.val % 8] := by
  decide +kernel

/-- The kernel's result. -/
theorem final : (dats m 0 c).arrAt 6 cfg0.N = G (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  unfold out0_6
  frame_out
  idx_vars y
  pointwise [k0_pay1]
  rw [gate_half, gate_half]
  unfold G
  refine congrArg₂ _ (congrArg₂ _ (congrArg _ ?_) (Finset.sum_congr rfl fun x _ => congrArg₂ _ ?_ ?_)) (congrArg₂ _ (congrArg _ ?_) (Finset.sum_congr rfl fun x _ => congrArg₂ _ ?_ ?_))
  · blk_point [iblk, V, idx_all t]
  · blk_point [iblk, V, idx_all t]
  · blk_point [iblk, V, idx_all t]
  · blk_point [iblk, V, idx_all t]
  · blk_point [iblk, V, idx_all t]
  · blk_point [iblk, V, idx_all t]

/-- The reference runs and keeps its arguments. -/
theorem frame_ref : Cert.quiescent_Reference6Ideal := fun m ρ _ =>
  (θ_run _ _ _).mono (fun r h => ⟨fun c => (h c).2, sem_eq_zero_of_no_sems (by decide) r.2⟩) (Reference6Ideal.Value.run m ρ)

/-- Kernel and reference agree. -/
theorem equal : Cert.algebraic_Kernel6Ideal_Reference6Ideal := by
  intro m ρ m' ρ' _ hag
  refine ⟨fun c => G (m (c.tc.loc main_arg0)) (m (c.tc.loc main_arg1)) (m (c.tc.loc main_arg2)) (m (c.tc.loc main_arg3)) (m (c.tc.loc main_arg4)),
    (θ_run _ _ _).mono (fun r h c => ⟨(h c).1.trans (final m c), (h c).2⟩) (Cert.Kernel6Ideal.Value.run_blocks m ρ),
    (θ_run _ _ _).mono (fun r h c => ⟨(h c).1.trans ?_, (h c).2⟩) (Reference6Ideal.Value.run m' ρ')⟩
  obtain ⟨a0, a1, a2, a3, a4⟩ := hag c
  rw [a0, a1, a2, a3, a4]
  funext j
  idx_vars j
  pointwise
  rfl

end Cert.Dense.Merge
end
-- ==== Proof.Dense.InProj.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Pipeline.ValueKit.Point
public import Idealize.ShloMosaic.Lib.Quiescent

/-!
# The input projection: kernel and reference agree
-/

@[expose] public section

set_option maxRecDepth 16384

noncomputable section

namespace Cert.Dense.InProj

open Idealize.ShloMosaic Idealize.ShloMosaic.TcCoe Idealize.SL.Sem

/-- The column of the weight that column `j` of the result is made from. -/
def place (j : ℕ) : ℕ :=
  if j < 8192 then 13392 + j else if j < 14336 then j - 3024 else if j < 16384 then j - 14336 else if j < 18432 then j - 5072 else j - 16384

/-- It is a column of the weight. -/
theorem place_lt {j : ℕ} (h : j < 21504) : place j < 21584 := by
  unfold place; split_ifs <;> omega

section bits

open Cert.Kernel7 Cert.Kernel7.Gen

set_option backward.proofsInPublic true in
/-- The table of row starts, as the program's text has it. -/
def wordsBits : pre0.Contents (Elt Bits) := fun | ⟨0, _⟩ => fun x => lit0 (S21.rowMajor x) | ⟨_ + 1, h⟩ => absurd h (by simp)

/-- The kernel reads that table. -/
theorem tbl_bits (m : (ℓ : Loc nD τ sig) → Buf (Elt Bits) ℓ) : tbl m = wordsBits := by
  funext j x
  match j with
  | ⟨0, _⟩ => rfl

/-- Its blocks lie inside the weight. -/
theorem ok_bits (m : (ℓ : Loc nD τ sig) → Buf (Elt Bits) ℓ) : Ok m := by
  unfold Ok; rw [tbl_bits m]; decide +kernel

end bits

open Cert.Kernel7Ideal Cert.Kernel7Ideal.Gen

set_option backward.proofsInPublic true in
/-- The table of row starts of the idealized kernel. -/
def words : pre0.Contents (Elt Ideal) := fun | ⟨0, _⟩ => fun x => lit0 (S21.rowMajor x) | ⟨_ + 1, h⟩ => absurd h (by simp)

section

variable (m : (ℓ : Loc nD τ sig) → Buf (Elt Ideal) ℓ) (c : Dev nD)

/-- The idealized kernel reads that table. -/
theorem tbl_eq : tbl m = words := by
  funext j x
  match j with
  | ⟨0, _⟩ => rfl

/-- Its blocks lie inside the weight. -/
theorem ok : Ok m := by
  unfold Ok; rw [tbl_eq m]; decide +kernel

/-- The wide projection, entry by entry: a row against the column of the weight that the place names. -/
def G (h : S16384x4096.Idx → EReal) (w : S4096x21584.Idx → EReal) : S16384x21504.Idx → EReal := fun i =>
  ∑ x : Fin 4096, h (ix2 (i 0) x) * w (ix2 x ⟨place (i 1).val, place_lt (i 1).isLt⟩)

/-- An entry of it, by the column of the weight. -/
theorem G_at (h : S16384x4096.Idx → EReal) (w : S4096x21584.Idx → EReal) (j0 : Fin 16384) (j1 : Fin 21504) (n : ℕ) (hn : n < 21584) (e : n = place j1.val) :
    (∑ x : Fin 4096, h (ix2 j0 x) * w (ix2 x ⟨n, hn⟩)) = G h w (ix2 j0 j1) := by
  subst e; rfl

/-- Where the blocks of rows and of the result lie at a grid point. -/
theorem idx_all : ∀ t : Fin grid0.N, cc0_transform_0 (grid0.coords t) = ![t.val / 21, 0] ∧ cc0_transform_2 (grid0.coords t) = ![t.val / 21, t.val % 21] := by
  decide +kernel

/-- Where the weight's rows start at a grid point: at the column that the first column of the result's block is made from. -/
theorem idx_rows : ∀ t : Fin grid0.N, cc0_transform_1 k0_off1_inb numel1_S1 words (grid0.coords t) = ![place (t.val % 21 * 1024), 0] := by
  decide +kernel

/-- Inside a block the columns follow one another. -/
theorem place_add (b y : ℕ) (hy : y < 1024) : place (b * 1024 + y) = place (b * 1024) + y := by
  unfold place; split_ifs <;> omega

/-- The blocks of the result cover it. -/
theorem covers : ((cfgM m (ok m)).win 2).Covers := by
  refine ⟨fun a => ?_, fun β => ?_⟩
  · match a with
    | ⟨0, _⟩ => show 0 < 1024; decide
    | ⟨1, _⟩ => show 0 < 1024; decide
  have n0 : ((cfgM m (ok m)).win 2).nblk (0 : Fin 2) = 16 := by show (16384 + 1024 - 1) / 1024 = 16; rfl
  have n1 : ((cfgM m (ok m)).win 2).nblk (1 : Fin 2) = 21 := by show (21504 + 1024 - 1) / 1024 = 21; rfl
  have b0 : (β (0 : Fin 2)).val < 16 := n0 ▸ (β (0 : Fin 2)).isLt
  have b1 : (β (1 : Fin 2)).val < 21 := n1 ▸ (β (1 : Fin 2)).isLt
  refine ⟨(⟨(β (0 : Fin 2)).val * 21 + (β (1 : Fin 2)).val, by rw [N_0]; omega⟩ : Fin grid0.N), flush0_2 _ _, fun a => ⟨?_, .inl rfl⟩⟩
  refine (congrFun (idx_all _).2 a).trans ?_
  match a with
  | ⟨0, _⟩ =>
    show ((β (0 : Fin 2)).val * 21 + (β (1 : Fin 2)).val) / 21 = (β (0 : Fin 2)).val
    omega
  | ⟨1, _⟩ =>
    show ((β (0 : Fin 2)).val * 21 + (β (1 : Fin 2)).val) % 21 = (β (1 : Fin 2)).val
    omega

/-- The block of rows at a grid point. -/
def rows (t : Fin grid0.N) : S1024x4096.Idx → EReal := iblk m (ok m) c 0 t

/-- The block of the weight at a grid point. -/
def cols (t : Fin grid0.N) : S1024x4096.Idx → EReal := iblk m (ok m) c 1 t

/-- Where an entry of a block of the result lies in it. -/
def at2 (t : Fin grid0.N) (y : S1024x1024.Idx) : S16384x21504.Idx := (((cfgM m (ok m)).win 2).blk t).view.emb y

theorem at2_0 (t : Fin grid0.N) (y : S1024x1024.Idx) : (at2 m t y 0).val = t.val / 21 * 1024 + (y 0).val := by
  have e : (at2 m t y 0).val = cc0_transform_2 (grid0.coords t) 0 * 1024 + (y 0).val := ValueKit.rect_emb_unit_val _ _ _ _ _
  rw [e, (idx_all t).2]; rfl

theorem at2_1 (t : Fin grid0.N) (y : S1024x1024.Idx) : (at2 m t y 1).val = t.val % 21 * 1024 + (y 1).val := by
  have e : (at2 m t y 1).val = cc0_transform_2 (grid0.coords t) 1 * 1024 + (y 1).val := ValueKit.rect_emb_unit_val _ _ _ _ _
  rw [e, (idx_all t).2]; rfl

/-- An entry of the block of rows. -/
theorem rows_eq (t : Fin grid0.N) (y : S1024x4096.Idx) (i : S16384x4096.Idx) (h0 : (i 0).val = t.val / 21 * 1024 + (y 0).val) (h1 : (i 1).val = (y 1).val) :
    rows m c t y = m (c.tc.loc main_arg0) i := by
  have e0 : (((cfgM m (ok m)).win 0).blk t).view.emb y = i := by
    funext a
    refine Fin.ext ?_
    match a with
    | ⟨0, _⟩ =>
      have e : ((((cfgM m (ok m)).win 0).blk t).view.emb y (0 : Fin 2)).val = cc0_transform_0 (grid0.coords t) 0 * 1024 + (y 0).val := ValueKit.rect_emb_unit_val _ _ _ _ _
      refine e.trans ?_
      rw [(idx_all t).1]; exact h0.symm
    | ⟨1, _⟩ =>
      have e : ((((cfgM m (ok m)).win 0).blk t).view.emb y (1 : Fin 2)).val = cc0_transform_0 (grid0.coords t) 1 * 4096 + (y 1).val := ValueKit.rect_emb_unit_val _ _ _ _ _
      refine e.trans ?_
      rw [(idx_all t).1]; exact (Nat.zero_add _).trans h1.symm
  have e1 : rows m c t y = V m c main_arg0 ((((cfgM m (ok m)).win 0).blk t).view.emb y) := rfl
  rw [e1, e0]; exact congrFun (V_main_arg0 m c) i

/-- An entry of the block of the weight. -/
theorem cols_eq (t : Fin grid0.N) (y : S1024x4096.Idx) (i : S4096x21584.Idx) (h0 : (i 0).val = (y 1).val) (h1 : (i 1).val = place (t.val % 21 * 1024) + (y 0).val) :
    cols m c t y = m (c.tc.loc main_arg1) i := by
  have e1 : cols m c t y = V m c main_v1 ((((cfgM m (ok m)).win 1).blk t).view.emb y) := rfl
  have v : ∀ j : S21584x4096.Idx, V m c main_v1 j = m (c.tc.loc main_arg1) (ix2 (j 1) (j 0)) := fun j => by
    idx_vars j
    entry_read
    pointwise
  refine e1.trans ((v _).trans ?_)
  refine congrArg (m (c.tc.loc main_arg1)) ?_
  funext a
  refine Fin.ext ?_
  have hi : cc0_transform_1 k0_off1_inb numel1_S1 (tbl m) (grid0.coords t) = ![place (t.val % 21 * 1024), 0] := (congrArg (fun w => cc0_transform_1 k0_off1_inb numel1_S1 w (grid0.coords t)) (tbl_eq m)).trans (idx_rows t)
  match a with
  | ⟨0, _⟩ =>
    have e : ((((cfgM m (ok m)).win 1).blk t).view.emb y (1 : Fin 2)).val = cc0_transform_1 k0_off1_inb numel1_S1 (tbl m) (grid0.coords t) 1 + (y 1).val := ValueKit.rect_emb_unit_val _ _ _ _ _
    refine e.trans ?_
    rw [hi]; exact (Nat.zero_add _).trans h0.symm
  | ⟨1, _⟩ =>
    have e : ((((cfgM m (ok m)).win 1).blk t).view.emb y (0 : Fin 2)).val = cc0_transform_1 k0_off1_inb numel1_S1 (tbl m) (grid0.coords t) 0 + (y 0).val := ValueKit.rect_emb_unit_val _ _ _ _ _
    refine e.trans ?_
    rw [hi]; exact h1.symm

/-- The body's product of two blocks, at an entry. -/
theorem pay (a b : S1024x4096.Idx → EReal) (y0 y1 : Fin 1024) : k0_pay1 (F := Ideal) a b (ix2 y0 y1) = ∑ x : Fin 4096, a (ix2 y0 x) * b (ix2 y1 x) := by
  pointwise [k0_pay1]

/-- The block of the result at a grid point. -/
theorem block (t : Fin grid0.N) (y : S1024x1024.Idx) :
    k0_pay1 (F := Ideal) (rows m c t) (cols m c t) y = G (m (c.tc.loc main_arg0)) (m (c.tc.loc main_arg1)) (at2 m t y) := by
  idx_vars y
  rw [pay]
  have h0 := at2_0 m t (ix2 y0 y1)
  have h1 := at2_1 m t (ix2 y0 y1)
  have b := place_add (t.val % 21) y1.val y1.isLt
  refine Finset.sum_congr rfl fun x _ => congrArg₂ (· * ·) (rows_eq m c t _ _ h0 rfl) (cols_eq m c t _ _ rfl ?_)
  exact (congrArg place h1).trans b

/-- The body stores the product of the blocks it is given. -/
theorem out_eq (i : grid0.Coords) (arg3 : Memref sig .tc .vmem S1024x4096 .bf16) (harg3 : arg3.IsWhole) (arg4 : Memref sig .tc .vmem S1024x4096 .bf16) (harg4 : arg4.IsWhole)
    (arg5 : Memref sig .tc .vmem S1024x1024 .f32) (harg5 : arg5.IsWhole) (x0 x1 : S1024x4096.Idx → EReal) (xt0 : TbBuf0 (F := Ideal) c tbM0_0) (y : S1024x1024.Idx) :
    out0_A_2 (F := Ideal) c i arg3 harg3 arg4 harg4 arg5 harg5 x0 x1 xt0 y = k0_pay1 (F := Ideal) x0 x1 y := by
  unfold out0_A_2
  frame_out

/-- The kernel's result. -/
theorem final : (dats m (ok m) 0 c).arrAt 2 (cfgM m (ok m)).N = G (m (c.tc.loc main_arg0)) (m (c.tc.loc main_arg1)) := by
  refine (dats m (ok m) 0 c).arrAt_eq_of_covers 2 _ (covers m) fun (t : Fin grid0.N) hf (y : S1024x1024.Idx) => ?_
  exact (congrFun (after0_2 m (ok m) c t) y).trans ((out_eq c _ _ _ _ _ _ _ _ _ _ y).trans (block m c t y))

end

/-- The kernel runs, leaves the product in its result and keeps its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v7) = G (m (c.tc.loc main_arg0)) (m (c.tc.loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨((h c).1 2).trans (final m c),
    ((h c).1 0).trans (((dats m (ok m) 0 c).arrAt_in 0 rfl _).trans ((A_eq m (ok m) c 0).trans (V_main_arg0 m c))),
    ((h c).2 main_arg1 (by decide : main_arg1 ∈ Pipeline.restRefs sig spec0)).trans (V_main_arg1 m c)⟩) (run_main m ρ (ok m))

/-- The reference runs and keeps its arguments. -/
theorem frame_ref : Cert.quiescent_Reference7Ideal := fun m ρ _ =>
  (θ_run _ _ _).mono (fun r h => ⟨fun c => (h c).2, sem_eq_zero_of_no_sems (by decide) r.2⟩) (Reference7Ideal.Value.run m ρ)

/-- Kernel and reference agree. -/
theorem equal : Cert.algebraic_Kernel7Ideal_Reference7Ideal := by
  intro m ρ m' ρ' _ hag
  refine ⟨fun c => G (m (c.tc.loc main_arg0)) (m (c.tc.loc main_arg1)), run m ρ,
    (θ_run _ _ _).mono (fun r h c => ⟨(h c).1.trans ?_, (h c).2⟩) (Reference7Ideal.Value.run m' ρ')⟩
  obtain ⟨a0, a1⟩ := hag c
  rw [a0, a1]
  clear h
  funext j
  idx_vars j
  pointwise
  have b := j1.isLt
  split_ifs
  all_goals
    refine G_at _ _ j0 j1 _ _ ?_
    unfold place
    split_ifs <;> omega

end Cert.Dense.InProj
end
-- ==== Proof.Dense.InNorm.lean ====
module

public import proofs.«01_k».proof.Defs
public import proofs.«01_k».proof.Proof.Gen.Kernel8Ideal.Value
public import proofs.«01_k».proof.Proof.Gen.Reference8Ideal.Run
public import proofs.«01_k».proof.Proof.Dense.Scalars
public import Idealize.ShloMosaic.Lib.Pipeline.ValueKit.Point
public import Idealize.ShloMosaic.Lib.Quiescent

/-!
# The norm before the input projection: kernel and reference agree
-/

@[expose] public section

set_option maxRecDepth 16384

noncomputable section

namespace Cert.Dense.InNorm

open Cert.Kernel8Ideal Cert.Kernel8Ideal.Gen Idealize.ShloMosaic Idealize.ShloMosaic.TcCoe Idealize.SL.Sem

/-- The normed rows, scaled by the gains. -/
def H (x : S16384x4096.Idx → EReal) (g : S4096.Idx → EReal) (i : Fin 16384) (k : Fin 4096) : EReal :=
  x (ix2 i k) * Ideal.rsqrt (Ideal.div (∑ z : Fin 4096, x (ix2 i z) * x (ix2 i z)) (Ideal.ofBits .f32 0x45800000#32) + Ideal.ofBits .f32 0x358637BD#32) * g (ix1 k)

/-- The columns of the weight for the narrow parts, and zero after them. -/
def W (w : S4096x21584.Idx → EReal) (k : Fin 4096) (j : Fin 128) : EReal :=
  if h : j.val < 48 then w (ix2 k ⟨5120 + j.val, by omega⟩)
  else if h : j.val - 48 < 16 then w (ix2 k ⟨13360 + (j.val - 48), by omega⟩)
  else if h : j.val - 48 - 16 < 16 then w (ix2 k ⟨13376 + (j.val - 48 - 16), by omega⟩)
  else 0

/-- The kernel's first array: those rows. -/
def G3 (x : S16384x4096.Idx → EReal) (g : S4096.Idx → EReal) : S16384x4096.Idx → EReal := fun i => H x g (i 0) (i 1)

/-- The narrow parts of the projection. -/
def G4 (x : S16384x4096.Idx → EReal) (g : S4096.Idx → EReal) (w : S4096x21584.Idx → EReal) : S16384x128.Idx → EReal := fun i =>
  ∑ k : Fin 4096, H x g (i 0) k * W w k (i 1)

/-- Four arrays joined, at an entry. -/
theorem join (a : S48x4096.Idx → EReal) (b b' : S16x4096.Idx → EReal) (d : S48x4096.Idx → EReal) (j0 : Fin 128) (j1 : Fin 4096) :
    concatenate (α := EReal) S128x4096 0 [⟨S48x4096, a⟩, ⟨S16x4096, b⟩, ⟨S16x4096, b'⟩, ⟨S48x4096, d⟩] concatenates_S48x4096_S16x4096_S16x4096_S48x4096_S128x4096_d0 (ix2 j0 j1)
      = if h : j0.val < 48 then a (ix2 ⟨j0.val, h⟩ j1) else if h : j0.val - 48 < 16 then b (ix2 ⟨j0.val - 48, h⟩ j1)
        else if h : j0.val - 48 - 16 < 16 then b' (ix2 ⟨j0.val - 48 - 16, h⟩ j1) else d (ix2 ⟨j0.val - 48 - 16 - 16, by omega⟩ j1) := by
  pointwise

section

variable (m : (ℓ : Loc nD τ sig) → Buf (Elt Ideal) ℓ) (c : Dev nD)

/-- Where each window's block lies at a grid point. -/
theorem idx_all : ∀ t : Fin grid0.N, win0_0.index t = ![t.val, 0] ∧ win0_1.index t = ![0, 0] ∧ win0_2.index t = ![0, 0] ∧
    win0_3.index t = ![t.val, 0] ∧ win0_4.index t = ![t.val, 0] := by
  decide +kernel

/-- The columns of the weight for the gates of the sparse attention, as the host lays them out. -/
theorem v3_eq (j : S48x4096.Idx) : (V m c main_v3 : S48x4096.Idx → EReal) j = (m (c.tc.loc main_arg2) : S4096x21584.Idx → EReal) (ix2 (j 1) ⟨5120 + (j 0).val, by have : (j 0).val < 48 := (j 0).isLt; omega⟩) := by
  idx_vars j
  entry_read
  pointwise

/-- Those for the delta rule's gates. -/
theorem v4_eq (j : S16x4096.Idx) : (V m c main_v4 : S16x4096.Idx → EReal) j = (m (c.tc.loc main_arg2) : S4096x21584.Idx → EReal) (ix2 (j 1) ⟨13360 + (j 0).val, by have : (j 0).val < 16 := (j 0).isLt; omega⟩) := by
  idx_vars j
  entry_read
  pointwise

/-- Those for its decays. -/
theorem v5_eq (j : S16x4096.Idx) : (V m c main_v5 : S16x4096.Idx → EReal) j = (m (c.tc.loc main_arg2) : S4096x21584.Idx → EReal) (ix2 (j 1) ⟨13376 + (j 0).val, by have : (j 0).val < 16 := (j 0).isLt; omega⟩) := by
  idx_vars j
  entry_read
  pointwise

/-- The zeros after them. -/
theorem v2_eq (j : S48x4096.Idx) : (show S48x4096.Idx → EReal from V m c main_v2) j = (0 : EReal) := by
  idx_vars j
  entry_read
  pointwise

/-- The host joins the four. -/
theorem v6_eq : (V m c main_v6 : S128x4096.Idx → EReal) = concatenate (α := EReal) S128x4096 0 [⟨S48x4096, (V m c main_v3 : S48x4096.Idx → EReal)⟩, ⟨S16x4096, (V m c main_v4 : S16x4096.Idx → EReal)⟩,
    ⟨S16x4096, (V m c main_v5 : S16x4096.Idx → EReal)⟩, ⟨S48x4096, (V m c main_v2 : S48x4096.Idx → EReal)⟩] concatenates_S48x4096_S16x4096_S16x4096_S48x4096_S128x4096_d0 := by
  refine (StableHlo.after_last_write (i := 7) [main_v7] rfl rfl (by decide) _).trans ?_
  refine (StableHlo.nary4_result _ _ _ _).trans ?_
  have e : ∀ r : Ref sig .tc, r ∉ [main_v6, main_v7] → StableHlo.upto hostOps0 (fun b => m (c, b)) 7 (Proc.devRef .tc r) = V m c r := fun r hr =>
    (StableHlo.after_unwritten (ops := (hostOps0 (F := Ideal)).drop 7) [main_v6, main_v7] rfl hr _).symm
  rw [e main_v3 (by decide), e main_v4 (by decide), e main_v5 (by decide), e main_v2 (by decide)]
  rfl

/-- What the second window's array holds when the region starts. -/
theorem w_eq (j : S128x4096.Idx) : (V m c main_v6 : S128x4096.Idx → EReal) j = W (m (c.tc.loc main_arg2)) (j 1) (j 0) := by
  idx_vars j
  refine (congrFun (v6_eq m c) (ix2 j0 j1)).trans ((join _ _ _ _ j0 j1).trans ?_)
  show _ = W (m (c.tc.loc main_arg2)) j1 j0
  unfold W
  split_ifs
  · exact v3_eq m c _
  · exact v4_eq m c _
  · exact v5_eq m c _
  · exact v2_eq m c _

/-- The kernel's first result. -/
theorem final3 : (dats m 0 c).arrAt 3 cfg0.N = G3 (m (c.tc.loc main_arg0)) (m (c.tc.loc main_arg1)) := by
  refine (dats m 0 c).arrAt_eq_of_covers 3 _ (by decide +kernel) fun t hf y => ?_
  blk_simp
  rw [after0_3]
  unfold out0_3
  frame_out
  idx_vars y
  pointwise [k0_pay1]
  have h0 : ∀ x, iblk m c 0 t (ix2 y0 x) = m (c.tc.loc main_arg0) (ix2 (((View.whole main_v8_0).slice (win0_3.rect t)).emb (ix2 y0 y1) 0) x) := fun x => by
    blk_point [iblk, V, idx_all t]
  have h1 : iblk m c 1 t (ix2 0 y1) = m (c.tc.loc main_arg1) (ix1 y1) := by
    blk_point [iblk, V, idx_all t]
  have hv : ((((View.whole main_v8_0).slice (win0_3.rect t)).emb (ix2 y0 y1)) 1 : Fin 4096) = y1 := Fin.ext (by blk_point [iblk, V, idx_all t])
  simp only [h0, h1]
  exact (congrArg (H (m (c.tc.loc main_arg0)) (m (c.tc.loc main_arg1)) ((((View.whole main_v8_0).slice (win0_3.rect t)).emb (ix2 y0 y1)) 0)) hv).symm

/-- The kernel's second result. -/
theorem final4 : (dats m 0 c).arrAt 4 cfg0.N = G4 (m (c.tc.loc main_arg0)) (m (c.tc.loc main_arg1)) (m (c.tc.loc main_arg2)) := by
  refine (dats m 0 c).arrAt_eq_of_covers 4 _ (by decide +kernel) fun t hf y => ?_
  blk_simp
  rw [after0_4]
  unfold out0_4
  frame_out
  idx_vars y
  pointwise [k0_pay2, k0_pay1]
  have h0 : ∀ x, iblk m c 0 t (ix2 y0 x) = m (c.tc.loc main_arg0) (ix2 (((View.whole main_v8_1).slice (win0_4.rect t)).emb (ix2 y0 y1) 0) x) := fun x => by
    blk_point [iblk, V, idx_all t]
  have h1 : ∀ x, iblk m c 1 t (ix2 0 x) = m (c.tc.loc main_arg1) (ix1 x) := fun x => by
    blk_point [iblk, V, idx_all t]
  have h2 : ∀ x, iblk m c 2 t (ix2 y1 x) = W (m (c.tc.loc main_arg2)) x (((View.whole main_v8_1).slice (win0_4.rect t)).emb (ix2 y0 y1) 1) := fun x => by
    have e : iblk m c 2 t (ix2 y1 x) = V m c main_v6 (ix2 (((View.whole main_v8_1).slice (win0_4.rect t)).emb (ix2 y0 y1) 1) x) := by
      blk_ext [iblk, idx_all t]
    exact e.trans (w_eq m c _)
  simp only [h0, h1, h2]
  rfl

end

/-- The reference runs and keeps its arguments. -/
theorem frame_ref : Cert.quiescent_Reference8Ideal := fun m ρ _ =>
  (θ_run _ _ _).mono (fun r h => ⟨fun c => (h c).2.2, sem_eq_zero_of_no_sems (by decide) r.2⟩) (Reference8Ideal.Value.run m ρ)

/-- The narrow parts, part by part. -/
theorem G4_at (x : S16384x4096.Idx → EReal) (g : S4096.Idx → EReal) (w : S4096x21584.Idx → EReal) (j0 : Fin 16384) (j1 : Fin 128) :
    G4 x g w (ix2 j0 j1) = if h : j1.val < 48 then ∑ k : Fin 4096, H x g j0 k * w (ix2 k ⟨5120 + j1.val, by omega⟩)
      else if h : j1.val - 48 < 16 then ∑ k : Fin 4096, H x g j0 k * w (ix2 k ⟨13360 + (j1.val - 48), by omega⟩)
      else if h : j1.val - 48 - 16 < 16 then ∑ k : Fin 4096, H x g j0 k * w (ix2 k ⟨13376 + (j1.val - 48 - 16), by omega⟩)
      else 0 := by
  show (∑ k : Fin 4096, H x g j0 k * W w k j1) = _
  unfold W
  split_ifs
  · rfl
  · rfl
  · rfl
  · simp

/-- Equal arguments give equal first results. -/
theorem congr3 {x x' : S16384x4096.Idx → EReal} {g g' : S4096.Idx → EReal} (hx : x = x') (hg : g = g') : G3 x g = G3 x' g' := by subst hx hg; rfl

/-- Equal arguments give equal second results. -/
theorem congr4 {x x' : S16384x4096.Idx → EReal} {g g' : S4096.Idx → EReal} {w w' : S4096x21584.Idx → EReal} (hx : x = x') (hg : g = g') (hw : w = w') :
    G4 x g w = G4 x' g' w' := by subst hx hg hw; rfl

/-- Kernel and reference agree. -/
theorem equal : Cert.algebraic_Kernel8Ideal_Reference8Ideal := by
  intro m ρ m' ρ' _ hag
  refine ⟨fun c => G3 (m (c.tc.loc main_arg0)) (m (c.tc.loc main_arg1)), fun c => G4 (m (c.tc.loc main_arg0)) (m (c.tc.loc main_arg1)) (m (c.tc.loc main_arg2)),
    (θ_run _ _ _).mono (fun r h c => ⟨(h c).1.trans (final3 m c), (h c).2.1.trans (final4 m c), (h c).2.2⟩) (Cert.Kernel8Ideal.Value.run_blocks m ρ),
    (θ_run _ _ _).mono (fun r h c => ⟨(h c).1.trans ?_, (h c).2.1.trans ?_, (h c).2.2⟩) (Reference8Ideal.Value.run m' ρ')⟩
  · obtain ⟨a0, a1, a2⟩ := hag c
    refine Eq.trans ?_ (congr3 a0 a1)
    clear h
    funext j
    idx_vars j
    pointwise
    rfl
  · obtain ⟨a0, a1, a2⟩ := hag c
    refine Eq.trans ?_ (congr4 a0 a1 a2)
    clear h
    funext j
    idx_vars j
    pointwise
    exact (G4_at _ _ _ j0 j1).symm

end Cert.Dense.InNorm
end
-- ==== Proof.Dense.Compress.lean ====
module

public import proofs.«01_k».proof.Defs
public import proofs.«01_k».proof.Proof.Gen.Kernel9Ideal.Value
public import proofs.«01_k».proof.Proof.Gen.Reference9Ideal.Run
public import proofs.«01_k».proof.Proof.Dense.Scalars
public import Idealize.ShloMosaic.Lib.Pipeline.ValueKit.Point
public import Idealize.ShloMosaic.Lib.Quiescent

/-!
# The compression call: kernel and reference agree
-/

@[expose] public section

set_option maxRecDepth 16384

noncomputable section

namespace Cert.Dense.Compress

open Cert.Kernel9Ideal Cert.Kernel9Ideal.Gen Idealize.ShloMosaic Idealize.ShloMosaic.TcCoe Idealize.SL.Sem

/-- The gate of the hidden values: the tanh form of the Gaussian error unit. -/
def gelu (u : EReal) : EReal :=
  u * (Ideal.ofBits .f32 0x3F000000#32 * (1 + Ideal.tanh (Ideal.ofBits .f32 0x3F4C422A#32 * (u + Ideal.ofBits .f32 0x3D372713#32 * (u * u * u)))))

/-- The rows of one sequence, restricted to one key or value head's columns of the projection. -/
def X (P : S16384x21504.Idx → EReal) (k : Fin 2) (b : Fin 2) (g : Fin 4) : S8192x128.Idx → EReal := fun j =>
  P (ix2 ⟨b.val * 8192 + (j 0).val, by have : (j 0).val < 8192 := (j 0).isLt; omega⟩
    ⟨18432 + 512 * k.val + 128 * g.val + (j 1).val, by have : (j 1).val < 128 := (j 1).isLt; omega⟩)

/-- One row's share of a hidden value: row `r` of the sequence, at position `l` of its block. -/
def T (x : S8192x128.Idx → EReal) (pe : S32x128.Idx → EReal) (w : S32x128x512.Idx → EReal) (h : Fin 512) (r : Fin 8192) (l : Fin 32) : EReal :=
  ∑ d : Fin 128, (x (ix2 r d) + pe (ix2 l d)) * w (ix3 l d h)

/-- The hidden values before the gate: a chunk and the chunk that follows it (the first after the last), row by row. -/
def S (x : S8192x128.Idx → EReal) (pe : S32x128.Idx → EReal) (w : S32x128x512.Idx → EReal) (n : Fin 512) (h : Fin 512) : EReal :=
  (∑ l : Fin 16, T x pe w h ⟨l.val + 16 * n.val, by omega⟩ ⟨l.val, by omega⟩)
    + ∑ l : Fin 16, T x pe w h ⟨l.val + 16 * ((n.val + 1) % 512), by omega⟩ ⟨16 + l.val, by omega⟩

/-- The compressed rows. -/
def C (x : S8192x128.Idx → EReal) (pe : S32x128.Idx → EReal) (w : S32x128x512.Idx → EReal) (w2 : S512x128.Idx → EReal) (n : Fin 512) (d : Fin 128) : EReal :=
  ∑ h : Fin 512, gelu (S x pe w n h) * w2 (ix2 h d)

/-- The compressed values of every sequence and head. -/
def Gv (P : S16384x21504.Idx → EReal) (pe : S32x128.Idx → EReal) (w : S32x128x512.Idx → EReal) (w2 : S512x128.Idx → EReal) : S2x4x512x128.Idx → EReal :=
  fun i => C (X P 1 (i 0) (i 1)) pe w w2 (i 2) (i 3)

/-- Every sixteenth row, from row `a`. -/
def row (x : S8192x128.Idx → EReal) (a : Nat) (ha : a < 16) : S512x128.Idx → EReal := fun i =>
  x (ix2 ⟨a + 16 * (i 0).val, by have : (i 0).val < 512 := (i 0).isLt; omega⟩ (i 1))

/-- Those rows at an entry. -/
theorem row_at (x : S8192x128.Idx → EReal) (a : Nat) (ha : a < 16) (n : Fin 512) (d : Fin 128) :
    row x a ha (ix2 n d) = x (ix2 ⟨a + 16 * n.val, by omega⟩ d) := rfl

/-- A load of every sixteenth row, from row `a`. -/
theorem rows {v : Memref sig .tc .vmem S8192x128 .f32} (hv : v.IsWhole) (X : S8192x128.Idx → EReal) (a : Nat) (ha : a < 16)
    (inb) :
    (View.readAt (Elt Ideal) v.view (⟨![a, 0], ![512, 128], ![16, 1], inb⟩ : LoadRect S8192x128) (hv.unread X) : S512x128.Idx → EReal)
      = row X a ha := by
  funext i
  rw [View.readAt_apply, hv.read_unread]
  refine congrArg X (funext fun z => Fin.ext ?_)
  rw [LoadRect.idx_apply]
  match z with
  | ⟨0, _⟩ => rfl
  | ⟨1, _⟩ => show 0 + 1 * (i 1).val = (i 1).val; omega

/-- Sixteen terms added one after another. -/
theorem sum16 (f : Fin 16 → EReal) : f 0 + f 1 + f 2 + f 3 + f 4 + f 5 + f 6 + f 7 + f 8 + f 9 + f 10 + f 11 + f 12 + f 13 + f 14 + f 15 = ∑ l, f l := by
  simp only [Fin.sum_univ_succ, Fin.sum_univ_zero, add_zero, ← add_assoc]
  rfl

/-- The hidden values as the kernel adds them. -/
theorem S_eq (x : S8192x128.Idx → EReal) (pe : S32x128.Idx → EReal) (w : S32x128x512.Idx → EReal) (n : Fin 512) (h : Fin 512) :
    T x pe w h ⟨0 + 16 * n.val, by omega⟩ 0 + T x pe w h ⟨1 + 16 * n.val, by omega⟩ 1 + T x pe w h ⟨2 + 16 * n.val, by omega⟩ 2 + T x pe w h ⟨3 + 16 * n.val, by omega⟩ 3 + T x pe w h ⟨4 + 16 * n.val, by omega⟩ 4 + T x pe w h ⟨5 + 16 * n.val, by omega⟩ 5 + T x pe w h ⟨6 + 16 * n.val, by omega⟩ 6 + T x pe w h ⟨7 + 16 * n.val, by omega⟩ 7 + T x pe w h ⟨8 + 16 * n.val, by omega⟩ 8 + T x pe w h ⟨9 + 16 * n.val, by omega⟩ 9 + T x pe w h ⟨10 + 16 * n.val, by omega⟩ 10 + T x pe w h ⟨11 + 16 * n.val, by omega⟩ 11 + T x pe w h ⟨12 + 16 * n.val, by omega⟩ 12 + T x pe w h ⟨13 + 16 * n.val, by omega⟩ 13 + T x pe w h ⟨14 + 16 * n.val, by omega⟩ 14 + T x pe w h ⟨15 + 16 * n.val, by omega⟩ 15
      + (T x pe w h ⟨0 + 16 * ((n.val + 1) % 512), by omega⟩ 16 + T x pe w h ⟨1 + 16 * ((n.val + 1) % 512), by omega⟩ 17 + T x pe w h ⟨2 + 16 * ((n.val + 1) % 512), by omega⟩ 18 + T x pe w h ⟨3 + 16 * ((n.val + 1) % 512), by omega⟩ 19 + T x pe w h ⟨4 + 16 * ((n.val + 1) % 512), by omega⟩ 20 + T x pe w h ⟨5 + 16 * ((n.val + 1) % 512), by omega⟩ 21 + T x pe w h ⟨6 + 16 * ((n.val + 1) % 512), by omega⟩ 22 + T x pe w h ⟨7 + 16 * ((n.val + 1) % 512), by omega⟩ 23 + T x pe w h ⟨8 + 16 * ((n.val + 1) % 512), by omega⟩ 24 + T x pe w h ⟨9 + 16 * ((n.val + 1) % 512), by omega⟩ 25 + T x pe w h ⟨10 + 16 * ((n.val + 1) % 512), by omega⟩ 26 + T x pe w h ⟨11 + 16 * ((n.val + 1) % 512), by omega⟩ 27 + T x pe w h ⟨12 + 16 * ((n.val + 1) % 512), by omega⟩ 28 + T x pe w h ⟨13 + 16 * ((n.val + 1) % 512), by omega⟩ 29 + T x pe w h ⟨14 + 16 * ((n.val + 1) % 512), by omega⟩ 30 + T x pe w h ⟨15 + 16 * ((n.val + 1) % 512), by omega⟩ 31) = S x pe w n h := by
  unfold S
  rw [← sum16 fun l : Fin 16 => T x pe w h ⟨l.val + 16 * n.val, by omega⟩ ⟨l.val, by omega⟩, ← sum16 fun l : Fin 16 => T x pe w h ⟨l.val + 16 * ((n.val + 1) % 512), by omega⟩ ⟨16 + l.val, by omega⟩]
  rfl

/-- The gate as the kernel writes it. -/
theorem gelu_eq (u : EReal) : Ideal.ofBits .f32 0x3F000000#32 * u * (1 + Ideal.tanh (Ideal.ofBits .f32 0x3F4C422A#32 * (u + Ideal.ofBits .f32 0x3D372713#32 * (u * u * u)))) = gelu u := by
  unfold gelu
  rw [mul_assoc, mul_left_comm]

/-- The values' compressed rows, from the hidden values. -/
theorem out12 (U : S512x512.Idx → EReal) (w2 : S512x128.Idx → EReal) (n : Fin 512) (d : Fin 128) :
    k0_pay1 (F := Ideal) U (mulf (F := Ideal) (φ := .f32) (broadcast S512x512 (Scalar.ofBits .f32 0x3F000000#32)) U) (mulf (F := Ideal) (φ := .f32) (mulf (F := Ideal) (φ := .f32) U U) U) (Scalar.ofBits .f32 0x3D372713#32) w2 (ix4 0 0 n d)
      = ∑ h : Fin 512, gelu (U (ix2 n h)) * w2 (ix2 h d) := by
  pointwise [k0_pay1]
  simp only [gelu_eq]

/-- The angle by which a block's keys are turned, at its last row's place and one frequency. -/
def ang (n : Fin 512) (j : Fin 64) : EReal :=
  FloatOps.sitofp (F := Ideal) FTy.f32 (IntOp.addi (IntOp.muli (BitVec.ofNat 32 n.val) 16#32) 31#32)
    * Ideal.pow (Ideal.ofBits .f32 0x461C4000#32) (Ideal.div (-FloatOps.sitofp (F := Ideal) FTy.f32 (BitVec.ofNat 32 j.val)) (Ideal.ofBits .f32 0x42800000#32))

/-- The rows turned: the first half of the columns against the second. -/
def R (a : Fin 512 → Fin 128 → EReal) (n : Fin 512) (d : Fin 128) : EReal :=
  if h : d.val < 64 then a n d * Ideal.cos (ang n ⟨d.val, h⟩) - a n ⟨d.val + 64, by omega⟩ * Ideal.sin (ang n ⟨d.val, h⟩)
  else a n d * Ideal.cos (ang n ⟨d.val - 64, by omega⟩) + a n ⟨d.val - 64, by omega⟩ * Ideal.sin (ang n ⟨d.val - 64, by omega⟩)

/-- The rows normed over their columns and scaled by the gains. -/
def N (a : Fin 512 → Fin 128 → EReal) (g : Fin 128 → EReal) (n : Fin 512) (d : Fin 128) : EReal :=
  a n d * Ideal.rsqrt (Ideal.div (∑ z : Fin 128, a n z * a n z) (Ideal.ofBits .f32 0x43000000#32) + Ideal.ofBits .f32 0x358637BD#32) * g d

/-- The compressed keys of every sequence and head: normed, turned and transposed. -/
def Gk (P : S16384x21504.Idx → EReal) (pe : S32x128.Idx → EReal) (w : S32x128x512.Idx → EReal) (w2 : S512x128.Idx → EReal) (g : S128.Idx → EReal) : S2x4x128x512.Idx → EReal :=
  fun i => R (N (C (X P 0 (i 0) (i 1)) pe w w2) fun d => g (ix1 d)) (i 3) (i 2)

/-- Two halves joined, at an entry. -/
theorem join (a b : S512x64.Idx → EReal) (n : Fin 512) (d : Fin 128) :
    concatenate (α := EReal) S512x128 1 [⟨S512x64, a⟩, ⟨S512x64, b⟩] concatenates_S512x64_S512x64_S512x128_d1 (ix2 n d)
      = if h : d.val < 64 then a (ix2 n ⟨d.val, h⟩) else b (ix2 n ⟨d.val - 64, by omega⟩) := by
  pointwise

/-- The keys' rows from the compressed ones, as the kernel writes them. -/
theorem out11 (A : S512x128.Idx → EReal) (g : S1x128.Idx → EReal) (cs sn : S512x128.Idx → EReal) (a : Fin 512 → Fin 128 → EReal) (hA : ∀ n d, A (ix2 n d) = a n d) (d : Fin 128) (n : Fin 512) :
    k0_pay28 (F := Ideal) A (k0_pay26 (F := Ideal) g) (k0_pay27 (F := Ideal) cs) sn (ix4 0 0 d n)
      = N a (fun d => g (ix2 0 d)) n d * cs (ix2 n d) + N a (fun d => g (ix2 0 d)) n ⟨(d.val + 128 - 64) % 128, by omega⟩ * sn (ix2 n d) := by
  pointwise [k0_pay28, k0_pay26, k0_pay27]
  simp only [hA]
  rfl

/-- The compressed keys from the sums before the last rows of each chunk. -/
theorem pay25 (a b : S512x512.Idx → EReal) (v : S512x128.Idx → EReal) (p : S512x128.Idx → EReal) (w : S1x128x512.Idx → EReal) (q : S1x128.Idx → EReal) (w' : S1x128x512.Idx → EReal) (w2 : S512x128.Idx → EReal) (n : Fin 512) (d : Fin 128) :
    k0_pay25 (F := Ideal) a b v p w q w' w2 (ix2 n d) = ∑ h : Fin 512, gelu (a (ix2 n h) + (∑ d : Fin 128, p (ix2 n d) * w (ix3 0 d h))
      + (b (ix2 ⟨(n.val + 1) % 512, by omega⟩ h) + ∑ d : Fin 128, (v (ix2 ⟨(n.val + 1) % 512, by omega⟩ d) + q (ix2 0 d)) * w' (ix3 0 d h))) * w2 (ix2 h d) := by
  pointwise [k0_pay25]
  simp only [show n.val + 512 - 511 = n.val + 1 by omega, gelu_eq]

section
variable (m : (ℓ : Loc nD τ sig) → Buf (Elt Ideal) ℓ) (c : Dev nD)

/-- Where each window's block lies at a grid point. -/
theorem idx_all : ∀ t : Fin grid0.N, win0_0.index t = ![t.val / 4, 144 + t.val % 4] ∧ win0_1.index t = ![t.val / 4, 148 + t.val % 4] ∧
    win0_2.index t = ![0, 0] ∧ win0_3.index t = ![0, 0] ∧ win0_4.index t = ![0, 0, 0] ∧ win0_5.index t = ![0, 0] ∧ win0_6.index t = ![0, 0, 0] ∧
    win0_7.index t = ![0, 0] ∧ win0_8.index t = ![0, 0] ∧ win0_9.index t = ![0, 0] ∧ win0_10.index t = ![0, 0] ∧
    win0_11.index t = ![t.val / 4, t.val % 4, 0, 0] ∧ win0_12.index t = ![t.val / 4, t.val % 4, 0, 0] := by
  decide +kernel

set_option maxHeartbeats 800000 in
/-- The kernel's values. -/
theorem final12 : (dats m 0 c).arrAt 12 cfg0.N = Gv (m (c.tc.loc main_arg0)) (m (c.tc.loc main_arg2)) (m (c.tc.loc main_arg5)) (m (c.tc.loc main_arg6)) := by
  refine (dats m 0 c).arrAt_eq_of_covers 12 _ (by decide +kernel) fun t hf y => ?_
  blk_simp
  rw [after0_12]
  unfold outsAt0
  frame_out
  idx_vars y
  simp only [k0_pay53, k0_pay54]
  obtain rfl : y0 = 0 := Fin.ext (by have := y0.isLt; omega)
  obtain rfl : y1 = 0 := Fin.ext (by have := y1.isLt; omega)
  refine (out12 _ _ _ _).trans ?_
  refine Eq.trans (b := C (iblk m c 1 t) (iblk m c 3 t) (iblk m c 6 t) (iblk m c 7 t) y2 y3)
    (Finset.sum_congr rfl fun h _ => congrArg (fun u => gelu u * iblk m c 7 t (ix2 h y3)) ?_) ?_
  · clear hf
    obtain ⟨x, hx⟩ : ∃ x : S8192x128.Idx → EReal, iblk m c 1 t = x := ⟨_, rfl⟩
    obtain ⟨pe, hp⟩ : ∃ x : S32x128.Idx → EReal, iblk m c 3 t = x := ⟨_, rfl⟩
    obtain ⟨w, hw⟩ : ∃ x : S32x128x512.Idx → EReal, iblk m c 6 t = x := ⟨_, rfl⟩
    rw [hx, hp, hw]
    simp (disch := decide) only [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, rows]
    pointwise
    simp only [show y2.val + 512 - 511 = y2.val + 1 by omega]
    refine Eq.trans ?_ (S_eq x pe w y2 h)
    simp only [row_at, show y2.val + 512 - 511 = y2.val + 1 by omega]
    rfl
  · have ht : t.val < 8 := t.isLt
    have h1 : iblk m c 1 t = X (m (c.tc.loc main_arg0)) 1 ⟨t.val / 4, by omega⟩ ⟨t.val % 4, by omega⟩ := by
      funext j
      idx_vars j
      blk_point [iblk, V, X, idx_all t]
    have h3 : iblk m c 3 t = m (c.tc.loc main_arg2) := by
      funext j
      idx_vars j
      blk_point [iblk, V, idx_all t]
    have h6 : iblk m c 6 t = m (c.tc.loc main_arg5) := by
      funext j
      idx_vars j
      blk_point [iblk, V, idx_all t]
    have h7 : iblk m c 7 t = m (c.tc.loc main_arg6) := by
      funext j
      idx_vars j
      blk_point [iblk, V, idx_all t]
    have e : ((View.whole main_v27_1).slice (win0_12.rect t)).emb (ix4 0 0 y2 y3) = (ix4 ⟨t.val / 4, by omega⟩ ⟨t.val % 4, by omega⟩ y2 y3 : S2x4x512x128.Idx) := by
      funext z
      refine Fin.ext ?_
      match z with
      | ⟨0, _⟩ => blk_point [iblk, V, idx_all t]; rfl
      | ⟨1, _⟩ => blk_point [iblk, V, idx_all t]; rfl
      | ⟨2, _⟩ => blk_point [iblk, V, idx_all t]
      | ⟨3, _⟩ => blk_point [iblk, V, idx_all t]
    rw [e, h1, h3, h6, h7]
    rfl

/-- The cosines the host computes. -/
theorem v17_eq (n : Fin 512) (j : Fin 64) : (V m c main_v17 : S512x64.Idx → EReal) (ix2 n j) = Ideal.cos (ang n j) := by
  entry_read
  pointwise
  rfl

/-- The sines. -/
theorem v18_eq (n : Fin 512) (j : Fin 64) : (V m c main_v18 : S512x64.Idx → EReal) (ix2 n j) = Ideal.sin (ang n j) := by
  entry_read
  pointwise
  rfl

/-- The sines negated. -/
theorem v20_eq (n : Fin 512) (j : Fin 64) : (V m c main_v20 : S512x64.Idx → EReal) (ix2 n j) = -Ideal.sin (ang n j) := by
  entry_read
  pointwise
  rfl

/-- The table of cosines. -/
theorem v19_eq : (V m c main_v19 : S512x128.Idx → EReal) = concatenate (α := EReal) S512x128 1 [⟨S512x64, (V m c main_v17 : S512x64.Idx → EReal)⟩, ⟨S512x64, (V m c main_v17 : S512x64.Idx → EReal)⟩] concatenates_S512x64_S512x64_S512x128_d1 := by
  refine (StableHlo.after_last_write (i := 23) [main_v20, main_v21, main_v22, main_v23, main_v24, main_v25, main_v26] rfl rfl (by decide) _).trans ?_
  refine (StableHlo.binary_result _ _ _ _ _ _ _ _).trans ?_
  have e : ∀ r : Ref sig .tc, r ∉ [main_v19, main_v20, main_v21, main_v22, main_v23, main_v24, main_v25, main_v26] → StableHlo.upto hostOps0 (fun b => m (c, b)) 23 (Proc.devRef .tc r) = V m c r := fun r hr =>
    (StableHlo.after_unwritten (ops := (hostOps0 (F := Ideal)).drop 23) [main_v19, main_v20, main_v21, main_v22, main_v23, main_v24, main_v25, main_v26] rfl hr _).symm
  rw [e main_v17 (by decide)]

/-- The table of signed sines. -/
theorem v21_eq : (V m c main_v21 : S512x128.Idx → EReal) = concatenate (α := EReal) S512x128 1 [⟨S512x64, (V m c main_v20 : S512x64.Idx → EReal)⟩, ⟨S512x64, (V m c main_v18 : S512x64.Idx → EReal)⟩] concatenates_S512x64_S512x64_S512x128_d1 := by
  refine (StableHlo.after_last_write (i := 25) [main_v22, main_v23, main_v24, main_v25, main_v26] rfl rfl (by decide) _).trans ?_
  refine (StableHlo.binary_result _ _ _ _ _ _ _ _).trans ?_
  have e : ∀ r : Ref sig .tc, r ∉ [main_v21, main_v22, main_v23, main_v24, main_v25, main_v26] → StableHlo.upto hostOps0 (fun b => m (c, b)) 25 (Proc.devRef .tc r) = V m c r := fun r hr =>
    (StableHlo.after_unwritten (ops := (hostOps0 (F := Ideal)).drop 25) [main_v21, main_v22, main_v23, main_v24, main_v25, main_v26] rfl hr _).symm
  rw [e main_v20 (by decide), e main_v18 (by decide)]

/-- The table of cosines, at an entry. -/
theorem cos_at (n : Fin 512) (d : Fin 128) : (V m c main_v19 : S512x128.Idx → EReal) (ix2 n d) = if h : d.val < 64 then Ideal.cos (ang n ⟨d.val, h⟩) else Ideal.cos (ang n ⟨d.val - 64, by omega⟩) := by
  refine (congrFun (v19_eq m c) (ix2 n d)).trans ((join _ _ n d).trans ?_)
  split_ifs
  · exact v17_eq m c _ _
  · exact v17_eq m c _ _

/-- The table of signed sines, at an entry. -/
theorem sin_at (n : Fin 512) (d : Fin 128) : (V m c main_v21 : S512x128.Idx → EReal) (ix2 n d) = if h : d.val < 64 then -Ideal.sin (ang n ⟨d.val, h⟩) else Ideal.sin (ang n ⟨d.val - 64, by omega⟩) := by
  refine (congrFun (v21_eq m c) (ix2 n d)).trans ((join _ _ n d).trans ?_)
  split_ifs
  · exact v20_eq m c _ _
  · exact v18_eq m c _ _

/-- The kernel's turn of the rows is the reference's. -/
theorem turn (a : Fin 512 → Fin 128 → EReal) (n : Fin 512) (d : Fin 128) :
    a n d * (V m c main_v19 : S512x128.Idx → EReal) (ix2 n d) + a n ⟨(d.val + 128 - 64) % 128, by omega⟩ * (V m c main_v21 : S512x128.Idx → EReal) (ix2 n d) = R a n d := by
  rw [cos_at, sin_at]
  unfold R
  split_ifs with h
  · rw [sub_eq_add_neg, mul_neg]
    rw [show (⟨(d.val + 128 - 64) % 128, by omega⟩ : Fin 128) = ⟨d.val + 64, by omega⟩ from Fin.ext (by show (d.val + 128 - 64) % 128 = d.val + 64; omega)]
  · rw [show (⟨(d.val + 128 - 64) % 128, by omega⟩ : Fin 128) = ⟨d.val - 64, by omega⟩ from Fin.ext (by show (d.val + 128 - 64) % 128 = d.val - 64; omega)]

set_option maxHeartbeats 800000 in
/-- The kernel's keys. -/
theorem final11 : (dats m 0 c).arrAt 11 cfg0.N = Gk (m (c.tc.loc main_arg0)) (m (c.tc.loc main_arg1)) (m (c.tc.loc main_arg3)) (m (c.tc.loc main_arg4)) (m (c.tc.loc main_arg7)) := by
  refine (dats m 0 c).arrAt_eq_of_covers 11 _ (by decide +kernel) fun t hf y => ?_
  blk_simp
  rw [after0_11]
  unfold outsAt0
  frame_out
  idx_vars y
  obtain rfl : y0 = 0 := Fin.ext (by have := y0.isLt; omega)
  obtain rfl : y1 = 0 := Fin.ext (by have := y1.isLt; omega)
  refine (out11 _ _ _ _ (C (iblk m c 0 t) (iblk m c 2 t) (iblk m c 4 t) (iblk m c 5 t)) (fun n d => ?_) _ _).trans ?_
  · clear hf
    obtain ⟨x, hx⟩ : ∃ x : S8192x128.Idx → EReal, iblk m c 0 t = x := ⟨_, rfl⟩
    obtain ⟨pe, hp⟩ : ∃ x : S32x128.Idx → EReal, iblk m c 2 t = x := ⟨_, rfl⟩
    obtain ⟨w, hw⟩ : ∃ x : S32x128x512.Idx → EReal, iblk m c 4 t = x := ⟨_, rfl⟩
    rw [hx, hp, hw]
    refine (pay25 _ _ _ _ _ _ _ _ n d).trans (Finset.sum_congr rfl fun h _ => congrArg (fun u => gelu u * iblk m c 5 t (ix2 h d)) ?_)
    simp (disch := decide) only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, rows]
    pointwise
    refine Eq.trans ?_ (S_eq x pe w n h)
    simp only [row_at, show n.val + 512 - 511 = n.val + 1 by omega]
    rfl
  · have ht : t.val < 8 := t.isLt
    have h0 : iblk m c 0 t = X (m (c.tc.loc main_arg0)) 0 ⟨t.val / 4, by omega⟩ ⟨t.val % 4, by omega⟩ := by
      funext j
      idx_vars j
      blk_point [iblk, V, X, idx_all t]
    have h2 : iblk m c 2 t = m (c.tc.loc main_arg1) := by
      funext j
      idx_vars j
      blk_point [iblk, V, idx_all t]
    have h4 : iblk m c 4 t = m (c.tc.loc main_arg3) := by
      funext j
      idx_vars j
      blk_point [iblk, V, idx_all t]
    have h5 : iblk m c 5 t = m (c.tc.loc main_arg4) := by
      funext j
      idx_vars j
      blk_point [iblk, V, idx_all t]
    have h8 : ∀ d, iblk m c 8 t (ix2 0 d) = m (c.tc.loc main_arg7) (ix1 d) := fun d => by
      blk_point [iblk, V, idx_all t]
    have h9 : iblk m c 9 t = V m c main_v19 := by
      funext j
      idx_vars j
      blk_ext [iblk, idx_all t]
    have h10 : iblk m c 10 t = V m c main_v21 := by
      funext j
      idx_vars j
      blk_ext [iblk, idx_all t]
    have e : ((View.whole main_v27_0).slice (win0_11.rect t)).emb (ix4 0 0 y2 y3) = (ix4 ⟨t.val / 4, by omega⟩ ⟨t.val % 4, by omega⟩ y2 y3 : S2x4x128x512.Idx) := by
      funext z
      refine Fin.ext ?_
      match z with
      | ⟨0, _⟩ => blk_point [iblk, V, idx_all t]; rfl
      | ⟨1, _⟩ => blk_point [iblk, V, idx_all t]; rfl
      | ⟨2, _⟩ => blk_point [iblk, V, idx_all t]
      | ⟨3, _⟩ => blk_point [iblk, V, idx_all t]
    rw [e, h0, h2, h4, h5, h9, h10]
    simp only [h8]
    exact turn m c _ y3 y2

end

/-- The reference runs and keeps its arguments. -/
theorem frame_ref : Cert.quiescent_Reference9Ideal := fun m ρ _ =>
  (θ_run _ _ _).mono (fun r h => ⟨fun c => (h c).2.2, sem_eq_zero_of_no_sems (by decide) r.2⟩) (Reference9Ideal.Value.run m ρ)

section
open Cert.Reference9Ideal.Value

variable (V0 : Valuation Cert.Reference9Ideal.τ Cert.Reference9Ideal.sig (Elt Ideal))

/-- The reference's angles. -/
theorem ref_ang (n : Fin 512) (j : Fin 64) : (res_main_v57 (F := Ideal) V0 : S512x64.Idx → EReal) (ix2 n j) = ang n j := by
  unfold res_main_v57
  pointwise
  rfl

/-- The reference's rows of the keys, in chunks. -/
theorem ref_k (b : Fin 2) (g : Fin 4) (n : Fin 512) (l : Fin 16) (d : Fin 128) :
    (res_main_v10 (F := Ideal) V0 : Cert.Reference9Ideal.S2x4x512x16x128.Idx → EReal) (ix5 b g n l d)
      = X (V0 (Proc.devRef .tc Cert.Reference9Ideal.main_arg0)) 0 b g (ix2 ⟨l.val + 16 * n.val, by omega⟩ d) := by
  unfold res_main_v10 res_main_v2
  pointwise
  refine congrArg _ (congrArg₂ ix2 (Fin.ext ?_) (Fin.ext ?_))
  · show b.val * 8192 + (n.val * 16 + l.val) = b.val * 8192 + (l.val + 16 * n.val); omega
  · show 18432 + (g.val * 128 + d.val) = 18432 + 512 * 0 + 128 * g.val + d.val; omega

/-- The reference's rows of the values, in chunks. -/
theorem ref_v (b : Fin 2) (g : Fin 4) (n : Fin 512) (l : Fin 16) (d : Fin 128) :
    (res_main_v79 (F := Ideal) V0 : Cert.Reference9Ideal.S2x4x512x16x128.Idx → EReal) (ix5 b g n l d)
      = X (V0 (Proc.devRef .tc Cert.Reference9Ideal.main_arg0)) 1 b g (ix2 ⟨l.val + 16 * n.val, by omega⟩ d) := by
  unfold res_main_v79 res_main_v2
  pointwise
  refine congrArg _ (congrArg₂ ix2 (Fin.ext ?_) (Fin.ext ?_))
  · show b.val * 8192 + (n.val * 16 + l.val) = b.val * 8192 + (l.val + 16 * n.val); omega
  · show 18432 + (512 + g.val * 128 + d.val) = 18432 + 512 * 1 + 128 * g.val + d.val; omega

/-- Every chunk followed by the next, the last by the first. -/
theorem blocks_at (a : Cert.Reference9Ideal.S2x4x512x16x128.Idx → EReal) (b : Fin 2) (g : Fin 4) (n : Fin 512) (l : Fin 32) (d : Fin 128) :
    concatenate (α := EReal) Cert.Reference9Ideal.S2x4x512x32x128 3 [⟨Cert.Reference9Ideal.S2x4x512x16x128, a⟩, ⟨Cert.Reference9Ideal.S2x4x512x16x128, (concatenate Cert.Reference9Ideal.S2x4x512x16x128 2 [⟨Cert.Reference9Ideal.S2x4x511x16x128, (extractStridedSlice Cert.Reference9Ideal.S2x4x511x16x128 ![0, 0, 1, 0, 0] a Cert.Reference9Ideal.Facts₀.slices_S2x4x512x16x128_S2x4x511x16x128_0_0_1_0_0)⟩, ⟨Cert.Reference9Ideal.S2x4x1x16x128, (extractStridedSlice Cert.Reference9Ideal.S2x4x1x16x128 ![0, 0, 0, 0, 0] a Cert.Reference9Ideal.Facts₀.slices_S2x4x512x16x128_S2x4x1x16x128_0_0_0_0_0)⟩] Cert.Reference9Ideal.Facts₀.concatenates_S2x4x511x16x128_S2x4x1x16x128_S2x4x512x16x128_d2)⟩] Cert.Reference9Ideal.Facts₀.concatenates_S2x4x512x16x128_S2x4x512x16x128_S2x4x512x32x128_d3 (ix5 b g n l d)
      = if h : l.val < 16 then a (ix5 b g n ⟨l.val, h⟩ d) else a (ix5 b g ⟨(n.val + 1) % 512, by omega⟩ ⟨l.val - 16, by omega⟩ d) := by
  pointwise
  split_ifs with h1 h2 <;> first
    | rfl
    | exact congrArg a (congrArg (fun z => ix5 b g z _ d) (Fin.ext (by show 1 + n.val = (n.val + 1) % 512; omega)))
    | exact congrArg a (congrArg (fun z => ix5 b g z _ d) (Fin.ext (by show n.val - 511 = (n.val + 1) % 512; omega)))

/-- The reference's first product, from the blocks at an entry. -/
theorem hid (Z : Cert.Reference9Ideal.S2x4x512x32x128.Idx → EReal) (pe : S32x128.Idx → EReal) (w : S32x128x512.Idx → EReal) (b : Fin 2) (g : Fin 4) (n : Fin 512) (h : Fin 512) :
    (Host.dotGeneral (F := Ideal) (φ₁ := .f32) (φ₂ := .f32) Cert.Reference9Ideal.dot_S2x4x512x32x128_S32x128x512_S2x4x512x512_43_10_012_2_n_n none (addf (F := Ideal) (φ := .f32) Z (broadcastInDim Cert.Reference9Ideal.S2x4x512x32x128 ![0, 1, 2, 3, 4] Cert.Reference9Ideal.Facts₀.bcast_S1x1x1x32x128_S2x4x512x32x128_0_1_2_3_4 (broadcastInDim Cert.Reference9Ideal.S1x1x1x32x128 ![3, 4] Cert.Reference9Ideal.Facts₀.bcast_S32x128_S1x1x1x32x128_3_4 pe))) w : Cert.Reference9Ideal.S2x4x512x512.Idx → EReal) (ix4 b g n h)
      = ∑ d : Fin 128, ∑ l : Fin 32, (Z (ix5 b g n l d) + pe (ix2 l d)) * w (ix3 l d h) := by
  pointwise

/-- The sum over a block's rows, in two halves. -/
theorem S_sum (x : S8192x128.Idx → EReal) (pe : S32x128.Idx → EReal) (w : S32x128x512.Idx → EReal) (Z : Fin 32 → Fin 128 → EReal) (n : Fin 512) (h : Fin 512)
    (hZ : ∀ l d, Z l d = if h : l.val < 16 then x (ix2 ⟨l.val + 16 * n.val, by omega⟩ d) else x (ix2 ⟨(l.val - 16) + 16 * ((n.val + 1) % 512), by omega⟩ d)) :
    ∑ d : Fin 128, ∑ l : Fin 32, (Z l d + pe (ix2 l d)) * w (ix3 l d h) = S x pe w n h := by
  rw [Finset.sum_comm]
  refine (Fin.sum_univ_add (a := 16) (b := 16) fun l : Fin 32 => ∑ d : Fin 128, (Z l d + pe (ix2 l d)) * w (ix3 l d h)).trans (congrArg₂ (· + ·) (Finset.sum_congr rfl fun l _ => ?_) (Finset.sum_congr rfl fun l _ => ?_))
  · refine Finset.sum_congr rfl fun d _ => ?_
    rw [hZ, dif_pos (show (Fin.castAdd 16 l).val < 16 from l.isLt)]
    rfl
  · refine Finset.sum_congr rfl fun d _ => ?_
    rw [hZ, dif_neg (show ¬ (Fin.natAdd 16 l).val < 16 by show ¬ 16 + l.val < 16; omega)]
    rw [show (⟨(Fin.natAdd 16 l).val - 16 + 16 * ((n.val + 1) % 512), by have : (Fin.natAdd 16 l).val < 32 := (Fin.natAdd 16 l).isLt; omega⟩ : Fin 8192) = ⟨l.val + 16 * ((n.val + 1) % 512), by omega⟩ from
      Fin.ext (by show 16 + l.val - 16 + 16 * ((n.val + 1) % 512) = l.val + 16 * ((n.val + 1) % 512); omega)]
    rfl

/-- The reference's hidden values of the keys. -/
theorem ref_hk (b : Fin 2) (g : Fin 4) (n : Fin 512) (h : Fin 512) :
    (res_main_v18 (F := Ideal) V0 : Cert.Reference9Ideal.S2x4x512x512.Idx → EReal) (ix4 b g n h)
      = S (X (V0 (Proc.devRef .tc Cert.Reference9Ideal.main_arg0)) 0 b g) (V0 (Proc.devRef .tc Cert.Reference9Ideal.main_arg1)) (V0 (Proc.devRef .tc Cert.Reference9Ideal.main_arg3)) n h := by
  unfold res_main_v18
  refine (hid _ _ _ b g n h).trans (S_sum _ _ _ _ n h fun l d => (blocks_at _ b g n l d).trans ?_)
  split_ifs
  · exact ref_k V0 b g n _ d
  · exact ref_k V0 b g _ _ d

/-- The reference's hidden values of the values. -/
theorem ref_hv (b : Fin 2) (g : Fin 4) (n : Fin 512) (h : Fin 512) :
    (res_main_v87 (F := Ideal) V0 : Cert.Reference9Ideal.S2x4x512x512.Idx → EReal) (ix4 b g n h)
      = S (X (V0 (Proc.devRef .tc Cert.Reference9Ideal.main_arg0)) 1 b g) (V0 (Proc.devRef .tc Cert.Reference9Ideal.main_arg2)) (V0 (Proc.devRef .tc Cert.Reference9Ideal.main_arg5)) n h := by
  unfold res_main_v87
  refine (hid _ _ _ b g n h).trans (S_sum _ _ _ _ n h fun l d => (blocks_at _ b g n l d).trans ?_)
  split_ifs
  · exact ref_v V0 b g n _ d
  · exact ref_v V0 b g _ _ d

/-- The reference's compressed keys. -/
theorem ref_ck (b : Fin 2) (g : Fin 4) (n : Fin 512) (d : Fin 128) :
    (res_main_v32 (F := Ideal) V0 : Cert.Reference9Ideal.S2x4x512x128.Idx → EReal) (ix4 b g n d)
      = C (X (V0 (Proc.devRef .tc Cert.Reference9Ideal.main_arg0)) 0 b g) (V0 (Proc.devRef .tc Cert.Reference9Ideal.main_arg1)) (V0 (Proc.devRef .tc Cert.Reference9Ideal.main_arg3)) (V0 (Proc.devRef .tc Cert.Reference9Ideal.main_arg4)) n d := by
  unfold res_main_v32
  pointwise
  simp only [ref_hk]
  rfl

/-- Those normed. -/
theorem ref_nk (b : Fin 2) (g : Fin 4) (n : Fin 512) (d : Fin 128) :
    (res_main_v45 (F := Ideal) V0 : Cert.Reference9Ideal.S2x4x512x128.Idx → EReal) (ix4 b g n d)
      = N (C (X (V0 (Proc.devRef .tc Cert.Reference9Ideal.main_arg0)) 0 b g) (V0 (Proc.devRef .tc Cert.Reference9Ideal.main_arg1)) (V0 (Proc.devRef .tc Cert.Reference9Ideal.main_arg3)) (V0 (Proc.devRef .tc Cert.Reference9Ideal.main_arg4))) (fun d => (V0 (Proc.devRef .tc Cert.Reference9Ideal.main_arg7) : S128.Idx → EReal) (ix1 d)) n d := by
  unfold res_main_v45
  pointwise
  simp only [ref_ck]
  rfl

/-- Equal arguments give equal keys. -/
theorem congrK {P P' : S16384x21504.Idx → EReal} {pe pe' : S32x128.Idx → EReal} {w w' : S32x128x512.Idx → EReal} {w2 w2' : S512x128.Idx → EReal} {g g' : S128.Idx → EReal}
    (hP : P = P') (hp : pe = pe') (hw : w = w') (h2 : w2 = w2') (hg : g = g') : Gk P pe w w2 g = Gk P' pe' w' w2' g' := by subst hP hp hw h2 hg; rfl

/-- Equal arguments give equal values. -/
theorem congrV {P P' : S16384x21504.Idx → EReal} {pe pe' : S32x128.Idx → EReal} {w w' : S32x128x512.Idx → EReal} {w2 w2' : S512x128.Idx → EReal}
    (hP : P = P') (hp : pe = pe') (hw : w = w') (h2 : w2 = w2') : Gv P pe w w2 = Gv P' pe' w' w2' := by subst hP hp hw h2; rfl

end

/-- The turn as the reference writes it. -/
theorem R_eq (a : Fin 512 → Fin 128 → EReal) (n : Fin 512) (d : Fin 128) :
    (if h : d.val < 64 then a n ⟨d.val, by omega⟩ * Ideal.cos (ang n ⟨d.val, h⟩) - a n ⟨64 + d.val, by omega⟩ * Ideal.sin (ang n ⟨d.val, h⟩)
      else a n ⟨64 + (d.val - 64), by omega⟩ * Ideal.cos (ang n ⟨d.val - 64, by omega⟩) + a n ⟨d.val - 64, by omega⟩ * Ideal.sin (ang n ⟨d.val - 64, by omega⟩)) = R a n d := by
  unfold R
  split_ifs with h
  · rw [show (⟨64 + d.val, by omega⟩ : Fin 128) = ⟨d.val + 64, by omega⟩ from Fin.ext (Nat.add_comm 64 d.val)]
  · rw [show (⟨64 + (d.val - 64), by omega⟩ : Fin 128) = d from Fin.ext (by show 64 + (d.val - 64) = d.val; omega)]
/-- Kernel and reference agree. -/
theorem equal : Cert.algebraic_Kernel9Ideal_Reference9Ideal := by
  intro m ρ m' ρ' _ hag
  refine ⟨fun c => Gk (m (c.tc.loc main_arg0)) (m (c.tc.loc main_arg1)) (m (c.tc.loc main_arg3)) (m (c.tc.loc main_arg4)) (m (c.tc.loc main_arg7)),
    fun c => Gv (m (c.tc.loc main_arg0)) (m (c.tc.loc main_arg2)) (m (c.tc.loc main_arg5)) (m (c.tc.loc main_arg6)),
    (θ_run _ _ _).mono (fun r h c => ⟨(h c).1.trans (final11 m c), (h c).2.1.trans (final12 m c), (h c).2.2⟩) (Cert.Kernel9Ideal.Value.run_blocks m ρ),
    (θ_run _ _ _).mono (fun r h c => ⟨(h c).1.trans ?_, (h c).2.1.trans ?_, (h c).2.2⟩) (Reference9Ideal.Value.run m' ρ')⟩
  · obtain ⟨a0, a1, a2, a3, a4, a5, a6, a7⟩ := hag c
    refine Eq.trans ?_ (congrK a0 a1 a3 a4 a7)
    clear h
    funext j
    idx_vars j
    pointwise [Cert.Reference9Ideal.Value.res_main_v58, Cert.Reference9Ideal.Value.res_main_v59, Cert.Reference9Ideal.Value.res_main_v60, Cert.Reference9Ideal.Value.res_main_v61]
    simp only [ref_nk, ref_ang]
    exact R_eq _ j3 j2
  · obtain ⟨a0, a1, a2, a3, a4, a5, a6, a7⟩ := hag c
    refine Eq.trans ?_ (congrV a0 a2 a5 a6)
    clear h
    funext j
    idx_vars j
    pointwise
    simp only [ref_hv]
    rfl

end Cert.Dense.Compress
end
-- ==== Proof.lean ====
module

public import proofs.«01_k».proof.Defs
public import proofs.«01_k».proof.Proof.Gen.Kernel.Frame
public import proofs.«01_k».proof.Proof.Gen.KernelIdeal.Frame
public import proofs.«01_k».proof.Proof.Gdn.Final
public import proofs.«01_k».proof.Proof.Gen.Kernel2.Frame
public import proofs.«01_k».proof.Proof.Gen.Kernel2Ideal.Frame
public import proofs.«01_k».proof.Proof.Dense.MlpIn
public import proofs.«01_k».proof.Proof.Gen.Kernel3.Frame
public import proofs.«01_k».proof.Proof.Gen.Kernel3Ideal.Frame
public import proofs.«01_k».proof.Proof.Dense.MlpOut
public import proofs.«01_k».proof.Proof.Gen.Kernel4.Frame
public import proofs.«01_k».proof.Proof.Gen.Kernel4Ideal.Frame
public import proofs.«01_k».proof.Proof.Dense.OutProj
public import proofs.«01_k».proof.Proof.Gen.Kernel5.Frame
public import proofs.«01_k».proof.Proof.Gen.Kernel5Ideal.Frame
public import proofs.«01_k».proof.Proof.Dense.Ple
public import proofs.«01_k».proof.Proof.Gen.Kernel6.Frame
public import proofs.«01_k».proof.Proof.Gen.Kernel6Ideal.Frame
public import proofs.«01_k».proof.Proof.Dense.Merge
public import proofs.«01_k».proof.Proof.Gen.Kernel7.Frame
public import proofs.«01_k».proof.Proof.Gen.Kernel7Ideal.Frame
public import proofs.«01_k».proof.Proof.Dense.InProj
public import proofs.«01_k».proof.Proof.Gen.Kernel8.Frame
public import proofs.«01_k».proof.Proof.Gen.Kernel8Ideal.Frame
public import proofs.«01_k».proof.Proof.Dense.InNorm
public import proofs.«01_k».proof.Proof.Gen.Kernel9.Frame
public import proofs.«01_k».proof.Proof.Gen.Kernel9Ideal.Frame
public import proofs.«01_k».proof.Proof.Dense.Compress

@[expose] public section

theorem Cert.Proof.claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Final.preFacts,
    Cert.Dense.MlpIn.preFacts,
    Cert.Dense.Ple.preFacts,
    fun m ρ _ => Cert.Kernel.Gen.frame m ρ,
    fun m ρ _ => Cert.KernelIdeal.Gen.frame m ρ,
    fun m ρ _ => Cert.KernelIdeal.Gen.frame m ρ,
    fun m ρ _ => Cert.Final.frame_ref m ρ,
    fun m ρ _ => Cert.Final.frame_ref m ρ,
    fun m ρ _ => Cert.Kernel2.Gen.frame m ρ,
    fun m ρ _ => Cert.Kernel2Ideal.Gen.frame m ρ,
    fun m ρ _ => Cert.Kernel2Ideal.Gen.frame m ρ,
    Cert.Dense.MlpIn.frame_ref,
    fun m ρ _ => Cert.Dense.MlpIn.frame_ref m ρ trivial,
    fun m ρ _ => Cert.Kernel3.Gen.frame m ρ,
    fun m ρ _ => Cert.Kernel3Ideal.Gen.frame m ρ,
    Cert.Dense.MlpOut.frame_ref,
    fun m ρ _ => Cert.Kernel4.Gen.frame m ρ,
    fun m ρ _ => Cert.Kernel4Ideal.Gen.frame m ρ,
    Cert.Dense.OutProj.frame_ref,
    fun m ρ _ => Cert.Kernel5.Gen.frame m ρ,
    fun m ρ _ => Cert.Kernel5Ideal.Gen.frame m ρ,
    fun m ρ _ => Cert.Kernel5Ideal.Gen.frame m ρ,
    Cert.Dense.Ple.frame_ref,
    fun m ρ _ => Cert.Dense.Ple.frame_ref m ρ trivial,
    fun m ρ _ => Cert.Kernel6.Gen.frame m ρ,
    fun m ρ _ => Cert.Kernel6Ideal.Gen.frame m ρ,
    Cert.Dense.Merge.frame_ref,
    fun m ρ _ => Cert.Kernel7.Gen.frame m ρ (Cert.Dense.InProj.ok_bits m),
    fun m ρ _ => Cert.Kernel7Ideal.Gen.frame m ρ (Cert.Dense.InProj.ok m),
    Cert.Dense.InProj.frame_ref,
    fun m ρ _ => Cert.Kernel8.Gen.frame m ρ,
    fun m ρ _ => Cert.Kernel8Ideal.Gen.frame m ρ,
    Cert.Dense.InNorm.frame_ref,
    fun m ρ _ => Cert.Kernel9.Gen.frame m ρ,
    fun m ρ _ => Cert.Kernel9Ideal.Gen.frame m ρ,
    Cert.Dense.Compress.frame_ref,
    Idealize.ShloMosaic.IdealRules.named_const.statement Cert.KernelIdeal.κ "mask" .f32 0xF149F2CA#32 _ rfl,
    Cert.Final.equal,
    trivial,
    Cert.Dense.MlpIn.equal,
    trivial,
    Cert.Dense.MlpOut.equal,
    trivial,
    Cert.Dense.OutProj.equal,
    trivial,
    Cert.Dense.Ple.equal,
    trivial,
    Cert.Dense.Merge.equal,
    trivial,
    Cert.Dense.InProj.equal,
    trivial,
    Cert.Dense.InNorm.equal,
    trivial,
    Cert.Dense.Compress.equal⟩
